-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_mlp [hPre_finite_mlp : Cert.Pre_finite_mlp.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_mlp.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_mlp [hPre_finite_mlp : Cert.Pre_finite_mlp.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_mlp.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_in_proj [hPre_finite_in_proj : Cert.Pre_finite_in_proj.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_in_proj.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_in_proj [hPre_finite_in_proj : Cert.Pre_finite_in_proj.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_in_proj.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite_mlp [hKernel2Ideal : Cert.Kernel2Ideal.Facts] [hPre_finite_mlp : Cert.Pre_finite_mlp.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_mlp m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite_mlp [hReference2Ideal : Cert.Reference2Ideal.Facts] [hPre_finite_mlp : Cert.Pre_finite_mlp.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_mlp m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Kernel3Ideal_pre_finite_in_proj [hKernel3Ideal : Cert.Kernel3Ideal.Facts] [hPre_finite_in_proj : Cert.Pre_finite_in_proj.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_in_proj m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Reference3Ideal_pre_finite_in_proj [hReference3Ideal : Cert.Reference3Ideal.Facts] [hPre_finite_in_proj : Cert.Pre_finite_in_proj.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_in_proj m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v68)) (v2 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_v71) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_mlp [hKernel2Ideal : Cert.Kernel2Ideal.Facts] [hReference2Ideal : Cert.Reference2Ideal.Facts] [hPre_finite_mlp : Cert.Pre_finite_mlp.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_mlp m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)) (v2 : (c : Dev Cert.Kernel2Ideal.nD) → Buf (Elt Ideal) ((c.tc : Thread Cert.Kernel2Ideal.nD Cert.Kernel2Ideal.τ).loc Cert.Kernel2Ideal.main_v12_2)) (v3 : (c : Dev Cert.Kernel2Ideal.nD) → Buf (Elt Ideal) ((c.tc : Thread Cert.Kernel2Ideal.nD Cert.Kernel2Ideal.τ).loc Cert.Kernel2Ideal.main_v12_3)) (v4 : (c : Dev Cert.Kernel2Ideal.nD) → Buf (Elt Ideal) ((c.tc : Thread Cert.Kernel2Ideal.nD Cert.Kernel2Ideal.τ).loc Cert.Kernel2Ideal.main_v12_4)) (v5 : (c : Dev Cert.Kernel2Ideal.nD) → Buf (Elt Ideal) ((c.tc : Thread Cert.Kernel2Ideal.nD Cert.Kernel2Ideal.τ).loc Cert.Kernel2Ideal.main_v12_5)) (v6 : (c : Dev Cert.Kernel2Ideal.nD) → Buf (Elt Ideal) ((c.tc : Thread Cert.Kernel2Ideal.nD Cert.Kernel2Ideal.τ).loc Cert.Kernel2Ideal.main_v12_6)) (v7 : (c : Dev Cert.Kernel2Ideal.nD) → Buf (Elt Ideal) ((c.tc : Thread Cert.Kernel2Ideal.nD Cert.Kernel2Ideal.τ).loc Cert.Kernel2Ideal.main_v12_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_v12_2) = v2 c
          ∧ r.2.mem ((c.tc : Thread Cert.Kernel2Ideal.nD Cert.Kernel2Ideal.τ).loc Cert.Kernel2Ideal.main_v12_3) = v3 c
          ∧ r.2.mem ((c.tc : Thread Cert.Kernel2Ideal.nD Cert.Kernel2Ideal.τ).loc Cert.Kernel2Ideal.main_v12_4) = v4 c
          ∧ r.2.mem ((c.tc : Thread Cert.Kernel2Ideal.nD Cert.Kernel2Ideal.τ).loc Cert.Kernel2Ideal.main_v12_5) = v5 c
          ∧ r.2.mem ((c.tc : Thread Cert.Kernel2Ideal.nD Cert.Kernel2Ideal.τ).loc Cert.Kernel2Ideal.main_v12_6) = v6 c
          ∧ r.2.mem ((c.tc : Thread Cert.Kernel2Ideal.nD Cert.Kernel2Ideal.τ).loc Cert.Kernel2Ideal.main_v12_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v116) = v0 c
          ∧ r.2.mem ((c.tc : Thread Cert.Reference2Ideal.nD Cert.Reference2Ideal.τ).loc Cert.Reference2Ideal.main_v117) = v1 c
          ∧ r.2.mem ((c.tc : Thread Cert.Reference2Ideal.nD Cert.Reference2Ideal.τ).loc Cert.Reference2Ideal.main_v118) = v2 c
          ∧ r.2.mem ((c.tc : Thread Cert.Reference2Ideal.nD Cert.Reference2Ideal.τ).loc Cert.Reference2Ideal.main_v114) = v3 c
          ∧ r.2.mem ((c.tc : Thread Cert.Reference2Ideal.nD Cert.Reference2Ideal.τ).loc Cert.Reference2Ideal.main_v121) = v4 c
          ∧ r.2.mem ((c.tc : Thread Cert.Reference2Ideal.nD Cert.Reference2Ideal.τ).loc Cert.Reference2Ideal.main_v124) = v5 c
          ∧ r.2.mem ((c.tc : Thread Cert.Reference2Ideal.nD Cert.Reference2Ideal.τ).loc Cert.Reference2Ideal.main_v127) = v6 c
          ∧ r.2.mem ((c.tc : Thread Cert.Reference2Ideal.nD Cert.Reference2Ideal.τ).loc Cert.Reference2Ideal.main_v130) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite_in_proj [hKernel3Ideal : Cert.Kernel3Ideal.Facts] [hReference3Ideal : Cert.Reference3Ideal.Facts] [hPre_finite_in_proj : Cert.Pre_finite_in_proj.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_in_proj m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v106_0)) (v1 : (c : Dev Cert.Kernel3Ideal.nD) → Buf (Elt Ideal) ((c.tc : Thread Cert.Kernel3Ideal.nD Cert.Kernel3Ideal.τ).loc Cert.Kernel3Ideal.main_v106_1)) (v2 : (c : Dev Cert.Kernel3Ideal.nD) → Buf (Elt Ideal) ((c.tc : Thread Cert.Kernel3Ideal.nD Cert.Kernel3Ideal.τ).loc Cert.Kernel3Ideal.main_v106_2)) (v3 : (c : Dev Cert.Kernel3Ideal.nD) → Buf (Elt Ideal) ((c.tc : Thread Cert.Kernel3Ideal.nD Cert.Kernel3Ideal.τ).loc Cert.Kernel3Ideal.main_v106_3)) (v4 : (c : Dev Cert.Kernel3Ideal.nD) → Buf (Elt Ideal) ((c.tc : Thread Cert.Kernel3Ideal.nD Cert.Kernel3Ideal.τ).loc Cert.Kernel3Ideal.main_v106_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v106_0) = v0 c
          ∧ r.2.mem ((c.tc : Thread Cert.Kernel3Ideal.nD Cert.Kernel3Ideal.τ).loc Cert.Kernel3Ideal.main_v106_1) = v1 c
          ∧ r.2.mem ((c.tc : Thread Cert.Kernel3Ideal.nD Cert.Kernel3Ideal.τ).loc Cert.Kernel3Ideal.main_v106_2) = v2 c
          ∧ r.2.mem ((c.tc : Thread Cert.Kernel3Ideal.nD Cert.Kernel3Ideal.τ).loc Cert.Kernel3Ideal.main_v106_3) = v3 c
          ∧ r.2.mem ((c.tc : Thread Cert.Kernel3Ideal.nD Cert.Kernel3Ideal.τ).loc Cert.Kernel3Ideal.main_v106_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v267) = v0 c
          ∧ r.2.mem ((c.tc : Thread Cert.Reference3Ideal.nD Cert.Reference3Ideal.τ).loc Cert.Reference3Ideal.main_v270) = v1 c
          ∧ r.2.mem ((c.tc : Thread Cert.Reference3Ideal.nD Cert.Reference3Ideal.τ).loc Cert.Reference3Ideal.main_v265) = v2 c
          ∧ r.2.mem ((c.tc : Thread Cert.Reference3Ideal.nD Cert.Reference3Ideal.τ).loc Cert.Reference3Ideal.main_v271) = v3 c
          ∧ r.2.mem ((c.tc : Thread Cert.Reference3Ideal.nD Cert.Reference3Ideal.τ).loc Cert.Reference3Ideal.main_v272) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite_mlp : Cert.Pre_finite_mlp.Facts) (hPre_finite_in_proj : Cert.Pre_finite_in_proj.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_mlp (hKernel2Ideal := hKernel2Ideal) (hPre_finite_mlp := hPre_finite_mlp)
    ∧ quiescent_Reference2Ideal (hReference2Ideal := hReference2Ideal)
    ∧ quiescent_Reference2Ideal_pre_finite_mlp (hReference2Ideal := hReference2Ideal) (hPre_finite_mlp := hPre_finite_mlp)
    ∧ quiescent_Kernel3 (hKernel3 := hKernel3)
    ∧ quiescent_Kernel3Ideal (hKernel3Ideal := hKernel3Ideal)
    ∧ quiescent_Kernel3Ideal_pre_finite_in_proj (hKernel3Ideal := hKernel3Ideal) (hPre_finite_in_proj := hPre_finite_in_proj)
    ∧ quiescent_Reference3Ideal (hReference3Ideal := hReference3Ideal)
    ∧ quiescent_Reference3Ideal_pre_finite_in_proj (hReference3Ideal := hReference3Ideal) (hPre_finite_in_proj := hPre_finite_in_proj)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_mlp (hKernel2Ideal := hKernel2Ideal) (hReference2Ideal := hReference2Ideal) (hPre_finite_mlp := hPre_finite_mlp)
    ∧ preserves_Kernel3_Kernel3Ideal
    ∧ algebraic_Kernel3Ideal_Reference3Ideal_pre_finite_in_proj (hKernel3Ideal := hKernel3Ideal) (hReference3Ideal := hReference3Ideal) (hPre_finite_in_proj := hPre_finite_in_proj)
-- ==== Pre_finite.lean ====
abbrev S1x8208x16x64 : Shape := ⟨4, ![1, 8208, 16, 64]⟩
abbrev S1x8208x4x64 : Shape := ⟨4, ![1, 8208, 4, 64]⟩
abbrev S1x8208x1024 : Shape := ⟨3, ![1, 8208, 1024]⟩
abbrev S_ : Shape := ⟨0, ![]⟩

class Facts : Prop where
  bcast_S_S1x8208x16x64 : S_.BroadcastsInDim S1x8208x16x64 (![] : Fin 0 → Fin S1x8208x16x64.rank)
  reducesTo_S1x8208x16x64_S_d0_1_2_3 : S1x8208x16x64.ReducesTo [0, 1, 2, 3] S_
  h_S_ : 0 < S_.numel
  bcast_S_S1x8208x4x64 : S_.BroadcastsInDim S1x8208x4x64 (![] : Fin 0 → Fin S1x8208x4x64.rank)
  reducesTo_S1x8208x4x64_S_d0_1_2_3 : S1x8208x4x64.ReducesTo [0, 1, 2, 3] S_
  bcast_S_S1x8208x1024 : S_.BroadcastsInDim S1x8208x1024 (![] : Fin 0 → Fin S1x8208x1024.rank)
  reducesTo_S1x8208x1024_S_d0_1_2 : S1x8208x1024.ReducesTo [0, 1, 2] S_

variable [Facts]

def fn_part1 {F : FTy → Type} [FloatOps F] (main_v8 : IVec S_ 1) (main_v12 : IVec S_ 1) (main_v15 : IVec S1x8208x1024 1) (main_c_5 : IVec S_ 1) : IVec S_ 1 :=
  let main_v16 : IVec S_ 1 := (fun x v => Host.reduce IntOp.andi x v reducesTo_S1x8208x1024_S_d0_1_2 h_S_) main_v15 main_c_5
  let main_v17 : IVec S_ 1 := andi main_v12 main_v16
  let main_v18 : IVec S_ 1 := andi main_v8 main_v17
  main_v18

def fn {F : FTy → Type} [FloatOps F] (main_arg0 : FVec F S1x8208x16x64 .f32) (main_arg1 : FVec F S1x8208x4x64 .f32) (main_arg2 : FVec F S1x8208x4x64 .f32) (main_arg3 : FVec F S1x8208x1024 .f32) : IVec S_ 1 :=
  let main_v0 : FVec F S1x8208x16x64 .f32 := Host.absf main_arg0
  let main_cst : FVec F S_ .f32 := constant S_ .f32 0x7F800000#32
  let main_v1 : FVec F S1x8208x16x64 .f32 := broadcastInDim S1x8208x16x64 ![] bcast_S_S1x8208x16x64 main_cst
  let main_v2 : IVec S1x8208x16x64 1 := cmpf .olt main_v0 main_v1
  let main_c : IVec S_ 1 := constantI S_ 1 1#1
  let main_v3 : IVec S_ 1 := (fun x v => Host.reduce IntOp.andi x v reducesTo_S1x8208x16x64_S_d0_1_2_3 h_S_) main_v2 main_c
  let main_v4 : FVec F S1x8208x4x64 .f32 := Host.absf main_arg1
  let main_cst_0 : FVec F S_ .f32 := constant S_ .f32 0x7F800000#32
  let main_v5 : FVec F S1x8208x4x64 .f32 := broadcastInDim S1x8208x4x64 ![] bcast_S_S1x8208x4x64 main_cst_0
  let main_v6 : IVec S1x8208x4x64 1 := cmpf .olt main_v4 main_v5
  let main_c_1 : IVec S_ 1 := constantI S_ 1 1#1
  let main_v7 : IVec S_ 1 := (fun x v => Host.reduce IntOp.andi x v reducesTo_S1x8208x4x64_S_d0_1_2_3 h_S_) main_v6 main_c_1
  let main_v8 : IVec S_ 1 := andi main_v3 main_v7
  let main_v9 : FVec F S1x8208x4x64 .f32 := Host.absf main_arg2
  let main_cst_2 : FVec F S_ .f32 := constant S_ .f32 0x7F800000#32
  let main_v10 : FVec F S1x8208x4x64 .f32 := broadcastInDim S1x8208x4x64 ![] bcast_S_S1x8208x4x64 main_cst_2
  let main_v11 : IVec S1x8208x4x64 1 := cmpf .olt main_v9 main_v10
  let main_c_3 : IVec S_ 1 := constantI S_ 1 1#1
  let main_v12 : IVec S_ 1 := (fun x v => Host.reduce IntOp.andi x v reducesTo_S1x8208x4x64_S_d0_1_2_3 h_S_) main_v11 main_c_3
  let main_v13 : FVec F S1x8208x1024 .f32 := Host.absf main_arg3
  let main_cst_4 : FVec F S_ .f32 := constant S_ .f32 0x7F800000#32
  let main_v14 : FVec F S1x8208x1024 .f32 := broadcastInDim S1x8208x1024 ![] bcast_S_S1x8208x1024 main_cst_4
  let main_v15 : IVec S1x8208x1024 1 := cmpf .olt main_v13 main_v14
  let main_c_5 : IVec S_ 1 := constantI S_ 1 1#1
  fn_part1 (F := F) main_v8 main_v12 main_v15 main_c_5
-- ==== Pre_finite_in_proj.lean ====
abbrev S1x8208x1024 : Shape := ⟨3, ![1, 8208, 1024]⟩
abbrev S1x1024 : Shape := ⟨2, ![1, 1024]⟩
abbrev S1x1024x4096 : Shape := ⟨3, ![1, 1024, 4096]⟩
abbrev S1x64 : Shape := ⟨2, ![1, 64]⟩
abbrev S1x8208x512 : Shape := ⟨3, ![1, 8208, 512]⟩
abbrev S1x8208x16x64 : Shape := ⟨4, ![1, 8208, 16, 64]⟩
abbrev S1x8208x4x64 : Shape := ⟨4, ![1, 8208, 4, 64]⟩
abbrev S_ : Shape := ⟨0, ![]⟩

class Facts : Prop where
  bcast_S_S1x8208x1024 : S_.BroadcastsInDim S1x8208x1024 (![] : Fin 0 → Fin S1x8208x1024.rank)
  reducesTo_S1x8208x1024_S_d0_1_2 : S1x8208x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x4096 : S_.BroadcastsInDim S1x1024x4096 (![] : Fin 0 → Fin S1x1024x4096.rank)
  reducesTo_S1x1024x4096_S_d0_1_2 : S1x1024x4096.ReducesTo [0, 1, 2] S_
  bcast_S_S1x64 : S_.BroadcastsInDim S1x64 (![] : Fin 0 → Fin S1x64.rank)
  reducesTo_S1x64_S_d0_1 : S1x64.ReducesTo [0, 1] S_
  bcast_S_S1x8208x512 : S_.BroadcastsInDim S1x8208x512 (![] : Fin 0 → Fin S1x8208x512.rank)
  reducesTo_S1x8208x512_S_d0_1_2 : S1x8208x512.ReducesTo [0, 1, 2] S_
  bcast_S_S1x8208x16x64 : S_.BroadcastsInDim S1x8208x16x64 (![] : Fin 0 → Fin S1x8208x16x64.rank)
  reducesTo_S1x8208x16x64_S_d0_1_2_3 : S1x8208x16x64.ReducesTo [0, 1, 2, 3] S_
  bcast_S_S1x8208x4x64 : S_.BroadcastsInDim S1x8208x4x64 (![] : Fin 0 → Fin S1x8208x4x64.rank)
  reducesTo_S1x8208x4x64_S_d0_1_2_3 : S1x8208x4x64.ReducesTo [0, 1, 2, 3] S_

variable [Facts]

def fn_part4 {F : FTy → Type} [FloatOps F] (main_v55 : IVec S_ 1) (main_v67 : IVec S_ 1) : IVec S_ 1 :=
  let main_v68 : IVec S_ 1 := andi main_v67 main_v55
  main_v68

def fn_part3 {F : FTy → Type} [FloatOps F] (main_arg12 : FVec F S1x8208x1024 .f32) (main_arg13 : FVec F S1x8208x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : FVec F S1x8208x1024 .f32 := Host.absf main_arg12
  let main_cst_22 : FVec F S_ .f32 := constant S_ .f32 0x7F800000#32
  let main_v49 : FVec F S1x8208x1024 .f32 := broadcastInDim S1x8208x1024 ![] bcast_S_S1x8208x1024 main_cst_22
  let main_v50 : IVec S1x8208x1024 1 := cmpf .olt main_v48 main_v49
  let main_c_23 : IVec S_ 1 := constantI S_ 1 1#1
  let main_v51 : IVec S_ 1 := (fun x v => Host.reduce IntOp.andi x v reducesTo_S1x8208x1024_S_d0_1_2 h_S_) main_v50 main_c_23
  let main_v52 : FVec F S1x8208x1024 .f32 := Host.absf main_arg13
  let main_cst_24 : FVec F S_ .f32 := constant S_ .f32 0x7F800000#32
  let main_v53 : FVec F S1x8208x1024 .f32 := broadcastInDim S1x8208x1024 ![] bcast_S_S1x8208x1024 main_cst_24
  let main_v54 : IVec S1x8208x1024 1 := cmpf .olt main_v52 main_v53
  let main_c_25 : IVec S_ 1 := constantI S_ 1 1#1
  let main_v55 : IVec S_ 1 := (fun x v => Host.reduce IntOp.andi x v reducesTo_S1x8208x1024_S_d0_1_2 h_S_) main_v54 main_c_25
  let main_v56 : IVec S_ 1 := andi main_v3 main_v7
  let main_v57 : IVec S_ 1 := andi main_v56 main_v11
  let main_v58 : IVec S_ 1 := andi main_v57 main_v15
  let main_v59 : IVec S_ 1 := andi main_v58 main_v19
  let main_v60 : IVec S_ 1 := andi main_v59 main_v23
  let main_v61 : IVec S_ 1 := andi main_v60 main_v27
  let main_v62 : IVec S_ 1 := andi main_v61 main_v31
  let main_v63 : IVec S_ 1 := andi main_v62 main_v35
  let main_v64 : IVec S_ 1 := andi main_v63 main_v39
  let main_v65 : IVec S_ 1 := andi main_v64 main_v43
  let main_v66 : IVec S_ 1 := andi main_v65 main_v47
  let main_v67 : IVec S_ 1 := andi main_v66 main_v51
  fn_part4 (F := F) main_v55 main_v67

def fn_part2 {F : FTy → Type} [FloatOps F] (main_arg8 : FVec F S1x8208x512 .f32) (main_arg9 : FVec F S1x8208x16x64 .f32) (main_arg10 : FVec F S1x8208x4x64 .f32) (main_arg11 : FVec F S1x8208x4x64 .f32) (main_arg12 : FVec F S1x8208x1024 .f32) (main_arg13 : FVec F S1x8208x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x8208x512 .f32 := Host.absf main_arg8
  let main_cst_14 : FVec F S_ .f32 := constant S_ .f32 0x7F800000#32
  let main_v33 : FVec F S1x8208x512 .f32 := broadcastInDim S1x8208x512 ![] bcast_S_S1x8208x512 main_cst_14
  let main_v34 : IVec S1x8208x512 1 := cmpf .olt main_v32 main_v33
  let main_c_15 : IVec S_ 1 := constantI S_ 1 1#1
  let main_v35 : IVec S_ 1 := (fun x v => Host.reduce IntOp.andi x v reducesTo_S1x8208x512_S_d0_1_2 h_S_) main_v34 main_c_15
  let main_v36 : FVec F S1x8208x16x64 .f32 := Host.absf main_arg9
  let main_cst_16 : FVec F S_ .f32 := constant S_ .f32 0x7F800000#32
  let main_v37 : FVec F S1x8208x16x64 .f32 := broadcastInDim S1x8208x16x64 ![] bcast_S_S1x8208x16x64 main_cst_16
  let main_v38 : IVec S1x8208x16x64 1 := cmpf .olt main_v36 main_v37
  let main_c_17 : IVec S_ 1 := constantI S_ 1 1#1
  let main_v39 : IVec S_ 1 := (fun x v => Host.reduce IntOp.andi x v reducesTo_S1x8208x16x64_S_d0_1_2_3 h_S_) main_v38 main_c_17
  let main_v40 : FVec F S1x8208x4x64 .f32 := Host.absf main_arg10
  let main_cst_18 : FVec F S_ .f32 := constant S_ .f32 0x7F800000#32
  let main_v41 : FVec F S1x8208x4x64 .f32 := broadcastInDim S1x8208x4x64 ![] bcast_S_S1x8208x4x64 main_cst_18
  let main_v42 : IVec S1x8208x4x64 1 := cmpf .olt main_v40 main_v41
  let main_c_19 : IVec S_ 1 := constantI S_ 1 1#1
  let main_v43 : IVec S_ 1 := (fun x v => Host.reduce IntOp.andi x v reducesTo_S1x8208x4x64_S_d0_1_2_3 h_S_) main_v42 main_c_19
  let main_v44 : FVec F S1x8208x4x64 .f32 := Host.absf main_arg11
  let main_cst_20 : FVec F S_ .f32 := constant S_ .f32 0x7F800000#32
  let main_v45 : FVec F S1x8208x4x64 .f32 := broadcastInDim S1x8208x4x64 ![] bcast_S_S1x8208x4x64 main_cst_20
  let main_v46 : IVec S1x8208x4x64 1 := cmpf .olt main_v44 main_v45
  let main_c_21 : IVec S_ 1 := constantI S_ 1 1#1
  let main_v47 : IVec S_ 1 := (fun x v => Host.reduce IntOp.andi x v reducesTo_S1x8208x4x64_S_d0_1_2_3 h_S_) main_v46 main_c_21
  fn_part3 (F := F) main_arg12 main_arg13 main_v3 main_v7 main_v11 main_v15 main_v19 main_v23 main_v27 main_v31 main_v35 main_v39 main_v43 main_v47

def fn_part1 {F : FTy → Type} [FloatOps F] (main_arg4 : FVec F S1x64 .f32) (main_arg5 : FVec F S1x8208x1024 .f32) (main_arg6 : FVec F S1x8208x512 .f32) (main_arg7 : FVec F S1x8208x512 .f32) (main_arg8 : FVec F S1x8208x512 .f32) (main_arg9 : FVec F S1x8208x16x64 .f32) (main_arg10 : FVec F S1x8208x4x64 .f32) (main_arg11 : FVec F S1x8208x4x64 .f32) (main_arg12 : FVec F S1x8208x1024 .f32) (main_arg13 : FVec F S1x8208x1024 .f32) (main_v3 : IVec S_ 1) (main_v7 : IVec S_ 1) (main_v11 : IVec S_ 1) (main_v15 : IVec S_ 1) : IVec S_ 1 :=
  let main_v16 : FVec F S1x64 .f32 := Host.absf main_arg4
  let main_cst_6 : FVec F S_ .f32 := constant S_ .f32 0x7F800000#32
  let main_v17 : FVec F S1x64 .f32 := broadcastInDim S1x64 ![] bcast_S_S1x64 main_cst_6
  let main_v18 : IVec S1x64 1 := cmpf .olt main_v16 main_v17
  let main_c_7 : IVec S_ 1 := constantI S_ 1 1#1
  let main_v19 : IVec S_ 1 := (fun x v => Host.reduce IntOp.andi x v reducesTo_S1x64_S_d0_1 h_S_) main_v18 main_c_7
  let main_v20 : FVec F S1x8208x1024 .f32 := Host.absf main_arg5
  let main_cst_8 : FVec F S_ .f32 := constant S_ .f32 0x7F800000#32
  let main_v21 : FVec F S1x8208x1024 .f32 := broadcastInDim S1x8208x1024 ![] bcast_S_S1x8208x1024 main_cst_8
  let main_v22 : IVec S1x8208x1024 1 := cmpf .olt main_v20 main_v21
  let main_c_9 : IVec S_ 1 := constantI S_ 1 1#1
  let main_v23 : IVec S_ 1 := (fun x v => Host.reduce IntOp.andi x v reducesTo_S1x8208x1024_S_d0_1_2 h_S_) main_v22 main_c_9
  let main_v24 : FVec F S1x8208x512 .f32 := Host.absf main_arg6
  let main_cst_10 : FVec F S_ .f32 := constant S_ .f32 0x7F800000#32
  let main_v25 : FVec F S1x8208x512 .f32 := broadcastInDim S1x8208x512 ![] bcast_S_S1x8208x512 main_cst_10
  let main_v26 : IVec S1x8208x512 1 := cmpf .olt main_v24 main_v25
  let main_c_11 : IVec S_ 1 := constantI S_ 1 1#1
  let main_v27 : IVec S_ 1 := (fun x v => Host.reduce IntOp.andi x v reducesTo_S1x8208x512_S_d0_1_2 h_S_) main_v26 main_c_11
  let main_v28 : FVec F S1x8208x512 .f32 := Host.absf main_arg7
  let main_cst_12 : FVec F S_ .f32 := constant S_ .f32 0x7F800000#32
  let main_v29 : FVec F S1x8208x512 .f32 := broadcastInDim S1x8208x512 ![] bcast_S_S1x8208x512 main_cst_12
  let main_v30 : IVec S1x8208x512 1 := cmpf .olt main_v28 main_v29
  let main_c_13 : IVec S_ 1 := constantI S_ 1 1#1
  let main_v31 : IVec S_ 1 := (fun x v => Host.reduce IntOp.andi x v reducesTo_S1x8208x512_S_d0_1_2 h_S_) main_v30 main_c_13
  fn_part2 (F := F) main_arg8 main_arg9 main_arg10 main_arg11 main_arg12 main_arg13 main_v3 main_v7 main_v11 main_v15 main_v19 main_v23 main_v27 main_v31

def fn {F : FTy → Type} [FloatOps F] (main_arg0 : FVec F S1x8208x1024 .f32) (main_arg1 : FVec F S1x1024 .f32) (main_arg2 : FVec F S1x1024x4096 .f32) (main_arg3 : FVec F S1x64 .f32) (main_arg4 : FVec F S1x64 .f32) (main_arg5 : FVec F S1x8208x1024 .f32) (main_arg6 : FVec F S1x8208x512 .f32) (main_arg7 : FVec F S1x8208x512 .f32) (main_arg8 : FVec F S1x8208x512 .f32) (main_arg9 : FVec F S1x8208x16x64 .f32) (main_arg10 : FVec F S1x8208x4x64 .f32) (main_arg11 : FVec F S1x8208x4x64 .f32) (main_arg12 : FVec F S1x8208x1024 .f32) (main_arg13 : FVec F S1x8208x1024 .f32) : IVec S_ 1 :=
  let main_v0 : FVec F S1x8208x1024 .f32 := Host.absf main_arg0
  let main_cst : FVec F S_ .f32 := constant S_ .f32 0x7F800000#32
  let main_v1 : FVec F S1x8208x1024 .f32 := broadcastInDim S1x8208x1024 ![] bcast_S_S1x8208x1024 main_cst
  let main_v2 : IVec S1x8208x1024 1 := cmpf .olt main_v0 main_v1
  let main_c : IVec S_ 1 := constantI S_ 1 1#1
  let main_v3 : IVec S_ 1 := (fun x v => Host.reduce IntOp.andi x v reducesTo_S1x8208x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024x4096 .f32 := Host.absf main_arg2
  let main_cst_2 : FVec F S_ .f32 := constant S_ .f32 0x7F800000#32
  let main_v9 : FVec F S1x1024x4096 .f32 := broadcastInDim S1x1024x4096 ![] bcast_S_S1x1024x4096 main_cst_2
  let main_v10 : IVec S1x1024x4096 1 := cmpf .olt main_v8 main_v9
  let main_c_3 : IVec S_ 1 := constantI S_ 1 1#1
  let main_v11 : IVec S_ 1 := (fun x v => Host.reduce IntOp.andi x v reducesTo_S1x1024x4096_S_d0_1_2 h_S_) main_v10 main_c_3
  let main_v12 : FVec F S1x64 .f32 := Host.absf main_arg3
  let main_cst_4 : FVec F S_ .f32 := constant S_ .f32 0x7F800000#32
  let main_v13 : FVec F S1x64 .f32 := broadcastInDim S1x64 ![] bcast_S_S1x64 main_cst_4
  let main_v14 : IVec S1x64 1 := cmpf .olt main_v12 main_v13
  let main_c_5 : IVec S_ 1 := constantI S_ 1 1#1
  let main_v15 : IVec S_ 1 := (fun x v => Host.reduce IntOp.andi x v reducesTo_S1x64_S_d0_1 h_S_) main_v14 main_c_5
  fn_part1 (F := F) main_arg4 main_arg5 main_arg6 main_arg7 main_arg8 main_arg9 main_arg10 main_arg11 main_arg12 main_arg13 main_v3 main_v7 main_v11 main_v15
-- ==== Pre_finite_mlp.lean ====
abbrev S1x8208x1024 : Shape := ⟨3, ![1, 8208, 1024]⟩
abbrev S1x8192x1024 : Shape := ⟨3, ![1, 8192, 1024]⟩
abbrev S1x1024 : Shape := ⟨2, ![1, 1024]⟩
abbrev S1024 : Shape := ⟨1, ![1024]⟩
abbrev S1x1024x4096 : Shape := ⟨3, ![1, 1024, 4096]⟩
abbrev S1x4096x1024 : Shape := ⟨3, ![1, 4096, 1024]⟩
abbrev S_ : Shape := ⟨0, ![]⟩

class Facts : Prop where
  bcast_S_S1x8208x1024 : S_.BroadcastsInDim S1x8208x1024 (![] : Fin 0 → Fin S1x8208x1024.rank)
  reducesTo_S1x8208x1024_S_d0_1_2 : S1x8208x1024.ReducesTo [0, 1, 2] S_
  h_S_ : 0 < S_.numel
  bcast_S_S1x8192x1024 : S_.BroadcastsInDim S1x8192x1024 (![] : Fin 0 → Fin S1x8192x1024.rank)
  reducesTo_S1x8192x1024_S_d0_1_2 : S1x8192x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1024 : S_.BroadcastsInDim S1024 (![] : Fin 0 → Fin S1024.rank)
  reducesTo_S1024_S_d0 : S1024.ReducesTo [0] S_
  bcast_S_S1x1024x4096 : S_.BroadcastsInDim S1x1024x4096 (![] : Fin 0 → Fin S1x1024x4096.rank)
  reducesTo_S1x1024x4096_S_d0_1_2 : S1x1024x4096.ReducesTo [0, 1, 2] S_
  bcast_S_S1x4096x1024 : S_.BroadcastsInDim S1x4096x1024 (![] : Fin 0 → Fin S1x4096x1024.rank)
  reducesTo_S1x4096x1024_S_d0_1_2 : S1x4096x1024.ReducesTo [0, 1, 2] S_

variable [Facts]

def fn_part1 {F : FTy → Type} [FloatOps F] (main_arg4 : FVec F S1x1024x4096 .f32) (main_arg5 : FVec F S1x4096x1024 .f32) (main_v8 : IVec S_ 1) (main_v12 : IVec S_ 1) (main_v15 : IVec S1024 1) (main_c_5 : IVec S_ 1) : IVec S_ 1 :=
  let main_v16 : IVec S_ 1 := (fun x v => Host.reduce IntOp.andi x v reducesTo_S1024_S_d0 h_S_) main_v15 main_c_5
  let main_v17 : IVec S_ 1 := andi main_v12 main_v16
  let main_v18 : IVec S_ 1 := andi main_v8 main_v17
  let main_v19 : FVec F S1x1024x4096 .f32 := Host.absf main_arg4
  let main_cst_6 : FVec F S_ .f32 := constant S_ .f32 0x7F800000#32
  let main_v20 : FVec F S1x1024x4096 .f32 := broadcastInDim S1x1024x4096 ![] bcast_S_S1x1024x4096 main_cst_6
  let main_v21 : IVec S1x1024x4096 1 := cmpf .olt main_v19 main_v20
  let main_c_7 : IVec S_ 1 := constantI S_ 1 1#1
  let main_v22 : IVec S_ 1 := (fun x v => Host.reduce IntOp.andi x v reducesTo_S1x1024x4096_S_d0_1_2 h_S_) main_v21 main_c_7
  let main_v23 : FVec F S1x4096x1024 .f32 := Host.absf main_arg5
  let main_cst_8 : FVec F S_ .f32 := constant S_ .f32 0x7F800000#32
  let main_v24 : FVec F S1x4096x1024 .f32 := broadcastInDim S1x4096x1024 ![] bcast_S_S1x4096x1024 main_cst_8
  let main_v25 : IVec S1x4096x1024 1 := cmpf .olt main_v23 main_v24
  let main_c_9 : IVec S_ 1 := constantI S_ 1 1#1
  let main_v26 : IVec S_ 1 := (fun x v => Host.reduce IntOp.andi x v reducesTo_S1x4096x1024_S_d0_1_2 h_S_) main_v25 main_c_9
  let main_v27 : IVec S_ 1 := andi main_v22 main_v26
  let main_v28 : IVec S_ 1 := andi main_v18 main_v27
  main_v28

def fn {F : FTy → Type} [FloatOps F] (main_arg0 : FVec F S1x8208x1024 .f32) (main_arg1 : FVec F S1x8192x1024 .f32) (main_arg2 : FVec F S1x1024 .f32) (main_arg3 : FVec F S1024 .f32) (main_arg4 : FVec F S1x1024x4096 .f32) (main_arg5 : FVec F S1x4096x1024 .f32) : IVec S_ 1 :=
  let main_v0 : FVec F S1x8208x1024 .f32 := Host.absf main_arg0
  let main_cst : FVec F S_ .f32 := constant S_ .f32 0x7F800000#32
  let main_v1 : FVec F S1x8208x1024 .f32 := broadcastInDim S1x8208x1024 ![] bcast_S_S1x8208x1024 main_cst
  let main_v2 : IVec S1x8208x1024 1 := cmpf .olt main_v0 main_v1
  let main_c : IVec S_ 1 := constantI S_ 1 1#1
  let main_v3 : IVec S_ 1 := (fun x v => Host.reduce IntOp.andi x v reducesTo_S1x8208x1024_S_d0_1_2 h_S_) main_v2 main_c
  let main_v4 : FVec F S1x8192x1024 .f32 := Host.absf main_arg1
  let main_cst_0 : FVec F S_ .f32 := constant S_ .f32 0x7F800000#32
  let main_v5 : FVec F S1x8192x1024 .f32 := broadcastInDim S1x8192x1024 ![] bcast_S_S1x8192x1024 main_cst_0
  let main_v6 : IVec S1x8192x1024 1 := cmpf .olt main_v4 main_v5
  let main_c_1 : IVec S_ 1 := constantI S_ 1 1#1
  let main_v7 : IVec S_ 1 := (fun x v => Host.reduce IntOp.andi x v reducesTo_S1x8192x1024_S_d0_1_2 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : FVec F S1024 .f32 := Host.absf main_arg3
  let main_cst_4 : FVec F S_ .f32 := constant S_ .f32 0x7F800000#32
  let main_v14 : FVec F S1024 .f32 := broadcastInDim S1024 ![] bcast_S_S1024 main_cst_4
  let main_v15 : IVec S1024 1 := cmpf .olt main_v13 main_v14
  let main_c_5 : IVec S_ 1 := constantI S_ 1 1#1
  fn_part1 (F := F) main_arg4 main_arg5 main_v8 main_v12 main_v15 main_c_5
-- ==== Kernel.lean ====
abbrev S1x8208x16x64 : Shape := ⟨4, ![1, 8208, 16, 64]⟩
abbrev S1x8208x4x64 : Shape := ⟨4, ![1, 8208, 4, 64]⟩
abbrev S1x8208x1024 : Shape := ⟨3, ![1, 8208, 1024]⟩
abbrev S8208x16x64 : Shape := ⟨3, ![8208, 16, 64]⟩
abbrev S_ : Shape := ⟨0, ![]⟩
abbrev S8448x16x64 : Shape := ⟨3, ![8448, 16, 64]⟩
abbrev S16x8448x64 : Shape := ⟨3, ![16, 8448, 64]⟩
abbrev S8208x4x64 : Shape := ⟨3, ![8208, 4, 64]⟩
abbrev S8448x4x64 : Shape := ⟨3, ![8448, 4, 64]⟩
abbrev S4x8448x64 : Shape := ⟨3, ![4, 8448, 64]⟩
abbrev S8448 : Shape := ⟨1, ![8448]⟩
abbrev S16x8448x1 : Shape := ⟨3, ![16, 8448, 1]⟩
abbrev S16x8448x63 : Shape := ⟨3, ![16, 8448, 63]⟩
abbrev S16x8448x128 : Shape := ⟨3, ![16, 8448, 128]⟩
abbrev S16x128x8448 : Shape := ⟨3, ![16, 128, 8448]⟩
abbrev S1x8448x1 : Shape := ⟨3, ![1, 8448, 1]⟩
abbrev S4x8448x1 : Shape := ⟨3, ![4, 8448, 1]⟩
abbrev S4x8448x63 : Shape := ⟨3, ![4, 8448, 63]⟩
abbrev S4x8448x128 : Shape := ⟨3, ![4, 8448, 128]⟩
abbrev S4x64x8448 : Shape := ⟨3, ![4, 64, 8448]⟩
abbrev S8208x1024 : Shape := ⟨2, ![8208, 1024]⟩
abbrev S8448x1024 : Shape := ⟨2, ![8448, 1024]⟩
abbrev S1024x8448 : Shape := ⟨2, ![1024, 8448]⟩
abbrev S4x4x8448x64 : Shape := ⟨4, ![4, 4, 8448, 64]⟩
abbrev S4x4x8448x8208 : Shape := ⟨4, ![4, 4, 8448, 8208]⟩
abbrev S4x4x8448 : Shape := ⟨3, ![4, 4, 8448]⟩
abbrev S4x4x8448x1 : Shape := ⟨4, ![4, 4, 8448, 1]⟩
abbrev S4x4x64x8448 : Shape := ⟨4, ![4, 4, 64, 8448]⟩
abbrev S4x128x768 : Shape := ⟨3, ![4, 128, 768]⟩
abbrev S1x768x128 : Shape := ⟨3, ![1, 768, 128]⟩
abbrev S1x64x768 : Shape := ⟨3, ![1, 64, 768]⟩
abbrev S256x768 : Shape := ⟨2, ![256, 768]⟩
abbrev S1x4x768 : Shape := ⟨3, ![1, 4, 768]⟩
abbrev S1x768x64 : Shape := ⟨3, ![1, 768, 64]⟩
abbrev S256x8448 : Shape := ⟨2, ![256, 8448]⟩
abbrev S768x128 : Shape := ⟨2, ![768, 128]⟩
abbrev S64x768 : Shape := ⟨2, ![64, 768]⟩
abbrev S768x64 : Shape := ⟨2, ![768, 64]⟩
abbrev S1x128x768 : Shape := ⟨3, ![1, 128, 768]⟩
abbrev S128x768 : Shape := ⟨2, ![128, 768]⟩
abbrev S768x768 : Shape := ⟨2, ![768, 768]⟩
abbrev S768 : Shape := ⟨1, ![768]⟩
abbrev S1x768 : Shape := ⟨2, ![1, 768]⟩
abbrev S1x1x768 : Shape := ⟨3, ![1, 1, 768]⟩
abbrev S16x64x8448 : Shape := ⟨3, ![16, 64, 8448]⟩

abbrev nBuf : Space → Nat
  | .hbm => 101
  | .vmem => 20
  | .smem => 0
  | _ => 0

abbrev bufTy : (tb : Table) → Fin (tcTables nBuf tb) → BufTy
  | .hbm, ⟨0, _⟩ => ⟨S1x8208x16x64, .f32⟩
  | .hbm, ⟨1, _⟩ => ⟨S1x8208x4x64, .f32⟩
  | .hbm, ⟨2, _⟩ => ⟨S1x8208x4x64, .f32⟩
  | .hbm, ⟨3, _⟩ => ⟨S1x8208x1024, .f32⟩
  | .hbm, ⟨4, _⟩ => ⟨S8208x16x64, .f32⟩
  | .hbm, ⟨5, _⟩ => ⟨S_, .i32⟩
  | .hbm, ⟨6, _⟩ => ⟨S_, .f32⟩
  | .hbm, ⟨7, _⟩ => ⟨S8448x16x64, .f32⟩
  | .hbm, ⟨8, _⟩ => ⟨S16x8448x64, .f32⟩
  | .hbm, ⟨9, _⟩ => ⟨S8208x4x64, .f32⟩
  | .hbm, ⟨10, _⟩ => ⟨S_, .i32⟩
  | .hbm, ⟨11, _⟩ => ⟨S_, .f32⟩
  | .hbm, ⟨12, _⟩ => ⟨S8448x4x64, .f32⟩
  | .hbm, ⟨13, _⟩ => ⟨S4x8448x64, .f32⟩
  | .hbm, ⟨14, _⟩ => ⟨S8208x4x64, .f32⟩
  | .hbm, ⟨15, _⟩ => ⟨S_, .i32⟩
  | .hbm, ⟨16, _⟩ => ⟨S_, .f32⟩
  | .hbm, ⟨17, _⟩ => ⟨S8448x4x64, .f32⟩
  | .hbm, ⟨18, _⟩ => ⟨S4x8448x64, .f32⟩
  | .hbm, ⟨19, _⟩ => ⟨S8448, .i32⟩
  | .hbm, ⟨20, _⟩ => ⟨S_, .i32⟩
  | .hbm, ⟨21, _⟩ => ⟨S8448, .i32⟩
  | .hbm, ⟨22, _⟩ => ⟨S8448, .i1⟩
  | .hbm, ⟨23, _⟩ => ⟨S_, .f32⟩
  | .hbm, ⟨24, _⟩ => ⟨S_, .f32⟩
  | .hbm, ⟨25, _⟩ => ⟨S8448, .f32⟩
  | .hbm, ⟨26, _⟩ => ⟨S8448, .f32⟩
  | .hbm, ⟨27, _⟩ => ⟨S8448, .f32⟩
  | .hbm, ⟨28, _⟩ => ⟨S_, .f32⟩
  | .hbm, ⟨29, _⟩ => ⟨S16x8448x64, .f32⟩
  | .hbm, ⟨30, _⟩ => ⟨S16x8448x64, .f32⟩
  | .hbm, ⟨31, _⟩ => ⟨S_, .f32⟩
  | .hbm, ⟨32, _⟩ => ⟨S16x8448x1, .f32⟩
  | .hbm, ⟨33, _⟩ => ⟨S_, .f32⟩
  | .hbm, ⟨34, _⟩ => ⟨S16x8448x63, .f32⟩
  | .hbm, ⟨35, _⟩ => ⟨S16x8448x128, .f32⟩
  | .hbm, ⟨36, _⟩ => ⟨S16x128x8448, .f32⟩
  | .hbm, ⟨37, _⟩ => ⟨S16x128x8448, .bf16⟩
  | .hbm, ⟨38, _⟩ => ⟨S1x8448x1, .f32⟩
  | .hbm, ⟨39, _⟩ => ⟨S4x8448x1, .f32⟩
  | .hbm, ⟨40, _⟩ => ⟨S_, .f32⟩
  | .hbm, ⟨41, _⟩ => ⟨S4x8448x63, .f32⟩
  | .hbm, ⟨42, _⟩ => ⟨S4x8448x1, .f32⟩
  | .hbm, ⟨43, _⟩ => ⟨S4x8448x128, .f32⟩
  | .hbm, ⟨44, _⟩ => ⟨S4x8448x128, .bf16⟩
  | .hbm, ⟨45, _⟩ => ⟨S4x64x8448, .f32⟩
  | .hbm, ⟨46, _⟩ => ⟨S4x64x8448, .bf16⟩
  | .hbm, ⟨47, _⟩ => ⟨S_, .f32⟩
  | .hbm, ⟨48, _⟩ => ⟨S4x8448x1, .f32⟩
  | .hbm, ⟨49, _⟩ => ⟨S_, .f32⟩
  | .hbm, ⟨50, _⟩ => ⟨S4x8448x63, .f32⟩
  | .hbm, ⟨51, _⟩ => ⟨S4x8448x128, .f32⟩
  | .hbm, ⟨52, _⟩ => ⟨S4x8448x128, .bf16⟩
  | .hbm, ⟨53, _⟩ => ⟨S8208x1024, .f32⟩
  | .hbm, ⟨54, _⟩ => ⟨S_, .i32⟩
  | .hbm, ⟨55, _⟩ => ⟨S_, .f32⟩
  | .hbm, ⟨56, _⟩ => ⟨S8448x1024, .f32⟩
  | .hbm, ⟨57, _⟩ => ⟨S1024x8448, .f32⟩
  | .hbm, ⟨58, _⟩ => ⟨S1024x8448, .bf16⟩
  | .hbm, ⟨59, _⟩ => ⟨S4x4x8448x64, .f32⟩
  | .hbm, ⟨60, _⟩ => ⟨S8208x4x64, .f32⟩
  | .hbm, ⟨61, _⟩ => ⟨S4x4x8448x8208, .f32⟩
  | .hbm, ⟨62, _⟩ => ⟨S_, .f32⟩
  | .hbm, ⟨63, _⟩ => ⟨S4x4x8448x8208, .f32⟩
  | .hbm, ⟨64, _⟩ => ⟨S4x4x8448x8208, .f32⟩
  | .hbm, ⟨65, _⟩ => ⟨S_, .f32⟩
  | .hbm, ⟨66, _⟩ => ⟨S4x4x8448, .f32⟩
  | .hbm, ⟨67, _⟩ => ⟨S4x4x8448x1, .f32⟩
  | .hbm, ⟨68, _⟩ => ⟨S4x4x8448x8208, .f32⟩
  | .hbm, ⟨69, _⟩ => ⟨S4x4x8448x8208, .f32⟩
  | .hbm, ⟨70, _⟩ => ⟨S4x4x8448x8208, .f32⟩
  | .hbm, ⟨71, _⟩ => ⟨S_, .f32⟩
  | .hbm, ⟨72, _⟩ => ⟨S4x4x8448, .f32⟩
  | .hbm, ⟨73, _⟩ => ⟨S4x4x8448x1, .f32⟩
  | .hbm, ⟨74, _⟩ => ⟨S8208x4x64, .f32⟩
  | .hbm, ⟨75, _⟩ => ⟨S4x4x8448x64, .f32⟩
  | .hbm, ⟨76, _⟩ => ⟨S4x4x8448x64, .f32⟩
  | .hbm, ⟨77, _⟩ => ⟨S4x4x8448x64, .f32⟩
  | .hbm, ⟨78, _⟩ => ⟨S4x4x64x8448, .f32⟩
  | .hbm, ⟨79, _⟩ => ⟨S1024x8448, .f32⟩
  | .hbm, ⟨80, _⟩ => ⟨S4x4x8448x1, .f32⟩
  | .hbm, ⟨81, _⟩ => ⟨S4x4x8448x1, .f32⟩
  | .hbm, ⟨82, _⟩ => ⟨S4x4x8448, .f32⟩
  | .hbm, ⟨83, _⟩ => ⟨S4x8448x128, .f32⟩
  | .hbm, ⟨84, _⟩ => ⟨S4x8448x64, .f32⟩
  | .hbm, ⟨85, _⟩ => ⟨S1024x8448, .f32⟩
  | .hbm, ⟨86, _⟩ => ⟨S16x64x8448, .f32⟩
  | .hbm, ⟨87, _⟩ => ⟨S_, .f32⟩
  | .hbm, ⟨88, _⟩ => ⟨S16x64x8448, .f32⟩
  | .hbm, ⟨89, _⟩ => ⟨S16x64x8448, .f32⟩
  | .hbm, ⟨90, _⟩ => ⟨S16x8448x64, .f32⟩
  | .hbm, ⟨91, _⟩ => ⟨S8448x16x64, .f32⟩
  | .hbm, ⟨92, _⟩ => ⟨S8208x16x64, .f32⟩
  | .hbm, ⟨93, _⟩ => ⟨S1x8208x16x64, .f32⟩
  | .hbm, ⟨94, _⟩ => ⟨S4x8448x64, .f32⟩
  | .hbm, ⟨95, _⟩ => ⟨S8448x4x64, .f32⟩
  | .hbm, ⟨96, _⟩ => ⟨S8208x4x64, .f32⟩
  | .hbm, ⟨97, _⟩ => ⟨S1x8208x4x64, .f32⟩
  | .hbm, ⟨98, _⟩ => ⟨S8448x4x64, .f32⟩
  | .hbm, ⟨99, _⟩ => ⟨S8208x4x64, .f32⟩
  | .hbm, ⟨100, _⟩ => ⟨S1x8208x4x64, .f32⟩
  | .local _ .vmem, ⟨0, _⟩ => ⟨S4x128x768, .bf16⟩
  | .local _ .vmem, ⟨1, _⟩ => ⟨S4x128x768, .bf16⟩
  | .local _ .vmem, ⟨2, _⟩ => ⟨S1x768x128, .bf16⟩
  | .local _ .vmem, ⟨3, _⟩ => ⟨S1x768x128, .bf16⟩
  | .local _ .vmem, ⟨4, _⟩ => ⟨S1x64x768, .bf16⟩
  | .local _ .vmem, ⟨5, _⟩ => ⟨S1x64x768, .bf16⟩
  | .local _ .vmem, ⟨6, _⟩ => ⟨S1x768x128, .bf16⟩
  | .local _ .vmem, ⟨7, _⟩ => ⟨S1x768x128, .bf16⟩
  | .local _ .vmem, ⟨8, _⟩ => ⟨S256x768, .bf16⟩
  | .local _ .vmem, ⟨9, _⟩ => ⟨S256x768, .bf16⟩
  | .local _ .vmem, ⟨10, _⟩ => ⟨S256x768, .f32⟩
  | .local _ .vmem, ⟨11, _⟩ => ⟨S256x768, .f32⟩
  | .local _ .vmem, ⟨12, _⟩ => ⟨S1x4x768, .f32⟩
  | .local _ .vmem, ⟨13, _⟩ => ⟨S1x4x768, .f32⟩
  | .local _ .vmem, ⟨14, _⟩ => ⟨S1x768x128, .f32⟩
  | .local _ .vmem, ⟨15, _⟩ => ⟨S1x768x128, .f32⟩
  | .local _ .vmem, ⟨16, _⟩ => ⟨S1x768x64, .f32⟩
  | .local _ .vmem, ⟨17, _⟩ => ⟨S1x768x64, .f32⟩
  | .local _ .vmem, ⟨18, _⟩ => ⟨S256x8448, .f32⟩
  | .local _ .vmem, ⟨19, _⟩ => ⟨S256x8448, .f32⟩
  | _, _ => ⟨S1x8208x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_cst_3 : Ref sig .tc := ⟨.hbm, 24, rfl⟩
abbrev main_call3_v0 : Ref sig .tc := ⟨.hbm, 25, rfl⟩
abbrev main_call3_v1 : Ref sig .tc := ⟨.hbm, 26, rfl⟩
abbrev main_v12 : Ref sig .tc := ⟨.hbm, 27, rfl⟩
abbrev main_cst_4 : Ref sig .tc := ⟨.hbm, 28, rfl⟩
abbrev main_v13 : Ref sig .tc := ⟨.hbm, 29, rfl⟩
abbrev main_v14 : Ref sig .tc := ⟨.hbm, 30, rfl⟩
abbrev main_cst_5 : Ref sig .tc := ⟨.hbm, 31, rfl⟩
abbrev main_v15 : Ref sig .tc := ⟨.hbm, 32, rfl⟩
abbrev main_cst_6 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_v28 : Ref sig .tc := ⟨.hbm, 48, rfl⟩
abbrev main_cst_9 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_10 : Ref sig .tc := ⟨.hbm, 54, rfl⟩
abbrev main_call4_v0 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_11 : Ref sig .tc := ⟨.hbm, 62, rfl⟩
abbrev main_v39 : Ref sig .tc := ⟨.hbm, 63, rfl⟩
abbrev main_v40 : Ref sig .tc := ⟨.hbm, 64, rfl⟩
abbrev main_cst_12 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_13 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57_0 : Ref sig .tc := ⟨.hbm, 83, rfl⟩
abbrev main_v57_1 : Ref sig .tc := ⟨.hbm, 84, rfl⟩
abbrev main_v57_2 : Ref sig .tc := ⟨.hbm, 85, rfl⟩
abbrev main_v58 : Ref sig .tc := ⟨.hbm, 86, rfl⟩
abbrev main_cst_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 11, 11], ![false, false, false]⟩

def k0_mult1 (i : grid0.Coords) : BitVec 32 :=
  let arg2 : BitVec 32 := BitVec.ofNat 32 (i 2).val
  let c768_i32 : BitVec 32 := 768#32
  let v14 : BitVec 32 := Scalar.muli arg2 c768_i32
  v14
def k0_off1 (i : grid0.Coords) : Fin 2 → Nat :=
  let c0_38 : Index := 0#32
  let arg2 : BitVec 32 := BitVec.ofNat 32 (i 2).val
  let c768_i32 : BitVec 32 := 768#32
  let v14 : BitVec 32 := Scalar.muli arg2 c768_i32
  let v15 : BitVec 32 := v14
  let v54 : Index := Scalar.indexCast v15
  ![0, v54.toNat]
def k0_off2 (i : grid0.Coords) : Fin 2 → Nat :=
  let c64_59 : Index := 64#32
  let arg2 : BitVec 32 := BitVec.ofNat 32 (i 2).val
  let c768_i32 : BitVec 32 := 768#32
  let v14 : BitVec 32 := Scalar.muli arg2 c768_i32
  let v15 : BitVec 32 := v14
  let v91 : Index := Scalar.indexCast v15
  ![64, v91.toNat]
def k0_off3 (i : grid0.Coords) : Fin 2 → Nat :=
  let c128_80 : Index := 128#32
  let arg2 : BitVec 32 := BitVec.ofNat 32 (i 2).val
  let c768_i32 : BitVec 32 := 768#32
  let v14 : BitVec 32 := Scalar.muli arg2 c768_i32
  let v15 : BitVec 32 := v14
  let v128 : Index := Scalar.indexCast v15
  ![128, v128.toNat]
def k0_off4 (i : grid0.Coords) : Fin 2 → Nat :=
  let c192_96 : Index := 192#32
  let arg2 : BitVec 32 := BitVec.ofNat 32 (i 2).val
  let c768_i32 : BitVec 32 := 768#32
  let v14 : BitVec 32 := Scalar.muli arg2 c768_i32
  let v15 : BitVec 32 := v14
  let v159 : Index := Scalar.indexCast v15
  ![192, v159.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S4x128x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x768x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x64x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x768x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x4x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x768x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x768x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S256x8448 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== ReferenceIdeal.lean ====
abbrev S1x8208x16x64 : Shape := ⟨4, ![1, 8208, 16, 64]⟩
abbrev S1x8208x4x64 : Shape := ⟨4, ![1, 8208, 4, 64]⟩
abbrev S1x8208x1024 : Shape := ⟨3, ![1, 8208, 1024]⟩
abbrev S1x8208x4x4x64 : Shape := ⟨5, ![1, 8208, 4, 4, 64]⟩
abbrev S1x4x8208x8208x4 : Shape := ⟨5, ![1, 4, 8208, 8208, 4]⟩
abbrev S1x4x4x8208x8208 : Shape := ⟨5, ![1, 4, 4, 8208, 8208]⟩
abbrev S_ : Shape := ⟨0, ![]⟩
abbrev S1x4x4x8208 : Shape := ⟨4, ![1, 4, 4, 8208]⟩
abbrev S1x4x4x8208x1 : Shape := ⟨5, ![1, 4, 4, 8208, 1]⟩
abbrev S1x4x64x4x8208 : Shape := ⟨5, ![1, 4, 64, 4, 8208]⟩
abbrev S1x4x64x8208 : Shape := ⟨4, ![1, 4, 64, 8208]⟩
abbrev S4x4x8208 : Shape := ⟨3, ![4, 4, 8208]⟩
abbrev S1x4x8208x4x64 : Shape := ⟨5, ![1, 4, 8208, 4, 64]⟩
abbrev S1x4x8208x64 : Shape := ⟨4, ![1, 4, 8208, 64]⟩

abbrev nBuf : Space → Nat
  | .hbm => 80
  | .vmem => 0
  | .smem => 0
  | _ => 0

abbrev bufTy : (tb : Table) → Fin (tcTables nBuf tb) → BufTy
  | .hbm, ⟨0, _⟩ => ⟨S1x8208x16x64, .f32⟩
  | .hbm, ⟨1, _⟩ => ⟨S1x8208x4x64, .f32⟩
  | .hbm, ⟨2, _⟩ => ⟨S1x8208x4x64, .f32⟩
  | .hbm, ⟨3, _⟩ => ⟨S1x8208x1024, .f32⟩
  | .hbm, ⟨4, _⟩ => ⟨S1x8208x4x4x64, .f32⟩
  | .hbm, ⟨5, _⟩ => ⟨S1x4x8208x8208x4, .f32⟩
  | .hbm, ⟨6, _⟩ => ⟨S1x4x4x8208x8208, .f32⟩
  | .hbm, ⟨7, _⟩ => ⟨S_, .f32⟩
  | .hbm, ⟨8, _⟩ => ⟨S1x4x4x8208x8208, .f32⟩
  | .hbm, ⟨9, _⟩ => ⟨S1x4x4x8208x8208, .f32⟩
  | .hbm, ⟨10, _⟩ => ⟨S_, .f32⟩
  | .hbm, ⟨11, _⟩ => ⟨S1x4x4x8208, .f32⟩
  | .hbm, ⟨12, _⟩ => ⟨S1x4x4x8208x1, .f32⟩
  | .hbm, ⟨13, _⟩ => ⟨S1x4x4x8208x8208, .f32⟩
  | .hbm, ⟨14, _⟩ => ⟨S1x4x4x8208x8208, .i1⟩
  | .hbm, ⟨15, _⟩ => ⟨S1x4x4x8208x8208, .f32⟩
  | .hbm, ⟨16, _⟩ => ⟨S_, .f32⟩
  | .hbm, ⟨17, _⟩ => ⟨S1x4x4x8208, .f32⟩
  | .hbm, ⟨18, _⟩ => ⟨S_, .f32⟩
  | .hbm, ⟨19, _⟩ => ⟨S1x4x4x8208, .f32⟩
  | .hbm, ⟨20, _⟩ => ⟨S1x4x4x8208, .f32⟩
  | .hbm, ⟨21, _⟩ => ⟨S_, .f32⟩
  | .hbm, ⟨22, _⟩ => ⟨S1x4x4x8208, .f32⟩
  | .hbm, ⟨23, _⟩ => ⟨S1x4x4x8208, .i1⟩
  | .hbm, ⟨24, _⟩ => ⟨S_, .f32⟩
  | .hbm, ⟨25, _⟩ => ⟨S1x4x4x8208, .f32⟩
  | .hbm, ⟨26, _⟩ => ⟨S1x4x4x8208, .i1⟩
  | .hbm, ⟨27, _⟩ => ⟨S_, .f32⟩
  | .hbm, ⟨28, _⟩ => ⟨S1x4x4x8208, .f32⟩
  | .hbm, ⟨29, _⟩ => ⟨S_, .f32⟩
  | .hbm, ⟨30, _⟩ => ⟨S1x4x4x8208, .f32⟩
  | .hbm, ⟨31, _⟩ => ⟨S_, .f32⟩
  | .hbm, ⟨32, _⟩ => ⟨S1x4x4x8208, .f32⟩
  | .hbm, ⟨33, _⟩ => ⟨S1x4x4x8208, .f32⟩
  | .hbm, ⟨34, _⟩ => ⟨S1x4x4x8208, .f32⟩
  | .hbm, ⟨35, _⟩ => ⟨S1x4x4x8208x1, .f32⟩
  | .hbm, ⟨36, _⟩ => ⟨S1x4x4x8208x8208, .f32⟩
  | .hbm, ⟨37, _⟩ => ⟨S1x4x4x8208x8208, .f32⟩
  | .hbm, ⟨38, _⟩ => ⟨S1x4x4x8208x8208, .f32⟩
  | .hbm, ⟨39, _⟩ => ⟨S_, .f32⟩
  | .hbm, ⟨40, _⟩ => ⟨S1x4x4x8208, .f32⟩
  | .hbm, ⟨41, _⟩ => ⟨S1x4x4x8208x1, .f32⟩
  | .hbm, ⟨42, _⟩ => ⟨S1x4x4x8208x8208, .f32⟩
  | .hbm, ⟨43, _⟩ => ⟨S1x4x4x8208x8208, .f32⟩
  | .hbm, ⟨44, _⟩ => ⟨S1x4x4x8208x1, .f32⟩
  | .hbm, ⟨45, _⟩ => ⟨S_, .f32⟩
  | .hbm, ⟨46, _⟩ => ⟨S1x4x4x8208x1, .f32⟩
  | .hbm, ⟨47, _⟩ => ⟨S1x4x4x8208x1, .f32⟩
  | .hbm, ⟨48, _⟩ => ⟨S1x4x64x4x8208, .f32⟩
  | .hbm, ⟨49, _⟩ => ⟨S1x8208x4x4x64, .f32⟩
  | .hbm, ⟨50, _⟩ => ⟨S1x8208x1024, .f32⟩
  | .hbm, ⟨51, _⟩ => ⟨S1x8208x4x4x64, .f32⟩
  | .hbm, ⟨52, _⟩ => ⟨S1x4x64x4x8208, .f32⟩
  | .hbm, ⟨53, _⟩ => ⟨S1x4x4x8208x8208, .f32⟩
  | .hbm, ⟨54, _⟩ => ⟨S1x4x64x8208, .f32⟩
  | .hbm, ⟨55, _⟩ => ⟨S1x8208x4x64, .f32⟩
  | .hbm, ⟨56, _⟩ => ⟨S1x4x4x8208x8208, .f32⟩
  | .hbm, ⟨57, _⟩ => ⟨S1x4x4x8208x8208, .f32⟩
  | .hbm, ⟨58, _⟩ => ⟨S1x4x4x8208x8208, .f32⟩
  | .hbm, ⟨59, _⟩ => ⟨S_, .f32⟩
  | .hbm, ⟨60, _⟩ => ⟨S1x4x4x8208, .f32⟩
  | .hbm, ⟨61, _⟩ => ⟨S1x4x4x8208x1, .f32⟩
  | .hbm, ⟨62, _⟩ => ⟨S1x4x4x8208x1, .f32⟩
  | .hbm, ⟨63, _⟩ => ⟨S1x4x4x8208x8208, .f32⟩
  | .hbm, ⟨64, _⟩ => ⟨S1x4x4x8208x8208, .f32⟩
  | .hbm, ⟨65, _⟩ => ⟨S_, .f32⟩
  | .hbm, ⟨66, _⟩ => ⟨S4x4x8208, .f32⟩
  | .hbm, ⟨67, _⟩ => ⟨S1x4x4x8208, .f32⟩
  | .hbm, ⟨68, _⟩ => ⟨S1x4x4x8208x8208, .f32⟩
  | .hbm, ⟨69, _⟩ => ⟨S1x4x4x8208x8208, .f32⟩
  | .hbm, ⟨70, _⟩ => ⟨S1x4x4x8208x8208, .f32⟩
  | .hbm, ⟨71, _⟩ => ⟨S_, .f32⟩
  | .hbm, ⟨72, _⟩ => ⟨S1x4x4x8208x8208, .f32⟩
  | .hbm, ⟨73, _⟩ => ⟨S1x4x4x8208x8208, .f32⟩
  | .hbm, ⟨74, _⟩ => ⟨S1x4x8208x8208x4, .f32⟩
  | .hbm, ⟨75, _⟩ => ⟨S1x4x8208x4x64, .f32⟩
  | .hbm, ⟨76, _⟩ => ⟨S1x8208x4x4x64, .f32⟩
  | .hbm, ⟨77, _⟩ => ⟨S1x4x8208x64, .f32⟩
  | .hbm, ⟨78, _⟩ => ⟨S1x8208x4x64, .f32⟩
  | .hbm, ⟨79, _⟩ => ⟨S1x8208x16x64, .f32⟩
  | _, _ => ⟨S1x8208x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]
-- ==== Kernel2.lean ====
abbrev S1x8208x1024 : Shape := ⟨3, ![1, 8208, 1024]⟩
abbrev S1x8192x1024 : Shape := ⟨3, ![1, 8192, 1024]⟩
abbrev S1x1024 : Shape := ⟨2, ![1, 1024]⟩
abbrev S1024 : Shape := ⟨1, ![1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S4096x1024 : Shape := ⟨2, ![4096, 1024]⟩
abbrev S8x512x1024 : Shape := ⟨3, ![8, 512, 1024]⟩
abbrev S8208x1024 : Shape := ⟨2, ![8208, 1024]⟩
abbrev S_ : Shape := ⟨0, ![]⟩
abbrev S8448x1024 : Shape := ⟨2, ![8448, 1024]⟩
abbrev S8192x1024 : Shape := ⟨2, ![8192, 1024]⟩
abbrev S8x128 : Shape := ⟨2, ![8, 128]⟩
abbrev S8448x4096 : Shape := ⟨2, ![8448, 4096]⟩
abbrev S384x1024 : Shape := ⟨2, ![384, 1024]⟩
abbrev S384x4096 : Shape := ⟨2, ![384, 4096]⟩
abbrev S2 : Shape := ⟨1, ![2]⟩
abbrev S1 : Shape := ⟨1, ![1]⟩
abbrev S384 : Shape := ⟨1, ![384]⟩
abbrev S384x1 : Shape := ⟨2, ![384, 1]⟩
abbrev S1x1024x512 : Shape := ⟨3, ![1, 1024, 512]⟩
abbrev S1024x512 : Shape := ⟨2, ![1024, 512]⟩
abbrev S384x512 : Shape := ⟨2, ![384, 512]⟩
abbrev S1x512x1024 : Shape := ⟨3, ![1, 512, 1024]⟩
abbrev S512x1024 : Shape := ⟨2, ![512, 1024]⟩
abbrev S1x384x1 : Shape := ⟨3, ![1, 384, 1]⟩
abbrev S1x1x1 : Shape := ⟨3, ![1, 1, 1]⟩

abbrev nBuf : Space → Nat
  | .hbm => 30
  | .vmem => 22
  | .smem => 0
  | _ => 0

abbrev bufTy : (tb : Table) → Fin (tcTables nBuf tb) → BufTy
  | .hbm, ⟨0, _⟩ => ⟨S1x8208x1024, .f32⟩
  | .hbm, ⟨1, _⟩ => ⟨S1x8192x1024, .f32⟩
  | .hbm, ⟨2, _⟩ => ⟨S1x1024, .f32⟩
  | .hbm, ⟨3, _⟩ => ⟨S1024, .f32⟩
  | .hbm, ⟨4, _⟩ => ⟨S1x1024x4096, .f32⟩
  | .hbm, ⟨5, _⟩ => ⟨S1x4096x1024, .f32⟩
  | .hbm, ⟨6, _⟩ => ⟨S1024x4096, .f32⟩
  | .hbm, ⟨7, _⟩ => ⟨S1024x8x512, .f32⟩
  | .hbm, ⟨8, _⟩ => ⟨S8x1024x512, .f32⟩
  | .hbm, ⟨9, _⟩ => ⟨S8x1024x512, .bf16⟩
  | .hbm, ⟨10, _⟩ => ⟨S4096x1024, .f32⟩
  | .hbm, ⟨11, _⟩ => ⟨S8x512x1024, .f32⟩
  | .hbm, ⟨12, _⟩ => ⟨S8x512x1024, .bf16⟩
  | .hbm, ⟨13, _⟩ => ⟨S8208x1024, .f32⟩
  | .hbm, ⟨14, _⟩ => ⟨S_, .i32⟩
  | .hbm, ⟨15, _⟩ => ⟨S_, .f32⟩
  | .hbm, ⟨16, _⟩ => ⟨S8448x1024, .f32⟩
  | .hbm, ⟨17, _⟩ => ⟨S8192x1024, .f32⟩
  | .hbm, ⟨18, _⟩ => ⟨S_, .i32⟩
  | .hbm, ⟨19, _⟩ => ⟨S_, .f32⟩
  | .hbm, ⟨20, _⟩ => ⟨S8448x1024, .f32⟩
  | .hbm, ⟨21, _⟩ => ⟨S1x1024, .f32⟩
  | .hbm, ⟨22, _⟩ => ⟨S8448x1024, .f32⟩
  | .hbm, ⟨23, _⟩ => ⟨S8x128, .f32⟩
  | .hbm, ⟨24, _⟩ => ⟨S1x1024, .f32⟩
  | .hbm, ⟨25, _⟩ => ⟨S1x1024, .f32⟩
  | .hbm, ⟨26, _⟩ => ⟨S8448x1024, .bf16⟩
  | .hbm, ⟨27, _⟩ => ⟨S8448x4096, .bf16⟩
  | .hbm, ⟨28, _⟩ => ⟨S8448x4096, .bf16⟩
  | .hbm, ⟨29, _⟩ => ⟨S8448x1024, .bf16⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1x1024, .f32⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S8x128, .f32⟩
  | .local _ .vmem, ⟨9, _⟩ => ⟨S1x1024, .f32⟩
  | .local _ .vmem, ⟨10, _⟩ => ⟨S1x1024, .f32⟩
  | .local _ .vmem, ⟨11, _⟩ => ⟨S384x1024, .bf16⟩
  | .local _ .vmem, ⟨12, _⟩ => ⟨S384x1024, .bf16⟩
  | .local _ .vmem, ⟨13, _⟩ => ⟨S384x4096, .bf16⟩
  | .local _ .vmem, ⟨14, _⟩ => ⟨S384x4096, .bf16⟩
  | .local _ .vmem, ⟨15, _⟩ => ⟨S384x4096, .bf16⟩
  | .local _ .vmem, ⟨16, _⟩ => ⟨S384x4096, .bf16⟩
  | .local _ .vmem, ⟨17, _⟩ => ⟨S384x1024, .bf16⟩
  | .local _ .vmem, ⟨18, _⟩ => ⟨S384x1024, .bf16⟩
  | .local _ .vmem, ⟨19, _⟩ => ⟨S8x1024x512, .bf16⟩
  | .local _ .vmem, ⟨20, _⟩ => ⟨S8x512x1024, .bf16⟩
  | .local _ .vmem, ⟨21, _⟩ => ⟨S384x4096, .f32⟩
  | _, _ => ⟨S1x8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_call1_v0 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v12_4 : Ref sig .tc := ⟨.hbm, 26, rfl⟩
abbrev main_v12_5 : Ref sig .tc := ⟨.hbm, 27, rfl⟩
abbrev main_v12_6 : Ref sig .tc := ⟨.hbm, 28, rfl⟩
abbrev main_v12_7 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S384x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S1x8208x1024 : Shape := ⟨3, ![1, 8208, 1024]⟩
abbrev S1x8192x1024 : Shape := ⟨3, ![1, 8192, 1024]⟩
abbrev S1x1024 : Shape := ⟨2, ![1, 1024]⟩
abbrev S1024 : Shape := ⟨1, ![1024]⟩
abbrev S1x1024x4096 : Shape := ⟨3, ![1, 1024, 4096]⟩
abbrev S1x4096x1024 : Shape := ⟨3, ![1, 4096, 1024]⟩
abbrev S_ : Shape := ⟨0, ![]⟩
abbrev S1x8208x4096 : Shape := ⟨3, ![1, 8208, 4096]⟩
abbrev S1x8208 : Shape := ⟨2, ![1, 8208]⟩
abbrev S1x8208x1 : Shape := ⟨3, ![1, 8208, 1]⟩
abbrev S1x1x1024 : Shape := ⟨3, ![1, 1, 1024]⟩
abbrev S1024x4096 : Shape := ⟨2, ![1024, 4096]⟩
abbrev S4096x1024 : Shape := ⟨2, ![4096, 1024]⟩
abbrev S1x8192 : Shape := ⟨2, ![1, 8192]⟩
abbrev S8208 : Shape := ⟨1, ![8208]⟩
abbrev S8208x1024 : Shape := ⟨2, ![8208, 1024]⟩
abbrev S8448x1024 : Shape := ⟨2, ![8448, 1024]⟩
abbrev S8x128 : Shape := ⟨2, ![8, 128]⟩
abbrev S8208x4096 : Shape := ⟨2, ![8208, 4096]⟩
abbrev S8448x4096 : Shape := ⟨2, ![8448, 4096]⟩

abbrev nBuf : Space → Nat
  | .hbm => 182
  | .vmem => 0
  | .smem => 0
  | _ => 0

abbrev hbmTy0_0 (i : Nat) : BufTy := match i % 128 with
  | 0 => ⟨S1x8208x1024, .f32⟩
  | 1 => ⟨S1x8192x1024, .f32⟩
  | 2 => ⟨S1x1024, .f32⟩
  | 3 => ⟨S1024, .f32⟩
  | 4 => ⟨S1x1024x4096, .f32⟩
  | 5 => ⟨S1x4096x1024, .f32⟩
  | 6 => ⟨S_, .f32⟩
  | 7 => ⟨S1x8208x4096, .f32⟩
  | 8 => ⟨S_, .f32⟩
  | 9 => ⟨S1x8208x1024, .f32⟩
  | 10 => ⟨S1024, .f32⟩
  | 11 => ⟨S1x8208x1024, .f32⟩
  | 12 => ⟨S_, .f32⟩
  | 13 => ⟨S1x8208, .f32⟩
  | 14 => ⟨S1x8208x1, .f32⟩
  | 15 => ⟨S_, .f32⟩
  | 16 => ⟨S1x8208x1, .f32⟩
  | 17 => ⟨S1x8208x1, .f32⟩
  | 18 => ⟨S_, .f32⟩
  | 19 => ⟨S1x8208x1, .f32⟩
  | 20 => ⟨S1x8208x1, .f32⟩
  | 21 => ⟨S1x8208x1, .f32⟩
  | 22 => ⟨S1x8208x1, .f32⟩
  | 23 => ⟨S_, .f32⟩
  | 24 => ⟨S1x8208x1, .f32⟩
  | 25 => ⟨S1x8208x1, .f32⟩
  | 26 => ⟨S1x8208x1024, .f32⟩
  | 27 => ⟨S1x8208x1024, .f32⟩
  | 28 => ⟨S1x1x1024, .f32⟩
  | 29 => ⟨S1x8208x1024, .f32⟩
  | 30 => ⟨S1x8208x1024, .f32⟩
  | 31 => ⟨S1024x4096, .f32⟩
  | 32 => ⟨S1x8208x4096, .f32⟩
  | 33 => ⟨S1x8208x4096, .f32⟩
  | 34 => ⟨S_, .f32⟩
  | 35 => ⟨S1x8208x4096, .f32⟩
  | 36 => ⟨S1x8208x4096, .f32⟩
  | 37 => ⟨S_, .f32⟩
  | 38 => ⟨S1x8208x4096, .f32⟩
  | 39 => ⟨S1x8208x4096, .i1⟩
  | 40 => ⟨S_, .f32⟩
  | 41 => ⟨S1x8208x4096, .f32⟩
  | 42 => ⟨S1x8208x4096, .f32⟩
  | 43 => ⟨S_, .f32⟩
  | 44 => ⟨S1x8208x4096, .f32⟩
  | 45 => ⟨S1x8208x4096, .f32⟩
  | 46 => ⟨S4096x1024, .f32⟩
  | 47 => ⟨S1x8208x1024, .f32⟩
  | 48 => ⟨S1x8208x1024, .f32⟩
  | 49 => ⟨S1x8208x1024, .f32⟩
  | 50 => ⟨S1x8208x1024, .f32⟩
  | 51 => ⟨S_, .f32⟩
  | 52 => ⟨S1x8208, .f32⟩
  | 53 => ⟨S1x8208x1, .f32⟩
  | 54 => ⟨S_, .f32⟩
  | 55 => ⟨S1x8208x1, .f32⟩
  | 56 => ⟨S1x8208x1, .f32⟩
  | 57 => ⟨S_, .f32⟩
  | 58 => ⟨S1x8208x1, .f32⟩
  | 59 => ⟨S1x8208x1, .f32⟩
  | 60 => ⟨S1x8208x1, .f32⟩
  | 61 => ⟨S1x8208x1, .f32⟩
  | 62 => ⟨S_, .f32⟩
  | 63 => ⟨S1x8208x1, .f32⟩
  | 64 => ⟨S1x8208x1, .f32⟩
  | 65 => ⟨S1x8208x1024, .f32⟩
  | 66 => ⟨S1x8208x1024, .f32⟩
  | 67 => ⟨S1x1x1024, .f32⟩
  | 68 => ⟨S1x8208x1024, .f32⟩
  | 69 => ⟨S1x8208x1024, .f32⟩
  | 70 => ⟨S1x8192x1024, .f32⟩
  | 71 => ⟨S1x8192x1024, .f32⟩
  | 72 => ⟨S1x8192x1024, .f32⟩
  | 73 => ⟨S_, .f32⟩
  | 74 => ⟨S1x8192x1024, .f32⟩
  | 75 => ⟨S1x8192x1024, .f32⟩
  | 76 => ⟨S_, .f32⟩
  | 77 => ⟨S1x8192, .f32⟩
  | 78 => ⟨S_, .f32⟩
  | 79 => ⟨S1x8192, .f32⟩
  | 80 => ⟨S1x8192, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S1x8192, .f32⟩
  | 89 => ⟨S_, .f32⟩
  | 90 => ⟨S1x8192, .f32⟩
  | 91 => ⟨S1x8192, .f32⟩
  | 92 => ⟨S1x8192x1024, .f32⟩
  | 93 => ⟨S1x8192x1024, .f32⟩
  | 94 => ⟨S_, .f32⟩
  | 95 => ⟨S1x8208x1024, .f32⟩
  | 96 => ⟨S1x8208x1024, .f32⟩
  | 97 => ⟨S_, .f32⟩
  | 98 => ⟨S1x1024, .f32⟩
  | 99 => ⟨S1x1x1024, .f32⟩
  | 100 => ⟨S1x8208x1024, .f32⟩
  | 101 => ⟨S1x8208x1024, .f32⟩
  | 102 => ⟨S_, .f32⟩
  | 103 => ⟨S1024, .f32⟩
  | 104 => ⟨S1x8208x1024, .f32⟩
  | 105 => ⟨S_, .f32⟩
  | 106 => ⟨S1x8208, .f32⟩
  | 107 => ⟨S1x8208x1, .f32⟩
  | 108 => ⟨S1x8208x1024, .f32⟩
  | 109 => ⟨S1x8208x1024, .f32⟩
  | 110 => ⟨S1x8208x1, .f32⟩
  | 111 => ⟨S_, .f32⟩
  | 112 => ⟨S1x8208x1, .f32⟩
  | 113 => ⟨S1x8208x1, .f32⟩
  | 114 => ⟨S_, .f32⟩
  | 115 => ⟨S8208, .f32⟩
  | 116 => ⟨S1x8208, .f32⟩
  | 117 => ⟨S1x8208x1024, .f32⟩
  | 118 => ⟨S1x8208x1024, .f32⟩
  | 119 => ⟨S1x8208x1024, .f32⟩
  | 120 => ⟨S1x8208x1024, .f32⟩
  | 121 => ⟨S1x8208x1024, .f32⟩
  | 122 => ⟨S1x8208x4096, .f32⟩
  | 123 => ⟨S1x8208x4096, .f32⟩
  | 124 => ⟨S_, .f32⟩
  | 125 => ⟨S1x8208x4096, .f32⟩
  | 126 => ⟨S1x8208x4096, .f32⟩
  | 127 => ⟨S1x8208x1024, .f32⟩
  | _ => ⟨S1x8208x1024, .f32⟩

abbrev hbmTy0_1 (i : Nat) : BufTy := match i % 128 with
  | 0 => ⟨S1x8208x1024, .f32⟩
  | 1 => ⟨S_, .f32⟩
  | 2 => ⟨S1x1024, .f32⟩
  | 3 => ⟨S1x1x1024, .f32⟩
  | 4 => ⟨S1x8208x1024, .f32⟩
  | 5 => ⟨S1x8208x1024, .f32⟩
  | 6 => ⟨S_, .f32⟩
  | 7 => ⟨S1024, .f32⟩
  | 8 => ⟨S1x8208x1024, .f32⟩
  | 9 => ⟨S_, .f32⟩
  | 10 => ⟨S1x8208, .f32⟩
  | 11 => ⟨S1x8208x1, .f32⟩
  | 12 => ⟨S1x8208x1024, .f32⟩
  | 13 => ⟨S1x8208x1024, .f32⟩
  | 14 => ⟨S1x8208x1024, .f32⟩
  | 15 => ⟨S1x8208x1, .f32⟩
  | 16 => ⟨S_, .f32⟩
  | 17 => ⟨S1x8208x1, .f32⟩
  | 18 => ⟨S1x8208x1, .f32⟩
  | 19 => ⟨S_, .f32⟩
  | 20 => ⟨S8208, .f32⟩
  | 21 => ⟨S1x8208, .f32⟩
  | 22 => ⟨S1x8208x1024, .f32⟩
  | 23 => ⟨S1x8208x1024, .f32⟩
  | 24 => ⟨S1x8208x1024, .f32⟩
  | 25 => ⟨S1x8208x1024, .f32⟩
  | 26 => ⟨S1x8208x1024, .f32⟩
  | 27 => ⟨S1x1024, .f32⟩
  | 28 => ⟨S8208x1024, .f32⟩
  | 29 => ⟨S_, .i32⟩
  | 30 => ⟨S_, .f32⟩
  | 31 => ⟨S8448x1024, .f32⟩
  | 32 => ⟨S8x128, .f32⟩
  | 33 => ⟨S1x1024, .f32⟩
  | 34 => ⟨S8208x1024, .f32⟩
  | 35 => ⟨S_, .i32⟩
  | 36 => ⟨S_, .f32⟩
  | 37 => ⟨S8448x1024, .f32⟩
  | 38 => ⟨S8448x1024, .bf16⟩
  | 39 => ⟨S8208x4096, .f32⟩
  | 40 => ⟨S_, .i32⟩
  | 41 => ⟨S_, .f32⟩
  | 42 => ⟨S8448x4096, .f32⟩
  | 43 => ⟨S8448x4096, .bf16⟩
  | 44 => ⟨S8208x4096, .f32⟩
  | 45 => ⟨S_, .i32⟩
  | 46 => ⟨S_, .f32⟩
  | 47 => ⟨S8448x4096, .f32⟩
  | 48 => ⟨S8448x4096, .bf16⟩
  | 49 => ⟨S8208x1024, .f32⟩
  | 50 => ⟨S_, .i32⟩
  | 51 => ⟨S_, .f32⟩
  | 52 => ⟨S8448x1024, .f32⟩
  | 53 => ⟨S8448x1024, .bf16⟩
  | _ => ⟨S1x8208x1024, .f32⟩

abbrev hbmTy (i : Nat) : BufTy := match i / 128 with
  | 0 => hbmTy0_0 i
  | 1 => hbmTy0_1 i
  | _ => ⟨S1x8208x1024, .f32⟩

abbrev bufTy : (tb : Table) → Fin (tcTables nBuf tb) → BufTy
  | .hbm, ⟨i, _⟩ => hbmTy i
  | _, _ => ⟨S1x8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_cst : Ref sig .tc := ⟨.hbm, 34, rfl⟩
abbrev main_call0_v0 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_cst_10 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_11 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_cst_13 : Ref sig .tc := ⟨.hbm, 76, rfl⟩
abbrev main_v54 : Ref sig .tc := ⟨.hbm, 77, rfl⟩
abbrev main_cst_14 : Ref sig .tc := ⟨.hbm, 78, rfl⟩
abbrev main_v55 : Ref sig .tc := ⟨.hbm, 79, rfl⟩
abbrev main_v56 : Ref sig .tc := ⟨.hbm, 80, rfl⟩
abbrev main_cst_15 : Ref sig .tc := ⟨.hbm, 81, rfl⟩
abbrev main_v57 : Ref sig .tc := ⟨.hbm, 82, rfl⟩
abbrev main_cst_16 : Ref sig .tc := ⟨.hbm, 83, rfl⟩
abbrev main_v58 : Ref sig .tc := ⟨.hbm, 84, rfl⟩
abbrev main_cst_17 : Ref sig .tc := ⟨.hbm, 85, rfl⟩
abbrev main_cst_18 : Ref sig .tc := ⟨.hbm, 86, rfl⟩
abbrev main_v59 : Ref sig .tc := ⟨.hbm, 87, rfl⟩
abbrev main_v60 : Ref sig .tc := ⟨.hbm, 88, rfl⟩
abbrev main_cst_19 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_20 : Ref sig .tc := ⟨.hbm, 94, rfl⟩
abbrev main_v65 : Ref sig .tc := ⟨.hbm, 95, rfl⟩
abbrev main_v66 : Ref sig .tc := ⟨.hbm, 96, rfl⟩
abbrev main_cst_21 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_22 : Ref sig .tc := ⟨.hbm, 102, rfl⟩
abbrev main_v71 : Ref sig .tc := ⟨.hbm, 103, rfl⟩
abbrev main_v72 : Ref sig .tc := ⟨.hbm, 104, rfl⟩
abbrev main_cst_23 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_24 : Ref sig .tc := ⟨.hbm, 111, rfl⟩
abbrev main_v78 : Ref sig .tc := ⟨.hbm, 112, rfl⟩
abbrev main_v79 : Ref sig .tc := ⟨.hbm, 113, rfl⟩
abbrev main_cst_25 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_26 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_27 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_28 : Ref sig .tc := ⟨.hbm, 134, rfl⟩
abbrev main_v97 : Ref sig .tc := ⟨.hbm, 135, rfl⟩
abbrev main_v98 : Ref sig .tc := ⟨.hbm, 136, rfl⟩
abbrev main_cst_29 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_30 : Ref sig .tc := ⟨.hbm, 144, rfl⟩
abbrev main_v105 : Ref sig .tc := ⟨.hbm, 145, rfl⟩
abbrev main_v106 : Ref sig .tc := ⟨.hbm, 146, rfl⟩
abbrev main_cst_31 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_c : Ref sig .tc := ⟨.hbm, 157, rfl⟩
abbrev main_call1_v0 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_c_32 : Ref sig .tc := ⟨.hbm, 163, rfl⟩
abbrev main_call2_v0 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_c_33 : Ref sig .tc := ⟨.hbm, 168, rfl⟩
abbrev main_call3_v0 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_c_34 : Ref sig .tc := ⟨.hbm, 173, rfl⟩
abbrev main_call4_v0 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_c_35 : Ref sig .tc := ⟨.hbm, 178, rfl⟩
abbrev main_call5_v0 : Ref sig .tc := ⟨.hbm, 179, rfl⟩
abbrev main_v129 : Ref sig .tc := ⟨.hbm, 180, rfl⟩
abbrev main_v130 : Ref sig .tc := ⟨.hbm, 181, rfl⟩

abbrev nD : Nat := 1
abbrev τ : Topo := Topo.v7x

variable {F : FTy → Type} [FloatOps F]
-- ==== Kernel3.lean ====
abbrev S1x8208x1024 : Shape := ⟨3, ![1, 8208, 1024]⟩
abbrev S1x1024 : Shape := ⟨2, ![1, 1024]⟩
abbrev S1x1024x4096 : Shape := ⟨3, ![1, 1024, 4096]⟩
abbrev S1x64 : Shape := ⟨2, ![1, 64]⟩
abbrev S1x8208x512 : Shape := ⟨3, ![1, 8208, 512]⟩
abbrev S1x8208x16x64 : Shape := ⟨4, ![1, 8208, 16, 64]⟩
abbrev S1x8208x4x64 : Shape := ⟨4, ![1, 8208, 4, 64]⟩
abbrev S1024 : Shape := ⟨1, ![1024]⟩
abbrev S_ : Shape := ⟨0, ![]⟩
abbrev S1x8208 : Shape := ⟨2, ![1, 8208]⟩
abbrev S1x8208x1 : Shape := ⟨3, ![1, 8208, 1]⟩
abbrev S1x1x1024 : Shape := ⟨3, ![1, 1, 1024]⟩
abbrev S1x1024x1280 : Shape := ⟨3, ![1, 1024, 1280]⟩
abbrev S1024x1280 : Shape := ⟨2, ![1024, 1280]⟩
abbrev S1x8208x1280 : Shape := ⟨3, ![1, 8208, 1280]⟩
abbrev S128 : Shape := ⟨1, ![128]⟩
abbrev S128x64 : Shape := ⟨2, ![128, 64]⟩
abbrev S8192 : Shape := ⟨1, ![8192]⟩
abbrev S64 : Shape := ⟨1, ![64]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S16x32 : Shape := ⟨2, ![16, 32]⟩
abbrev S8208x32 : Shape := ⟨2, ![8208, 32]⟩
abbrev S8208x16x64 : Shape := ⟨3, ![8208, 16, 64]⟩
abbrev S8448x16x64 : Shape := ⟨3, ![8448, 16, 64]⟩
abbrev S8448x1024 : Shape := ⟨2, ![8448, 1024]⟩
abbrev S1024x8448 : Shape := ⟨2, ![1024, 8448]⟩
abbrev S8208x4x64 : Shape := ⟨3, ![8208, 4, 64]⟩
abbrev S8448x4x64 : Shape := ⟨3, ![8448, 4, 64]⟩
abbrev S4x8448x64 : Shape := ⟨3, ![4, 8448, 64]⟩
abbrev S4x8448x128 : Shape := ⟨3, ![4, 8448, 128]⟩
abbrev S8208x1024 : Shape := ⟨2, ![8208, 1024]⟩
abbrev S8208x512 : Shape := ⟨2, ![8208, 512]⟩
abbrev S8448x512 : Shape := ⟨2, ![8448, 512]⟩
abbrev S1x8208x256 : Shape := ⟨3, ![1, 8208, 256]⟩
abbrev S8208x256 : Shape := ⟨2, ![8208, 256]⟩
abbrev S8448x256 : Shape := ⟨2, ![8448, 256]⟩
abbrev S1x8208x2048 : Shape := ⟨3, ![1, 8208, 2048]⟩
abbrev S8208x2048 : Shape := ⟨2, ![8208, 2048]⟩
abbrev S8448x2048 : Shape := ⟨2, ![8448, 2048]⟩
abbrev S1024x4096 : Shape := ⟨2, ![1024, 4096]⟩
abbrev S1024x8x512 : Shape := ⟨3, ![1024, 8, 512]⟩
abbrev S8x1024x512 : Shape := ⟨3, ![8, 1024, 512]⟩
abbrev S1x1x1x64 : Shape := ⟨4, ![1, 1, 1, 64]⟩
abbrev S1x1x2x64 : Shape := ⟨4, ![1, 1, 2, 64]⟩
abbrev S1x128 : Shape := ⟨2, ![1, 128]⟩
abbrev S8208x32x2 : Shape := ⟨3, ![8208, 32, 2]⟩
abbrev S8208x64 : Shape := ⟨2, ![8208, 64]⟩
abbrev S1x8208x64 : Shape := ⟨3, ![1, 8208, 64]⟩
abbrev S1x1x1x8208x1x64 : Shape := ⟨6, ![1, 1, 1, 8208, 1, 64]⟩
abbrev S1x1x1x8208x2x64 : Shape := ⟨6, ![1, 1, 1, 8208, 2, 64]⟩
abbrev S1x8208x128 : Shape := ⟨3, ![1, 8208, 128]⟩
abbrev S8208x128 : Shape := ⟨2, ![8208, 128]⟩
abbrev S8448x128 : Shape := ⟨2, ![8448, 128]⟩
abbrev S8208x32x1 : Shape := ⟨3, ![8208, 32, 1]⟩
abbrev S8448x4096 : Shape := ⟨2, ![8448, 4096]⟩
abbrev S384x1024 : Shape := ⟨2, ![384, 1024]⟩
abbrev S384x512 : Shape := ⟨2, ![384, 512]⟩
abbrev S384x256 : Shape := ⟨2, ![384, 256]⟩
abbrev S1024x384 : Shape := ⟨2, ![1024, 384]⟩
abbrev S4x384x128 : Shape := ⟨3, ![4, 384, 128]⟩
abbrev S4x384x64 : Shape := ⟨3, ![4, 384, 64]⟩
abbrev S384x2048 : Shape := ⟨2, ![384, 2048]⟩
abbrev S384x128 : Shape := ⟨2, ![384, 128]⟩
abbrev S384x4096 : Shape := ⟨2, ![384, 4096]⟩
abbrev S1 : Shape := ⟨1, ![1]⟩
abbrev S128x384 : Shape := ⟨2, ![128, 384]⟩
abbrev S128x128 : Shape := ⟨2, ![128, 128]⟩
abbrev S1x384x64 : Shape := ⟨3, ![1, 384, 64]⟩
abbrev S384x64 : Shape := ⟨2, ![384, 64]⟩
abbrev S1x1024x512 : Shape := ⟨3, ![1, 1024, 512]⟩
abbrev S1024x512 : Shape := ⟨2, ![1024, 512]⟩
abbrev S384 : Shape := ⟨1, ![384]⟩
abbrev S384x1 : Shape := ⟨2, ![384, 1]⟩

abbrev nBuf : Space → Nat
  | .hbm => 160
  | .vmem => 38
  | .smem => 0
  | _ => 0

abbrev hbmTy0_0 (i : Nat) : BufTy := match i % 128 with
  | 0 => ⟨S1x8208x1024, .f32⟩
  | 1 => ⟨S1x1024, .f32⟩
  | 2 => ⟨S1x1024x4096, .f32⟩
  | 3 => ⟨S1x64, .f32⟩
  | 4 => ⟨S1x64, .f32⟩
  | 5 => ⟨S1x8208x1024, .f32⟩
  | 6 => ⟨S1x8208x512, .f32⟩
  | 7 => ⟨S1x8208x512, .f32⟩
  | 8 => ⟨S1x8208x512, .f32⟩
  | 9 => ⟨S1x8208x16x64, .f32⟩
  | 10 => ⟨S1x8208x4x64, .f32⟩
  | 11 => ⟨S1x8208x4x64, .f32⟩
  | 12 => ⟨S1x8208x1024, .f32⟩
  | 13 => ⟨S1x8208x1024, .f32⟩
  | 14 => ⟨S1024, .f32⟩
  | 15 => ⟨S1x8208x1024, .f32⟩
  | 16 => ⟨S_, .f32⟩
  | 17 => ⟨S1x8208, .f32⟩
  | 18 => ⟨S1x8208x1, .f32⟩
  | 19 => ⟨S_, .f32⟩
  | 20 => ⟨S1x8208x1, .f32⟩
  | 21 => ⟨S1x8208x1, .f32⟩
  | 22 => ⟨S_, .f32⟩
  | 23 => ⟨S1x8208x1, .f32⟩
  | 24 => ⟨S1x8208x1, .f32⟩
  | 25 => ⟨S1x8208x1, .f32⟩
  | 26 => ⟨S1x8208x1024, .f32⟩
  | 27 => ⟨S1x8208x1024, .f32⟩
  | 28 => ⟨S1x1x1024, .f32⟩
  | 29 => ⟨S1x8208x1024, .f32⟩
  | 30 => ⟨S1x8208x1024, .f32⟩
  | 31 => ⟨S1x1024x1280, .f32⟩
  | 32 => ⟨S1024x1280, .f32⟩
  | 33 => ⟨S1x8208x1280, .f32⟩
  | 34 => ⟨S128, .f32⟩
  | 35 => ⟨S128x64, .f32⟩
  | 36 => ⟨S8192, .f32⟩
  | 37 => ⟨S64, .f32⟩
  | 38 => ⟨S1x64, .f32⟩
  | 39 => ⟨S128x64, .f32⟩
  | 40 => ⟨S8192, .f32⟩
  | 41 => ⟨S16, .f32⟩
  | 42 => ⟨S16, .f32⟩
  | 43 => ⟨S_, .f32⟩
  | 44 => ⟨S16, .f32⟩
  | 45 => ⟨S16, .f32⟩
  | 46 => ⟨S_, .f32⟩
  | 47 => ⟨S16, .f32⟩
  | 48 => ⟨S16, .f32⟩
  | 49 => ⟨S8192x1, .f32⟩
  | 50 => ⟨S1x16, .f32⟩
  | 51 => ⟨S8192x16, .f32⟩
  | 52 => ⟨S8192x16, .f32⟩
  | 53 => ⟨S8192x16, .f32⟩
  | 54 => ⟨S8192x1, .f32⟩
  | 55 => ⟨S1x16, .f32⟩
  | 56 => ⟨S8192x16, .f32⟩
  | 57 => ⟨S8192x16, .f32⟩
  | 58 => ⟨S8192x16, .f32⟩
  | 59 => ⟨S8192x32, .f32⟩
  | 60 => ⟨S_, .f32⟩
  | 61 => ⟨S16x32, .f32⟩
  | 62 => ⟨S8208x32, .f32⟩
  | 63 => ⟨S8208x32, .f32⟩
  | 64 => ⟨S8208x32, .f32⟩
  | 65 => ⟨S8208x16x64, .f32⟩
  | 66 => ⟨S_, .i32⟩
  | 67 => ⟨S_, .f32⟩
  | 68 => ⟨S8448x16x64, .f32⟩
  | 69 => ⟨S8448x1024, .f32⟩
  | 70 => ⟨S1024x8448, .f32⟩
  | 71 => ⟨S_, .f32⟩
  | 72 => ⟨S1024x8448, .f32⟩
  | 73 => ⟨S1024x8448, .f32⟩
  | 74 => ⟨S8208x4x64, .f32⟩
  | 75 => ⟨S_, .i32⟩
  | 76 => ⟨S_, .f32⟩
  | 77 => ⟨S8448x4x64, .f32⟩
  | 78 => ⟨S4x8448x64, .f32⟩
  | 79 => ⟨S_, .i32⟩
  | 80 => ⟨S_, .f32⟩
  | 81 => ⟨S4x8448x128, .f32⟩
  | 82 => ⟨S8208x1024, .f32⟩
  | 83 => ⟨S_, .i32⟩
  | 84 => ⟨S_, .f32⟩
  | 85 => ⟨S8448x1024, .f32⟩
  | 86 => ⟨S8208x1024, .f32⟩
  | 87 => ⟨S_, .i32⟩
  | 88 => ⟨S_, .f32⟩
  | 89 => ⟨S8448x1024, .f32⟩
  | 90 => ⟨S8208x512, .f32⟩
  | 91 => ⟨S_, .i32⟩
  | 92 => ⟨S_, .f32⟩
  | 93 => ⟨S8448x512, .f32⟩
  | 94 => ⟨S8208x512, .f32⟩
  | 95 => ⟨S_, .i32⟩
  | 96 => ⟨S_, .f32⟩
  | 97 => ⟨S8448x512, .f32⟩
  | 98 => ⟨S8208x512, .f32⟩
  | 99 => ⟨S_, .i32⟩
  | 100 => ⟨S_, .f32⟩
  | 101 => ⟨S8448x512, .f32⟩
  | 102 => ⟨S1x8208x1024, .f32⟩
  | 103 => ⟨S8208x1024, .f32⟩
  | 104 => ⟨S_, .i32⟩
  | 105 => ⟨S_, .f32⟩
  | 106 => ⟨S8448x1024, .f32⟩
  | 107 => ⟨S1x8208x256, .f32⟩
  | 108 => ⟨S8208x256, .f32⟩
  | 109 => ⟨S_, .i32⟩
  | 110 => ⟨S_, .f32⟩
  | 111 => ⟨S8448x256, .f32⟩
  | 112 => ⟨S8208x4x64, .f32⟩
  | 113 => ⟨S_, .i32⟩
  | 114 => ⟨S_, .f32⟩
  | 115 => ⟨S8448x4x64, .f32⟩
  | 116 => ⟨S4x8448x64, .f32⟩
  | 117 => ⟨S1x8208x2048, .f32⟩
  | 118 => ⟨S8208x2048, .f32⟩
  | 119 => ⟨S_, .i32⟩
  | 120 => ⟨S_, .f32⟩
  | 121 => ⟨S8448x2048, .f32⟩
  | 122 => ⟨S8448x2048, .bf16⟩
  | 123 => ⟨S1024x4096, .f32⟩
  | 124 => ⟨S1024x8x512, .f32⟩
  | 125 => ⟨S8x1024x512, .f32⟩
  | 126 => ⟨S8x1024x512, .bf16⟩
  | 127 => ⟨S1x1x1x64, .f32⟩
  | _ => ⟨S1x8208x1024, .f32⟩

abbrev hbmTy0_1 (i : Nat) : BufTy := match i % 128 with
  | 0 => ⟨S1x1x2x64, .f32⟩
  | 1 => ⟨S1x128, .f32⟩
  | 2 => ⟨S1x1x1x64, .f32⟩
  | 3 => ⟨S1x1x2x64, .f32⟩
  | 4 => ⟨S1x128, .f32⟩
  | 5 => ⟨S8208x32x2, .f32⟩
  | 6 => ⟨S8208x64, .f32⟩
  | 7 => ⟨S1x8208x64, .f32⟩
  | 8 => ⟨S1x1x1x8208x1x64, .f32⟩
  | 9 => ⟨S1x1x1x8208x2x64, .f32⟩
  | 10 => ⟨S1x8208x128, .f32⟩
  | 11 => ⟨S8208x128, .f32⟩
  | 12 => ⟨S_, .i32⟩
  | 13 => ⟨S_, .f32⟩
  | 14 => ⟨S8448x128, .f32⟩
  | 15 => ⟨S8208x32, .f32⟩
  | 16 => ⟨S8208x32x1, .f32⟩
  | 17 => ⟨S8208x32x1, .f32⟩
  | 18 => ⟨S8208x32x2, .f32⟩
  | 19 => ⟨S1x8208x64, .f32⟩
  | 20 => ⟨S1x1x1x8208x1x64, .f32⟩
  | 21 => ⟨S1x1x1x8208x2x64, .f32⟩
  | 22 => ⟨S1x8208x128, .f32⟩
  | 23 => ⟨S8208x128, .f32⟩
  | 24 => ⟨S_, .i32⟩
  | 25 => ⟨S_, .f32⟩
  | 26 => ⟨S8448x128, .f32⟩
  | 27 => ⟨S8448x1024, .f32⟩
  | 28 => ⟨S8448x4096, .bf16⟩
  | 29 => ⟨S1x1024, .f32⟩
  | 30 => ⟨S1x128, .f32⟩
  | 31 => ⟨S1x128, .f32⟩
  | _ => ⟨S1x8208x1024, .f32⟩

abbrev hbmTy (i : Nat) : BufTy := match i / 128 with
  | 0 => hbmTy0_0 i
  | 1 => hbmTy0_1 i
  | _ => ⟨S1x8208x1024, .f32⟩

abbrev bufTy : (tb : Table) → Fin (tcTables nBuf tb) → BufTy
  | .hbm, ⟨i, _⟩ => hbmTy i
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x512, .f32⟩
  | .local _ .vmem, ⟨5, _⟩ => ⟨S384x512, .f32⟩
  | .local _ .vmem, ⟨6, _⟩ => ⟨S384x512, .f32⟩
  | .local _ .vmem, ⟨7, _⟩ => ⟨S384x512, .f32⟩
  | .local _ .vmem, ⟨8, _⟩ => ⟨S384x512, .f32⟩
  | .local _ .vmem, ⟨9, _⟩ => ⟨S384x512, .f32⟩
  | .local _ .vmem, ⟨10, _⟩ => ⟨S384x1024, .f32⟩
  | .local _ .vmem, ⟨11, _⟩ => ⟨S384x1024, .f32⟩
  | .local _ .vmem, ⟨12, _⟩ => ⟨S384x256, .f32⟩
  | .local _ .vmem, ⟨13, _⟩ => ⟨S384x256, .f32⟩
  | .local _ .vmem, ⟨14, _⟩ => ⟨S1024x384, .f32⟩
  | .local _ .vmem, ⟨15, _⟩ => ⟨S1024x384, .f32⟩
  | .local _ .vmem, ⟨16, _⟩ => ⟨S4x384x128, .f32⟩
  | .local _ .vmem, ⟨17, _⟩ => ⟨S4x384x128, .f32⟩
  | .local _ .vmem, ⟨18, _⟩ => ⟨S4x384x64, .f32⟩
  | .local _ .vmem, ⟨19, _⟩ => ⟨S4x384x64, .f32⟩
  | .local _ .vmem, ⟨20, _⟩ => ⟨S384x2048, .bf16⟩
  | .local _ .vmem, ⟨21, _⟩ => ⟨S384x2048, .bf16⟩
  | .local _ .vmem, ⟨22, _⟩ => ⟨S1x1024, .f32⟩
  | .local _ .vmem, ⟨23, _⟩ => ⟨S1x128, .f32⟩
  | .local _ .vmem, ⟨24, _⟩ => ⟨S1x128, .f32⟩
  | .local _ .vmem, ⟨25, _⟩ => ⟨S384x128, .f32⟩
  | .local _ .vmem, ⟨26, _⟩ => ⟨S384x128, .f32⟩
  | .local _ .vmem, ⟨27, _⟩ => ⟨S384x128, .f32⟩
  | .local _ .vmem, ⟨28, _⟩ => ⟨S384x128, .f32⟩
  | .local _ .vmem, ⟨29, _⟩ => ⟨S384x1024, .f32⟩
  | .local _ .vmem, ⟨30, _⟩ => ⟨S384x1024, .f32⟩
  | .local _ .vmem, ⟨31, _⟩ => ⟨S384x4096, .bf16⟩
  | .local _ .vmem, ⟨32, _⟩ => ⟨S384x4096, .bf16⟩
  | .local _ .vmem, ⟨33, _⟩ => ⟨S1x1024, .f32⟩
  | .local _ .vmem, ⟨34, _⟩ => ⟨S1x128, .f32⟩
  | .local _ .vmem, ⟨35, _⟩ => ⟨S1x128, .f32⟩
  | .local _ .vmem, ⟨36, _⟩ => ⟨S8x1024x512, .bf16⟩
  | .local _ .vmem, ⟨37, _⟩ => ⟨S384x256, .f32⟩
  | _, _ => ⟨S1x8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c : Ref sig .tc := ⟨.hbm, 66, rfl⟩
abbrev main_call0_v0 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_5 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_6 : Ref sig .tc := ⟨.hbm, 75, rfl⟩
abbrev main_call1_v0 : Ref sig .tc := ⟨.hbm, 76, rfl⟩
abbrev main_v52 : Ref sig .tc := ⟨.hbm, 77, rfl⟩
abbrev main_v53 : Ref sig .tc := ⟨.hbm, 78, rfl⟩
abbrev main_c_7 : Ref sig .tc := ⟨.hbm, 79, rfl⟩
abbrev main_call2_v0 : Ref sig .tc := ⟨.hbm, 80, rfl⟩
abbrev main_v54 : Ref sig .tc := ⟨.hbm, 81, rfl⟩
abbrev main_v55 : Ref sig .tc := ⟨.hbm, 82, rfl⟩
abbrev main_c_8 : Ref sig .tc := ⟨.hbm, 83, rfl⟩
abbrev main_call3_v0 : Ref sig .tc := ⟨.hbm, 84, rfl⟩
abbrev main_v56 : Ref sig .tc := ⟨.hbm, 85, rfl⟩
abbrev main_v57 : Ref sig .tc := ⟨.hbm, 86, rfl⟩
abbrev main_c_9 : Ref sig .tc := ⟨.hbm, 87, rfl⟩
abbrev main_call4_v0 : Ref sig .tc := ⟨.hbm, 88, rfl⟩
abbrev main_v58 : Ref sig .tc := ⟨.hbm, 89, rfl⟩
abbrev main_v59 : Ref sig .tc := ⟨.hbm, 90, rfl⟩
abbrev main_c_10 : Ref sig .tc := ⟨.hbm, 91, rfl⟩
abbrev main_call5_v0 : Ref sig .tc := ⟨.hbm, 92, rfl⟩
abbrev main_v60 : Ref sig .tc := ⟨.hbm, 93, rfl⟩
abbrev main_v61 : Ref sig .tc := ⟨.hbm, 94, rfl⟩
abbrev main_c_11 : Ref sig .tc := ⟨.hbm, 95, rfl⟩
abbrev main_call6_v0 : Ref sig .tc := ⟨.hbm, 96, rfl⟩
abbrev main_v62 : Ref sig .tc := ⟨.hbm, 97, rfl⟩
abbrev main_v63 : Ref sig .tc := ⟨.hbm, 98, rfl⟩
abbrev main_c_12 : Ref sig .tc := ⟨.hbm, 99, rfl⟩
abbrev main_call7_v0 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_c_13 : Ref sig .tc := ⟨.hbm, 104, rfl⟩
abbrev main_call8_v0 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_c_14 : Ref sig .tc := ⟨.hbm, 109, rfl⟩
abbrev main_call9_v0 : Ref sig .tc := ⟨.hbm, 110, rfl⟩
abbrev main_v70 : Ref sig .tc := ⟨.hbm, 111, rfl⟩
abbrev main_v71 : Ref sig .tc := ⟨.hbm, 112, rfl⟩
abbrev main_c_15 : Ref sig .tc := ⟨.hbm, 113, rfl⟩
abbrev main_call10_v0 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_c_16 : Ref sig .tc := ⟨.hbm, 119, rfl⟩
abbrev main_call11_v0 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_c_17 : Ref sig .tc := ⟨.hbm, 140, rfl⟩
abbrev main_call12_v0 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_c_18 : Ref sig .tc := ⟨.hbm, 152, rfl⟩
abbrev main_call13_v0 : Ref sig .tc := ⟨.hbm, 153, rfl⟩
abbrev main_v105 : Ref sig .tc := ⟨.hbm, 154, rfl⟩
abbrev main_v106_0 : Ref sig .tc := ⟨.hbm, 155, rfl⟩
abbrev main_v106_1 : Ref sig .tc := ⟨.hbm, 156, rfl⟩
abbrev main_v106_2 : Ref sig .tc := ⟨.hbm, 157, rfl⟩
abbrev main_v106_3 : Ref sig .tc := ⟨.hbm, 158, rfl⟩
abbrev main_v106_4 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg19_0 : Ref sig .tc := ⟨.vmem, 34, rfl⟩
abbrev cc0_stg20_0 : Ref sig .tc := ⟨.vmem, 35, rfl⟩
abbrev cc0_scratch0 : Ref sig .tc := ⟨.vmem, 36, rfl⟩
abbrev cc0_scratch1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem19_0 : DmaSem sig := 34
abbrev cc0_sem20_0 : DmaSem sig := 35

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x384x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x384x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S384x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S384x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S384x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S384x4096 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Reference3Ideal.lean ====
abbrev S1x8208x1024 : Shape := ⟨3, ![1, 8208, 1024]⟩
abbrev S1x1024 : Shape := ⟨2, ![1, 1024]⟩
abbrev S1x1024x4096 : Shape := ⟨3, ![1, 1024, 4096]⟩
abbrev S1x64 : Shape := ⟨2, ![1, 64]⟩
abbrev S1x8208x512 : Shape := ⟨3, ![1, 8208, 512]⟩
abbrev S1x8208x16x64 : Shape := ⟨4, ![1, 8208, 16, 64]⟩
abbrev S1x8208x4x64 : Shape := ⟨4, ![1, 8208, 4, 64]⟩
abbrev S_ : Shape := ⟨0, ![]⟩
abbrev S1x8208x4096 : Shape := ⟨3, ![1, 8208, 4096]⟩
abbrev S1x1x1x64 : Shape := ⟨4, ![1, 1, 1, 64]⟩
abbrev S2x1x1x64 : Shape := ⟨4, ![2, 1, 1, 64]⟩
abbrev S2x64 : Shape := ⟨2, ![2, 64]⟩
abbrev S1024 : Shape := ⟨1, ![1024]⟩
abbrev S1x8208 : Shape := ⟨2, ![1, 8208]⟩
abbrev S1x8208x1 : Shape := ⟨3, ![1, 8208, 1]⟩
abbrev S1x1x1024 : Shape := ⟨3, ![1, 1, 1024]⟩
abbrev S1024x4096 : Shape := ⟨2, ![1024, 4096]⟩
abbrev S1x8208x256 : Shape := ⟨3, ![1, 8208, 256]⟩
abbrev S128 : Shape := ⟨1, ![128]⟩
abbrev S128x64 : Shape := ⟨2, ![128, 64]⟩
abbrev S8192 : Shape := ⟨1, ![8192]⟩
abbrev S64 : Shape := ⟨1, ![64]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S16x32 : Shape := ⟨2, ![16, 32]⟩
abbrev S8208x32 : Shape := ⟨2, ![8208, 32]⟩
abbrev S1x8208x8x2x64 : Shape := ⟨5, ![1, 8208, 8, 2, 64]⟩
abbrev S1x8208x8x2 : Shape := ⟨4, ![1, 8208, 8, 2]⟩
abbrev S1x8208x8x2x1 : Shape := ⟨5, ![1, 8208, 8, 2, 1]⟩
abbrev S1x1x1x2x64 : Shape := ⟨5, ![1, 1, 1, 2, 64]⟩
abbrev S1x8208x2x2x64 : Shape := ⟨5, ![1, 8208, 2, 2, 64]⟩
abbrev S1x8208x2x2 : Shape := ⟨4, ![1, 8208, 2, 2]⟩
abbrev S1x8208x2x2x1 : Shape := ⟨5, ![1, 8208, 2, 2, 1]⟩
abbrev S1x8208x16x32x2 : Shape := ⟨5, ![1, 8208, 16, 32, 2]⟩
abbrev S1x8208x16x32x1 : Shape := ⟨5, ![1, 8208, 16, 32, 1]⟩
abbrev S1x8208x16x32 : Shape := ⟨4, ![1, 8208, 16, 32]⟩
abbrev S8208x1x32 : Shape := ⟨3, ![8208, 1, 32]⟩
abbrev S1x8208x1x32 : Shape := ⟨4, ![1, 8208, 1, 32]⟩
abbrev S1x8208x4x32x2 : Shape := ⟨5, ![1, 8208, 4, 32, 2]⟩
abbrev S1x8208x4x32x1 : Shape := ⟨5, ![1, 8208, 4, 32, 1]⟩
abbrev S1x8208x4x32 : Shape := ⟨4, ![1, 8208, 4, 32]⟩
abbrev S1x2x64 : Shape := ⟨3, ![1, 2, 64]⟩
abbrev S8208x2x2 : Shape := ⟨3, ![8208, 2, 2]⟩
abbrev S8208x8x2 : Shape := ⟨3, ![8208, 8, 2]⟩
abbrev S8208 : Shape := ⟨1, ![8208]⟩
abbrev S8208x1024 : Shape := ⟨2, ![8208, 1024]⟩
abbrev S8448x1024 : Shape := ⟨2, ![8448, 1024]⟩
abbrev S8208x4096 : Shape := ⟨2, ![8208, 4096]⟩
abbrev S8448x4096 : Shape := ⟨2, ![8448, 4096]⟩
abbrev S1x128 : Shape := ⟨2, ![1, 128]⟩

abbrev nBuf : Space → Nat
  | .hbm => 326
  | .vmem => 0
  | .smem => 0
  | _ => 0

abbrev hbmTy0_0 (i : Nat) : BufTy := match i % 128 with
  | 0 => ⟨S1x8208x1024, .f32⟩
  | 1 => ⟨S1x1024, .f32⟩
  | 2 => ⟨S1x1024x4096, .f32⟩
  | 3 => ⟨S1x64, .f32⟩
  | 4 => ⟨S1x64, .f32⟩
  | 5 => ⟨S1x8208x1024, .f32⟩
  | 6 => ⟨S1x8208x512, .f32⟩
  | 7 => ⟨S1x8208x512, .f32⟩
  | 8 => ⟨S1x8208x512, .f32⟩
  | 9 => ⟨S1x8208x16x64, .f32⟩
  | 10 => ⟨S1x8208x4x64, .f32⟩
  | 11 => ⟨S1x8208x4x64, .f32⟩
  | 12 => ⟨S1x8208x1024, .f32⟩
  | 13 => ⟨S1x8208x1024, .f32⟩
  | 14 => ⟨S_, .f32⟩
  | 15 => ⟨S1x8208x4096, .f32⟩
  | 16 => ⟨S1x1x1x64, .f32⟩
  | 17 => ⟨S2x1x1x64, .f32⟩
  | 18 => ⟨S2x64, .f32⟩
  | 19 => ⟨S1x1x1x64, .f32⟩
  | 20 => ⟨S2x1x1x64, .f32⟩
  | 21 => ⟨S2x64, .f32⟩
  | 22 => ⟨S1024, .f32⟩
  | 23 => ⟨S1x8208x1024, .f32⟩
  | 24 => ⟨S_, .f32⟩
  | 25 => ⟨S1x8208, .f32⟩
  | 26 => ⟨S1x8208x1, .f32⟩
  | 27 => ⟨S_, .f32⟩
  | 28 => ⟨S1x8208x1, .f32⟩
  | 29 => ⟨S1x8208x1, .f32⟩
  | 30 => ⟨S_, .f32⟩
  | 31 => ⟨S1x8208x1, .f32⟩
  | 32 => ⟨S1x8208x1, .f32⟩
  | 33 => ⟨S1x8208x1, .f32⟩
  | 34 => ⟨S1x8208x1, .f32⟩
  | 35 => ⟨S_, .f32⟩
  | 36 => ⟨S1x8208x1, .f32⟩
  | 37 => ⟨S1x8208x1, .f32⟩
  | 38 => ⟨S1x8208x1024, .f32⟩
  | 39 => ⟨S1x8208x1024, .f32⟩
  | 40 => ⟨S1x1x1024, .f32⟩
  | 41 => ⟨S1x8208x1024, .f32⟩
  | 42 => ⟨S1x8208x1024, .f32⟩
  | 43 => ⟨S1024x4096, .f32⟩
  | 44 => ⟨S1x8208x4096, .f32⟩
  | 45 => ⟨S1x8208x4096, .f32⟩
  | 46 => ⟨S1x8208x512, .f32⟩
  | 47 => ⟨S1x8208x1024, .f32⟩
  | 48 => ⟨S1x8208x256, .f32⟩
  | 49 => ⟨S1x8208x256, .f32⟩
  | 50 => ⟨S1x8208x1024, .f32⟩
  | 51 => ⟨S1x8208x1024, .f32⟩
  | 52 => ⟨S128, .f32⟩
  | 53 => ⟨S128x64, .f32⟩
  | 54 => ⟨S8192, .f32⟩
  | 55 => ⟨S64, .f32⟩
  | 56 => ⟨S1x64, .f32⟩
  | 57 => ⟨S128x64, .f32⟩
  | 58 => ⟨S8192, .f32⟩
  | 59 => ⟨S16, .f32⟩
  | 60 => ⟨S16, .f32⟩
  | 61 => ⟨S_, .f32⟩
  | 62 => ⟨S16, .f32⟩
  | 63 => ⟨S16, .f32⟩
  | 64 => ⟨S_, .f32⟩
  | 65 => ⟨S16, .f32⟩
  | 66 => ⟨S16, .f32⟩
  | 67 => ⟨S8192x1, .f32⟩
  | 68 => ⟨S1x16, .f32⟩
  | 69 => ⟨S8192x16, .f32⟩
  | 70 => ⟨S8192x16, .f32⟩
  | 71 => ⟨S8192x16, .f32⟩
  | 72 => ⟨S8192x1, .f32⟩
  | 73 => ⟨S1x16, .f32⟩
  | 74 => ⟨S8192x16, .f32⟩
  | 75 => ⟨S8192x16, .f32⟩
  | 76 => ⟨S8192x16, .f32⟩
  | 77 => ⟨S8192x32, .f32⟩
  | 78 => ⟨S_, .f32⟩
  | 79 => ⟨S16x32, .f32⟩
  | 80 => ⟨S8208x32, .f32⟩
  | 81 => ⟨S8208x32, .f32⟩
  | 82 => ⟨S8208x32, .f32⟩
  | 83 => ⟨S1x8208x8x2x64, .f32⟩
  | 84 => ⟨S1x8208x8x2x64, .f32⟩
  | 85 => ⟨S_, .f32⟩
  | 86 => ⟨S1x8208x8x2, .f32⟩
  | 87 => ⟨S1x8208x8x2x1, .f32⟩
  | 88 => ⟨S_, .f32⟩
  | 89 => ⟨S1x8208x8x2x1, .f32⟩
  | 90 => ⟨S1x8208x8x2x1, .f32⟩
  | 91 => ⟨S_, .f32⟩
  | 92 => ⟨S1x8208x8x2x1, .f32⟩
  | 93 => ⟨S1x8208x8x2x1, .f32⟩
  | 94 => ⟨S1x8208x8x2x1, .f32⟩
  | 95 => ⟨S1x8208x8x2x1, .f32⟩
  | 96 => ⟨S_, .f32⟩
  | 97 => ⟨S1x8208x8x2x1, .f32⟩
  | 98 => ⟨S1x8208x8x2x1, .f32⟩
  | 99 => ⟨S1x8208x8x2x64, .f32⟩
  | 100 => ⟨S1x8208x8x2x64, .f32⟩
  | 101 => ⟨S1x1x1x2x64, .f32⟩
  | 102 => ⟨S1x8208x8x2x64, .f32⟩
  | 103 => ⟨S1x8208x8x2x64, .f32⟩
  | 104 => ⟨S1x8208x16x64, .f32⟩
  | 105 => ⟨S1x8208x2x2x64, .f32⟩
  | 106 => ⟨S1x8208x2x2x64, .f32⟩
  | 107 => ⟨S_, .f32⟩
  | 108 => ⟨S1x8208x2x2, .f32⟩
  | 109 => ⟨S1x8208x2x2x1, .f32⟩
  | 110 => ⟨S_, .f32⟩
  | 111 => ⟨S1x8208x2x2x1, .f32⟩
  | 112 => ⟨S1x8208x2x2x1, .f32⟩
  | 113 => ⟨S_, .f32⟩
  | 114 => ⟨S1x8208x2x2x1, .f32⟩
  | 115 => ⟨S1x8208x2x2x1, .f32⟩
  | 116 => ⟨S1x8208x2x2x1, .f32⟩
  | 117 => ⟨S1x8208x2x2x1, .f32⟩
  | 118 => ⟨S_, .f32⟩
  | 119 => ⟨S1x8208x2x2x1, .f32⟩
  | 120 => ⟨S1x8208x2x2x1, .f32⟩
  | 121 => ⟨S1x8208x2x2x64, .f32⟩
  | 122 => ⟨S1x8208x2x2x64, .f32⟩
  | 123 => ⟨S1x1x1x2x64, .f32⟩
  | 124 => ⟨S1x8208x2x2x64, .f32⟩
  | 125 => ⟨S1x8208x2x2x64, .f32⟩
  | 126 => ⟨S1x8208x4x64, .f32⟩
  | 127 => ⟨S1x8208x16x32x2, .f32⟩
  | _ => ⟨S1x8208x1024, .f32⟩

abbrev hbmTy0_1 (i : Nat) : BufTy := match i % 128 with
  | 0 => ⟨S1x8208x16x32x1, .f32⟩
  | 1 => ⟨S1x8208x16x32, .f32⟩
  | 2 => ⟨S1x8208x16x32x1, .f32⟩
  | 3 => ⟨S1x8208x16x32, .f32⟩
  | 4 => ⟨S8208x1x32, .f32⟩
  | 5 => ⟨S8208x1x32, .f32⟩
  | 6 => ⟨S1x8208x1x32, .f32⟩
  | 7 => ⟨S1x8208x16x32, .f32⟩
  | 8 => ⟨S1x8208x16x32, .f32⟩
  | 9 => ⟨S1x8208x1x32, .f32⟩
  | 10 => ⟨S1x8208x16x32, .f32⟩
  | 11 => ⟨S1x8208x16x32, .f32⟩
  | 12 => ⟨S1x8208x16x32, .f32⟩
  | 13 => ⟨S1x8208x1x32, .f32⟩
  | 14 => ⟨S1x8208x16x32, .f32⟩
  | 15 => ⟨S1x8208x16x32, .f32⟩
  | 16 => ⟨S1x8208x1x32, .f32⟩
  | 17 => ⟨S1x8208x16x32, .f32⟩
  | 18 => ⟨S1x8208x16x32, .f32⟩
  | 19 => ⟨S1x8208x16x32, .f32⟩
  | 20 => ⟨S1x8208x16x32x1, .f32⟩
  | 21 => ⟨S1x8208x16x32x1, .f32⟩
  | 22 => ⟨S1x8208x16x32x2, .f32⟩
  | 23 => ⟨S1x8208x16x64, .f32⟩
  | 24 => ⟨S1x8208x4x32x2, .f32⟩
  | 25 => ⟨S1x8208x4x32x1, .f32⟩
  | 26 => ⟨S1x8208x4x32, .f32⟩
  | 27 => ⟨S1x8208x4x32x1, .f32⟩
  | 28 => ⟨S1x8208x4x32, .f32⟩
  | 29 => ⟨S8208x1x32, .f32⟩
  | 30 => ⟨S8208x1x32, .f32⟩
  | 31 => ⟨S1x8208x1x32, .f32⟩
  | 32 => ⟨S1x8208x4x32, .f32⟩
  | 33 => ⟨S1x8208x4x32, .f32⟩
  | 34 => ⟨S1x8208x1x32, .f32⟩
  | 35 => ⟨S1x8208x4x32, .f32⟩
  | 36 => ⟨S1x8208x4x32, .f32⟩
  | 37 => ⟨S1x8208x4x32, .f32⟩
  | 38 => ⟨S1x8208x1x32, .f32⟩
  | 39 => ⟨S1x8208x4x32, .f32⟩
  | 40 => ⟨S1x8208x4x32, .f32⟩
  | 41 => ⟨S1x8208x1x32, .f32⟩
  | 42 => ⟨S1x8208x4x32, .f32⟩
  | 43 => ⟨S1x8208x4x32, .f32⟩
  | 44 => ⟨S1x8208x4x32, .f32⟩
  | 45 => ⟨S1x8208x4x32x1, .f32⟩
  | 46 => ⟨S1x8208x4x32x1, .f32⟩
  | 47 => ⟨S1x8208x4x32x2, .f32⟩
  | 48 => ⟨S1x8208x4x64, .f32⟩
  | 49 => ⟨S1x8208x4x64, .f32⟩
  | 50 => ⟨S1x8208x512, .f32⟩
  | 51 => ⟨S1x8208x512, .f32⟩
  | 52 => ⟨S1x8208x256, .f32⟩
  | 53 => ⟨S1x8208x4x32x2, .f32⟩
  | 54 => ⟨S1x8208x4x32x1, .f32⟩
  | 55 => ⟨S1x8208x4x32, .f32⟩
  | 56 => ⟨S1x8208x4x32x1, .f32⟩
  | 57 => ⟨S1x8208x4x32, .f32⟩
  | 58 => ⟨S1x8208x4x32, .f32⟩
  | 59 => ⟨S1x8208x4x32, .f32⟩
  | 60 => ⟨S1x8208x4x32, .f32⟩
  | 61 => ⟨S1x8208x4x32, .f32⟩
  | 62 => ⟨S1x8208x4x32, .f32⟩
  | 63 => ⟨S1x8208x4x32, .f32⟩
  | 64 => ⟨S1x8208x4x32, .f32⟩
  | 65 => ⟨S1x8208x4x32, .f32⟩
  | 66 => ⟨S1x8208x4x32, .f32⟩
  | 67 => ⟨S1x8208x4x32, .f32⟩
  | 68 => ⟨S1x8208x4x32, .f32⟩
  | 69 => ⟨S1x8208x4x32x1, .f32⟩
  | 70 => ⟨S_, .f32⟩
  | 71 => ⟨S1x8208x4x32x2, .f32⟩
  | 72 => ⟨S1x8208x4x32x1, .f32⟩
  | 73 => ⟨S_, .f32⟩
  | 74 => ⟨S1x8208x4x32x2, .f32⟩
  | 75 => ⟨S1x8208x4x32x2, .f32⟩
  | 76 => ⟨S1x8208x4x64, .f32⟩
  | 77 => ⟨S1x8208x16x32x2, .f32⟩
  | 78 => ⟨S1x8208x16x32x1, .f32⟩
  | 79 => ⟨S1x8208x16x32, .f32⟩
  | 80 => ⟨S1x8208x16x32x1, .f32⟩
  | 81 => ⟨S1x8208x16x32, .f32⟩
  | 82 => ⟨S1x8208x16x32, .f32⟩
  | 83 => ⟨S1x8208x16x32, .f32⟩
  | 84 => ⟨S1x8208x16x32, .f32⟩
  | 85 => ⟨S1x8208x16x32, .f32⟩
  | 86 => ⟨S1x8208x16x32, .f32⟩
  | 87 => ⟨S1x8208x16x32, .f32⟩
  | 88 => ⟨S1x8208x16x32, .f32⟩
  | 89 => ⟨S1x8208x16x32, .f32⟩
  | 90 => ⟨S1x8208x16x32, .f32⟩
  | 91 => ⟨S1x8208x16x32, .f32⟩
  | 92 => ⟨S1x8208x16x32, .f32⟩
  | 93 => ⟨S1x8208x16x32x1, .f32⟩
  | 94 => ⟨S_, .f32⟩
  | 95 => ⟨S1x8208x16x32x2, .f32⟩
  | 96 => ⟨S1x8208x16x32x1, .f32⟩
  | 97 => ⟨S_, .f32⟩
  | 98 => ⟨S1x8208x16x32x2, .f32⟩
  | 99 => ⟨S1x8208x16x32x2, .f32⟩
  | 100 => ⟨S1x8208x16x64, .f32⟩
  | 101 => ⟨S1x8208x2x2x64, .f32⟩
  | 102 => ⟨S1x8208x2x2x64, .f32⟩
  | 103 => ⟨S_, .f32⟩
  | 104 => ⟨S1x2x64, .f32⟩
  | 105 => ⟨S1x1x1x2x64, .f32⟩
  | 106 => ⟨S1x8208x2x2x64, .f32⟩
  | 107 => ⟨S1x8208x2x2x64, .f32⟩
  | 108 => ⟨S_, .f32⟩
  | 109 => ⟨S2x64, .f32⟩
  | 110 => ⟨S1x8208x2x2x64, .f32⟩
  | 111 => ⟨S_, .f32⟩
  | 112 => ⟨S1x8208x2x2, .f32⟩
  | 113 => ⟨S1x8208x2x2x1, .f32⟩
  | 114 => ⟨S1x8208x2x2x64, .f32⟩
  | 115 => ⟨S1x8208x2x2x64, .f32⟩
  | 116 => ⟨S1x8208x2x2x1, .f32⟩
  | 117 => ⟨S_, .f32⟩
  | 118 => ⟨S1x8208x2x2x1, .f32⟩
  | 119 => ⟨S1x8208x2x2x1, .f32⟩
  | 120 => ⟨S_, .f32⟩
  | 121 => ⟨S8208x2x2, .f32⟩
  | 122 => ⟨S1x8208x2x2, .f32⟩
  | 123 => ⟨S1x8208x2x2x64, .f32⟩
  | 124 => ⟨S1x8208x2x2x64, .f32⟩
  | 125 => ⟨S1x8208x2x2x64, .f32⟩
  | 126 => ⟨S1x8208x2x2x64, .f32⟩
  | 127 => ⟨S1x8208x2x2x64, .f32⟩
  | _ => ⟨S1x8208x1024, .f32⟩

abbrev hbmTy0_2 (i : Nat) : BufTy := match i % 128 with
  | 0 => ⟨S1x8208x256, .f32⟩
  | 1 => ⟨S1x8208x8x2x64, .f32⟩
  | 2 => ⟨S1x8208x8x2x64, .f32⟩
  | 3 => ⟨S_, .f32⟩
  | 4 => ⟨S1x2x64, .f32⟩
  | 5 => ⟨S1x1x1x2x64, .f32⟩
  | 6 => ⟨S1x8208x8x2x64, .f32⟩
  | 7 => ⟨S1x8208x8x2x64, .f32⟩
  | 8 => ⟨S_, .f32⟩
  | 9 => ⟨S2x64, .f32⟩
  | 10 => ⟨S1x8208x8x2x64, .f32⟩
  | 11 => ⟨S_, .f32⟩
  | 12 => ⟨S1x8208x8x2, .f32⟩
  | 13 => ⟨S1x8208x8x2x1, .f32⟩
  | 14 => ⟨S1x8208x8x2x64, .f32⟩
  | 15 => ⟨S1x8208x8x2x64, .f32⟩
  | 16 => ⟨S1x8208x8x2x1, .f32⟩
  | 17 => ⟨S_, .f32⟩
  | 18 => ⟨S1x8208x8x2x1, .f32⟩
  | 19 => ⟨S1x8208x8x2x1, .f32⟩
  | 20 => ⟨S_, .f32⟩
  | 21 => ⟨S8208x8x2, .f32⟩
  | 22 => ⟨S1x8208x8x2, .f32⟩
  | 23 => ⟨S1x8208x8x2x64, .f32⟩
  | 24 => ⟨S1x8208x8x2x64, .f32⟩
  | 25 => ⟨S1x8208x8x2x64, .f32⟩
  | 26 => ⟨S1x8208x8x2x64, .f32⟩
  | 27 => ⟨S1x8208x8x2x64, .f32⟩
  | 28 => ⟨S1x8208x1024, .f32⟩
  | 29 => ⟨S1x8208x4096, .f32⟩
  | 30 => ⟨S1x8208x1024, .f32⟩
  | 31 => ⟨S1x8208x1024, .f32⟩
  | 32 => ⟨S_, .f32⟩
  | 33 => ⟨S1x1024, .f32⟩
  | 34 => ⟨S1x1x1024, .f32⟩
  | 35 => ⟨S1x8208x1024, .f32⟩
  | 36 => ⟨S1x8208x1024, .f32⟩
  | 37 => ⟨S_, .f32⟩
  | 38 => ⟨S1024, .f32⟩
  | 39 => ⟨S1x8208x1024, .f32⟩
  | 40 => ⟨S_, .f32⟩
  | 41 => ⟨S1x8208, .f32⟩
  | 42 => ⟨S1x8208x1, .f32⟩
  | 43 => ⟨S1x8208x1024, .f32⟩
  | 44 => ⟨S1x8208x1024, .f32⟩
  | 45 => ⟨S1x8208x1024, .f32⟩
  | 46 => ⟨S1x8208x1, .f32⟩
  | 47 => ⟨S_, .f32⟩
  | 48 => ⟨S1x8208x1, .f32⟩
  | 49 => ⟨S1x8208x1, .f32⟩
  | 50 => ⟨S_, .f32⟩
  | 51 => ⟨S8208, .f32⟩
  | 52 => ⟨S1x8208, .f32⟩
  | 53 => ⟨S1x8208x1024, .f32⟩
  | 54 => ⟨S1x8208x1024, .f32⟩
  | 55 => ⟨S1x8208x1024, .f32⟩
  | 56 => ⟨S1x8208x1024, .f32⟩
  | 57 => ⟨S1x8208x1024, .f32⟩
  | 58 => ⟨S1x1024, .f32⟩
  | 59 => ⟨S8208x1024, .f32⟩
  | 60 => ⟨S_, .i32⟩
  | 61 => ⟨S_, .f32⟩
  | 62 => ⟨S8448x1024, .f32⟩
  | 63 => ⟨S8208x4096, .f32⟩
  | 64 => ⟨S_, .i32⟩
  | 65 => ⟨S_, .f32⟩
  | 66 => ⟨S8448x4096, .f32⟩
  | 67 => ⟨S8448x4096, .bf16⟩
  | 68 => ⟨S1x128, .f32⟩
  | 69 => ⟨S1x128, .f32⟩
  | _ => ⟨S1x8208x1024, .f32⟩

abbrev hbmTy (i : Nat) : BufTy := match i / 128 with
  | 0 => hbmTy0_0 i
  | 1 => hbmTy0_1 i
  | 2 => hbmTy0_2 i
  | _ => ⟨S1x8208x1024, .f32⟩

abbrev bufTy : (tb : Table) → Fin (tcTables nBuf tb) → BufTy
  | .hbm, ⟨i, _⟩ => hbmTy i
  | _, _ => ⟨S1x8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_4 : Ref sig .tc := ⟨.hbm, 61, rfl⟩
abbrev main_v42 : Ref sig .tc := ⟨.hbm, 62, rfl⟩
abbrev main_v43 : Ref sig .tc := ⟨.hbm, 63, rfl⟩
abbrev main_cst_5 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_6 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_7 : Ref sig .tc := ⟨.hbm, 85, rfl⟩
abbrev main_v63 : Ref sig .tc := ⟨.hbm, 86, rfl⟩
abbrev main_v64 : Ref sig .tc := ⟨.hbm, 87, rfl⟩
abbrev main_cst_8 : Ref sig .tc := ⟨.hbm, 88, rfl⟩
abbrev main_v65 : Ref sig .tc := ⟨.hbm, 89, rfl⟩
abbrev main_v66 : Ref sig .tc := ⟨.hbm, 90, rfl⟩
abbrev main_cst_9 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_10 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_11 : Ref sig .tc := ⟨.hbm, 107, rfl⟩
abbrev main_v81 : Ref sig .tc := ⟨.hbm, 108, rfl⟩
abbrev main_v82 : Ref sig .tc := ⟨.hbm, 109, rfl⟩
abbrev main_cst_12 : Ref sig .tc := ⟨.hbm, 110, rfl⟩
abbrev main_v83 : Ref sig .tc := ⟨.hbm, 111, rfl⟩
abbrev main_v84 : Ref sig .tc := ⟨.hbm, 112, rfl⟩
abbrev main_cst_13 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_14 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_cst_15 : Ref sig .tc := ⟨.hbm, 198, rfl⟩
abbrev main_v168 : Ref sig .tc := ⟨.hbm, 199, rfl⟩
abbrev main_v169 : Ref sig .tc := ⟨.hbm, 200, rfl⟩
abbrev main_cst_16 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_cst_17 : Ref sig .tc := ⟨.hbm, 222, rfl⟩
abbrev main_v190 : Ref sig .tc := ⟨.hbm, 223, rfl⟩
abbrev main_v191 : Ref sig .tc := ⟨.hbm, 224, rfl⟩
abbrev main_cst_18 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_cst_19 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_cst_20 : Ref sig .tc := ⟨.hbm, 236, rfl⟩
abbrev main_v201 : Ref sig .tc := ⟨.hbm, 237, rfl⟩
abbrev main_v202 : Ref sig .tc := ⟨.hbm, 238, rfl⟩
abbrev main_cst_21 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_cst_22 : Ref sig .tc := ⟨.hbm, 245, rfl⟩
abbrev main_v208 : Ref sig .tc := ⟨.hbm, 246, rfl⟩
abbrev main_v209 : Ref sig .tc := ⟨.hbm, 247, rfl⟩
abbrev main_cst_23 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev main_v215 : Ref sig .tc := ⟨.hbm, 254, rfl⟩
abbrev main_v216 : Ref sig .tc := ⟨.hbm, 255, rfl⟩
abbrev main_v217 : Ref sig .tc := ⟨.hbm, 256, rfl⟩
abbrev main_v218 : Ref sig .tc := ⟨.hbm, 257, rfl⟩
abbrev main_v219 : Ref sig .tc := ⟨.hbm, 258, rfl⟩
abbrev main_cst_24 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_cst_25 : Ref sig .tc := ⟨.hbm, 264, rfl⟩
abbrev main_v224 : Ref sig .tc := ⟨.hbm, 265, rfl⟩
abbrev main_v225 : Ref sig .tc := ⟨.hbm, 266, rfl⟩
abbrev main_cst_26 : Ref sig .tc := ⟨.hbm, 267, rfl⟩
abbrev main_v226 : Ref sig .tc := ⟨.hbm, 268, rfl⟩
abbrev main_v227 : Ref sig .tc := ⟨.hbm, 269, rfl⟩
abbrev main_v228 : Ref sig .tc := ⟨.hbm, 270, rfl⟩
abbrev main_v229 : Ref sig .tc := ⟨.hbm, 271, rfl⟩
abbrev main_v230 : Ref sig .tc := ⟨.hbm, 272, rfl⟩
abbrev main_cst_27 : Ref sig .tc := ⟨.hbm, 273, rfl⟩
abbrev main_v231 : Ref sig .tc := ⟨.hbm, 274, rfl⟩
abbrev main_v232 : Ref sig .tc := ⟨.hbm, 275, rfl⟩
abbrev main_cst_28 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_v242 : Ref sig .tc := ⟨.hbm, 286, rfl⟩
abbrev main_v243 : Ref sig .tc := ⟨.hbm, 287, rfl⟩
abbrev main_cst_29 : Ref sig .tc := ⟨.hbm, 288, rfl⟩
abbrev main_v244 : Ref sig .tc := ⟨.hbm, 289, rfl⟩
abbrev main_v245 : Ref sig .tc := ⟨.hbm, 290, rfl⟩
abbrev main_v246 : Ref sig .tc := ⟨.hbm, 291, rfl⟩
abbrev main_v247 : Ref sig .tc := ⟨.hbm, 292, rfl⟩
abbrev main_cst_30 : Ref sig .tc := ⟨.hbm, 293, rfl⟩
abbrev main_v248 : Ref sig .tc := ⟨.hbm, 294, rfl⟩
abbrev main_v249 : Ref sig .tc := ⟨.hbm, 295, rfl⟩
abbrev main_cst_31 : Ref sig .tc := ⟨.hbm, 296, rfl⟩
abbrev main_v250 : Ref sig .tc := ⟨.hbm, 297, rfl⟩
abbrev main_v251 : Ref sig .tc := ⟨.hbm, 298, rfl⟩
abbrev main_v252 : Ref sig .tc := ⟨.hbm, 299, rfl⟩
abbrev main_v253 : Ref sig .tc := ⟨.hbm, 300, rfl⟩
abbrev main_v254 : Ref sig .tc := ⟨.hbm, 301, rfl⟩
abbrev main_v255 : Ref sig .tc := ⟨.hbm, 302, rfl⟩
abbrev main_cst_32 : Ref sig .tc := ⟨.hbm, 303, rfl⟩
abbrev main_v256 : Ref sig .tc := ⟨.hbm, 304, rfl⟩
abbrev main_v257 : Ref sig .tc := ⟨.hbm, 305, rfl⟩
abbrev main_cst_33 : Ref sig .tc := ⟨.hbm, 306, rfl⟩
abbrev main_v258 : Ref sig .tc := ⟨.hbm, 307, rfl⟩
abbrev main_v259 : Ref sig .tc := ⟨.hbm, 308, rfl⟩
abbrev main_v260 : Ref sig .tc := ⟨.hbm, 309, rfl⟩
abbrev main_v261 : Ref sig .tc := ⟨.hbm, 310, rfl⟩
abbrev main_v262 : Ref sig .tc := ⟨.hbm, 311, rfl⟩
abbrev main_v263 : Ref sig .tc := ⟨.hbm, 312, rfl⟩
abbrev main_v264 : Ref sig .tc := ⟨.hbm, 313, rfl⟩
abbrev main_v265 : Ref sig .tc := ⟨.hbm, 314, rfl⟩
abbrev main_v266 : Ref sig .tc := ⟨.hbm, 315, rfl⟩
abbrev main_c : Ref sig .tc := ⟨.hbm, 316, rfl⟩
abbrev main_call0_v0 : Ref sig .tc := ⟨.hbm, 317, rfl⟩
abbrev main_v267 : Ref sig .tc := ⟨.hbm, 318, rfl⟩
abbrev main_v268 : Ref sig .tc := ⟨.hbm, 319, rfl⟩
abbrev main_c_34 : Ref sig .tc := ⟨.hbm, 320, rfl⟩
abbrev main_call1_v0 : Ref sig .tc := ⟨.hbm, 321, rfl⟩
abbrev main_v269 : Ref sig .tc := ⟨.hbm, 322, rfl⟩
abbrev main_v270 : Ref sig .tc := ⟨.hbm, 323, rfl⟩
abbrev main_v271 : Ref sig .tc := ⟨.hbm, 324, rfl⟩
abbrev main_v272 : Ref sig .tc := ⟨.hbm, 325, rfl⟩

abbrev nD : Nat := 1
abbrev τ : Topo := Topo.v7x

variable {F : FTy → Type} [FloatOps F]
-- ==== Proof.AttnStep.lean ====
module

public import proofs.«01_k».proof.Proof.Gen.KernelIdeal.Skeleton
public import Idealize.ShloMosaic.Lib.VecWindow

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What one grid point of the attention's backward call leaves in its three outputs

The blocks at a point: `x0` the four heads' scaled queries (transposed), `x1` the keys, `x2` the keys transposed, `x3` the
values, `x4` the cotangent of the output (transposed, head by head), `x5` the saved output, `x6` the saved log-sum.
-/

/-- Head `r`'s queries. -/
def qOf (x0 : Vec F S4x128x768 .bf16) (r : Fin 4) : Vec F S1x128x768 .bf16 :=
  View.ld (Val := Elt F) (e' := .bf16) x0 (Rect.unit (s := S4x128x768) ![r.val, 0, 0] S1x128x768.size (by fin_cases r <;> decide))

/-- The values without the lane of ones. -/
def vOf (x3 : Vec F S1x768x128 .bf16) : Vec F S1x768x64 .bf16 :=
  View.ld (Val := Elt F) (e' := .bf16) x3 (Rect.unit (s := S1x768x128) ![0, 0, 0] S1x768x64.size (by decide))

/-- Head `r`'s rows of a block that stacks the four heads. -/
def rowsOf {e : EltTy} (x : Vec F S256x768 e) (r : Fin 4) : Vec F S64x768 e :=
  View.ld (Val := Elt F) (e' := e) x (Rect.unit (s := S256x768) ![64 * r.val, 0] S64x768.size (by fin_cases r <;> decide))

/-- Head `r`'s log-sums. -/
def lseOf (x6 : Vec F S1x4x768 .f32) (r : Fin 4) : Vec F S1x1x768 .f32 :=
  View.ld (Val := Elt F) (e' := .f32) x6 (Rect.unit (s := S1x4x768) ![0, r.val, 0] S1x1x768.size (by fin_cases r <;> decide))

/-- Head `r`'s scores, keys by queries. -/
def score (x0 : Vec F S4x128x768 .bf16) (x1 : Vec F S1x768x128 .bf16) (r : Fin 4) : FVec F S768x768 .f32 := k0_pay10 x1 (qOf x0 r)

/-- Head `r`'s cotangent of the weights, keys by queries. -/
def dprob (x3 : Vec F S1x768x128 .bf16) (x4 : Vec F S256x768 .bf16) (r : Fin 4) : FVec F S768x768 .f32 :=
  k0_pay11 (vOf x3) (rowsOf x4 r)

section
variable (x0 : Vec F S4x128x768 .bf16) (x1 : Vec F S1x768x128 .bf16) (x2 : Vec F S1x64x768 .bf16) (x3 : Vec F S1x768x128 .bf16) (x4 : Vec F S256x768 .bf16) (x5 : Vec F S256x768 .f32) (x6 : Vec F S1x4x768 .f32)

/-- The block of dv after the point, from what it held before. -/
@[irreducible] def out8 (d8 : Vec F S1x768x64 .f32) : Vec F S1x768x64 .f32 :=
  let a (acc : FVec F S768x64 .f32) (r : Fin 4) := k0_pay17 acc (score x0 x1 r) (rowsOf x4 r) (lseOf x6 r)
  k0_pay1 (a (a (a (a k0_pay9 0) 1) 2) 3) d8

/-- The block of dk after the point, from what it held before. -/
@[irreducible] def out7 (d7 : Vec F S1x768x128 .f32) : Vec F S1x768x128 .f32 :=
  let a (acc : FVec F S768x128 .f32) (r : Fin 4) :=
    k0_pay18 acc (score x0 x1 r) (dprob x3 x4 r) (qOf x0 r) (rowsOf x4 r) (rowsOf x5 r) (lseOf x6 r)
  k0_pay43 (score x0 x1 3) (dprob x3 x4 3) (a (a (a k0_pay8 0) 1) 2) (qOf x0 3) (rowsOf x4 3) (rowsOf x5 3) (lseOf x6 3) d7

/-- Head `r`'s rows of dq at the point's columns, from what they held before. -/
def dqRows (r : Fin 4) (d : Vec F S64x768 .f32) : Vec F S64x768 .f32 :=
  k0_pay19 (k0_pay6 x2) (score x0 x1 r) (dprob x3 x4 r) (rowsOf x4 r) (rowsOf x5 r) (lseOf x6 r) d

/-- The block of dq after the point, from what it held before: the four heads' rows at the point's columns replaced. -/
@[irreducible] def out9 (i : grid0.Coords) (d9 : Vec F S256x8448 .f32) : Vec F S256x8448 .f32 :=
  let a (r : Fin 4) (off : Fin 2 → ℕ) (inb : ∀ b, off b + S64x768.size b ≤ S256x8448.size b) (d : Vec F S256x8448 .f32) : Vec F S256x8448 .f32 :=
    VecWindow.put d off S64x768.size (dqRows x0 x1 x2 x3 x4 x5 x6 r
      (View.ld (Val := Elt F) (e' := .f32) d9 (Rect.unit (s := S256x8448) off S64x768.size inb)))
  a 3 (k0_off4 i) (k0_off4_inb i) (a 2 (k0_off3 i) (k0_off3_inb i) (a 1 (k0_off2 i) (k0_off2_inb i) (a 0 (k0_off1 i) (k0_off1_inb i) d9)))

end

end Cert.KernelIdeal.Attn

end
-- ==== Proof.AttnRun.lean ====
module

public import proofs.«01_k».proof.Proof.Gen.KernelIdeal.Frame
public import proofs.«01_k».proof.Proof.AttnStep

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first condition: key block 0 and query block 0. -/
abbrev cond0_0 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- The body's second condition: query block 0. -/
abbrev cond0_1 (i : grid0.Coords) : Prop := (Scalar.cmpi .ne (Scalar.extui (Scalar.cmpi .eq (BitVec.ofNat 32 (i 2).val) 0#32)) 0#32) = 1#1

/-! What the body's loads read of a whole block. -/

theorem read_q0 {a : Memref sig .tc .vmem S4x128x768 .bf16} (h : a.IsWhole) (x : Vec F S4x128x768 .bf16) :
    View.readAt (Elt F) a.view (Rect.unit (s := S4x128x768) ![0, 0, 0] S1x128x768.size inb_S4x128x768_S1x128x768_0_0_0).toLoadRect (h.unread x) = qOf x 0 :=
  congrFun (congrArg (fun (z : Vec F S4x128x768 .bf16) (r : LoadRect S4x128x768) => (fun y => z (r.idx y) : r.shape.Idx → Elt F .bf16)) (h.read_unread x)) _
theorem read_d0 {a : Memref sig .tc .vmem S256x768 .bf16} (h : a.IsWhole) (x : Vec F S256x768 .bf16) :
    View.readAt (Elt F) a.view (Rect.unit (s := S256x768) ![0, 0] S64x768.size inb_S256x768_S64x768_0_0).toLoadRect (h.unread x) = rowsOf x 0 :=
  congrFun (congrArg (fun (z : Vec F S256x768 .bf16) (r : LoadRect S256x768) => (fun y => z (r.idx y) : r.shape.Idx → Elt F .bf16)) (h.read_unread x)) _
theorem read_o0 {a : Memref sig .tc .vmem S256x768 .f32} (h : a.IsWhole) (x : Vec F S256x768 .f32) :
    View.readAt (Elt F) a.view (Rect.unit (s := S256x768) ![0, 0] S64x768.size inb_S256x768_S64x768_0_0).toLoadRect (h.unread x) = rowsOf x 0 :=
  congrFun (congrArg (fun (z : Vec F S256x768 .f32) (r : LoadRect S256x768) => (fun y => z (r.idx y) : r.shape.Idx → Elt F .f32)) (h.read_unread x)) _
theorem read_l0 {a : Memref sig .tc .vmem S1x4x768 .f32} (h : a.IsWhole) (x : Vec F S1x4x768 .f32) :
    View.readAt (Elt F) a.view (Rect.unit (s := S1x4x768) ![0, 0, 0] S1x1x768.size inb_S1x4x768_S1x1x768_0_0_0).toLoadRect (h.unread x) = lseOf x 0 :=
  congrFun (congrArg (fun (z : Vec F S1x4x768 .f32) (r : LoadRect S1x4x768) => (fun y => z (r.idx y) : r.shape.Idx → Elt F .f32)) (h.read_unread x)) _
theorem read_q1 {a : Memref sig .tc .vmem S4x128x768 .bf16} (h : a.IsWhole) (x : Vec F S4x128x768 .bf16) :
    View.readAt (Elt F) a.view (Rect.unit (s := S4x128x768) ![1, 0, 0] S1x128x768.size inb_S4x128x768_S1x128x768_1_0_0).toLoadRect (h.unread x) = qOf x 1 :=
  congrFun (congrArg (fun (z : Vec F S4x128x768 .bf16) (r : LoadRect S4x128x768) => (fun y => z (r.idx y) : r.shape.Idx → Elt F .bf16)) (h.read_unread x)) _
theorem read_d1 {a : Memref sig .tc .vmem S256x768 .bf16} (h : a.IsWhole) (x : Vec F S256x768 .bf16) :
    View.readAt (Elt F) a.view (Rect.unit (s := S256x768) ![64, 0] S64x768.size inb_S256x768_S64x768_64_0).toLoadRect (h.unread x) = rowsOf x 1 :=
  congrFun (congrArg (fun (z : Vec F S256x768 .bf16) (r : LoadRect S256x768) => (fun y => z (r.idx y) : r.shape.Idx → Elt F .bf16)) (h.read_unread x)) _
theorem read_o1 {a : Memref sig .tc .vmem S256x768 .f32} (h : a.IsWhole) (x : Vec F S256x768 .f32) :
    View.readAt (Elt F) a.view (Rect.unit (s := S256x768) ![64, 0] S64x768.size inb_S256x768_S64x768_64_0).toLoadRect (h.unread x) = rowsOf x 1 :=
  congrFun (congrArg (fun (z : Vec F S256x768 .f32) (r : LoadRect S256x768) => (fun y => z (r.idx y) : r.shape.Idx → Elt F .f32)) (h.read_unread x)) _
theorem read_l1 {a : Memref sig .tc .vmem S1x4x768 .f32} (h : a.IsWhole) (x : Vec F S1x4x768 .f32) :
    View.readAt (Elt F) a.view (Rect.unit (s := S1x4x768) ![0, 1, 0] S1x1x768.size inb_S1x4x768_S1x1x768_0_1_0).toLoadRect (h.unread x) = lseOf x 1 :=
  congrFun (congrArg (fun (z : Vec F S1x4x768 .f32) (r : LoadRect S1x4x768) => (fun y => z (r.idx y) : r.shape.Idx → Elt F .f32)) (h.read_unread x)) _
theorem read_q2 {a : Memref sig .tc .vmem S4x128x768 .bf16} (h : a.IsWhole) (x : Vec F S4x128x768 .bf16) :
    View.readAt (Elt F) a.view (Rect.unit (s := S4x128x768) ![2, 0, 0] S1x128x768.size inb_S4x128x768_S1x128x768_2_0_0).toLoadRect (h.unread x) = qOf x 2 :=
  congrFun (congrArg (fun (z : Vec F S4x128x768 .bf16) (r : LoadRect S4x128x768) => (fun y => z (r.idx y) : r.shape.Idx → Elt F .bf16)) (h.read_unread x)) _
theorem read_d2 {a : Memref sig .tc .vmem S256x768 .bf16} (h : a.IsWhole) (x : Vec F S256x768 .bf16) :
    View.readAt (Elt F) a.view (Rect.unit (s := S256x768) ![128, 0] S64x768.size inb_S256x768_S64x768_128_0).toLoadRect (h.unread x) = rowsOf x 2 :=
  congrFun (congrArg (fun (z : Vec F S256x768 .bf16) (r : LoadRect S256x768) => (fun y => z (r.idx y) : r.shape.Idx → Elt F .bf16)) (h.read_unread x)) _
theorem read_o2 {a : Memref sig .tc .vmem S256x768 .f32} (h : a.IsWhole) (x : Vec F S256x768 .f32) :
    View.readAt (Elt F) a.view (Rect.unit (s := S256x768) ![128, 0] S64x768.size inb_S256x768_S64x768_128_0).toLoadRect (h.unread x) = rowsOf x 2 :=
  congrFun (congrArg (fun (z : Vec F S256x768 .f32) (r : LoadRect S256x768) => (fun y => z (r.idx y) : r.shape.Idx → Elt F .f32)) (h.read_unread x)) _
theorem read_l2 {a : Memref sig .tc .vmem S1x4x768 .f32} (h : a.IsWhole) (x : Vec F S1x4x768 .f32) :
    View.readAt (Elt F) a.view (Rect.unit (s := S1x4x768) ![0, 2, 0] S1x1x768.size inb_S1x4x768_S1x1x768_0_2_0).toLoadRect (h.unread x) = lseOf x 2 :=
  congrFun (congrArg (fun (z : Vec F S1x4x768 .f32) (r : LoadRect S1x4x768) => (fun y => z (r.idx y) : r.shape.Idx → Elt F .f32)) (h.read_unread x)) _
theorem read_q3 {a : Memref sig .tc .vmem S4x128x768 .bf16} (h : a.IsWhole) (x : Vec F S4x128x768 .bf16) :
    View.readAt (Elt F) a.view (Rect.unit (s := S4x128x768) ![3, 0, 0] S1x128x768.size inb_S4x128x768_S1x128x768_3_0_0).toLoadRect (h.unread x) = qOf x 3 :=
  congrFun (congrArg (fun (z : Vec F S4x128x768 .bf16) (r : LoadRect S4x128x768) => (fun y => z (r.idx y) : r.shape.Idx → Elt F .bf16)) (h.read_unread x)) _
theorem read_d3 {a : Memref sig .tc .vmem S256x768 .bf16} (h : a.IsWhole) (x : Vec F S256x768 .bf16) :
    View.readAt (Elt F) a.view (Rect.unit (s := S256x768) ![192, 0] S64x768.size inb_S256x768_S64x768_192_0).toLoadRect (h.unread x) = rowsOf x 3 :=
  congrFun (congrArg (fun (z : Vec F S256x768 .bf16) (r : LoadRect S256x768) => (fun y => z (r.idx y) : r.shape.Idx → Elt F .bf16)) (h.read_unread x)) _
theorem read_o3 {a : Memref sig .tc .vmem S256x768 .f32} (h : a.IsWhole) (x : Vec F S256x768 .f32) :
    View.readAt (Elt F) a.view (Rect.unit (s := S256x768) ![192, 0] S64x768.size inb_S256x768_S64x768_192_0).toLoadRect (h.unread x) = rowsOf x 3 :=
  congrFun (congrArg (fun (z : Vec F S256x768 .f32) (r : LoadRect S256x768) => (fun y => z (r.idx y) : r.shape.Idx → Elt F .f32)) (h.read_unread x)) _
theorem read_l3 {a : Memref sig .tc .vmem S1x4x768 .f32} (h : a.IsWhole) (x : Vec F S1x4x768 .f32) :
    View.readAt (Elt F) a.view (Rect.unit (s := S1x4x768) ![0, 3, 0] S1x1x768.size inb_S1x4x768_S1x1x768_0_3_0).toLoadRect (h.unread x) = lseOf x 3 :=
  congrFun (congrArg (fun (z : Vec F S1x4x768 .f32) (r : LoadRect S1x4x768) => (fun y => z (r.idx y) : r.shape.Idx → Elt F .f32)) (h.read_unread x)) _
theorem read_v {a : Memref sig .tc .vmem S1x768x128 .bf16} (h : a.IsWhole) (x : Vec F S1x768x128 .bf16) :
    View.readAt (Elt F) a.view (Rect.unit (s := S1x768x128) ![0, 0, 0] S1x768x64.size inb_S1x768x128_S1x768x64_0_0_0).toLoadRect (h.unread x) = vOf x :=
  congrFun (congrArg (fun (z : Vec F S1x768x128 .bf16) (r : LoadRect S1x768x128) => (fun y => z (r.idx y) : r.shape.Idx → Elt F .bf16)) (h.read_unread x)) _

/-- A load of one head's rows does not see a store to an earlier head's. -/
theorem read_skip {a : Memref sig .tc .vmem S256x8448 .f32} (f : a.view.ty.Contents (Elt F)) (L : List (View.Piece (Elt F) S256x8448 .f32))
    (off off' size size' : Fin 2 → ℕ) (inb : ∀ b, off b + size b ≤ S256x8448.size b) (inb' : ∀ b, off' b + size' b ≤ S256x8448.size b)
    (w : (Rect.unit (s := S256x8448) off size inb).shape.Idx → Elt F .f32) (h : off 0 + size 0 ≤ off' 0) :
    View.readAt (Elt F) a.view (Rect.unit (s := S256x8448) off' size' inb').toLoadRect
        (a.view.writes (Elt F) f (⟨Rect.unit (s := S256x8448) off size inb, w⟩ :: L))
      = View.readAt (Elt F) a.view (Rect.unit (s := S256x8448) off' size' inb').toLoadRect (a.view.writes (Elt F) f L) := by
  rw [View.readAt_eq_ld, View.readAt_eq_ld, View.read_writes_cons_put _ _ _ _ _ rfl]
  exact VecWindow.window_put_of_disjoint (s := S256x8448) _ off size off' size' inb' w 0 (Or.inr h)

/-- A load of one head's rows of the block just zeroed reads zeros. -/
theorem read_whole {a : Memref sig .tc .vmem S256x8448 .f32} (f : a.view.ty.Contents (Elt F)) (x : Vec F S256x8448 .f32)
    (off size : Fin 2 → ℕ) (inb : ∀ b, off b + size b ≤ S256x8448.size b) :
    View.readAt (Elt F) a.view (Rect.unit (s := S256x8448) off size inb).toLoadRect
        (a.view.writes (Elt F) f [⟨Rect.unit (s := S256x8448) ![0, 0] ![256, 8448] inb_S256x8448_S256x8448_0_0, x⟩])
      = View.ld (Val := Elt F) (e' := .f32) x (Rect.unit (s := S256x8448) off size inb) := by
  rw [View.readAt_eq_ld]; exact congrArg (fun z : Vec F S256x8448 .f32 => View.ld (Val := Elt F) (e' := .f32) z (Rect.unit (s := S256x8448) off size inb)) (View.read_writes_full a.view f inb_S256x8448_S256x8448_0_0 x [])

/-- A store over the whole block leaves what it stored. -/
theorem put_whole (x y : Vec F S256x8448 .f32) : VecWindow.put (s := S256x8448) x ![0, 0] ![256, 8448] y = y := by
  funext j
  have hj : ∀ b : Fin 2, (![0, 0] : Fin 2 → ℕ) b ≤ (j b).val ∧ (j b).val < (![0, 0] : Fin 2 → ℕ) b + (![256, 8448] : Fin 2 → ℕ) b := by
    intro b
    have := (j b).isLt
    fin_cases b
    · exact ⟨Nat.zero_le _, by simpa using (j 0).isLt⟩
    · exact ⟨Nat.zero_le _, by simpa using (j 1).isLt⟩
  refine (dif_pos hj).trans (congrArg y (funext fun b => Fin.ext ?_))
  fin_cases b <;> rfl

theorem off1_row (i : grid0.Coords) : k0_off1 i 0 = 0 := by rw [k0_off1_eq]; rfl
theorem off2_row (i : grid0.Coords) : k0_off2 i 0 = 64 := by rw [k0_off2_eq]; rfl
theorem off3_row (i : grid0.Coords) : k0_off3 i 0 = 128 := by rw [k0_off3_eq]; rfl
theorem off4_row (i : grid0.Coords) : k0_off4 i 0 = 192 := by rw [k0_off4_eq]; rfl

/-! The printed text names a head's arithmetic once per head: the four heads' words are one. -/

theorem pay12_eq : @k0_pay12 F _ = k0_pay10 := rfl
theorem pay13_eq (v : Vec F S1x768x64 .bf16) (w) : k0_pay13 (k0_pay7 v) w = k0_pay11 v w := rfl
theorem pay21_eq (v : Vec F S1x768x128 .bf16) (w) : k0_pay21 (k0_pay5 v) (k0_pay20 w) (constant S768x768 .f32 0x00000000#32) = k0_pay10 v w := rfl
theorem pay22_eq (v : Vec F S1x768x64 .bf16) (w) : k0_pay22 (k0_pay7 v) w = k0_pay11 v w := rfl
theorem pay30_eq (v : Vec F S1x768x128 .bf16) (w) : k0_pay30 (k0_pay5 v) (k0_pay29 w) = k0_pay10 v w := rfl
theorem pay31_eq (v : Vec F S1x768x64 .bf16) (w) : k0_pay31 (k0_pay7 v) w = k0_pay11 v w := rfl
theorem pay26_eq : @k0_pay26 F _ = fun a b c d => k0_pay17 b a c d := rfl
theorem pay35_eq : @k0_pay35 F _ = fun a b c d => k0_pay17 b a c d := rfl
theorem pay41_eq : @k0_pay41 F _ = fun a b c d => k0_pay17 b a c d := rfl
theorem pay27_eq : @k0_pay27 F _ = fun a b c d e f g => k0_pay18 c a b d e f g := rfl
theorem pay36_eq : @k0_pay36 F _ = fun a b c d e f g => k0_pay18 c a b d e f g := rfl
theorem pay28_eq : @k0_pay28 F _ = k0_pay19 := rfl
theorem pay37_eq : @k0_pay37 F _ = k0_pay19 := rfl
theorem pay42_eq : @k0_pay42 F _ = k0_pay19 := rfl

set_option maxHeartbeats 1000000 in
/-- A point where all three outputs start from zero. -/
theorem run_A (c : Dev nD) (i : grid0.Coords) (arg3 : Memref sig .tc .vmem S4x128x768 .bf16) (harg3 : arg3.IsWhole) (arg4 : Memref sig .tc .vmem S1x768x128 .bf16) (harg4 : arg4.IsWhole) (arg5 : Memref sig .tc .vmem S1x64x768 .bf16) (harg5 : arg5.IsWhole) (arg6 : Memref sig .tc .vmem S1x768x128 .bf16) (harg6 : arg6.IsWhole) (arg7 : Memref sig .tc .vmem S256x768 .bf16) (harg7 : arg7.IsWhole) (arg8 : Memref sig .tc .vmem S256x768 .f32) (harg8 : arg8.IsWhole) (arg9 : Memref sig .tc .vmem S1x4x768 .f32) (harg9 : arg9.IsWhole) (arg10 : Memref sig .tc .vmem S1x768x128 .f32) (harg10 : arg10.IsWhole) (arg11 : Memref sig .tc .vmem S1x768x64 .f32) (harg11 : arg11.IsWhole) (arg12 : Memref sig .tc .vmem S256x8448 .f32) (harg12 : arg12.IsWhole) (hc0 : cond0_0 i) (hc1 : cond0_1 i)
    (x0 : Vec F S4x128x768 .bf16) (x1 : Vec F S1x768x128 .bf16) (x2 : Vec F S1x64x768 .bf16) (x3 : Vec F S1x768x128 .bf16) (x4 : Vec F S256x768 .bf16) (x5 : Vec F S256x768 .f32) (x6 : Vec F S1x4x768 .f32)
    (d7 : Vec F S1x768x128 .f32) (d8 : Vec F S1x768x64 .f32) (d9 : Vec F S256x8448 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare d7 ∗ owns (c : Thread nD τ) arg11 fullShare d8 ∗ owns (c : Thread nD τ) arg12 fullShare d9
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (out7 x0 x1 x3 x4 x5 x6 k0_pay3) ∗ owns (c : Thread nD τ) arg11 fullShare (out8 x0 x1 x4 x6 k0_pay4) ∗ owns (c : Thread nD τ) arg12 fullShare (out9 x0 x1 x2 x3 x4 x5 x6 i k0_pay2)) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12) K := by
    intro E K
    simp only [cc0_attn_bwd_eq_skeleton]; unfold cc0_attn_bwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; swap
      · iexact H7
      · ipureintro
        unfold out7; rw [View.read_writes_full arg10.view _ inb_S1x768x128_S1x768x128_0_0_0]
        delta run_A.sl.cst_43 run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11 run_A.sl.r_12 run_A.sl.r_13 run_A.sl.r_14 run_A.sl.r_15 run_A.sl.r_16 run_A.sl.r_17 run_A.sl.r_18 run_A.sl.r_19 run_A.sl.r_20
        simp only [read_q0 harg3, read_d0 harg7, read_o0 harg8, read_l0 harg9, read_q1 harg3, read_d1 harg7, read_o1 harg8, read_l1 harg9, read_q2 harg3, read_d2 harg7, read_o2 harg8, read_l2 harg9, read_q3 harg3, read_d3 harg7, read_o3 harg8, read_l3 harg9, read_v harg6,
          View.readAt_full arg4.view _ inb_S1x768x128_S1x768x128_0_0_0, View.readAt_full arg5.view _ inb_S1x64x768_S1x64x768_0_0_0, harg4.read_unread, harg5.read_unread,
          score, dprob, pay12_eq, pay13_eq, pay21_eq, pay22_eq, pay30_eq, pay31_eq, pay26_eq, pay27_eq, pay35_eq, pay36_eq, pay41_eq]
        delta run_A.sl.v166 run_A.sl.H7_1
        rw [View.readCov_full arg10.view inb_S1x768x128_S1x768x128_0_0_0 inb_S1x768x128_S1x768x128_0_0_0]
    isplitl [H8]
    · iexists _; isplitr; swap
      · iexact H8
      · ipureintro
        unfold out8; rw [View.read_writes_full arg11.view _ inb_S1x768x64_S1x768x64_0_0_0]
        delta run_A.sl.cst_43 run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11 run_A.sl.r_12 run_A.sl.r_13 run_A.sl.r_14 run_A.sl.r_15 run_A.sl.r_16 run_A.sl.r_17 run_A.sl.r_18 run_A.sl.r_19 run_A.sl.r_20
        simp only [read_q0 harg3, read_d0 harg7, read_o0 harg8, read_l0 harg9, read_q1 harg3, read_d1 harg7, read_o1 harg8, read_l1 harg9, read_q2 harg3, read_d2 harg7, read_o2 harg8, read_l2 harg9, read_q3 harg3, read_d3 harg7, read_o3 harg8, read_l3 harg9, read_v harg6,
          View.readAt_full arg4.view _ inb_S1x768x128_S1x768x128_0_0_0, View.readAt_full arg5.view _ inb_S1x64x768_S1x64x768_0_0_0, harg4.read_unread, harg5.read_unread,
          score, dprob, pay12_eq, pay13_eq, pay21_eq, pay22_eq, pay30_eq, pay31_eq, pay26_eq, pay27_eq, pay35_eq, pay36_eq, pay41_eq]
        delta run_A.sl.v172 run_A.sl.H8_1
        rw [View.readCov_full arg11.view inb_S1x768x64_S1x768x64_0_0_0 inb_S1x768x64_S1x768x64_0_0_0]
    · iexists _; isplitr; swap
      · iexact H9
      · ipureintro
        unfold out9 dqRows
        delta run_A.sl.H9_4 run_A.sl.H9_3 run_A.sl.H9_2 run_A.sl.H9_1
        simp only [View.read_writes_cons_put _ _ _ _ _ rfl, View.read_writes_full arg12.view _ inb_S256x8448_S256x8448_0_0]
        delta run_A.sl.cst_43 run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11 run_A.sl.r_12 run_A.sl.r_13 run_A.sl.r_14 run_A.sl.r_15 run_A.sl.r_16 run_A.sl.r_17 run_A.sl.r_18 run_A.sl.r_19 run_A.sl.r_20
        simp only [read_q0 harg3, read_d0 harg7, read_o0 harg8, read_l0 harg9, read_q1 harg3, read_d1 harg7, read_o1 harg8, read_l1 harg9, read_q2 harg3, read_d2 harg7, read_o2 harg8, read_l2 harg9, read_q3 harg3, read_d3 harg7, read_o3 harg8, read_l3 harg9, read_v harg6,
          View.readAt_full arg4.view _ inb_S1x768x128_S1x768x128_0_0_0, View.readAt_full arg5.view _ inb_S1x64x768_S1x64x768_0_0_0, harg4.read_unread, harg5.read_unread,
          score, dprob, pay12_eq, pay13_eq, pay21_eq, pay22_eq, pay30_eq, pay31_eq, pay28_eq, pay37_eq, pay42_eq]
        delta run_A.sl.v92 run_A.sl.v129 run_A.sl.v160
        delta run_A.sl.H9_4 run_A.sl.H9_3 run_A.sl.H9_2 run_A.sl.H9_1
        erw [put_whole]
        simp only [read_skip, read_whole, off1_row, off2_row, off3_row, off4_row, Matrix.cons_val_zero, Nat.reduceAdd, Nat.reduceLeDiff]

set_option maxHeartbeats 1000000 in
/-- A point where no output starts afresh. -/
theorem run_B (c : Dev nD) (i : grid0.Coords) (arg3 : Memref sig .tc .vmem S4x128x768 .bf16) (harg3 : arg3.IsWhole) (arg4 : Memref sig .tc .vmem S1x768x128 .bf16) (harg4 : arg4.IsWhole) (arg5 : Memref sig .tc .vmem S1x64x768 .bf16) (harg5 : arg5.IsWhole) (arg6 : Memref sig .tc .vmem S1x768x128 .bf16) (harg6 : arg6.IsWhole) (arg7 : Memref sig .tc .vmem S256x768 .bf16) (harg7 : arg7.IsWhole) (arg8 : Memref sig .tc .vmem S256x768 .f32) (harg8 : arg8.IsWhole) (arg9 : Memref sig .tc .vmem S1x4x768 .f32) (harg9 : arg9.IsWhole) (arg10 : Memref sig .tc .vmem S1x768x128 .f32) (harg10 : arg10.IsWhole) (arg11 : Memref sig .tc .vmem S1x768x64 .f32) (harg11 : arg11.IsWhole) (arg12 : Memref sig .tc .vmem S256x8448 .f32) (harg12 : arg12.IsWhole) (hc0 : ¬cond0_0 i) (hc1 : ¬cond0_1 i)
    (x0 : Vec F S4x128x768 .bf16) (x1 : Vec F S1x768x128 .bf16) (x2 : Vec F S1x64x768 .bf16) (x3 : Vec F S1x768x128 .bf16) (x4 : Vec F S256x768 .bf16) (x5 : Vec F S256x768 .f32) (x6 : Vec F S1x4x768 .f32)
    (d7 : Vec F S1x768x128 .f32) (d8 : Vec F S1x768x64 .f32) (d9 : Vec F S256x8448 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare d7 ∗ owns (c : Thread nD τ) arg11 fullShare d8 ∗ owns (c : Thread nD τ) arg12 fullShare d9
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (out7 x0 x1 x3 x4 x5 x6 d7) ∗ owns (c : Thread nD τ) arg11 fullShare (out8 x0 x1 x4 x6 d8) ∗ owns (c : Thread nD τ) arg12 fullShare (out9 x0 x1 x2 x3 x4 x5 x6 i d9)) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12) K := by
    intro E K
    simp only [cc0_attn_bwd_eq_skeleton]; unfold cc0_attn_bwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; swap
      · iexact H7
      · ipureintro
        unfold out7; rw [View.read_writes_full arg10.view _ inb_S1x768x128_S1x768x128_0_0_0]
        delta run_B.sl.cst_43 run_B.sl.r run_B.sl.r_1 run_B.sl.r_2 run_B.sl.r_3 run_B.sl.r_4 run_B.sl.r_5 run_B.sl.r_6 run_B.sl.r_7 run_B.sl.r_8 run_B.sl.r_9 run_B.sl.r_10 run_B.sl.r_11 run_B.sl.r_12 run_B.sl.r_13 run_B.sl.r_14 run_B.sl.r_15 run_B.sl.r_16 run_B.sl.r_17 run_B.sl.r_18 run_B.sl.r_19 run_B.sl.r_20
        simp only [read_q0 harg3, read_d0 harg7, read_o0 harg8, read_l0 harg9, read_q1 harg3, read_d1 harg7, read_o1 harg8, read_l1 harg9, read_q2 harg3, read_d2 harg7, read_o2 harg8, read_l2 harg9, read_q3 harg3, read_d3 harg7, read_o3 harg8, read_l3 harg9, read_v harg6,
          View.readAt_full arg4.view _ inb_S1x768x128_S1x768x128_0_0_0, View.readAt_full arg5.view _ inb_S1x64x768_S1x64x768_0_0_0, harg4.read_unread, harg5.read_unread,
          score, dprob, pay12_eq, pay13_eq, pay21_eq, pay22_eq, pay30_eq, pay31_eq, pay26_eq, pay27_eq, pay35_eq, pay36_eq, pay41_eq]
        rw [View.readAt_full arg10.view _ inb_S1x768x128_S1x768x128_0_0_0, harg10.read_unread]
    isplitl [H8]
    · iexists _; isplitr; swap
      · iexact H8
      · ipureintro
        unfold out8; rw [View.read_writes_full arg11.view _ inb_S1x768x64_S1x768x64_0_0_0]
        delta run_B.sl.cst_43 run_B.sl.r run_B.sl.r_1 run_B.sl.r_2 run_B.sl.r_3 run_B.sl.r_4 run_B.sl.r_5 run_B.sl.r_6 run_B.sl.r_7 run_B.sl.r_8 run_B.sl.r_9 run_B.sl.r_10 run_B.sl.r_11 run_B.sl.r_12 run_B.sl.r_13 run_B.sl.r_14 run_B.sl.r_15 run_B.sl.r_16 run_B.sl.r_17 run_B.sl.r_18 run_B.sl.r_19 run_B.sl.r_20
        simp only [read_q0 harg3, read_d0 harg7, read_o0 harg8, read_l0 harg9, read_q1 harg3, read_d1 harg7, read_o1 harg8, read_l1 harg9, read_q2 harg3, read_d2 harg7, read_o2 harg8, read_l2 harg9, read_q3 harg3, read_d3 harg7, read_o3 harg8, read_l3 harg9, read_v harg6,
          View.readAt_full arg4.view _ inb_S1x768x128_S1x768x128_0_0_0, View.readAt_full arg5.view _ inb_S1x64x768_S1x64x768_0_0_0, harg4.read_unread, harg5.read_unread,
          score, dprob, pay12_eq, pay13_eq, pay21_eq, pay22_eq, pay30_eq, pay31_eq, pay26_eq, pay27_eq, pay35_eq, pay36_eq, pay41_eq]
        rw [View.readAt_full arg11.view _ inb_S1x768x64_S1x768x64_0_0_0, harg11.read_unread]
    · iexists _; isplitr; swap
      · iexact H9
      · ipureintro
        unfold out9 dqRows
        simp only [View.read_writes_cons_put _ _ _ _ _ rfl, View.writes_nil, harg12.read_unread]
        delta run_B.sl.cst_43 run_B.sl.r run_B.sl.r_1 run_B.sl.r_2 run_B.sl.r_3 run_B.sl.r_4 run_B.sl.r_5 run_B.sl.r_6 run_B.sl.r_7 run_B.sl.r_8 run_B.sl.r_9 run_B.sl.r_10 run_B.sl.r_11 run_B.sl.r_12 run_B.sl.r_13 run_B.sl.r_14 run_B.sl.r_15 run_B.sl.r_16 run_B.sl.r_17 run_B.sl.r_18 run_B.sl.r_19 run_B.sl.r_20
        simp only [read_q0 harg3, read_d0 harg7, read_o0 harg8, read_l0 harg9, read_q1 harg3, read_d1 harg7, read_o1 harg8, read_l1 harg9, read_q2 harg3, read_d2 harg7, read_o2 harg8, read_l2 harg9, read_q3 harg3, read_d3 harg7, read_o3 harg8, read_l3 harg9, read_v harg6,
          View.readAt_full arg4.view _ inb_S1x768x128_S1x768x128_0_0_0, View.readAt_full arg5.view _ inb_S1x64x768_S1x64x768_0_0_0, harg4.read_unread, harg5.read_unread,
          score, dprob, pay12_eq, pay13_eq, pay21_eq, pay22_eq, pay30_eq, pay31_eq, pay28_eq, pay37_eq, pay42_eq]
        delta run_B.sl.v92 run_B.sl.v129 run_B.sl.v160
        simp only [View.readAt_eq_ld, harg12.read_unread]

set_option maxHeartbeats 1000000 in
/-- A point where dk and dv start from zero and dq goes on. -/
theorem run_C (c : Dev nD) (i : grid0.Coords) (arg3 : Memref sig .tc .vmem S4x128x768 .bf16) (harg3 : arg3.IsWhole) (arg4 : Memref sig .tc .vmem S1x768x128 .bf16) (harg4 : arg4.IsWhole) (arg5 : Memref sig .tc .vmem S1x64x768 .bf16) (harg5 : arg5.IsWhole) (arg6 : Memref sig .tc .vmem S1x768x128 .bf16) (harg6 : arg6.IsWhole) (arg7 : Memref sig .tc .vmem S256x768 .bf16) (harg7 : arg7.IsWhole) (arg8 : Memref sig .tc .vmem S256x768 .f32) (harg8 : arg8.IsWhole) (arg9 : Memref sig .tc .vmem S1x4x768 .f32) (harg9 : arg9.IsWhole) (arg10 : Memref sig .tc .vmem S1x768x128 .f32) (harg10 : arg10.IsWhole) (arg11 : Memref sig .tc .vmem S1x768x64 .f32) (harg11 : arg11.IsWhole) (arg12 : Memref sig .tc .vmem S256x8448 .f32) (harg12 : arg12.IsWhole) (hc0 : ¬cond0_0 i) (hc1 : cond0_1 i)
    (x0 : Vec F S4x128x768 .bf16) (x1 : Vec F S1x768x128 .bf16) (x2 : Vec F S1x64x768 .bf16) (x3 : Vec F S1x768x128 .bf16) (x4 : Vec F S256x768 .bf16) (x5 : Vec F S256x768 .f32) (x6 : Vec F S1x4x768 .f32)
    (d7 : Vec F S1x768x128 .f32) (d8 : Vec F S1x768x64 .f32) (d9 : Vec F S256x8448 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare d7 ∗ owns (c : Thread nD τ) arg11 fullShare d8 ∗ owns (c : Thread nD τ) arg12 fullShare d9
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (out7 x0 x1 x3 x4 x5 x6 k0_pay3) ∗ owns (c : Thread nD τ) arg11 fullShare (out8 x0 x1 x4 x6 k0_pay4) ∗ owns (c : Thread nD τ) arg12 fullShare (out9 x0 x1 x2 x3 x4 x5 x6 i d9)) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12) K := by
    intro E K
    simp only [cc0_attn_bwd_eq_skeleton]; unfold cc0_attn_bwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; swap
      · iexact H7
      · ipureintro
        unfold out7; rw [View.read_writes_full arg10.view _ inb_S1x768x128_S1x768x128_0_0_0]
        delta run_C.sl.cst_43 run_C.sl.r run_C.sl.r_1 run_C.sl.r_2 run_C.sl.r_3 run_C.sl.r_4 run_C.sl.r_5 run_C.sl.r_6 run_C.sl.r_7 run_C.sl.r_8 run_C.sl.r_9 run_C.sl.r_10 run_C.sl.r_11 run_C.sl.r_12 run_C.sl.r_13 run_C.sl.r_14 run_C.sl.r_15 run_C.sl.r_16 run_C.sl.r_17 run_C.sl.r_18 run_C.sl.r_19 run_C.sl.r_20
        simp only [read_q0 harg3, read_d0 harg7, read_o0 harg8, read_l0 harg9, read_q1 harg3, read_d1 harg7, read_o1 harg8, read_l1 harg9, read_q2 harg3, read_d2 harg7, read_o2 harg8, read_l2 harg9, read_q3 harg3, read_d3 harg7, read_o3 harg8, read_l3 harg9, read_v harg6,
          View.readAt_full arg4.view _ inb_S1x768x128_S1x768x128_0_0_0, View.readAt_full arg5.view _ inb_S1x64x768_S1x64x768_0_0_0, harg4.read_unread, harg5.read_unread,
          score, dprob, pay12_eq, pay13_eq, pay21_eq, pay22_eq, pay30_eq, pay31_eq, pay26_eq, pay27_eq, pay35_eq, pay36_eq, pay41_eq]
        delta run_C.sl.v166 run_C.sl.H7_1
        rw [View.readCov_full arg10.view inb_S1x768x128_S1x768x128_0_0_0 inb_S1x768x128_S1x768x128_0_0_0]
    isplitl [H8]
    · iexists _; isplitr; swap
      · iexact H8
      · ipureintro
        unfold out8; rw [View.read_writes_full arg11.view _ inb_S1x768x64_S1x768x64_0_0_0]
        delta run_C.sl.cst_43 run_C.sl.r run_C.sl.r_1 run_C.sl.r_2 run_C.sl.r_3 run_C.sl.r_4 run_C.sl.r_5 run_C.sl.r_6 run_C.sl.r_7 run_C.sl.r_8 run_C.sl.r_9 run_C.sl.r_10 run_C.sl.r_11 run_C.sl.r_12 run_C.sl.r_13 run_C.sl.r_14 run_C.sl.r_15 run_C.sl.r_16 run_C.sl.r_17 run_C.sl.r_18 run_C.sl.r_19 run_C.sl.r_20
        simp only [read_q0 harg3, read_d0 harg7, read_o0 harg8, read_l0 harg9, read_q1 harg3, read_d1 harg7, read_o1 harg8, read_l1 harg9, read_q2 harg3, read_d2 harg7, read_o2 harg8, read_l2 harg9, read_q3 harg3, read_d3 harg7, read_o3 harg8, read_l3 harg9, read_v harg6,
          View.readAt_full arg4.view _ inb_S1x768x128_S1x768x128_0_0_0, View.readAt_full arg5.view _ inb_S1x64x768_S1x64x768_0_0_0, harg4.read_unread, harg5.read_unread,
          score, dprob, pay12_eq, pay13_eq, pay21_eq, pay22_eq, pay30_eq, pay31_eq, pay26_eq, pay27_eq, pay35_eq, pay36_eq, pay41_eq]
        delta run_C.sl.v172 run_C.sl.H8_1
        rw [View.readCov_full arg11.view inb_S1x768x64_S1x768x64_0_0_0 inb_S1x768x64_S1x768x64_0_0_0]
    · iexists _; isplitr; swap
      · iexact H9
      · ipureintro
        unfold out9 dqRows
        simp only [View.read_writes_cons_put _ _ _ _ _ rfl, View.writes_nil, harg12.read_unread]
        delta run_C.sl.cst_43 run_C.sl.r run_C.sl.r_1 run_C.sl.r_2 run_C.sl.r_3 run_C.sl.r_4 run_C.sl.r_5 run_C.sl.r_6 run_C.sl.r_7 run_C.sl.r_8 run_C.sl.r_9 run_C.sl.r_10 run_C.sl.r_11 run_C.sl.r_12 run_C.sl.r_13 run_C.sl.r_14 run_C.sl.r_15 run_C.sl.r_16 run_C.sl.r_17 run_C.sl.r_18 run_C.sl.r_19 run_C.sl.r_20
        simp only [read_q0 harg3, read_d0 harg7, read_o0 harg8, read_l0 harg9, read_q1 harg3, read_d1 harg7, read_o1 harg8, read_l1 harg9, read_q2 harg3, read_d2 harg7, read_o2 harg8, read_l2 harg9, read_q3 harg3, read_d3 harg7, read_o3 harg8, read_l3 harg9, read_v harg6,
          View.readAt_full arg4.view _ inb_S1x768x128_S1x768x128_0_0_0, View.readAt_full arg5.view _ inb_S1x64x768_S1x64x768_0_0_0, harg4.read_unread, harg5.read_unread,
          score, dprob, pay12_eq, pay13_eq, pay21_eq, pay22_eq, pay30_eq, pay31_eq, pay28_eq, pay37_eq, pay42_eq]
        delta run_C.sl.v92 run_C.sl.v129 run_C.sl.v160
        simp only [View.readAt_eq_ld, harg12.read_unread]

end Cert.KernelIdeal.Attn

end
-- ==== Proof.AttnFrame.lean ====
module

public import proofs.«01_k».proof.Proof.AttnRun
public import Idealize.ShloMosaic.Lib.Claim

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hcond0_0 : ∀ t : Fin cfg0.N, cond0_0 (grid0.coords t) ↔ t.val % 121 = 0 := (fun t => by
  have ht : t.val < 484 := Nat.lt_of_lt_of_eq t.isLt N_0
  have e1 : (grid0.coords t 1).val = t.val / 11 % 11 := Pipeline.Grid.coords_val t 1 (by decide) rfl
  have e2 : (grid0.coords t 2).val = t.val / 1 % 11 := Pipeline.Grid.coords_val t 2 (by decide) rfl
  simp only [cond0_0, e1, e2]; word_cmp : ∀ t : Fin grid0.N, _)

theorem hcond0_1 : ∀ t : Fin cfg0.N, cond0_1 (grid0.coords t) ↔ t.val % 11 = 0 := (fun t => by
  have ht : t.val < 484 := Nat.lt_of_lt_of_eq t.isLt N_0
  have e2 : (grid0.coords t 2).val = t.val / 1 % 11 := Pipeline.Grid.coords_val t 2 (by decide) rfl
  simp only [cond0_1, e2]; word_cmp : ∀ t : Fin grid0.N, _)

/-! ## What the outputs' blocks hold after each point -/

/-- The three blocks after a point, from what they held before. -/
def step (c : Dev nD) (t : Fin cfg0.N) (d7 : Vec F S1x768x128 .f32) (d8 : Vec F S1x768x64 .f32) (d9 : Vec F S256x8448 .f32) :
    Vec F S1x768x128 .f32 × Vec F S1x768x64 .f32 × Vec F S256x8448 .f32 :=
  (out7 (iblk m c 0 t) (iblk m c 1 t) (iblk m c 3 t) (iblk m c 4 t) (iblk m c 5 t) (iblk m c 6 t) d7, out8 (iblk m c 0 t) (iblk m c 1 t) (iblk m c 4 t) (iblk m c 6 t) d8, out9 (iblk m c 0 t) (iblk m c 1 t) (iblk m c 2 t) (iblk m c 3 t) (iblk m c 4 t) (iblk m c 5 t) (iblk m c 6 t) (grid0.coords t) d9)

/-- The three blocks after point `n`: dk and dv start from zero at a key block's first query block, dq at a group's first
point. -/
def outs (c : Dev nD) : (n : ℕ) → n < cfg0.N → Vec F S1x768x128 .f32 × Vec F S1x768x64 .f32 × Vec F S256x8448 .f32
  | 0, h => step m c ⟨0, h⟩ k0_pay3 k0_pay4 k0_pay2
  | n + 1, h =>
    let p := outs c n (Nat.lt_of_succ_lt h)
    step m c ⟨n + 1, h⟩ (if (n + 1) % 11 = 0 then k0_pay3 else p.1) (if (n + 1) % 11 = 0 then k0_pay4 else p.2.1)
      (if (n + 1) % 121 = 0 then k0_pay2 else p.2.2)

theorem outs_A (c : Dev nD) (t : Fin cfg0.N) (h : t.val % 121 = 0) :
    outs m c t.val t.isLt = step m c t k0_pay3 k0_pay4 k0_pay2 := by
  obtain ⟨n, hn⟩ := t
  cases n with
  | zero => rfl
  | succ n =>
    have h : (n + 1) % 121 = 0 := h
    have h1 : (n + 1) % 11 = 0 := by omega
    show step m c ⟨n + 1, hn⟩ _ _ _ = _
    rw [if_pos h1, if_pos h1, if_pos h]

theorem outs_C (c : Dev nD) (t : Fin cfg0.N) (h0 : ¬t.val % 121 = 0) (h : t.val % 11 = 0) :
    outs m c t.val t.isLt = step m c t k0_pay3 k0_pay4 (outs m c (t.val - 1) (Nat.lt_of_le_of_lt (Nat.sub_le _ _) t.isLt)).2.2 := by
  obtain ⟨n, hn⟩ := t
  cases n with
  | zero => exact absurd rfl h0
  | succ n =>
    have h0 : ¬(n + 1) % 121 = 0 := h0
    have h : (n + 1) % 11 = 0 := h
    show step m c ⟨n + 1, hn⟩ _ _ _ = _
    rw [if_pos h, if_pos h, if_neg h0]
    rfl

theorem outs_B (c : Dev nD) (t : Fin cfg0.N) (h : ¬t.val % 11 = 0) :
    outs m c t.val t.isLt = step m c t (outs m c (t.val - 1) (Nat.lt_of_le_of_lt (Nat.sub_le _ _) t.isLt)).1
      (outs m c (t.val - 1) (Nat.lt_of_le_of_lt (Nat.sub_le _ _) t.isLt)).2.1
      (outs m c (t.val - 1) (Nat.lt_of_le_of_lt (Nat.sub_le _ _) t.isLt)).2.2 := by
  obtain ⟨n, hn⟩ := t
  cases n with
  | zero => exact absurd rfl h
  | succ n =>
    have h : ¬(n + 1) % 11 = 0 := h
    have h0 : ¬(n + 1) % 121 = 0 := by omega
    show step m c ⟨n + 1, hn⟩ _ _ _ = _
    rw [if_neg h, if_neg h, if_neg h0]
    rfl

/-- The pipeline's proof data on core `c`: the arrays as the region finds them; after a point each input's buffer at its
block and each output's at `outs`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outs m c t.val t.isLt).1
    | ⟨8, _⟩ => (outs m c t.val t.isLt).2.1
    | ⟨9, _⟩ => (outs m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outs m c t.val t.isLt).1 := by dsimp only [dats]
theorem after0_8 (c : Dev nD) (t : Fin cfg0.N) : (dats m 0 c).after 8 t = (outs m c t.val t.isLt).2.1 := by dsimp only [dats]
theorem after0_9 (c : Dev nD) (t : Fin cfg0.N) : (dats m 0 c).after 9 t = (outs m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- Where dk's block is not written back before the point, its buffer holds what the point before left. -/
theorem before0_7 (c : Dev nD) (t : Fin cfg0.N) (h : ¬t.val % 11 = 0) (d) :
    (dats m 0 c).before 7 t d = (outs m c (t.val - 1) (Nat.lt_of_le_of_lt (Nat.sub_le _ _) t.isLt)).1 := by
  rw [Dat.before_out_kept _ 7 rfl t (by omega) (Bool.eq_false_iff.mpr fun h => by have := (flush0_7 _).mp h; dsimp only at this; omega)
    (fun _ => rfl) (fun _ _ => rfl)]
  dsimp only [dats]

/-- The same of dv's. -/
theorem before0_8 (c : Dev nD) (t : Fin cfg0.N) (h : ¬t.val % 11 = 0) (d) :
    (dats m 0 c).before 8 t d = (outs m c (t.val - 1) (Nat.lt_of_le_of_lt (Nat.sub_le _ _) t.isLt)).2.1 := by
  rw [Dat.before_out_kept _ 8 rfl t (by omega) (Bool.eq_false_iff.mpr fun h => by have := (flush0_8 _).mp h; dsimp only at this; omega)
    (fun _ => rfl) (fun _ _ => rfl)]
  dsimp only [dats]

/-- The same of dq's. -/
theorem before0_9 (c : Dev nD) (t : Fin cfg0.N) (h : ¬t.val % 121 = 0) (d) :
    (dats m 0 c).before 9 t d = (outs m c (t.val - 1) (Nat.lt_of_le_of_lt (Nat.sub_le _ _) t.isLt)).2.2 := by
  rw [Dat.before_out_kept _ 9 rfl t (by omega) (Bool.eq_false_iff.mpr fun h => by have := (flush0_9 _).mp h; dsimp only at this; omega)
    (fun _ => rfl) (fun _ _ => rfl)]
  dsimp only [dats]

/-! ## The body at a point -/

abbrev ms0_0 (t : Fin cfg0.N) : Memref sig .tc .vmem S4x128x768 .bf16 := win0_0.stage (cfg0.slots t 0)
abbrev ms0_1 (t : Fin cfg0.N) : Memref sig .tc .vmem S1x768x128 .bf16 := win0_1.stage (cfg0.slots t 1)
abbrev ms0_2 (t : Fin cfg0.N) : Memref sig .tc .vmem S1x64x768 .bf16 := win0_2.stage (cfg0.slots t 2)
abbrev ms0_3 (t : Fin cfg0.N) : Memref sig .tc .vmem S1x768x128 .bf16 := win0_3.stage (cfg0.slots t 3)
abbrev ms0_4 (t : Fin cfg0.N) : Memref sig .tc .vmem S256x768 .bf16 := win0_4.stage (cfg0.slots t 4)
abbrev ms0_5 (t : Fin cfg0.N) : Memref sig .tc .vmem S256x768 .f32 := win0_5.stage (cfg0.slots t 5)
abbrev ms0_6 (t : Fin cfg0.N) : Memref sig .tc .vmem S1x4x768 .f32 := win0_6.stage (cfg0.slots t 6)
abbrev ms0_7 (t : Fin cfg0.N) : Memref sig .tc .vmem S1x768x128 .f32 := win0_7.stage (cfg0.slots t 7)
abbrev ms0_8 (t : Fin cfg0.N) : Memref sig .tc .vmem S1x768x64 .f32 := win0_8.stage (cfg0.slots t 8)
abbrev ms0_9 (t : Fin cfg0.N) : Memref sig .tc .vmem S256x8448 .f32 := win0_9.stage (cfg0.slots t 9)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 2400000 in
/-- The body at any point leaves in the outputs' blocks what `outs` says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  by_cases h0 : t.val % 121 = 0
  · have h1 : t.val % 11 = 0 := by omega
    rw [outs_A m c t h0]
    dsimp only [step]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_A c (grid0.coords t) _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  by_cases h1 : t.val % 11 = 0
  · rw [outs_C m c t h0 h1]
    simp only [before0_9 m c t h0]
    dsimp only [step]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [outs_B m c t h1]
    simp only [before0_7 m c t h1, before0_8 m c t h1, before0_9 m c t h0]
    dsimp only [step]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every fair execution of the whole program ends with every array of the call at what `outs` gives, the other buffers as the
host lines leave them, and every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run's memory alone. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: every fair execution ends with the arguments unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Attn

end
-- ==== Proof.AttnTwin.lean ====
/- The kernel as printed and its idealization are one text: one run serves both frames. -/
module

public import proofs.«01_k».proof.Proof.AttnFrame
public import proofs.«01_k».proof.Proof.Gen.Kernel
public import proofs.«01_k».proof.Defs
public import Idealize.ShloMosaic.Lib.Tactic.ProgEq

@[expose] public section

set_option maxRecDepth 16384

noncomputable section

namespace Cert.Kernel.Attn

open Idealize.ShloMosaic Idealize.SL.Sem

/-- The frame's statement over the idealization's text, at the floats of the machine. -/
def Twin : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

theorem twin : Twin := fun m g _ => Cert.KernelIdeal.Attn.frame_main (F := Bits) m g

theorem same : Cert.quiescent_Kernel = Twin := by sl_kernel_rfl

/-- The frame of the kernel as printed. -/
theorem quiescent : Cert.quiescent_Kernel := same ▸ twin

end Cert.Kernel.Attn

end
-- ==== Proof.AttnReal.lean ====
/- Attention's gradient over the reals: the softmax weights of one query row, their gradient, and the few facts about
   extended reals that carry a computation on finite numbers over to the reals. -/
module

public import Idealize.ShloMosaic.Lib.Pointwise
public import Idealize.ShloMosaic.Lib.IdealHost

@[expose] public section

noncomputable section

namespace Cert.Attn

open Idealize.ShloMosaic
open scoped BigOperators

/-- The score of a query row `q` against key row `j`. -/
def sc (q : Fin 64 → ℝ) (K : Fin 8208 → Fin 64 → ℝ) (j : Fin 8208) : ℝ := (∑ d, K j d * q d) * (1 / 8)

/-- The softmax weight of key row `j` for the query row `q`. -/
def wt (q : Fin 64 → ℝ) (K : Fin 8208 → Fin 64 → ℝ) (j : Fin 8208) : ℝ :=
  Real.exp (sc q K j) / ∑ l, Real.exp (sc q K l)

/-- The cotangent of the weight of key row `j`, from the cotangent row `c` of the output. -/
def dw (c : Fin 64 → ℝ) (V : Fin 8208 → Fin 64 → ℝ) (j : Fin 8208) : ℝ := ∑ d, c d * V j d

/-- The cotangents of the weights, averaged by the weights. -/
def mean (q : Fin 64 → ℝ) (K : Fin 8208 → Fin 64 → ℝ) (c : Fin 64 → ℝ) (V : Fin 8208 → Fin 64 → ℝ) : ℝ :=
  ∑ j, wt q K j * dw c V j

/-- The cotangent of the score of key row `j`. -/
def ds (q : Fin 64 → ℝ) (K : Fin 8208 → Fin 64 → ℝ) (c : Fin 64 → ℝ) (V : Fin 8208 → Fin 64 → ℝ) (j : Fin 8208) : ℝ :=
  wt q K j * (dw c V j - mean q K c V)

variable (q : Fin 64 → ℝ) (K : Fin 8208 → Fin 64 → ℝ) (c : Fin 64 → ℝ) (V : Fin 8208 → Fin 64 → ℝ)

/-- The sum of exponentials is positive. -/
theorem sum_exp_pos (f : Fin 8208 → ℝ) : 0 < ∑ l, Real.exp (f l) :=
  Finset.sum_pos (fun _ _ => Real.exp_pos _) ⟨0, Finset.mem_univ _⟩

/-- The weights do not change when one number is taken off every score. -/
theorem wt_shift (M : ℝ) (j : Fin 8208) :
    Real.exp (sc q K j - M) / ∑ l, Real.exp (sc q K l - M) = wt q K j := by
  unfold wt
  simp only [Real.exp_sub, ← Finset.sum_div]
  rw [div_div_div_cancel_right₀ (Real.exp_pos M).ne']

/-- The weight as one exponential, of the score less the logarithm of the sum. -/
theorem wt_log (M : ℝ) (j : Fin 8208) :
    Real.exp (sc q K j - (M + Real.log (∑ l, Real.exp (sc q K l - M)))) = wt q K j := by
  rw [← wt_shift q K M, ← sub_sub, Real.exp_sub, Real.exp_log (sum_exp_pos _)]

/-- The cotangent of a score by the quotient rule, with one number taken off every score. -/
theorem ds_shift (M : ℝ) (j : Fin 8208) :
    (dw c V j / (∑ l, Real.exp (sc q K l - M))
      + -∑ x, dw c V x * (1 / ((∑ l, Real.exp (sc q K l - M)) * ∑ l, Real.exp (sc q K l - M))) * Real.exp (sc q K x - M))
      * Real.exp (sc q K j - M) = ds q K c V j := by
  unfold ds mean
  simp only [← wt_shift q K M]
  have hp := (sum_exp_pos fun j => sc q K j - M).ne'
  generalize (∑ l, Real.exp (sc q K l - M)) = L at hp ⊢
  have e : ∀ x, dw c V x * (1 / (L * L)) * Real.exp (sc q K x - M) = (1 / L) * (Real.exp (sc q K x - M) / L * dw c V x) := by
    intro x; field_simp
  simp only [e, ← Finset.mul_sum]
  ring

/-- A sum of reals, in the extended reals. -/
theorem coe_sum {ι : Type} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

/-- The greatest of finitely many reals, taken from −∞ on, is a real. -/
theorem fold_max_real {n : ℕ} [NeZero n] (f : Fin n → ℝ) :
    ∃ M : ℝ, (Finset.univ.fold max (⊥ : EReal) fun k => ((f k : ℝ) : EReal)) = (M : EReal) := by
  have key : ∀ s : Finset (Fin n), s.Nonempty →
      ∃ M : ℝ, (s.fold max (⊥ : EReal) fun k => ((f k : ℝ) : EReal)) = (M : EReal) := by
    intro s hs
    induction hs using Finset.Nonempty.cons_induction with
    | singleton a => exact ⟨f a, by simp⟩
    | cons a s ha hs ih =>
      obtain ⟨M, hM⟩ := ih
      refine ⟨max (f a) M, ?_⟩
      rw [Finset.fold_cons, hM]
      exact (EReal.coe_strictMono.monotone.map_max).symm
  exact key _ ⟨0, Finset.mem_univ _⟩

/-- A quotient of reals, in the extended reals. -/
theorem div_real (a b : ℝ) (hb : b ≠ 0) : Ideal.div (a : EReal) (b : EReal) = ((a / b : ℝ) : EReal) := by
  rw [Ideal.div_coe hb, one_div, ← EReal.coe_mul, div_eq_mul_inv]

/-- The pattern of one eighth. -/
theorem ofBits_eighth : Ideal.ofBits .f32 0x3E000000#32 = (((1 : ℝ) / 8 : ℝ) : EReal) := by
  simp [Ideal.ofBits, Ideal.ieee, -EReal.coe_mul]; norm_num

/-- The pattern of −∞. -/
theorem ofBits_bot : Ideal.ofBits .f32 0xFF800000#32 = (⊥ : EReal) := by
  simp [Ideal.ofBits, Ideal.ieee]

end Cert.Attn

end
-- ==== Proof.AttnPoint.lean ====
/- What a grid point of the attention's backward call adds to its three outputs, entry by entry, over the extended reals. -/
module

public import proofs.«01_k».proof.Proof.AttnReal
public import proofs.«01_k».proof.Proof.AttnFrame
public import Idealize.ShloMosaic.Lib.Pipeline.ValueKit

@[expose] public section

set_option maxRecDepth 16384

noncomputable section

namespace Cert.KernelIdeal.Attn

open Cert.KernelIdeal Cert.KernelIdeal.Gen Cert.Attn
open Idealize.ShloMosaic Idealize.ShloMosaic.TcCoe Idealize.SL.Sem
open scoped BigOperators

variable (x0 : FVec Ideal S4x128x768 .bf16) (x1 : FVec Ideal S1x768x128 .bf16) (x2 : FVec Ideal S1x64x768 .bf16)
  (x3 : FVec Ideal S1x768x128 .bf16) (x4 : FVec Ideal S256x768 .bf16) (x5 : FVec Ideal S256x768 .f32) (x6 : FVec Ideal S1x4x768 .f32)

/-- Row `d` of head `r` in a block that stacks the four heads. -/
abbrev row (r : Fin 4) (d : Fin 64) : Fin 256 := ⟨64 * r.val + d.val, by omega⟩

/-- Lane `d` of a row of 128. -/
abbrev lane (d : Fin 64) : Fin 128 := ⟨d.val, by omega⟩

/-- The weight of key `k` for query `y` of head `r`, from the blocks. -/
def pw (r : Fin 4) (k y : Fin 768) : EReal :=
  Ideal.exp ((∑ l : Fin 128, x1 (ix3 0 k l) * x0 (ix3 r l y)) - x6 (ix3 0 r y))

/-- The cotangent of their score, from the blocks. -/
def dsc (r : Fin 4) (k y : Fin 768) : EReal :=
  pw x0 x1 x6 r k y * ((∑ d : Fin 64, x3 (ix3 0 k (lane d)) * x4 (ix2 (row r d) y)) - ∑ d : Fin 64, x4 (ix2 (row r d) y) * x5 (ix2 (row r d) y))

theorem score_at (r : Fin 4) (k y : Fin 768) :
    score (F := Ideal) x0 x1 r (ix2 k y) = ∑ l : Fin 128, x1 (ix3 0 k l) * x0 (ix3 r l y) := by
  pointwise [score, k0_pay10, k0_pay5, qOf]

theorem dprob_at (r : Fin 4) (k y : Fin 768) :
    dprob (F := Ideal) x3 x4 r (ix2 k y) = ∑ d : Fin 64, x3 (ix3 0 k (lane d)) * x4 (ix2 (row r d) y) := by
  pointwise [dprob, k0_pay11, k0_pay7, vOf, rowsOf]

theorem weight_at (r : Fin 4) (k y : Fin 768) :
    k0_pay15 (F := Ideal) (score x0 x1 r) (lseOf x6 r) (ix2 k y) = pw x0 x1 x6 r k y := by
  pointwise [k0_pay15, lseOf]
  rw [score_at]; rfl

theorem dscore_at (r : Fin 4) (k y : Fin 768) :
    k0_pay16 (F := Ideal) (score x0 x1 r) (dprob x3 x4 r) (rowsOf x4 r) (rowsOf x5 r) (lseOf x6 r) (ix2 k y) = dsc x0 x1 x3 x4 x5 x6 r k y := by
  pointwise [k0_pay16, k0_pay14]
  rw [weight_at, dprob_at]
  pointwise [rowsOf]
  rfl

theorem dscore_last_at (r : Fin 4) (k y : Fin 768) :
    k0_pay40 (F := Ideal) (score x0 x1 r) (dprob x3 x4 r) (rowsOf x4 r) (rowsOf x5 r) (lseOf x6 r) (ix2 k y) = dsc x0 x1 x3 x4 x5 x6 r k y :=
  dscore_at x0 x1 x3 x4 x5 x6 r k y

/-- One head's part of dv. -/
theorem dv_head (acc : FVec Ideal S768x64 .f32) (r : Fin 4) (k : Fin 768) (d : Fin 64) :
    k0_pay17 acc (score x0 x1 r) (rowsOf x4 r) (lseOf x6 r) (ix2 k d) = acc (ix2 k d) + ∑ y, pw x0 x1 x6 r k y * x4 (ix2 (row r d) y) := by
  pointwise [k0_pay17, k0_pay14]
  simp only [weight_at]
  pointwise [rowsOf]

/-- One head's part of dk. -/
theorem dk_head (acc : FVec Ideal S768x128 .f32) (r : Fin 4) (k : Fin 768) (l : Fin 128) :
    k0_pay18 acc (score x0 x1 r) (dprob x3 x4 r) (qOf x0 r) (rowsOf x4 r) (rowsOf x5 r) (lseOf x6 r) (ix2 k l)
      = acc (ix2 k l) + ∑ y, dsc x0 x1 x3 x4 x5 x6 r k y * x0 (ix3 r l y) := by
  pointwise [k0_pay18]
  simp only [dscore_at]
  pointwise [qOf]

/-- What a point adds to dv. -/
theorem out8_at (d8 : FVec Ideal S1x768x64 .f32) (k : Fin 768) (d : Fin 64) : out8 (F := Ideal) x0 x1 x4 x6 d8 (ix3 0 k d)
    = d8 (ix3 0 k d) + ∑ r, ∑ y, pw x0 x1 x6 r k y * x4 (ix2 (row r d) y) := by
  unfold out8
  pointwise [k0_pay1]
  simp only [dv_head, Fin.sum_univ_four]
  pointwise [k0_pay9]

/-- What a point adds to dk. -/
theorem out7_at (d7 : FVec Ideal S1x768x128 .f32) (k : Fin 768) (l : Fin 128) : out7 (F := Ideal) x0 x1 x3 x4 x5 x6 d7 (ix3 0 k l)
    = d7 (ix3 0 k l) + ∑ r, ∑ y, dsc x0 x1 x3 x4 x5 x6 r k y * x0 (ix3 r l y) := by
  unfold out7
  pointwise [k0_pay43]
  simp only [dk_head, dscore_last_at, Fin.sum_univ_four]
  pointwise [k0_pay8, qOf]

/-- What a point adds to a head's rows of dq at its columns. -/
theorem dqRows_at (r : Fin 4) (acc : FVec Ideal S64x768 .f32) (d : Fin 64) (y : Fin 768) : dqRows (F := Ideal) x0 x1 x2 x3 x4 x5 x6 r acc (ix2 d y)
    = acc (ix2 d y) + ∑ k, x2 (ix3 0 d k) * dsc x0 x1 x3 x4 x5 x6 r k y := by
  unfold dqRows
  pointwise [k0_pay19, k0_pay6]
  simp only [dscore_at]

/-- Head `r`'s rows replaced at one block of columns, read at row `d` of head `s`. -/
theorem put_head (x x' : FVec Ideal S256x8448 .f32) (r : Fin 4) (b : ℕ) (off : Fin 2 → ℕ) (inb : ∀ b, off b + S64x768.size b ≤ S256x8448.size b)
    (h0 : off 0 = 64 * r.val) (h1 : off 1 = 768 * b) (s : Fin 4) (d : Fin 64) (y : Fin 8448) :
    VecWindow.put (s := S256x8448) x off S64x768.size (dqRows (F := Ideal) x0 x1 x2 x3 x4 x5 x6 r
      (View.ld (Val := Elt Ideal) (e' := .f32) x' (Rect.unit (s := S256x8448) off S64x768.size inb))) (ix2 (row s d) y)
    = if s = r ∧ y.val / 768 = b
      then x' (ix2 (row s d) y) + ∑ k, x2 (ix3 0 d k) * dsc x0 x1 x3 x4 x5 x6 r k ⟨y.val % 768, Nat.mod_lt _ (by decide)⟩
      else x (ix2 (row s d) y) := by
  unfold VecWindow.put
  by_cases h : s = r ∧ y.val / 768 = b
  · obtain ⟨rfl, hb⟩ := h
    have hm : ∀ a, off a ≤ ((ix2 (row s d) y : S256x8448.Idx) a).val ∧ ((ix2 (row s d) y : S256x8448.Idx) a).val < off a + S64x768.size a := by
      intro a
      fin_cases a
      · show off 0 ≤ 64 * s.val + d.val ∧ 64 * s.val + d.val < off 0 + 64
        omega
      · show off 1 ≤ y.val ∧ y.val < off 1 + 768
        omega
    rw [dif_pos hm, if_pos ⟨rfl, hb⟩]
    have e : (Rect.unitLocal (s := S256x8448) (off := off) (size := S64x768.size) (ix2 (row s d) y) hm : S64x768.Idx)
        = ix2 d ⟨y.val % 768, Nat.mod_lt _ (by decide)⟩ := by
      funext a
      fin_cases a
      · exact Fin.ext (show 64 * s.val + d.val - off 0 = d.val by omega)
      · exact Fin.ext (show y.val - off 1 = y.val % 768 by omega)
    refine (congrArg _ e).trans ((dqRows_at ..).trans (congrArg (· + _) ?_))
    refine congrArg x' (funext fun a => ?_)
    fin_cases a
    · exact Fin.ext (show off 0 + 1 * d.val = 64 * s.val + d.val by omega)
    · exact Fin.ext (show off 1 + 1 * (y.val % 768) = y.val by omega)
  · have hm : ¬∀ a, off a ≤ ((ix2 (row s d) y : S256x8448.Idx) a).val ∧ ((ix2 (row s d) y : S256x8448.Idx) a).val < off a + S64x768.size a := by
      intro hall
      have e0 : off 0 ≤ 64 * s.val + d.val ∧ 64 * s.val + d.val < off 0 + 64 := hall 0
      have e1 : off 1 ≤ y.val ∧ y.val < off 1 + 768 := hall 1
      exact h ⟨Fin.ext (by omega), by omega⟩
    rw [dif_neg hm, if_neg h]

/-- What a point adds to dq: at its own columns one product, elsewhere nothing. -/
theorem out9_at (i : grid0.Coords) (d9 : FVec Ideal S256x8448 .f32) (s : Fin 4) (d : Fin 64) (y : Fin 8448) :
    out9 (F := Ideal) x0 x1 x2 x3 x4 x5 x6 i d9 (ix2 (row s d) y)
    = d9 (ix2 (row s d) y) + if y.val / 768 = (i 2).val
        then ∑ k, x2 (ix3 0 d k) * dsc x0 x1 x3 x4 x5 x6 s k ⟨y.val % 768, Nat.mod_lt _ (by decide)⟩ else 0 := by
  unfold out9
  dsimp only
  rw [put_head _ _ _ _ _ _ _ _ _ 3 (i 2).val _ _ (off4_row i) (by rw [k0_off4_eq]; rfl) s d y,
    put_head _ _ _ _ _ _ _ _ _ 2 (i 2).val _ _ (off3_row i) (by rw [k0_off3_eq]; rfl) s d y,
    put_head _ _ _ _ _ _ _ _ _ 1 (i 2).val _ _ (off2_row i) (by rw [k0_off2_eq]; rfl) s d y,
    put_head _ _ _ _ _ _ _ _ _ 0 (i 2).val _ _ (off1_row i) (by rw [k0_off1_eq]; rfl) s d y]
  by_cases h : y.val / 768 = (i 2).val
  · fin_cases s <;> simp [h]
  · simp [h]

end Cert.KernelIdeal.Attn

end
-- ==== Proof.AttnRef.lean ====
/- The reference's three results on finite arguments, entry by entry, over the reals. -/
module

public import proofs.«01_k».proof.Proof.AttnReal
public import proofs.«01_k».proof.Proof.Gen.ReferenceIdeal.Run
public import proofs.«01_k».proof.Proof.Gen.ReferenceIdeal.Read

@[expose] public section

set_option maxRecDepth 16384

noncomputable section

namespace Cert.ReferenceIdeal.Attn

open Cert.ReferenceIdeal Cert.ReferenceIdeal.Gen Cert.ReferenceIdeal.Read Cert.Attn
open Idealize.ShloMosaic Idealize.ShloMosaic.TcCoe Idealize.SL.Sem
open scoped BigOperators

variable (x0 : FVec Ideal S1x8208x16x64 .f32) (x1 x2 : FVec Ideal S1x8208x4x64 .f32) (x3 : FVec Ideal S1x8208x1024 .f32)
  (q : Fin 8208 → Fin 16 → Fin 64 → ℝ) (k v : Fin 8208 → Fin 4 → Fin 64 → ℝ) (ct : Fin 8208 → Fin 1024 → ℝ)

/-- Query head `r` of group `g`. -/
abbrev hd (g r : Fin 4) : Fin 16 := ⟨g.val * 4 + r.val, by omega⟩

/-- Column `d` of that head in the joined output. -/
abbrev col (g r : Fin 4) (d : Fin 64) : Fin 1024 := ⟨g.val * 256 + r.val * 64 + d.val, by omega⟩

/-- Group `g`'s rows of an array of keys or values. -/
abbrev grp (k : Fin 8208 → Fin 4 → Fin 64 → ℝ) (g : Fin 4) : Fin 8208 → Fin 64 → ℝ := fun j d => k j g d

/-- One head's cotangent row. -/
abbrev ctr (ct : Fin 8208 → Fin 1024 → ℝ) (g r : Fin 4) (n : Fin 8208) : Fin 64 → ℝ := fun d => ct n (col g r d)

/-- A sum over an axis of extent one, beside a summed-away leading axis of extent one. -/
theorem sum_unit (x : FVec Ideal S1x4x4x8208x1 .f32) (g r : Fin 4) (n : Fin 8208) :
    Ideal.hostReduceAdd reducesTo_S1x4x4x8208x1_S4x4x8208_d0_4 x 0 (ix3 g r n) = x (ix5 0 g r n 0) := by
  rw [Ideal.hostReduceAdd, zero_add]
  refine (Finset.sum_eq_single_of_mem (ix5 0 g r n 0) ?_ ?_)
  · rw [Finset.mem_filter]
    refine ⟨Finset.mem_univ _, funext fun a => Fin.ext ?_⟩
    fin_cases a
    · exact reducesTo_S1x4x4x8208x1_S4x4x8208_d0_4.drop_apply_val_of_eq _ 0 1
    · exact reducesTo_S1x4x4x8208x1_S4x4x8208_d0_4.drop_apply_val_of_eq _ 1 2
    · exact reducesTo_S1x4x4x8208x1_S4x4x8208_d0_4.drop_apply_val_of_eq _ 2 3
  · intro b hb hne
    exfalso
    apply hne
    rw [Finset.mem_filter] at hb
    have e1 := (reducesTo_S1x4x4x8208x1_S4x4x8208_d0_4.drop_apply_val_of_eq b 0 1).symm.trans (congrArg Fin.val (congrFun hb.2 0))
    have e2 := (reducesTo_S1x4x4x8208x1_S4x4x8208_d0_4.drop_apply_val_of_eq b 1 2).symm.trans (congrArg Fin.val (congrFun hb.2 1))
    have e3 := (reducesTo_S1x4x4x8208x1_S4x4x8208_d0_4.drop_apply_val_of_eq b 2 3).symm.trans (congrArg Fin.val (congrFun hb.2 2))
    funext a
    fin_cases a
    · exact Subsingleton.elim (α := Fin 1) _ _
    · exact Fin.ext e1
    · exact Fin.ext e2
    · exact Fin.ext e3
    · exact Subsingleton.elim (α := Fin 1) _ _

section
variable {x0 x1 x2 x3 q k v ct}
variable (h0 : ∀ n h d, x0 (ix4 0 n h d) = ((q n h d : ℝ) : EReal)) (h1 : ∀ n g d, x1 (ix4 0 n g d) = ((k n g d : ℝ) : EReal))
  (h2 : ∀ n g d, x2 (ix4 0 n g d) = ((v n g d : ℝ) : EReal)) (h3 : ∀ n e, x3 (ix3 0 n e) = ((ct n e : ℝ) : EReal))
include h0 h1

/-- The scaled scores. -/
theorem score_at (g r : Fin 4) (n j : Fin 8208) :
    val_main_v4 (F := Ideal) x0 x1 (ix5 0 g r n j) = ((sc (q n (hd g r)) (grp k g) j : ℝ) : EReal) := by
  pointwise [val_main_v4, val_main_v3, val_main_cst, val_main_v2, val_main_v1, val_main_v0]
  simp only [h0, h1, ofBits_eighth, ← EReal.coe_mul, ← coe_sum, sc]

/-- The greatest score of a row is some real. -/
theorem max_at (g r : Fin 4) (n : Fin 8208) : ∃ M : ℝ, val_main_v5 (F := Ideal) x0 x1 (ix4 0 g r n) = (M : EReal) := by
  pointwise [val_main_v5, val_main_cst_0]
  simp only [score_at h0 h1, ofBits_bot]
  exact fold_max_real _

omit h0 h1 in
/-- The greatest score, at every key of its row. -/
theorem max_row_at (g r : Fin 4) (n j : Fin 8208) :
    val_main_v23 (F := Ideal) x0 x1 (ix5 0 g r n j) = val_main_v12 (F := Ideal) x0 x1 (ix4 0 g r n) := by
  pointwise [val_main_v23, val_main_v22]

omit h0 h1 in
/-- The greatest score is not below −∞. -/
theorem max_bot_at (g r : Fin 4) (n : Fin 8208) :
    val_main_v12 (F := Ideal) x0 x1 (ix4 0 g r n) = max ⊥ (val_main_v5 (F := Ideal) x0 x1 (ix4 0 g r n)) := by
  rw [val_main_v12_apply, val_main_v11_apply, val_main_cst_2_apply, Ideal.maximumf_def]
  exact congrArg₂ max ofBits_bot rfl

/-- The exponentials of a row, less some real. -/
theorem exp_at (g r : Fin 4) (n : Fin 8208) : ∃ M : ℝ, ∀ j : Fin 8208, val_main_v25 (F := Ideal) x0 x1 (ix5 0 g r n j)
    = ((Real.exp (sc (q n (hd g r)) (grp k g) j - M) : ℝ) : EReal) := by
  obtain ⟨M, hM⟩ := max_at h0 h1 g r n
  refine ⟨M, fun j => ?_⟩
  rw [val_main_v25_apply, val_main_v24_apply, max_row_at, max_bot_at, hM, score_at h0 h1, max_eq_right bot_le]
  rfl

/-- A row's exponentials and their sum. -/
theorem row_at (g r : Fin 4) (n : Fin 8208) : ∃ M : ℝ,
    (∀ j : Fin 8208, val_main_v25 (F := Ideal) x0 x1 (ix5 0 g r n j)
      = ((Real.exp (sc (q n (hd g r)) (grp k g) j - M) : ℝ) : EReal))
    ∧ val_main_v27 (F := Ideal) x0 x1 (ix5 0 g r n 0)
      = ((∑ j, Real.exp (sc (q n (hd g r)) (grp k g) j - M) : ℝ) : EReal) := by
  obtain ⟨M, hM⟩ := exp_at h0 h1 g r n
  refine ⟨M, hM, ?_⟩
  pointwise [val_main_v27, val_main_v26, val_main_cst_8]
  simp only [hM, coe_sum]

/-- The weights. -/
theorem weight_at (g r : Fin 4) (n j : Fin 8208) :
    val_main_v29 (F := Ideal) x0 x1 (ix5 0 g r n j) = ((wt (q n (hd g r)) (grp k g) j : ℝ) : EReal) := by
  obtain ⟨M, hM, hL⟩ := row_at h0 h1 g r n
  pointwise [val_main_v29, val_main_v28]
  rw [hM, hL, div_real _ _ (sum_exp_pos _).ne', wt_shift]

omit h0 h1 in
include h2 h3 in
/-- The cotangent of the weights. -/
theorem dw_at (g r : Fin 4) (n j : Fin 8208) :
    val_main_v38 (F := Ideal) x2 x3 (ix5 0 g r n j) = ((dw (ctr ct g r n) (grp v g) j : ℝ) : EReal) := by
  pointwise [val_main_v38, val_main_v37, val_main_v36]
  simp only [h2, h3, ← EReal.coe_mul, ← coe_sum, dw]

include h2 h3

/-- The cotangent of the scaled scores. -/
theorem ds_at (g r : Fin 4) (n j : Fin 8208) : val_main_v53 (F := Ideal) x0 x1 x2 x3 (ix5 0 g r n j)
    = ((ds (q n (hd g r)) (grp k g) (ctr ct g r n) (grp v g) j : ℝ) : EReal) := by
  obtain ⟨M, hM, hL⟩ := row_at h0 h1 g r n
  pointwise [val_main_v53, val_main_v52, val_main_v51, val_main_v50, val_main_v49, val_main_cst_11, val_main_v48, val_main_v47]
  rw [sum_unit]
  pointwise [val_main_v46, val_main_v45, val_main_v44, val_main_cst_10, val_main_v43, val_main_v42, val_main_v41,
    val_main_v32, val_main_v31, val_main_v30, val_main_cst_9]
  have hp := (sum_exp_pos fun j => sc (q n (hd g r)) (grp k g) j - M).ne'
  simp only [dw_at h2 h3, hM, hL, ← EReal.coe_mul, ← EReal.coe_one, div_real _ _ hp, div_real _ _ (mul_ne_zero hp hp), ← coe_sum,
    ← EReal.coe_neg, ← EReal.coe_add]
  exact congrArg _ (ds_shift _ _ _ _ M j)

/-- dq, entry by entry. -/
theorem dq_at (n : Fin 8208) (h : Fin 16) (d : Fin 64) : val_main_v61 (F := Ideal) x0 x1 x2 x3 (ix4 0 n h d)
    = ((∑ j, ds (q n (hd ⟨h.val / 4, by omega⟩ ⟨h.val % 4, by omega⟩)) (grp k ⟨h.val / 4, by omega⟩)
        (ctr ct ⟨h.val / 4, by omega⟩ ⟨h.val % 4, by omega⟩ n) (grp v ⟨h.val / 4, by omega⟩) j * (1 / 8) * k j ⟨h.val / 4, by omega⟩ d : ℝ) : EReal) := by
  pointwise [val_main_v61, val_main_v58, val_main_v57, val_main_v56, val_main_v55, val_main_v54, val_main_cst_12, val_main_v0]
  simp only [ds_at h0 h1 h2 h3, h1, ofBits_eighth, ← EReal.coe_mul, ← coe_sum]

/-- dk, entry by entry. -/
theorem dk_at (j : Fin 8208) (g : Fin 4) (d : Fin 64) : val_main_v60 (F := Ideal) x0 x1 x2 x3 (ix4 0 j g d)
    = ((∑ n, ∑ r, ds (q n (hd g r)) (grp k g) (ctr ct g r n) (grp v g) j * (1 / 8) * q n (hd g r) d : ℝ) : EReal) := by
  pointwise [val_main_v60, val_main_v59, val_main_v56, val_main_v55, val_main_v54, val_main_cst_12, val_main_v0]
  simp only [ds_at h0 h1 h2 h3, h0, ofBits_eighth, ← EReal.coe_mul, ← coe_sum]

omit h2 in
/-- dv, entry by entry. -/
theorem dv_at (j : Fin 8208) (g : Fin 4) (d : Fin 64) : val_main_v40 (F := Ideal) x0 x1 x3 (ix4 0 j g d)
    = ((∑ r, ∑ n, ct n (col g r d) * wt (q n (hd g r)) (grp k g) j : ℝ) : EReal) := by
  pointwise [val_main_v40, val_main_v39, val_main_v37, val_main_v36]
  simp only [weight_at h0 h1, h3, ← EReal.coe_mul, ← coe_sum]

end

end Cert.ReferenceIdeal.Attn

end
-- ==== Proof.AttnSum.lean ====
/- The three outputs' arrays after the attention's backward call, entry by entry, as sums over the operands' arrays. -/
module

public import proofs.«01_k».proof.Proof.AttnPoint
public import proofs.«01_k».proof.Proof.AttnRef

@[expose] public section

set_option maxRecDepth 16384

noncomputable section

namespace Cert.KernelIdeal.Attn

open Cert.KernelIdeal Cert.KernelIdeal.Gen Cert.Attn
open Cert.ReferenceIdeal.Attn (hd col)
open Idealize.ShloMosaic Idealize.ShloMosaic.TcCoe Idealize.SL.Sem
open Idealize.ShloMosaic.Pipeline (Dat)
open scoped BigOperators

/-! ## The blocks of a point -/

/-- Every window's block, from the point's number. -/
theorem idx : ∀ t : Fin cfg0.N, win0_0.index t = ![t.val / 121, 0, t.val % 11] ∧ win0_1.index t = ![t.val / 121, t.val / 11 % 11, 0]
    ∧ win0_2.index t = ![t.val / 121, 0, t.val / 11 % 11] ∧ win0_3.index t = ![t.val / 121, t.val / 11 % 11, 0]
    ∧ win0_4.index t = ![t.val / 121, t.val % 11] ∧ win0_5.index t = ![t.val / 121, t.val % 11]
    ∧ win0_6.index t = ![t.val / 121, 0, t.val % 11] ∧ win0_7.index t = ![t.val / 121, t.val / 11 % 11, 0]
    ∧ win0_8.index t = ![t.val / 121, t.val / 11 % 11, 0] ∧ win0_9.index t = ![t.val / 121, 0] :=
  (by decide +kernel : ∀ t : Fin grid0.N, _)

theorem coords2 (t : Fin cfg0.N) : (grid0.coords t 2).val = t.val % 11 := by
  have e2 : (grid0.coords t 2).val = t.val / 1 % 11 := Pipeline.Grid.coords_val t 2 (by decide) rfl
  rw [e2, Nat.div_one]

theorem lt484 (t : Fin cfg0.N) : t.val < 484 := Nat.lt_of_lt_of_eq t.isLt N_0

/-- A point's group of heads. -/
abbrev grpOf (t : Fin cfg0.N) : Fin 4 := ⟨t.val / 121, by have := lt484 t; omega⟩
/-- Key `k` of a point's key block. -/
abbrev keyOf (t : Fin cfg0.N) (k : Fin 768) : Fin 8448 := ⟨t.val / 11 % 11 * 768 + k.val, by omega⟩
/-- Query `y` of a point's query block. -/
abbrev qryOf (t : Fin cfg0.N) (y : Fin 768) : Fin 8448 := ⟨t.val % 11 * 768 + y.val, by omega⟩

variable (m : (ℓ : Loc nD τ sig) → Buf (Elt Ideal) ℓ) (c : Dev nD)

abbrev A0 : FVec Ideal S16x128x8448 .bf16 := V m c main_v19
abbrev A1 : FVec Ideal S4x8448x128 .bf16 := V m c main_v25
abbrev A2 : FVec Ideal S4x64x8448 .bf16 := V m c main_v27
abbrev A3 : FVec Ideal S4x8448x128 .bf16 := V m c main_v31
abbrev A4 : FVec Ideal S1024x8448 .bf16 := V m c main_v35
abbrev A5 : FVec Ideal S1024x8448 .f32 := V m c main_v53
abbrev A6 : FVec Ideal S4x4x8448 .f32 := V m c main_v56

variable (t : Fin cfg0.N)

theorem rd0 (X : FVec Ideal S16x128x8448 .bf16) (r : Fin 4) (l : Fin 128) (y : Fin 768) : (((cfg0.win 0).blk t).view.read (Elt Ideal) X : FVec Ideal S4x128x768 .bf16) (ix3 r l y) = X (ix3 (hd (grpOf t) r) l (qryOf t y)) := by
  blk_ext [idx t]
theorem rd1 (X : FVec Ideal S4x8448x128 .bf16) (k : Fin 768) (l : Fin 128) : (((cfg0.win 1).blk t).view.read (Elt Ideal) X : FVec Ideal S1x768x128 .bf16) (ix3 0 k l) = X (ix3 (grpOf t) (keyOf t k) l) := by
  blk_ext [idx t]
theorem rd2 (X : FVec Ideal S4x64x8448 .bf16) (d : Fin 64) (k : Fin 768) : (((cfg0.win 2).blk t).view.read (Elt Ideal) X : FVec Ideal S1x64x768 .bf16) (ix3 0 d k) = X (ix3 (grpOf t) d (keyOf t k)) := by
  blk_ext [idx t]
theorem rd3 (X : FVec Ideal S4x8448x128 .bf16) (k : Fin 768) (l : Fin 128) : (((cfg0.win 3).blk t).view.read (Elt Ideal) X : FVec Ideal S1x768x128 .bf16) (ix3 0 k l) = X (ix3 (grpOf t) (keyOf t k) l) := by
  blk_ext [idx t]
theorem rd4 (X : FVec Ideal S1024x8448 .bf16) (r : Fin 4) (d : Fin 64) (y : Fin 768) : (((cfg0.win 4).blk t).view.read (Elt Ideal) X : FVec Ideal S256x768 .bf16) (ix2 (row r d) y) = X (ix2 (col (grpOf t) r d) (qryOf t y)) := by
  blk_ext [idx t]
theorem rd5 (X : FVec Ideal S1024x8448 .f32) (r : Fin 4) (d : Fin 64) (y : Fin 768) : (((cfg0.win 5).blk t).view.read (Elt Ideal) X : FVec Ideal S256x768 .f32) (ix2 (row r d) y) = X (ix2 (col (grpOf t) r d) (qryOf t y)) := by
  blk_ext [idx t]
theorem rd6 (X : FVec Ideal S4x4x8448 .f32) (r : Fin 4) (y : Fin 768) : (((cfg0.win 6).blk t).view.read (Elt Ideal) X : FVec Ideal S1x4x768 .f32) (ix3 0 r y) = X (ix3 (grpOf t) r (qryOf t y)) := by
  blk_ext [idx t]
theorem blk0 (r : Fin 4) (l : Fin 128) (y : Fin 768) : (iblk m c 0 t : FVec Ideal S4x128x768 .bf16) (ix3 r l y) = A0 m c (ix3 (hd (grpOf t) r) l (qryOf t y)) := rd0 t (A0 m c) r l y
theorem blk1 (k : Fin 768) (l : Fin 128) : (iblk m c 1 t : FVec Ideal S1x768x128 .bf16) (ix3 0 k l) = A1 m c (ix3 (grpOf t) (keyOf t k) l) := rd1 t (A1 m c) k l
theorem blk2 (d : Fin 64) (k : Fin 768) : (iblk m c 2 t : FVec Ideal S1x64x768 .bf16) (ix3 0 d k) = A2 m c (ix3 (grpOf t) d (keyOf t k)) := rd2 t (A2 m c) d k
theorem blk3 (k : Fin 768) (l : Fin 128) : (iblk m c 3 t : FVec Ideal S1x768x128 .bf16) (ix3 0 k l) = A3 m c (ix3 (grpOf t) (keyOf t k) l) := rd3 t (A3 m c) k l
theorem blk4 (r : Fin 4) (d : Fin 64) (y : Fin 768) : (iblk m c 4 t : FVec Ideal S256x768 .bf16) (ix2 (row r d) y) = A4 m c (ix2 (col (grpOf t) r d) (qryOf t y)) := rd4 t (A4 m c) r d y
theorem blk5 (r : Fin 4) (d : Fin 64) (y : Fin 768) : (iblk m c 5 t : FVec Ideal S256x768 .f32) (ix2 (row r d) y) = A5 m c (ix2 (col (grpOf t) r d) (qryOf t y)) := rd5 t (A5 m c) r d y
theorem blk6 (r : Fin 4) (y : Fin 768) : (iblk m c 6 t : FVec Ideal S1x4x768 .f32) (ix3 0 r y) = A6 m c (ix3 (grpOf t) r (qryOf t y)) := rd6 t (A6 m c) r y

/-! ## The weights over the whole arrays -/

/-- The weight of key `k` for query `n` of head `r` of group `g`. -/
def PW (g r : Fin 4) (k n : Fin 8448) : EReal :=
  Ideal.exp ((∑ l : Fin 128, A1 m c (ix3 g k l) * A0 m c (ix3 (hd g r) l n)) - A6 m c (ix3 g r n))

/-- The cotangent of their score. -/
def DS (g r : Fin 4) (k n : Fin 8448) : EReal :=
  PW m c g r k n * ((∑ d : Fin 64, A3 m c (ix3 g k (lane d)) * A4 m c (ix2 (col g r d) n)) - ∑ d : Fin 64, A4 m c (ix2 (col g r d) n) * A5 m c (ix2 (col g r d) n))

theorem pw_blk (r : Fin 4) (k y : Fin 768) :
    pw (iblk m c 0 t) (iblk m c 1 t) (iblk m c 6 t) r k y = PW m c (grpOf t) r (keyOf t k) (qryOf t y) := by
  unfold pw PW
  simp only [blk0, blk1, blk6]

theorem dsc_blk (r : Fin 4) (k y : Fin 768) :
    dsc (iblk m c 0 t) (iblk m c 1 t) (iblk m c 3 t) (iblk m c 4 t) (iblk m c 5 t) (iblk m c 6 t) r k y = DS m c (grpOf t) r (keyOf t k) (qryOf t y) := by
  unfold dsc DS
  simp only [pw_blk, blk3, blk4, blk5]

/-! ## The run of a key block: dk and dv -/

/-- A point's part of dk. -/
def dkTerm (i : S1x768x128.Idx) : EReal :=
  ∑ r, ∑ y, DS m c (grpOf t) r (keyOf t (i 1)) (qryOf t y) * A0 m c (ix3 (hd (grpOf t) r) (i 2) (qryOf t y))

/-- A point's part of dv. -/
def dvTerm (i : S1x768x64.Idx) : EReal :=
  ∑ r, ∑ y, PW m c (grpOf t) r (keyOf t (i 1)) (qryOf t y) * A4 m c (ix2 (col (grpOf t) r (i 2)) (qryOf t y))

theorem step7 (d7 : FVec Ideal S1x768x128 .f32) (d8 : FVec Ideal S1x768x64 .f32) (d9 : FVec Ideal S256x8448 .f32) (i : S1x768x128.Idx) :
    (step m c t d7 d8 d9).1 i = d7 i + dkTerm m c t i := by
  idx_vars i
  obtain rfl : i0 = 0 := Subsingleton.elim _ _
  dsimp only [step]
  refine (out7_at _ _ _ _ _ _ d7 i1 i2).trans (congrArg (_ + ·) ?_)
  unfold dkTerm
  simp only [dsc_blk, blk0]
  rfl

theorem step8 (d7 : FVec Ideal S1x768x128 .f32) (d8 : FVec Ideal S1x768x64 .f32) (d9 : FVec Ideal S256x8448 .f32) (i : S1x768x64.Idx) :
    (step m c t d7 d8 d9).2.1 i = d8 i + dvTerm m c t i := by
  idx_vars i
  obtain rfl : i0 = 0 := Subsingleton.elim _ _
  dsimp only [step]
  refine (out8_at _ _ _ _ d8 i1 i2).trans (congrArg (_ + ·) ?_)
  unfold dvTerm
  simp only [pw_blk, blk4]
  rfl

theorem outs_first (h : t.val % 11 = 0) : ∃ d9, outs m c t.val t.isLt = step m c t (k0_pay3 (F := Ideal)) (k0_pay4 (F := Ideal)) d9 := by
  by_cases h0 : t.val % 121 = 0
  · exact ⟨_, outs_A m c t h0⟩
  · exact ⟨_, outs_C m c t h0 h⟩

theorem fill7 (i : S1x768x128.Idx) : k0_pay3 (F := Ideal) i = 0 := by pointwise [k0_pay3]
theorem fill8 (i : S1x768x64.Idx) : k0_pay4 (F := Ideal) i = 0 := by pointwise [k0_pay4]
theorem fill9 (i : S256x8448.Idx) : k0_pay2 (F := Ideal) i = 0 := by pointwise [k0_pay2]

/-- dk's block at the last point of a key block. -/
theorem run7 (hr : t.val % 11 = 10) (i : S1x768x128.Idx) : (outs m c t.val t.isLt).1 i
    = ∑ s : Fin 11, dkTerm m c ⟨11 * (t.val / 11) + s.val, Pipeline.run_point_lt_of_flush t hr s⟩ i := by
  refine (Pipeline.eq_sum_fin_of_reset_step_apply_of_flush (fun n h => ((outs m c n h).1 : S1x768x128.Idx → EReal)) 11 (fun _ => 0)
    (dkTerm m c) (fun t h i => ?_) (fun t h i => ?_) t hr i).trans (zero_add _)
  · obtain ⟨d9, e⟩ := outs_first m c t h
    show (outs m c t.val t.isLt).1 i = _
    rw [e, step7, fill7]
  · show (outs m c t.val t.isLt).1 i = _
    rw [outs_B m c t h, step7]

/-- dv's block at the last point of a key block. -/
theorem run8 (hr : t.val % 11 = 10) (i : S1x768x64.Idx) : (outs m c t.val t.isLt).2.1 i
    = ∑ s : Fin 11, dvTerm m c ⟨11 * (t.val / 11) + s.val, Pipeline.run_point_lt_of_flush t hr s⟩ i := by
  refine (Pipeline.eq_sum_fin_of_reset_step_apply_of_flush (fun n h => ((outs m c n h).2.1 : S1x768x64.Idx → EReal)) 11 (fun _ => 0)
    (dvTerm m c) (fun t h i => ?_) (fun t h i => ?_) t hr i).trans (zero_add _)
  · obtain ⟨d9, e⟩ := outs_first m c t h
    show (outs m c t.val t.isLt).2.1 i = _
    rw [e, step8, fill8]
  · show (outs m c t.val t.isLt).2.1 i = _
    rw [outs_B m c t h, step8]

/-- A point of a key block's run: its group and keys are the last point's, its queries the run's block. -/
theorem run_point (hr : t.val % 11 = 10) (s : Fin 11) (k y : Fin 768) (hl : s.val * 768 + y.val < 8448) :
    grpOf ⟨11 * (t.val / 11) + s.val, Pipeline.run_point_lt_of_flush t hr s⟩ = grpOf t
    ∧ keyOf ⟨11 * (t.val / 11) + s.val, Pipeline.run_point_lt_of_flush t hr s⟩ k = keyOf t k
    ∧ qryOf ⟨11 * (t.val / 11) + s.val, Pipeline.run_point_lt_of_flush t hr s⟩ y = ⟨s.val * 768 + y.val, hl⟩ := by
  have hs := s.isLt
  refine ⟨Fin.ext ?_, Fin.ext ?_, Fin.ext ?_⟩
  · show (11 * (t.val / 11) + s.val) / 121 = t.val / 121
    omega
  · show (11 * (t.val / 11) + s.val) / 11 % 11 * 768 + k.val = t.val / 11 % 11 * 768 + k.val
    rw [show (11 * (t.val / 11) + s.val) / 11 = t.val / 11 by omega]
  · show (11 * (t.val / 11) + s.val) % 11 * 768 + y.val = s.val * 768 + y.val
    rw [Nat.mul_add_mod, Nat.mod_eq_of_lt hs]

/-- The entry of dk for key `k` of group `g`. -/
@[irreducible] def dkG (g : Fin 4) (k : Fin 8448) (l : Fin 128) : EReal := ∑ r, ∑ n, DS m c g r k n * A0 m c (ix3 (hd g r) l n)

theorem dk_run (hr : t.val % 11 = 10) (k : Fin 768) (l : Fin 128) :
    ∑ s : Fin 11, dkTerm m c ⟨11 * (t.val / 11) + s.val, Pipeline.run_point_lt_of_flush t hr s⟩ (ix3 0 k l) = dkG m c (grpOf t) (keyOf t k) l := by
  unfold dkG
  refine (Finset.sum_comm).trans (Fin.sum_fin_congr fun r => Fin.sum_mul_add_congr fun s y hl => ?_)
  obtain ⟨hg, hk, hq⟩ := run_point t hr s k y hl
  show DS m c (grpOf _) r (keyOf _ k) (qryOf _ y) * A0 m c (ix3 (hd (grpOf _) r) l (qryOf _ y)) = _
  rw [hg, hk, hq]

/-- dk after the call. -/
theorem dk_arr (g : Fin 4) (k : Fin 8448) (l : Fin 128) : ((dats m 0 c).arrAt 7 (cfgs 0).N : FVec Ideal S4x8448x128 .f32) (ix3 g k l) = dkG m c g k l := by
  refine congrFun ((dats m 0 c).arrAt_eq_of_covers 7 (fun i : S4x8448x128.Idx => dkG m c (i 0) (i 1) (i 2)) (by decide +kernel) fun t hf y => ?_) (ix3 g k l)
  blk_simp
  have hr := (flush0_7 t).mp hf
  rw [after0_7, run7 m c t hr]
  idx_vars y
  obtain rfl : y0 = 0 := Subsingleton.elim _ _
  have e : (win0_7.blk t).view.emb (ix3 0 y1 y2 : S1x768x128.Idx) = ix3 (grpOf t) (keyOf t y1) y2 := by blk_ext [idx t]
  refine (dk_run m c t hr y1 y2).trans ?_
  exact (congrArg (fun i : S4x8448x128.Idx => dkG m c (i 0) (i 1) (i 2)) e).symm

/-- The entry of dv for key `k` of group `g`. -/
@[irreducible] def dvG (g : Fin 4) (k : Fin 8448) (d : Fin 64) : EReal := ∑ r, ∑ n, PW m c g r k n * A4 m c (ix2 (col g r d) n)

theorem dv_run (hr : t.val % 11 = 10) (k : Fin 768) (d : Fin 64) :
    ∑ s : Fin 11, dvTerm m c ⟨11 * (t.val / 11) + s.val, Pipeline.run_point_lt_of_flush t hr s⟩ (ix3 0 k d) = dvG m c (grpOf t) (keyOf t k) d := by
  unfold dvG
  refine (Finset.sum_comm).trans (Fin.sum_fin_congr fun r => Fin.sum_mul_add_congr fun s y hl => ?_)
  obtain ⟨hg, hk, hq⟩ := run_point t hr s k y hl
  show PW m c (grpOf _) r (keyOf _ k) (qryOf _ y) * A4 m c (ix2 (col (grpOf _) r d) (qryOf _ y)) = _
  rw [hg, hk, hq]

/-- dv after the call. -/
theorem dv_arr (g : Fin 4) (k : Fin 8448) (d : Fin 64) : ((dats m 0 c).arrAt 8 (cfgs 0).N : FVec Ideal S4x8448x64 .f32) (ix3 g k d) = dvG m c g k d := by
  refine congrFun ((dats m 0 c).arrAt_eq_of_covers 8 (fun i : S4x8448x64.Idx => dvG m c (i 0) (i 1) (i 2)) (by decide +kernel) fun t hf y => ?_) (ix3 g k d)
  blk_simp
  have hr := (flush0_8 t).mp hf
  rw [after0_8, run8 m c t hr]
  idx_vars y
  obtain rfl : y0 = 0 := Subsingleton.elim _ _
  have e : (win0_8.blk t).view.emb (ix3 0 y1 y2 : S1x768x64.Idx) = ix3 (grpOf t) (keyOf t y1) y2 := by blk_ext [idx t]
  refine (dv_run m c t hr y1 y2).trans ?_
  exact (congrArg (fun i : S4x8448x64.Idx => dvG m c (i 0) (i 1) (i 2)) e).symm

/-! ## The run of a group: dq -/

/-- A point's part of dq's row `d` of head `r`. -/
def dqTerm (r : Fin 4) (d : Fin 64) (n : Fin 8448) : EReal :=
  if n.val / 768 = t.val % 11 then ∑ k, A2 m c (ix3 (grpOf t) d (keyOf t k)) * DS m c (grpOf t) r (keyOf t k) (qryOf t ⟨n.val % 768, Nat.mod_lt _ (by decide)⟩) else 0

theorem step9 (d7 : FVec Ideal S1x768x128 .f32) (d8 : FVec Ideal S1x768x64 .f32) (d9 : FVec Ideal S256x8448 .f32) (r : Fin 4) (d : Fin 64) (n : Fin 8448) :
    (step m c t d7 d8 d9).2.2 (ix2 (row r d) n) = d9 (ix2 (row r d) n) + dqTerm m c t r d n := by
  dsimp only [step]
  refine (out9_at _ _ _ _ _ _ _ _ d9 r d n).trans (congrArg (_ + ·) ?_)
  unfold dqTerm
  rw [coords2]
  simp only [dsc_blk, blk2]

theorem outs_next (h : ¬t.val % 121 = 0) : ∃ d7 d8, outs m c t.val t.isLt
    = step m c t d7 d8 (outs m c (t.val - 1) (Nat.lt_of_le_of_lt (Nat.sub_le _ _) t.isLt)).2.2 := by
  by_cases h0 : t.val % 11 = 0
  · exact ⟨_, _, outs_C m c t h h0⟩
  · exact ⟨_, _, outs_B m c t h0⟩

/-- dq's block at the last point of a group. -/
theorem run9 (hr : t.val % 121 = 120) (r : Fin 4) (d : Fin 64) (n : Fin 8448) : (outs m c t.val t.isLt).2.2 (ix2 (row r d) n)
    = ∑ s : Fin 121, dqTerm m c ⟨121 * (t.val / 121) + s.val, Pipeline.run_point_lt_of_flush t hr s⟩ r d n := by
  refine (Pipeline.eq_sum_fin_of_reset_step_apply_of_flush
    (fun n h (i : Fin 4 × Fin 64 × Fin 8448) => ((outs m c n h).2.2 (ix2 (row i.1 i.2.1) i.2.2) : EReal)) 121 (fun _ => 0)
    (fun t i => dqTerm m c t i.1 i.2.1 i.2.2) (fun t h i => ?_) (fun t h i => ?_) t hr (r, d, n)).trans (zero_add _)
  · show (outs m c t.val t.isLt).2.2 _ = _
    rw [outs_A m c t h, step9, fill9]
  · obtain ⟨d7, d8, e⟩ := outs_next m c t h
    show (outs m c t.val t.isLt).2.2 _ = _
    rw [e, step9]

/-- Of the 121 points of a group the ones at one query block count. -/
theorem sum_column (F : Fin 11 → Fin 11 → EReal) (b : Fin 11) :
    (∑ s : Fin 121, if b.val = s.val % 11 then F ⟨s.val / 11, by omega⟩ ⟨s.val % 11, by omega⟩ else 0) = ∑ j, F j b := by
  refine (Fin.sum_divmod_congr (A := 11) (S := 11) (f := fun j i => if b.val = i.val then F j i else 0) fun s ha hs => rfl).trans ?_
  refine Fin.sum_fin_congr fun j => ?_
  rw [Finset.sum_eq_single b (fun i _ hi => if_neg fun h => hi (Fin.ext h.symm)) (fun h => absurd (Finset.mem_univ _) h), if_pos rfl]

/-- The entry of dq, transposed and unscaled, in row `e`. -/
@[irreducible] def dqG (e : Fin 1024) (n : Fin 8448) : EReal :=
  ∑ k, A2 m c (ix3 (⟨e.val / 256, by omega⟩ : Fin 4) (⟨e.val % 64, by omega⟩ : Fin 64) k) * DS m c ⟨e.val / 256, by omega⟩ ⟨e.val / 64 % 4, by omega⟩ k n

theorem dqG_col (g r : Fin 4) (d : Fin 64) (n : Fin 8448) : dqG m c (col g r d) n = ∑ k, A2 m c (ix3 g d k) * DS m c g r k n := by
  unfold dqG
  have e0 : ∀ h, (⟨(g.val * 256 + r.val * 64 + d.val) / 256, h⟩ : Fin 4) = g := fun _ => Fin.ext (by simp only; omega)
  have e1 : ∀ h, (⟨(g.val * 256 + r.val * 64 + d.val) % 64, h⟩ : Fin 64) = d := fun _ => Fin.ext (by simp only; omega)
  have e2 : ∀ h, (⟨(g.val * 256 + r.val * 64 + d.val) / 64 % 4, h⟩ : Fin 4) = r := fun _ => Fin.ext (by simp only; omega)
  simp only [e0, e1, e2]

theorem dq_run (hr : t.val % 121 = 120) (r : Fin 4) (d : Fin 64) (n : Fin 8448) :
    ∑ s : Fin 121, dqTerm m c ⟨121 * (t.val / 121) + s.val, Pipeline.run_point_lt_of_flush t hr s⟩ r d n = dqG m c (col (grpOf t) r d) n := by
  rw [dqG_col]
  refine (Fin.sum_fin_congr fun s => ?_).trans ((sum_column (fun j i => ∑ k : Fin 768,
    A2 m c (ix3 (grpOf t) d ⟨j.val * 768 + k.val, by omega⟩) * DS m c (grpOf t) r ⟨j.val * 768 + k.val, by omega⟩ n) ⟨n.val / 768, by omega⟩).trans
      (Fin.sum_mul_add_congr fun j k hl => rfl))
  have hs := s.isLt
  have ht := lt484 t
  have e : (121 * (t.val / 121) + s.val) % 11 = s.val % 11 := by omega
  unfold dqTerm
  simp only [e]
  by_cases h : n.val / 768 = s.val % 11
  · rw [if_pos h, if_pos h]
    refine Fin.sum_fin_congr fun k => ?_
    have hg : grpOf ⟨121 * (t.val / 121) + s.val, Pipeline.run_point_lt_of_flush t hr s⟩ = grpOf t :=
      Fin.ext (show (121 * (t.val / 121) + s.val) / 121 = t.val / 121 by omega)
    have hk : keyOf ⟨121 * (t.val / 121) + s.val, Pipeline.run_point_lt_of_flush t hr s⟩ k = ⟨s.val / 11 * 768 + k.val, by omega⟩ :=
      Fin.ext (show (121 * (t.val / 121) + s.val) / 11 % 11 * 768 + k.val = s.val / 11 * 768 + k.val by
        rw [show (121 * (t.val / 121) + s.val) / 11 % 11 = s.val / 11 by omega])
    have hq : qryOf ⟨121 * (t.val / 121) + s.val, Pipeline.run_point_lt_of_flush t hr s⟩ ⟨n.val % 768, Nat.mod_lt _ (by decide)⟩ = n :=
      Fin.ext (show (121 * (t.val / 121) + s.val) % 11 * 768 + n.val % 768 = n.val by rw [e]; omega)
    rw [hg, hk, hq]
  · rw [if_neg h, if_neg h]

/-- dq, transposed and unscaled, after the call. -/
theorem dq_arr (e : Fin 1024) (n : Fin 8448) : ((dats m 0 c).arrAt 9 (cfgs 0).N : FVec Ideal S1024x8448 .f32) (ix2 e n) = dqG m c e n := by
  refine congrFun ((dats m 0 c).arrAt_eq_of_covers 9 (fun i : S1024x8448.Idx => dqG m c (i 0) (i 1)) (by decide +kernel) fun t hf y => ?_) (ix2 e n)
  blk_simp
  have hr := (flush0_9 t).mp hf
  rw [after0_9]
  idx_vars y
  obtain ⟨r, d, rfl⟩ : ∃ r d, y0 = row r d := ⟨⟨y0.val / 64, by omega⟩, ⟨y0.val % 64, by omega⟩, Fin.ext (by show y0.val = 64 * (y0.val / 64) + y0.val % 64; omega)⟩
  have e : (win0_9.blk t).view.emb (ix2 (row r d) y1 : S256x8448.Idx) = ix2 (col (grpOf t) r d) y1 := by blk_ext [idx t]
  rw [e, run9 m c t hr]
  exact dq_run m c t hr r d y1

end Cert.KernelIdeal.Attn

end
-- ==== Proof.AttnHost.lean ====
/- What the host lines before the attention's backward call hand it, entry by entry. -/
module

public import proofs.«01_k».proof.Proof.AttnSum
public import Idealize.ShloMosaic.Lib.StableHlo.RunRead
public import Idealize.ShloMosaic.Lib.WordCmp

@[expose] public section

set_option maxRecDepth 16384

noncomputable section

namespace Cert.KernelIdeal.Attn

open Cert.KernelIdeal Cert.KernelIdeal.Gen Cert.Attn
open Cert.ReferenceIdeal.Attn (hd col)
open Idealize.ShloMosaic Idealize.ShloMosaic.TcCoe Idealize.SL.Sem
open scoped BigOperators

variable (m : (ℓ : Loc nD τ sig) → Buf (Elt Ideal) ℓ) (c : Dev nD)

/-- Row `n` of the sequence, as a row of the padded sequence. -/
abbrev pos (n : Fin 8208) : Fin 8448 := ⟨n.val, by omega⟩

abbrev Q : FVec Ideal S1x8208x16x64 .f32 := m ((c : Thread nD τ).loc main_arg0)
abbrev K : FVec Ideal S1x8208x4x64 .f32 := m ((c : Thread nD τ).loc main_arg1)
abbrev W : FVec Ideal S1x8208x4x64 .f32 := m ((c : Thread nD τ).loc main_arg2)
abbrev C : FVec Ideal S1x8208x1024 .f32 := m ((c : Thread nD τ).loc main_arg3)

/-- The integer zero, as a float. -/
theorem zero_f32 : FloatOps.sitofp (F := Ideal) .f32 (0#32) = (0 : EReal) := by
  show ((((0#32 : BitVec 32).toInt : ℤ) : ℝ) : EReal) = 0
  simp

theorem A0_low (h : Fin 16) (l : Fin 64) (n : Fin 8448) : A0 m c (ix3 h (lane l) n)
    = if p : n.val < 8208 then Q m c (ix4 0 ⟨n.val, p⟩ h l) * Ideal.ofBits .f32 0x3E000000#32 else 0 := by
  unfold A0 V V0
  after_reads_simp
  pointwise
  after_reads_simp
  simp only [StableHlo.TRef.ofBuf_toBuf, StableHlo.TRef.toBuf, StableHlo.TRef.ofBuf, cast_eq, id_eq]
  pointwise
  by_cases p : n.val < 8208 <;> simp [lane, p, l.isLt, zero_f32]

theorem A1_low (g : Fin 4) (k : Fin 8208) (l : Fin 64) : A1 m c (ix3 g (pos k) (lane l)) = K m c (ix4 0 k g l) := by
  unfold A1 V V0
  after_reads_simp
  pointwise
  after_reads_simp
  simp only [StableHlo.TRef.ofBuf_toBuf, StableHlo.TRef.toBuf, StableHlo.TRef.ofBuf, cast_eq, id_eq]
  pointwise

theorem A1_high (g : Fin 4) (k : Fin 8208) (l : Fin 128) (hl : 64 ≤ l.val) : A1 m c (ix3 g (pos k) l) = 0 := by
  unfold A1 V V0
  after_reads_simp
  pointwise
  after_reads_simp
  simp only [StableHlo.TRef.ofBuf_toBuf, StableHlo.TRef.toBuf, StableHlo.TRef.ofBuf, cast_eq, id_eq]
  pointwise
  have e : IntOp.cmpi .sge (BitVec.ofNat 32 k.val) (BitVec.ofNat 32 8208) ≠ 1#1 := by
    have hk := k.isLt
    have h1 : (BitVec.ofNat 32 k.val).toNat = k.val := by simp; omega
    rw [WordCmp.cmpi_sge_of_lt (by rw [h1]; omega) (by simp), h1, decide_eq_false (by simp)]
    decide
  simp [pos, Nat.not_lt.mpr hl, e, Scalar.select]

theorem A2_at (g : Fin 4) (d : Fin 64) (k : Fin 8448) : A2 m c (ix3 g d k)
    = if p : k.val < 8208 then K m c (ix4 0 ⟨k.val, p⟩ g d) else 0 := by
  unfold A2 V V0
  after_reads_simp
  simp only [StableHlo.TRef.ofBuf_toBuf, StableHlo.TRef.toBuf, StableHlo.TRef.ofBuf, cast_eq, id_eq]
  pointwise
  by_cases p : k.val < 8208 <;> simp [p, zero_f32]

theorem A3_low (g : Fin 4) (k : Fin 8208) (l : Fin 64) : A3 m c (ix3 g (pos k) (lane l)) = W m c (ix4 0 k g l) := by
  unfold A3 V V0
  after_reads_simp
  pointwise
  after_reads_simp
  simp only [StableHlo.TRef.ofBuf_toBuf, StableHlo.TRef.toBuf, StableHlo.TRef.ofBuf, cast_eq, id_eq]
  pointwise

theorem A4_at (e : Fin 1024) (n : Fin 8448) : A4 m c (ix2 e n)
    = if p : n.val < 8208 then C m c (ix3 0 ⟨n.val, p⟩ e) else 0 := by
  unfold A4 V V0
  after_reads_simp
  simp only [StableHlo.TRef.ofBuf_toBuf, StableHlo.TRef.toBuf, StableHlo.TRef.ofBuf, cast_eq, id_eq]
  pointwise
  by_cases p : n.val < 8208 <;> simp [p, zero_f32]

abbrev SC : FVec Ideal S4x4x8448x8208 .f32 := V m c main_v40

theorem SC_at (g r : Fin 4) (n : Fin 8208) (j : Fin 8208) : SC m c (ix4 g r (pos n) j)
    = (∑ x, Q m c (ix4 0 n (hd g r) x) * K m c (ix4 0 j g x)) * Ideal.ofBits .f32 0x3E000000#32 := by
  unfold SC V V0
  after_reads_simp
  simp only [StableHlo.TRef.ofBuf_toBuf, StableHlo.TRef.toBuf, StableHlo.TRef.ofBuf, cast_eq, id_eq]
  pointwise
  have hr : g.val * 4 + r.val < 16 := by omega
  simp [pos, n.isLt, hr, hd]

end Cert.KernelIdeal.Attn

end
-- ==== Proof.AttnSoft.lean ====
/- The forward pass's output and log-sum, as the host lines compute them, entry by entry. -/
module

public import proofs.«01_k».proof.Proof.AttnHost

@[expose] public section

set_option maxRecDepth 16384

noncomputable section

namespace Cert.KernelIdeal.Attn

open Cert.KernelIdeal Cert.KernelIdeal.Gen Cert.Attn
open Cert.ReferenceIdeal.Attn (hd col)
open Idealize.ShloMosaic Idealize.ShloMosaic.TcCoe Idealize.SL.Sem
open scoped BigOperators

variable (m : (ℓ : Loc nD τ sig) → Buf (Elt Ideal) ℓ) (c : Dev nD)

/-! The operations, over any arrays. -/

theorem rowMax (X : FVec Ideal S4x4x8448x8208 .f32) (g r : Fin 4) (n : Fin 8448) :
    broadcastInDim S4x4x8448x1 ![0, 1, 2] bcast_S4x4x8448_S4x4x8448x1_0_1_2
      (Host.reduce FloatOps.maximumf X (constant S_ .f32 0xFF800000#32) reducesTo_S4x4x8448x8208_S4x4x8448_d3 h_S_) (ix4 g r n 0)
      = Finset.univ.fold max (Ideal.ofBits .f32 0xFF800000#32) fun x => X (ix4 g r n x) := by
  pointwise

theorem expLess (X : FVec Ideal S4x4x8448x8208 .f32) (Y : FVec Ideal S4x4x8448x1 .f32) (g r : Fin 4) (n : Fin 8448) (j : Fin 8208) :
    Host.exp (subf X (broadcastInDim S4x4x8448x8208 ![0, 1, 2, 3] bcast_S4x4x8448x1_S4x4x8448x8208_0_1_2_3 Y)) (ix4 g r n j)
      = Ideal.exp (X (ix4 g r n j) - Y (ix4 g r n 0)) := by
  pointwise

theorem rowSum (X : FVec Ideal S4x4x8448x8208 .f32) (g r : Fin 4) (n : Fin 8448) :
    broadcastInDim S4x4x8448x1 ![0, 1, 2] bcast_S4x4x8448_S4x4x8448x1_0_1_2
      (Host.reduceAdd X (constant S_ .f32 0x00000000#32) reducesTo_S4x4x8448x8208_S4x4x8448_d3 h_S_) (ix4 g r n 0)
      = ∑ j, X (ix4 g r n j) := by
  pointwise

theorem avg (X : FVec Ideal S4x4x8448x8208 .f32) (Y : FVec Ideal S8208x4x64 .f32) (g r : Fin 4) (n : Fin 8448) (d : Fin 64) :
    Host.dotGeneral dot_S4x4x8448x8208_S8208x4x64_S4x4x8448x64_3_0_12_2_0_1 none X Y (ix4 g r n d)
      = ∑ j, X (ix4 g r n j) * Y (ix3 j g d) := by
  pointwise

theorem quot (X : FVec Ideal S4x4x8448x64 .f32) (Y : FVec Ideal S4x4x8448x1 .f32) (g r : Fin 4) (n : Fin 8448) (d : Fin 64) :
    transpose S4x4x64x8448 [0, 1, 3, 2] (Host.divf X
      (broadcastInDim S4x4x8448x64 ![0, 1, 2, 3] bcast_S4x4x8448x1_S4x4x8448x64_0_1_2_3 Y))
      transposes_S4x4x8448x64_S4x4x64x8448_0_1_3_2 (ix4 g r d n) = Ideal.div (X (ix4 g r n d)) (Y (ix4 g r n 0)) := by
  pointwise

theorem cols (X : FVec Ideal S4x4x64x8448 .f32) (g r : Fin 4) (n : Fin 8448) (d : Fin 64) :
    shapeCast S1024x8448 X shapeCasts_S4x4x64x8448_S1024x8448 (ix2 (col g r d) n) = X (ix4 g r d n) := by
  pointwise
  congr 1
  have h1 : (g.val * 256 + r.val * 64 + d.val) / 256 = g.val := by omega
  have h2 : (g.val * 256 + r.val * 64 + d.val) / 64 % 4 = r.val := by omega
  have h3 : (g.val * 256 + r.val * 64 + d.val) % 64 = d.val := by omega
  simp only [h1, h2, h3]

theorem addLog (X Y : FVec Ideal S4x4x8448x1 .f32) (g r : Fin 4) (n : Fin 8448) :
    addf X (Host.log Y) (ix4 g r n 0) = X (ix4 g r n 0) + Ideal.log (Y (ix4 g r n 0)) := by
  pointwise

theorem flat (X : FVec Ideal S4x4x8448x1 .f32) (g r : Fin 4) (n : Fin 8448) :
    shapeCast S4x4x8448 X shapeCasts_S4x4x8448x1_S4x4x8448 (ix3 g r n) = X (ix4 g r n 0) := by
  pointwise

/-! The arrays, each from those before it. -/

abbrev EX : FVec Ideal S4x4x8448x8208 .f32 := V m c main_v45
abbrev MX : FVec Ideal S4x4x8448x1 .f32 := V m c main_v42
abbrev SM : FVec Ideal S4x4x8448x1 .f32 := V m c main_v47

theorem MX_eq : V m c main_v42 = broadcastInDim S4x4x8448x1 ![0, 1, 2] bcast_S4x4x8448_S4x4x8448x1_0_1_2
    (Host.reduce FloatOps.maximumf (SC m c) (constant S_ .f32 0xFF800000#32) reducesTo_S4x4x8448x8208_S4x4x8448_d3 h_S_) := by
  unfold SC V V0
  after_reads_simp

theorem EX_eq : V m c main_v45 = Host.exp (subf (SC m c)
    (broadcastInDim S4x4x8448x8208 ![0, 1, 2, 3] bcast_S4x4x8448x1_S4x4x8448x8208_0_1_2_3 (MX m c))) := by
  unfold SC MX V V0
  after_reads_simp

theorem SM_eq : V m c main_v47 = broadcastInDim S4x4x8448x1 ![0, 1, 2] bcast_S4x4x8448_S4x4x8448x1_0_1_2
    (Host.reduceAdd (EX m c) (constant S_ .f32 0x00000000#32) reducesTo_S4x4x8448x8208_S4x4x8448_d3 h_S_) := by
  unfold EX V V0
  after_reads_simp

abbrev NU : FVec Ideal S4x4x8448x64 .f32 := V m c main_v49
abbrev WH : FVec Ideal S8208x4x64 .f32 := V m c main_v48
abbrev OT : FVec Ideal S4x4x64x8448 .f32 := V m c main_v52
abbrev LS : FVec Ideal S4x4x8448x1 .f32 := V m c main_v55

theorem WH_at (j : Fin 8208) (g : Fin 4) (d : Fin 64) : WH m c (ix3 j g d) = W m c (ix4 0 j g d) := by
  unfold WH V V0
  after_reads_simp
  pointwise

theorem NU_eq : V m c main_v49 = Host.dotGeneral dot_S4x4x8448x8208_S8208x4x64_S4x4x8448x64_3_0_12_2_0_1 none (EX m c) (WH m c) := by
  unfold EX WH V V0
  after_reads_simp

theorem OT_eq : V m c main_v52 = transpose S4x4x64x8448 [0, 1, 3, 2] (Host.divf (NU m c)
    (broadcastInDim S4x4x8448x64 ![0, 1, 2, 3] bcast_S4x4x8448x1_S4x4x8448x64_0_1_2_3 (SM m c)))
      transposes_S4x4x8448x64_S4x4x64x8448_0_1_3_2 := by
  unfold NU SM V V0
  after_reads_simp

theorem LS_eq : V m c main_v55 = addf (MX m c) (Host.log (SM m c)) := by
  unfold MX SM V V0
  after_reads_simp

theorem A5_eq (i : S1024x8448.Idx) : A5 m c i = shapeCast S1024x8448 (OT m c) shapeCasts_S4x4x64x8448_S1024x8448 i := by
  unfold A5 OT V V0
  after_reads_simp
  rfl

theorem A6_eq (i : S4x4x8448.Idx) : A6 m c i = shapeCast S4x4x8448 (LS m c) shapeCasts_S4x4x8448x1_S4x4x8448 i := by
  unfold A6 LS V V0
  after_reads_simp
  rfl

/-! Their entries. -/

theorem MX_at (g r : Fin 4) (n : Fin 8448) : MX m c (ix4 g r n 0)
    = Finset.univ.fold max (Ideal.ofBits .f32 0xFF800000#32) fun x => SC m c (ix4 g r n x) :=
  (congrFun (MX_eq m c) _).trans (rowMax _ g r n)

theorem EX_at (g r : Fin 4) (n : Fin 8448) (j : Fin 8208) :
    EX m c (ix4 g r n j) = Ideal.exp (SC m c (ix4 g r n j) - MX m c (ix4 g r n 0)) :=
  (congrFun (EX_eq m c) _).trans (expLess _ _ g r n j)

theorem SM_at (g r : Fin 4) (n : Fin 8448) : SM m c (ix4 g r n 0) = ∑ j, EX m c (ix4 g r n j) :=
  (congrFun (SM_eq m c) _).trans (rowSum _ g r n)

theorem NU_at (g r : Fin 4) (n : Fin 8448) (d : Fin 64) :
    NU m c (ix4 g r n d) = ∑ j, EX m c (ix4 g r n j) * WH m c (ix3 j g d) :=
  (congrFun (NU_eq m c) _).trans (avg _ _ g r n d)

theorem OT_at (g r : Fin 4) (n : Fin 8448) (d : Fin 64) :
    OT m c (ix4 g r d n) = Ideal.div (NU m c (ix4 g r n d)) (SM m c (ix4 g r n 0)) :=
  (congrFun (OT_eq m c) _).trans (quot _ _ g r n d)

theorem A5_at (g r : Fin 4) (n : Fin 8448) (d : Fin 64) : A5 m c (ix2 (col g r d) n) = OT m c (ix4 g r d n) :=
  (A5_eq m c _).trans (cols _ g r n d)

theorem A6_at (g r : Fin 4) (n : Fin 8448) :
    A6 m c (ix3 g r n) = MX m c (ix4 g r n 0) + Ideal.log (SM m c (ix4 g r n 0)) :=
  ((A6_eq m c _).trans (flat _ g r n)).trans ((congrFun (LS_eq m c) _).trans (addLog _ _ g r n))

end Cert.KernelIdeal.Attn

end
-- ==== Proof.AttnValue.lean ====
/- The three outputs' arrays after the attention's backward call, on finite arguments, over the reals. -/
module

public import proofs.«01_k».proof.Proof.AttnSoft

@[expose] public section

set_option maxRecDepth 16384

noncomputable section

namespace Cert.KernelIdeal.Attn

open Cert.KernelIdeal Cert.KernelIdeal.Gen Cert.Attn
open Cert.ReferenceIdeal.Attn (hd col grp ctr)
open Idealize.ShloMosaic Idealize.ShloMosaic.TcCoe Idealize.SL.Sem
open scoped BigOperators

/-- A sum over the padded rows whose terms past the sequence are zero. -/
theorem sum_pos (f : Fin 8448 → EReal) (h : ∀ n, 8208 ≤ n.val → f n = 0) : ∑ n, f n = ∑ n, f (pos n) := by
  rw [show (∑ n, f n) = ∑ n : Fin (8208 + 240), f n from rfl, Fin.sum_univ_add]
  have e : (∑ i : Fin 240, f (Fin.natAdd 8208 i)) = 0 :=
    Finset.sum_eq_zero fun i _ => h _ (Nat.le_add_right 8208 i.val)
  rw [e, add_zero]
  rfl

/-- A sum over 128 lanes whose upper terms are zero. -/
theorem sum_lane (f : Fin 128 → EReal) (h : ∀ l, 64 ≤ l.val → f l = 0) : ∑ l, f l = ∑ l, f (lane l) := by
  rw [show (∑ l, f l) = ∑ l : Fin (64 + 64), f l from rfl, Fin.sum_univ_add]
  have e : (∑ i : Fin 64, f (Fin.natAdd 64 i)) = 0 :=
    Finset.sum_eq_zero fun i _ => h _ (Nat.le_add_right 64 i.val)
  rw [e, add_zero]
  rfl

variable (m : (ℓ : Loc nD τ sig) → Buf (Elt Ideal) ℓ) (c : Dev nD)

/-- The four arguments hold these reals. -/
structure Reals (q : Fin 8208 → Fin 16 → Fin 64 → ℝ) (k v : Fin 8208 → Fin 4 → Fin 64 → ℝ) (ct : Fin 8208 → Fin 1024 → ℝ) : Prop where
  q_at : ∀ n h d, Q m c (ix4 0 n h d) = ((q n h d : ℝ) : EReal)
  k_at : ∀ n g d, K m c (ix4 0 n g d) = ((k n g d : ℝ) : EReal)
  v_at : ∀ n g d, W m c (ix4 0 n g d) = ((v n g d : ℝ) : EReal)
  c_at : ∀ n e, C m c (ix3 0 n e) = ((ct n e : ℝ) : EReal)

variable {m c} {q : Fin 8208 → Fin 16 → Fin 64 → ℝ} {k v : Fin 8208 → Fin 4 → Fin 64 → ℝ} {ct : Fin 8208 → Fin 1024 → ℝ}
  (H : Reals m c q k v ct) (g r : Fin 4) (n j : Fin 8208)

include H

theorem SC_real : SC m c (ix4 g r (pos n) j) = ((sc (q n (hd g r)) (grp k g) j : ℝ) : EReal) := by
  rw [SC_at, ofBits_eighth]
  simp only [H.q_at, H.k_at, ← EReal.coe_mul, ← coe_sum]
  simp only [sc, mul_comm]

theorem soft_real : ∃ M : ℝ, (∀ j, EX m c (ix4 g r (pos n) j) = ((Real.exp (sc (q n (hd g r)) (grp k g) j - M) : ℝ) : EReal))
    ∧ SM m c (ix4 g r (pos n) 0) = ((∑ l, Real.exp (sc (q n (hd g r)) (grp k g) l - M) : ℝ) : EReal)
    ∧ A6 m c (ix3 g r (pos n)) = ((M + Real.log (∑ l, Real.exp (sc (q n (hd g r)) (grp k g) l - M)) : ℝ) : EReal) := by
  obtain ⟨M, hM⟩ := fold_max_real fun j => sc (q n (hd g r)) (grp k g) j
  have hX : MX m c (ix4 g r (pos n) 0) = ((M : ℝ) : EReal) := by
    rw [MX_at, ofBits_bot]
    simp only [SC_real H]
    exact hM
  have hE : ∀ j, EX m c (ix4 g r (pos n) j) = ((Real.exp (sc (q n (hd g r)) (grp k g) j - M) : ℝ) : EReal) := by
    intro j
    rw [EX_at, SC_real H, hX, ← EReal.coe_sub, Ideal.exp_coe]
  have hS : SM m c (ix4 g r (pos n) 0) = ((∑ l, Real.exp (sc (q n (hd g r)) (grp k g) l - M) : ℝ) : EReal) := by
    rw [SM_at, coe_sum]
    exact Finset.sum_congr rfl fun j _ => hE j
  refine ⟨M, hE, hS, ?_⟩
  rw [A6_at, hX, hS, Ideal.log_coe, if_neg (not_le.mpr (sum_exp_pos _)), ← EReal.coe_add]

theorem PW_real : PW m c g r (pos j) (pos n) = ((wt (q n (hd g r)) (grp k g) j : ℝ) : EReal) := by
  obtain ⟨M, -, -, h6⟩ := soft_real H g r n
  have hs : (∑ l : Fin 128, A1 m c (ix3 g (pos j) l) * A0 m c (ix3 (hd g r) l (pos n)))
      = ((sc (q n (hd g r)) (grp k g) j : ℝ) : EReal) := by
    rw [sum_lane _ fun l hl => by rw [A1_high m c g j l hl, zero_mul]]
    rw [sc, Finset.sum_mul, coe_sum]
    refine Finset.sum_congr rfl fun l _ => ?_
    rw [A1_low, A0_low, dif_pos n.isLt, H.q_at, H.k_at, ofBits_eighth, ← EReal.coe_mul, ← EReal.coe_mul, mul_assoc]
  rw [PW, hs, h6, ← EReal.coe_sub, Ideal.exp_coe, wt_log]

theorem A5_real (d : Fin 64) : A5 m c (ix2 (col g r d) (pos n)) = ((∑ j, wt (q n (hd g r)) (grp k g) j * v j g d : ℝ) : EReal) := by
  obtain ⟨M, hE, hS, -⟩ := soft_real H g r n
  have hN : NU m c (ix4 g r (pos n) d) = ((∑ j, Real.exp (sc (q n (hd g r)) (grp k g) j - M) * v j g d : ℝ) : EReal) := by
    rw [NU_at, coe_sum]
    exact Finset.sum_congr rfl fun j _ => by rw [hE, WH_at, H.v_at, ← EReal.coe_mul]
  rw [A5_at, OT_at, hN, hS, div_real _ _ (sum_exp_pos _).ne', Finset.sum_div]
  refine congrArg _ (Finset.sum_congr rfl fun j _ => ?_)
  rw [← wt_shift _ _ M, div_mul_eq_mul_div]

theorem A4_real (e : Fin 1024) : A4 m c (ix2 e (pos n)) = ((ct n e : ℝ) : EReal) := by
  rw [A4_at, dif_pos n.isLt]
  exact H.c_at n e

theorem DS_real : DS m c g r (pos j) (pos n) = ((ds (q n (hd g r)) (grp k g) (ctr ct g r n) (grp v g) j : ℝ) : EReal) := by
  rw [DS, PW_real H]
  have e1 : (∑ d : Fin 64, A3 m c (ix3 g (pos j) (lane d)) * A4 m c (ix2 (col g r d) (pos n)))
      = ((dw (ctr ct g r n) (grp v g) j : ℝ) : EReal) := by
    rw [dw, coe_sum]
    refine Finset.sum_congr rfl fun d _ => ?_
    rw [A3_low, A4_real H, H.v_at, ← EReal.coe_mul, mul_comm]
  have e3 : (∑ d, ct n (col g r d) * ∑ x, wt (q n (hd g r)) (grp k g) x * v x g d)
      = mean (q n (hd g r)) (grp k g) (ctr ct g r n) (grp v g) := by
    unfold mean dw
    simp only [Finset.mul_sum]
    rw [Finset.sum_comm]
    exact Finset.sum_congr rfl fun x _ => Finset.sum_congr rfl fun d _ => mul_left_comm _ _ _
  have e2 : (∑ d : Fin 64, A4 m c (ix2 (col g r d) (pos n)) * A5 m c (ix2 (col g r d) (pos n)))
      = ((mean (q n (hd g r)) (grp k g) (ctr ct g r n) (grp v g) : ℝ) : EReal) := by
    rw [← e3, coe_sum]
    refine Finset.sum_congr rfl fun d _ => ?_
    rw [A4_real H, A5_real H, ← EReal.coe_mul]
  rw [e1, e2, ← EReal.coe_sub, ← EReal.coe_mul, ds]

/-- The keys' gradient. -/
theorem dk_real (d : Fin 64) : dkG m c g (pos j) (lane d)
    = ((∑ n, ∑ r, ds (q n (hd g r)) (grp k g) (ctr ct g r n) (grp v g) j * (1 / 8) * q n (hd g r) d : ℝ) : EReal) := by
  unfold dkG
  have e : ∀ r, (∑ n, DS m c g r (pos j) n * A0 m c (ix3 (hd g r) (lane d) n))
      = ((∑ n, ds (q n (hd g r)) (grp k g) (ctr ct g r n) (grp v g) j * (1 / 8) * q n (hd g r) d : ℝ) : EReal) := by
    intro r
    rw [sum_pos _ fun n hn => by rw [A0_low, dif_neg (Nat.not_lt.mpr hn), mul_zero], coe_sum]
    refine Finset.sum_congr rfl fun n _ => ?_
    rw [DS_real H, A0_low, dif_pos n.isLt, ofBits_eighth, H.q_at, ← EReal.coe_mul, ← EReal.coe_mul, mul_assoc, mul_comm (1 / 8 : ℝ)]
  simp only [e, ← coe_sum]
  rw [Finset.sum_comm]

/-- The values' gradient. -/
theorem dv_real (d : Fin 64) : dvG m c g (pos j) d
    = ((∑ r, ∑ n, ct n (col g r d) * wt (q n (hd g r)) (grp k g) j : ℝ) : EReal) := by
  unfold dvG
  rw [coe_sum]
  refine Finset.sum_congr rfl fun r _ => ?_
  rw [sum_pos _ fun n hn => by rw [A4_at, dif_neg (Nat.not_lt.mpr hn), mul_zero], coe_sum]
  refine Finset.sum_congr rfl fun n _ => ?_
  rw [PW_real H, A4_real H, ← EReal.coe_mul, mul_comm]

/-- The queries' gradient, before it is scaled. -/
theorem dq_real (d : Fin 64) : dqG m c (col g r d) (pos n)
    = ((∑ j, k j g d * ds (q n (hd g r)) (grp k g) (ctr ct g r n) (grp v g) j : ℝ) : EReal) := by
  rw [dqG_col, sum_pos _ fun j hj => by rw [A2_at, dif_neg (Nat.not_lt.mpr hj), zero_mul], coe_sum]
  refine Finset.sum_congr rfl fun j _ => ?_
  rw [DS_real H, A2_at, dif_pos j.isLt, H.k_at, ← EReal.coe_mul]

end Cert.KernelIdeal.Attn

end
-- ==== Proof.AttnTail.lean ====
/- What the host lines after the attention's backward call make of its outputs, entry by entry. -/
module

public import proofs.«01_k».proof.Proof.AttnValue

@[expose] public section

set_option maxRecDepth 16384

noncomputable section

namespace Cert.KernelIdeal.Attn

open Cert.KernelIdeal Cert.KernelIdeal.Gen Cert.Attn
open Cert.ReferenceIdeal.Attn (hd col grp ctr)
open Idealize.ShloMosaic Idealize.ShloMosaic.TcCoe Idealize.SL.Sem
open scoped BigOperators

variable (X : Valuation τ sig (Elt Ideal))

abbrev tail : Valuation τ sig (Elt Ideal) := StableHlo.after [hostOps1].flatten X

/-- An entry of the transposed gradient, times one eighth. -/
def scaled (Y : FVec Ideal S1024x8448 .f32) (i : S1024x8448.Idx) : EReal := Y i * Ideal.ofBits .f32 0x3E000000#32

theorem tail_dq (n : Fin 8208) (g r : Fin 4) (d : Fin 64) : (tail X (Proc.devRef .tc main_v64) : FVec Ideal S1x8208x16x64 .f32) (ix4 0 n (hd g r) d)
    = scaled (X (Proc.devRef .tc main_v57_2)) (ix2 (col g r d) (pos n)) := by
  unfold tail
  after_reads_simp
  pointwise
  have e : (⟨(g.val * 4 + r.val) * 64 + d.val, by omega⟩ : Fin 1024) = col g r d := Fin.ext (by simp only; omega)
  exact congrArg (fun e : Fin 1024 => scaled (X (Proc.devRef .tc main_v57_2)) (ix2 e (pos n))) e

theorem tail_dk (n : Fin 8208) (g : Fin 4) (d : Fin 64) : (tail X (Proc.devRef .tc main_v68) : FVec Ideal S1x8208x4x64 .f32) (ix4 0 n g d)
    = (X (Proc.devRef .tc main_v57_0) : FVec Ideal S4x8448x128 .f32) (ix3 g (pos n) (lane d)) := by
  unfold tail
  after_reads_simp
  pointwise

theorem tail_dv (n : Fin 8208) (g : Fin 4) (d : Fin 64) : (tail X (Proc.devRef .tc main_v71) : FVec Ideal S1x8208x4x64 .f32) (ix4 0 n g d)
    = (X (Proc.devRef .tc main_v57_1) : FVec Ideal S4x8448x64 .f32) (ix3 g (pos n) d) := by
  unfold tail
  after_reads_simp
  pointwise

variable (m : (ℓ : Loc nD τ sig) → Buf (Elt Ideal) ℓ) (c : Dev nD)

/-- The results, after the host lines that follow the call. -/
abbrev after (b : Ref sig .tc) : Buf (Elt Ideal) ((c.tc : Thread nD τ).loc b) := Pipeline.afterTail₀ cfgs (dats m) 0 (V0 m) [hostOps1] c b

theorem inj : Function.Injective (Pipeline.arrRef spec0) := by decide

abbrev final : Valuation τ sig (Elt Ideal) := Pipeline.withArrays spec0 c (V0 m c) fun w => (dats m 0 c).arrAt w (cfgs 0).N

theorem final7 : final m c (Proc.devRef .tc main_v57_0) = (dats m 0 c).arrAt 7 (cfgs 0).N := Pipeline.withArrays_arr spec0 inj c _ _ 7
theorem final8 : final m c (Proc.devRef .tc main_v57_1) = (dats m 0 c).arrAt 8 (cfgs 0).N := Pipeline.withArrays_arr spec0 inj c _ _ 8
theorem final9 : final m c (Proc.devRef .tc main_v57_2) = (dats m 0 c).arrAt 9 (cfgs 0).N := Pipeline.withArrays_arr spec0 inj c _ _ 9

section
variable {q : Fin 8208 → Fin 16 → Fin 64 → ℝ} {k v : Fin 8208 → Fin 4 → Fin 64 → ℝ} {ct : Fin 8208 → Fin 1024 → ℝ}
  (H : Reals m c q k v ct) (g r : Fin 4) (n j : Fin 8208) (d : Fin 64)

include H

/-- The queries' gradient, entry by entry. -/
theorem out_dq : (after m c main_v64 : FVec Ideal S1x8208x16x64 .f32) (ix4 0 n (hd g r) d)
    = (((∑ j, k j g d * ds (q n (hd g r)) (grp k g) (ctr ct g r n) (grp v g) j) * (1 / 8) : ℝ) : EReal) := by
  refine (tail_dq (final m c) n g r d).trans ?_
  rw [final9, scaled, ofBits_eighth]
  refine (congrArg (· * (((1 : ℝ) / 8 : ℝ) : EReal)) ((dq_arr m c (col g r d) (pos n)).trans (dq_real H g r n d))).trans ?_
  rw [EReal.coe_mul]

/-- The keys' gradient, entry by entry. -/
theorem out_dk : (after m c main_v68 : FVec Ideal S1x8208x4x64 .f32) (ix4 0 j g d)
    = ((∑ n, ∑ r, ds (q n (hd g r)) (grp k g) (ctr ct g r n) (grp v g) j * (1 / 8) * q n (hd g r) d : ℝ) : EReal) := by
  refine (tail_dk (final m c) j g d).trans ((congrFun (final7 m c) _).trans ?_)
  exact (dk_arr m c g (pos j) (lane d)).trans (dk_real H g j d)

/-- The values' gradient, entry by entry. -/
theorem out_dv : (after m c main_v71 : FVec Ideal S1x8208x4x64 .f32) (ix4 0 j g d)
    = ((∑ r, ∑ n, ct n (col g r d) * wt (q n (hd g r)) (grp k g) j : ℝ) : EReal) := by
  refine (tail_dv (final m c) j g d).trans ((congrFun (final8 m c) _).trans ?_)
  exact (dv_arr m c g (pos j) d).trans (dv_real H g j d)

end

end Cert.KernelIdeal.Attn

end
-- ==== Proof.AttnFinite.lean ====
/- The precondition, entry by entry: every argument holds reals. -/
module

public import proofs.«01_k».proof.Proof.Gen.Pre_finite
public import Idealize.ShloMosaic.Lib.ReduceAll
public import Idealize.ShloMosaic.Lib.Pointwise

@[expose] public section

noncomputable section

namespace Cert.Pre_finite.Attn

open Cert.Pre_finite Cert.Pre_finite.Gen Idealize.ShloMosaic

/-- An entry whose size is under +∞ is a real. -/
theorem real_of_lt {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) :
    ((EReal.toReal (x i) : ℝ) : EReal) = x i := by
  have h' : BitVec.ofBool (decide (max (x i : EReal) (-(x i : EReal)) < Ideal.ofBits .f32 0x7F800000#32)) = 1#1 := h
  have ht : Ideal.ofBits .f32 0x7F800000#32 = (⊤ : EReal) := by simp [Ideal.ofBits, Ideal.ieee]
  rw [ht] at h'
  have hl : max (x i : EReal) (-(x i : EReal)) < ⊤ := by
    by_contra hn
    rw [decide_eq_false hn] at h'
    exact absurd h' (by decide)
  have h1 := (le_max_left _ _).trans_lt hl
  have h2 := (le_max_right _ _).trans_lt hl
  refine EReal.coe_toReal h1.ne fun e => ?_
  rw [e] at h2
  simp at h2

theorem and_one {a b : BitVec 1} (h : IntOp.andi a b = 1#1) : a = 1#1 ∧ b = 1#1 := by
  revert h; revert a b; decide

/-- Under the precondition every argument's entries are reals. -/
theorem reals (x0 : FVec Ideal S1x8208x16x64 .f32) (x1 x2 : FVec Ideal S1x8208x4x64 .f32) (x3 : FVec Ideal S1x8208x1024 .f32)
    (h : fn (F := Ideal) x0 x1 x2 x3 = fun _ => 1#1) :
    (∀ i, ((EReal.toReal (x0 i) : ℝ) : EReal) = x0 i) ∧ (∀ i, ((EReal.toReal (x1 i) : ℝ) : EReal) = x1 i)
      ∧ (∀ i, ((EReal.toReal (x2 i) : ℝ) : EReal) = x2 i) ∧ ∀ i, ((EReal.toReal (x3 i) : ℝ) : EReal) = x3 i := by
  have h0 := congrFun h (fun a => a.elim0)
  unfold fn fn_part1 at h0
  simp only [andi_apply] at h0
  obtain ⟨ha, hb⟩ := and_one h0
  obtain ⟨h1, h2⟩ := and_one ha
  obtain ⟨h3, h4⟩ := and_one hb
  haveI : Subsingleton S_.Idx := ⟨fun a b => funext fun k => k.elim0⟩
  exact ⟨fun i => real_of_lt x0 _ i (Host.reduce_andi_all _ _ _ _ _ h1 i), fun i => real_of_lt x1 _ i (Host.reduce_andi_all _ _ _ _ _ h2 i),
    fun i => real_of_lt x2 _ i (Host.reduce_andi_all _ _ _ _ _ h3 i), fun i => real_of_lt x3 _ i (Host.reduce_andi_all _ _ _ _ _ h4 i)⟩

end Cert.Pre_finite.Attn

end
-- ==== Proof.AttnClaim.lean ====
/- The attention's backward call against the derivative of the reference's attention: the claim. -/
module

public import proofs.«01_k».proof.Proof.AttnTail
public import proofs.«01_k».proof.Proof.AttnFinite
public import proofs.«01_k».proof.Defs
public import Idealize.ShloMosaic.Lib.Claim

@[expose] public section

set_option maxRecDepth 16384

noncomputable section

namespace Cert.Attn

open Idealize.ShloMosaic Idealize.ShloMosaic.TcCoe Idealize.SL.Sem
open Cert.ReferenceIdeal.Attn (hd)
open scoped BigOperators

variable {m : (ℓ : Loc Cert.KernelIdeal.nD Cert.KernelIdeal.τ Cert.KernelIdeal.sig) → Buf (Elt Ideal) ℓ} {c : Dev Cert.KernelIdeal.nD}
  {q : Fin 8208 → Fin 16 → Fin 64 → ℝ} {k v : Fin 8208 → Fin 4 → Fin 64 → ℝ} {ct : Fin 8208 → Fin 1024 → ℝ}

open Cert.KernelIdeal.Attn (Q K W C Reals after out_dq out_dk out_dv)

/-- The queries' gradients agree. -/
theorem eq_dq (H : Reals m c q k v ct) : (after m c Cert.KernelIdeal.main_v64 : FVec Ideal Cert.KernelIdeal.S1x8208x16x64 .f32)
    = Cert.ReferenceIdeal.Read.val_main_v61 (F := Ideal) (Q m c) (K m c) (W m c) (C m c) := by
  funext i
  idx_vars i
  obtain rfl : i0 = 0 := Subsingleton.elim _ _
  obtain ⟨g, r, rfl⟩ : ∃ g r, i2 = hd g r := ⟨⟨i2.val / 4, by omega⟩, ⟨i2.val % 4, by omega⟩, Fin.ext (by show i2.val = i2.val / 4 * 4 + i2.val % 4; omega)⟩
  refine (out_dq m c H g r i1 i3).trans ((Cert.ReferenceIdeal.Attn.dq_at H.q_at H.k_at H.v_at H.c_at i1 (hd g r) i3).trans ?_).symm
  have e0 : ∀ h, (⟨(g.val * 4 + r.val) / 4, h⟩ : Fin 4) = g := fun _ => Fin.ext (by simp only; omega)
  have e1 : ∀ h, (⟨(g.val * 4 + r.val) % 4, h⟩ : Fin 4) = r := fun _ => Fin.ext (by simp only; omega)
  simp only [e0, e1]
  refine congrArg _ ?_
  rw [Finset.sum_mul]
  exact Finset.sum_congr rfl fun j _ => by ring

/-- The keys' gradients agree. -/
theorem eq_dk (H : Reals m c q k v ct) : (after m c Cert.KernelIdeal.main_v68 : FVec Ideal Cert.KernelIdeal.S1x8208x4x64 .f32)
    = Cert.ReferenceIdeal.Read.val_main_v60 (F := Ideal) (Q m c) (K m c) (W m c) (C m c) := by
  funext i
  idx_vars i
  obtain rfl : i0 = 0 := Subsingleton.elim _ _
  exact (out_dk m c H i2 i1 i3).trans (Cert.ReferenceIdeal.Attn.dk_at H.q_at H.k_at H.v_at H.c_at i1 i2 i3).symm

/-- The values' gradients agree. -/
theorem eq_dv (H : Reals m c q k v ct) : (after m c Cert.KernelIdeal.main_v71 : FVec Ideal Cert.KernelIdeal.S1x8208x4x64 .f32)
    = Cert.ReferenceIdeal.Read.val_main_v40 (F := Ideal) (Q m c) (K m c) (C m c) := by
  funext i
  idx_vars i
  obtain rfl : i0 = 0 := Subsingleton.elim _ _
  exact (out_dv m c H i2 i1 i3).trans (Cert.ReferenceIdeal.Attn.dv_at H.q_at H.k_at H.c_at i1 i2 i3).symm

/-- Under the precondition the arguments hold reals. -/
theorem reals_of_pre (hpre : Cert.Pre_KernelIdeal_finite m) (c : Dev Cert.KernelIdeal.nD) : Reals m c
    (fun n h d => EReal.toReal (Q m c (ix4 0 n h d))) (fun n h d => EReal.toReal (K m c (ix4 0 n h d)))
    (fun n h d => EReal.toReal (W m c (ix4 0 n h d))) (fun n e => EReal.toReal (C m c (ix3 0 n e))) := by
  obtain ⟨h0, h1, h2, h3⟩ := Cert.Pre_finite.Attn.reals _ _ _ _ (hpre c)
  exact ⟨fun n h d => (h0 _).symm, fun n h d => (h1 _).symm, fun n h d => (h2 _).symm, fun n e => (h3 _).symm⟩

theorem res_dq (m' : (ℓ : Loc Cert.ReferenceIdeal.nD Cert.ReferenceIdeal.τ Cert.ReferenceIdeal.sig) → Buf (Elt Ideal) ℓ)
    (c : Dev Cert.ReferenceIdeal.nD) {x0 x1 x2 x3}
    (h0 : m' ((c.tc : Thread Cert.ReferenceIdeal.nD Cert.ReferenceIdeal.τ).loc Cert.ReferenceIdeal.main_arg0) = x0)
    (h1 : m' ((c.tc : Thread Cert.ReferenceIdeal.nD Cert.ReferenceIdeal.τ).loc Cert.ReferenceIdeal.main_arg1) = x1)
    (h2 : m' ((c.tc : Thread Cert.ReferenceIdeal.nD Cert.ReferenceIdeal.τ).loc Cert.ReferenceIdeal.main_arg2) = x2)
    (h3 : m' ((c.tc : Thread Cert.ReferenceIdeal.nD Cert.ReferenceIdeal.τ).loc Cert.ReferenceIdeal.main_arg3) = x3) :
    Cert.ReferenceIdeal.Value.res_main_v61 m' c = Cert.ReferenceIdeal.Read.val_main_v61 (F := Ideal) x0 x1 x2 x3
    ∧ Cert.ReferenceIdeal.Value.res_main_v60 m' c = Cert.ReferenceIdeal.Read.val_main_v60 (F := Ideal) x0 x1 x2 x3 := by
  subst h0 h1 h2 h3
  exact ⟨Cert.ReferenceIdeal.Read.val_main_v61_eq m' c, Cert.ReferenceIdeal.Read.val_main_v60_eq m' c⟩

/-- On finite arguments the kernel's three gradients are the derivative of the reference's attention. -/
theorem algebraic : Cert.algebraic_KernelIdeal_ReferenceIdeal_pre_finite := by
  pair_intro
  · run_from Cert.KernelIdeal.Attn.run_main m g
    · exact Cert.KernelIdeal.Gen.W_main_arg0 m _ c
    · exact Cert.KernelIdeal.Gen.W_main_arg1 m _ c
    · exact Cert.KernelIdeal.Gen.W_main_arg2 m _ c
    · exact Cert.KernelIdeal.Gen.W_main_arg3 m _ c
  · run_from Cert.ReferenceIdeal.Value.run m' g'
    · exact (res_dq m' c (hagree c).1 (hagree c).2.1 (hagree c).2.2.1 (hagree c).2.2.2).1.trans (eq_dq (reals_of_pre hpre c)).symm
    · exact (res_dq m' c (hagree c).1 (hagree c).2.1 (hagree c).2.2.1 (hagree c).2.2.2).2.trans (eq_dk (reals_of_pre hpre c)).symm
    · exact (Cert.ReferenceIdeal.Read.val_main_v40_eq _ _ _).trans (eq_dv (reals_of_pre hpre c)).symm

end Cert.Attn

end
-- ==== Proof.MlpTwin.lean ====
/- The MLP kernel as printed and its idealization are one text: one run serves both frames. -/
module

public import proofs.«01_k».proof.Proof.Gen.Kernel2Ideal.Frame
public import proofs.«01_k».proof.Proof.Gen.Kernel2
public import proofs.«01_k».proof.Defs
public import Idealize.ShloMosaic.Lib.Tactic.ProgEq

@[expose] public section

set_option maxRecDepth 16384

noncomputable section

namespace Cert.Kernel2.Mlp

open Idealize.ShloMosaic Idealize.SL.Sem

/-- The frame's statement over the idealization's text, at the floats of the machine. -/
def Twin : Prop :=
  ∀ (m : (ℓ : Loc Cert.Kernel2Ideal.nD Cert.Kernel2Ideal.τ Cert.Kernel2Ideal.sig) → Buf (Elt Bits) ℓ) (g : Dev Cert.Kernel2Ideal.nD → PrngReg), True →
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

theorem twin : Twin := fun m g _ => Cert.Kernel2Ideal.Gen.frame (F := Bits) m g

theorem same : Cert.quiescent_Kernel2 = Twin := by sl_kernel_rfl

/-- The frame of the kernel as printed. -/
theorem quiescent : Cert.quiescent_Kernel2 := same ▸ twin

end Cert.Kernel2.Mlp

end
-- ==== Proof.MlpReal.lean ====
/- The MLP with its residual, the final norm and the loss on one row over the reals: the forward values, and the cotangents
   the backward pass hands on. -/
module

public import proofs.«01_k».proof.Proof.AttnReal

@[expose] public section

noncomputable section

namespace Cert.Mlp

open Idealize.ShloMosaic
open scoped BigOperators

/-- The norm's small constant, as the programs write it. -/
def eps : ℝ := 8796093 / 2 ^ 43

/-- One over the root mean square of a row. -/
def rs (x : Fin 1024 → ℝ) : ℝ := (Real.sqrt ((∑ j, x j * x j) / 1024 + eps))⁻¹

/-- The normed row, before its gain. -/
def nm (x : Fin 1024 → ℝ) (j : Fin 1024) : ℝ := x j * rs x

/-- The gradient through the norm at row `x`, from the cotangent `d` of the normed row. -/
def back (x d : Fin 1024 → ℝ) (j : Fin 1024) : ℝ := rs x * (d j - nm x j * ((∑ i, d i * nm x i) / 1024))

/-- The hidden entries of one normed row. -/
def relu {n : ℕ} (w1 : Fin 1024 → Fin n → ℝ) (h : Fin 1024 → ℝ) (k : Fin n) : ℝ := max (∑ j, h j * w1 j k) 0

/-- What some hidden entries add to the output row. -/
def down {n : ℕ} (w2 : Fin n → Fin 1024 → ℝ) (a : Fin n → ℝ) (j : Fin 1024) : ℝ := ∑ k, (a k * a k) * w2 k j

/-- The cotangents of some hidden entries before the relu, from the cotangent `d` of the output row. -/
def hid {n : ℕ} (w2 : Fin n → Fin 1024 → ℝ) (d : Fin 1024 → ℝ) (a : Fin n → ℝ) (k : Fin n) : ℝ := (∑ j, d j * w2 k j) * (2 * a k)

/-- What some hidden entries' cotangents add to the normed row's cotangent. -/
def up {n : ℕ} (w1 : Fin 1024 → Fin n → ℝ) (b : Fin n → ℝ) (j : Fin 1024) : ℝ := ∑ k, b k * w1 j k

section
variable (gm gf : Fin 1024 → ℝ) (w1 : Fin 1024 → Fin 4096 → ℝ) (w2 : Fin 4096 → Fin 1024 → ℝ) (v : Bool) (x t : Fin 1024 → ℝ)

/-- The normed row with its gain. -/
def h2 (j : Fin 1024) : ℝ := nm x j * gm j
/-- The row after the MLP and the residual. -/
def x2 (j : Fin 1024) : ℝ := x j + down w2 (relu w1 (h2 gm x)) j
/-- The error of the final normed row `y` against its target, zero on the rows that have none. -/
def df (y : Fin 1024 → ℝ) (j : Fin 1024) : ℝ := if v then nm y j * gf j - t j else 0
/-- The cotangent of the row after the MLP. -/
def dx2 (y : Fin 1024 → ℝ) : Fin 1024 → ℝ := back y fun j => df gf v t y j * (1 / 1024) * gf j
/-- The hidden entries' cotangents before the relu. -/
def da : Fin 4096 → ℝ := hid w2 (dx2 gf v t (x2 gm w1 w2 x)) (relu w1 (h2 gm x))
/-- The normed row's cotangent. -/
def dh2 : Fin 1024 → ℝ := up w1 (da gm gf w1 w2 v x t)
/-- The row's gradient. -/
def dx (j : Fin 1024) : ℝ := dx2 gf v t (x2 gm w1 w2 x) j + back x (fun i => dh2 gm gf w1 w2 v x t i * gm i) j
end

theorem eps_pos : 0 < eps := by unfold eps; norm_num

theorem ms_pos (x : Fin 1024 → ℝ) : 0 < (∑ j, x j * x j) / 1024 + eps :=
  add_pos_of_nonneg_of_pos (div_nonneg (Finset.sum_nonneg fun j _ => mul_self_nonneg _) (by norm_num)) eps_pos

/-- The reciprocal root of a positive real. -/
theorem rsqrt_real (a : ℝ) (h : 0 < a) : Ideal.rsqrt (a : EReal) = (((Real.sqrt a)⁻¹ : ℝ) : EReal) := by
  rw [Ideal.rsqrt_coe, if_neg (not_lt.mpr h.le), if_neg h.ne']

theorem rs_real (x : Fin 1024 → ℝ) : Ideal.rsqrt (((∑ j, x j * x j) / 1024 + eps : ℝ) : EReal) = ((rs x : ℝ) : EReal) :=
  rsqrt_real _ (ms_pos x)

theorem rs_sq (x : Fin 1024 → ℝ) : rs x * rs x * ((∑ j, x j * x j) / 1024 + eps) = 1 := by
  have h := ms_pos x
  unfold rs
  generalize (∑ j, x j * x j) / 1024 + eps = a at h ⊢
  rw [← mul_inv, Real.mul_self_sqrt h.le, inv_mul_cancel₀ h.ne']

/-- The gradient through the norm as the chain rule writes it: through the row, and twice through its mean square. -/
theorem back_chain (x d : Fin 1024 → ℝ) (j : Fin 1024) (s : ℝ)
    (hs : s = (∑ i, x i * d i) * (-(1 / 2) * (rs x / ((∑ i, x i * x i) / 1024 + eps))) / 1024) :
    d j * rs x + x j * s + s * x j = back x d j := by
  have h := ms_pos x
  have e : rs x / ((∑ i, x i * x i) / 1024 + eps) = rs x * (rs x * rs x) := by
    rw [div_eq_iff h.ne', mul_assoc, rs_sq, mul_one]
  have e2 : (∑ i, d i * nm x i) = rs x * ∑ i, x i * d i := by
    rw [Finset.mul_sum]
    exact Finset.sum_congr rfl fun i _ => by unfold nm; ring
  rw [hs, e, back, e2, nm]
  ring

/-- The pattern of 1024. -/
theorem ofBits_1024 : Ideal.ofBits .f32 0x44800000#32 = ((1024 : ℝ) : EReal) := by
  simp [Ideal.ofBits, Ideal.ieee, -EReal.coe_mul]; norm_num
/-- The pattern of 1/1024. -/
theorem ofBits_1024th : Ideal.ofBits .f32 0x3A800000#32 = ((1 / 1024 : ℝ) : EReal) := by
  simp [Ideal.ofBits, Ideal.ieee, -EReal.coe_mul]; norm_num
/-- The pattern of one half. -/
theorem ofBits_half : Ideal.ofBits .f32 0x3F000000#32 = ((1 / 2 : ℝ) : EReal) := by
  simp [Ideal.ofBits, Ideal.ieee, -EReal.coe_mul]; norm_num
/-- The pattern of minus one half. -/
theorem ofBits_neg_half : Ideal.ofBits .f32 0xBF000000#32 = ((-(1 / 2) : ℝ) : EReal) := by
  simp [Ideal.ofBits, Ideal.ieee, -EReal.coe_mul]; norm_num
/-- The pattern of two. -/
theorem ofBits_two : Ideal.ofBits .f32 0x40000000#32 = ((2 : ℝ) : EReal) := by
  simp [Ideal.ofBits, Ideal.ieee, -EReal.coe_mul]; norm_num
/-- The pattern of the norm's small constant. -/
theorem ofBits_eps : Ideal.ofBits .f32 0x358637BD#32 = ((eps : ℝ) : EReal) := by
  simp [Ideal.ofBits, Ideal.ieee, -EReal.coe_mul, eps]; norm_num

/-- The hidden axis in eight blocks of 512. -/
abbrev blk (c : Fin 8) (k : Fin 512) : Fin 4096 := ⟨512 * c.val + k.val, by omega⟩

theorem sum_blk (f : Fin 4096 → ℝ) : ∑ k, f k = ∑ c : Fin 8, ∑ k : Fin 512, f (blk c k) := by
  rw [Fin.sum_univ_tiles 8 512 rfl f]
  exact Finset.sum_congr rfl fun c _ => Finset.sum_congr rfl fun k _ => congrArg f (Fin.ext (by show c.val * 512 + k.val = 512 * c.val + k.val; omega))

section
variable (gm gf : Fin 1024 → ℝ) (w1 : Fin 1024 → Fin 4096 → ℝ) (w2 : Fin 4096 → Fin 1024 → ℝ) (t : Fin 1024 → ℝ)

theorem nm_zero : nm (fun _ => 0) = fun _ => 0 := funext fun _ => zero_mul _
theorem h2_zero : h2 gm (fun _ => 0) = fun _ => 0 := funext fun _ => by rw [h2, nm_zero, zero_mul]
theorem relu_zero : relu w1 (fun _ => 0) = fun _ => 0 := funext fun _ => by simp [relu]
theorem back_zero (x : Fin 1024 → ℝ) : back x (fun _ => 0) = fun _ => 0 := funext fun _ => by simp [back]
theorem dx2_zero (y : Fin 1024 → ℝ) : dx2 gf false t y = fun _ => 0 := by
  unfold dx2
  simp only [df, Bool.false_eq_true, if_false, zero_mul]
  exact back_zero y
theorem da_zero : da gm gf w1 w2 false (fun _ => 0) t = fun _ => 0 := funext fun _ => by
  rw [da, dx2_zero, h2_zero, relu_zero]; simp [hid]
theorem dh2_zero : dh2 gm gf w1 w2 false (fun _ => 0) t = fun _ => 0 := funext fun _ => by
  rw [dh2, da_zero]; simp [up]
theorem dx_zero : dx gm gf w1 w2 false (fun _ => 0) t = fun _ => 0 := funext fun _ => by
  rw [dx, dh2_zero, dx2_zero]
  simp only [zero_mul, back_zero, add_zero]
end

/-- Row `n` of the padded sequence, and its target. -/
def xr (x : Fin 8208 → Fin 1024 → ℝ) (n : ℕ) (j : Fin 1024) : ℝ := if h : n < 8208 then x ⟨n, h⟩ j else 0
def tr (y : Fin 8192 → Fin 1024 → ℝ) (n : ℕ) (j : Fin 1024) : ℝ := if h : 16 ≤ n ∧ n < 8208 then y ⟨n - 16, by omega⟩ j else 0

/-- Row `r` has a target. -/
def valid (r : ℕ) : Bool := decide (16 ≤ r) && decide (r < 8208)

section
variable (x : Fin 8208 → Fin 1024 → ℝ) (y : Fin 8192 → Fin 1024 → ℝ) (gm gf : Fin 1024 → ℝ) (w1 : Fin 1024 → Fin 4096 → ℝ) (w2 : Fin 4096 → Fin 1024 → ℝ)

/-- The call's results in row `n` of the padded sequence: the cotangent of the rows, the operands of the weights' gradients. -/
def dxR (n : ℕ) (j : Fin 1024) : ℝ := dx gm gf w1 w2 (valid n) (xr x n) (tr y n) j
def h2R (n : ℕ) (j : Fin 1024) : ℝ := h2 gm (xr x n) j
def daR (n : ℕ) (k : Fin 4096) : ℝ := da gm gf w1 w2 (valid n) (xr x n) (tr y n) k
def sqR (n : ℕ) (k : Fin 4096) : ℝ := relu w1 (h2 gm (xr x n)) k * relu w1 (h2 gm (xr x n)) k
def dx2R (n : ℕ) (j : Fin 1024) : ℝ := dx2 gf (valid n) (tr y n) (x2 gm w1 w2 (xr x n)) j
/-- Row `n`'s difference from its target, and its parts of the loss and of the gains' gradients. -/
def dfR (n : ℕ) (j : Fin 1024) : ℝ := df gf (valid n) (tr y n) (x2 gm w1 w2 (xr x n)) j
def lossT (n : ℕ) : ℝ := (∑ j, dfR x y gm gf w1 w2 n j * dfR x y gm gf w1 w2 n j) * (1 / 1024)
def gfT (j : Fin 1024) (n : ℕ) : ℝ := dfR x y gm gf w1 w2 n j * (1 / 1024) * nm (x2 gm w1 w2 (xr x n)) j
def gmT (j : Fin 1024) (n : ℕ) : ℝ := dh2 gm gf w1 w2 (valid n) (xr x n) (tr y n) j * nm (xr x n) j
/-- The loss, and the gradients of the two gains. -/
def lossR : ℝ := 1 / 2 * ∑ n ∈ Finset.range 8448, lossT x y gm gf w1 w2 n
def gfR (j : Fin 1024) : ℝ := ∑ n ∈ Finset.range 8448, gfT x y gm gf w1 w2 j n
def gmR (j : Fin 1024) : ℝ := ∑ n ∈ Finset.range 8448, gmT x y gm gf w1 w2 j n
end

/-- A sum over rows, block of rows by block of rows. -/
theorem sum_rows (f : ℕ → ℝ) (k : ℕ) : ∑ i ∈ Finset.range k, ∑ p : Fin 384, f (384 * i + p.val) = ∑ n ∈ Finset.range (384 * k), f n := by
  induction k with
  | zero => simp
  | succ k ih =>
    rw [Finset.sum_range_succ, ih, Nat.mul_succ, Finset.sum_range_add, Fin.sum_univ_eq_sum_range fun p => f (384 * k + p)]

theorem xr_row (x : Fin 8208 → Fin 1024 → ℝ) (n : Fin 8208) : xr x n.val = x n := by
  funext j
  unfold xr
  rw [dif_pos n.isLt]

theorem xr_pad (x : Fin 8208 → Fin 1024 → ℝ) (n : ℕ) (h : ¬ n < 8208) : xr x n = fun _ => 0 := by
  funext j
  unfold xr
  rw [dif_neg h]

theorem tr_row (y : Fin 8192 → Fin 1024 → ℝ) (n : Fin 8192) : tr y (16 + n.val) = y n := by
  funext j
  unfold tr
  rw [dif_pos (by omega)]
  exact congrArg (fun i => y i j) (Fin.ext (by show 16 + n.val - 16 = n.val; omega))

theorem valid_row (n : Fin 8192) : valid (16 + n.val) = true := by
  unfold valid
  simp only [Bool.and_eq_true, decide_eq_true_eq]
  omega

theorem valid_pad (n : ℕ) (h : ¬ (16 ≤ n ∧ n < 8208)) : valid n = false := by
  unfold valid
  simpa using h

theorem sum_head (f : ℕ → ℝ) (h : ∀ n, ¬ n < 8208 → f n = 0) : ∑ n ∈ Finset.range 8448, f n = ∑ n : Fin 8208, f n.val := by
  rw [Fin.sum_univ_eq_sum_range]
  refine (Finset.sum_subset (Finset.range_mono (by norm_num)) fun n _ hn => h n fun hl => hn (Finset.mem_range.mpr hl)).symm

theorem sum_mid (f : ℕ → ℝ) (h : ∀ n, ¬ (16 ≤ n ∧ n < 8208) → f n = 0) : ∑ n ∈ Finset.range 8448, f n = ∑ n : Fin 8192, f (16 + n.val) := by
  rw [sum_head f fun n hn => h n fun q => hn q.2, Fin.sum_univ_eq_sum_range, Fin.sum_univ_eq_sum_range fun n => f (16 + n), show 8208 = 16 + 8192 by norm_num,
    Finset.sum_range_add, Finset.sum_eq_zero fun n hn => h n fun q => absurd (Finset.mem_range.mp hn) (by omega), zero_add]

section
variable (x : Fin 8208 → Fin 1024 → ℝ) (y : Fin 8192 → Fin 1024 → ℝ) (gm gf : Fin 1024 → ℝ) (w1 : Fin 1024 → Fin 4096 → ℝ) (w2 : Fin 4096 → Fin 1024 → ℝ)

theorem dfR_row (n : Fin 8192) (h : 16 + n.val < 8208) (j : Fin 1024) : dfR x y gm gf w1 w2 (16 + n.val) j = nm (x2 gm w1 w2 (x ⟨16 + n.val, h⟩)) j * gf j - y n j := by
  unfold dfR df
  rw [valid_row, if_pos rfl, tr_row, ← xr_row x ⟨16 + n.val, h⟩]

theorem dfR_pad (n : ℕ) (h : ¬ (16 ≤ n ∧ n < 8208)) (j : Fin 1024) : dfR x y gm gf w1 w2 n j = 0 := by
  unfold dfR df
  rw [valid_pad n h, if_neg Bool.false_ne_true]

theorem lossR_eq : lossR x y gm gf w1 w2 = 1 / 2 * ∑ n : Fin 8192, lossT x y gm gf w1 w2 (16 + n.val) := by
  unfold lossR
  rw [sum_mid _ fun n h => ?_]
  unfold lossT
  simp only [dfR_pad x y gm gf w1 w2 n h, mul_zero, Finset.sum_const_zero, zero_mul]

theorem gfR_eq (j : Fin 1024) : gfR x y gm gf w1 w2 j = ∑ n : Fin 8208, nm (x2 gm w1 w2 (x n)) j * (dfR x y gm gf w1 w2 n.val j * (1 / 1024)) := by
  unfold gfR
  rw [sum_head _ fun n h => ?_]
  · refine Finset.sum_congr rfl fun n _ => ?_
    unfold gfT
    rw [xr_row, mul_comm]
  · unfold gfT
    rw [dfR_pad x y gm gf w1 w2 n (fun q => h q.2), zero_mul, zero_mul]

theorem gmR_eq (j : Fin 1024) : gmR x y gm gf w1 w2 j = ∑ n : Fin 8208, nm (x n) j * dh2 gm gf w1 w2 (valid n.val) (x n) (tr y n.val) j := by
  unfold gmR
  rw [sum_head _ fun n h => ?_]
  · refine Finset.sum_congr rfl fun n _ => ?_
    unfold gmT
    rw [xr_row, mul_comm]
  · unfold gmT
    rw [xr_pad x n h, nm_zero, mul_zero]

/-- The rows added behind the sequence are zero in every result. -/
theorem h2R_pad (n : ℕ) (h : ¬ n < 8208) (j : Fin 1024) : h2R x gm n j = 0 := by
  unfold h2R
  rw [xr_pad x n h, h2_zero]
theorem sqR_pad (n : ℕ) (h : ¬ n < 8208) (k : Fin 4096) : sqR x gm w1 n k = 0 := by
  unfold sqR
  rw [xr_pad x n h, h2_zero, relu_zero, mul_zero]
theorem dx2R_pad (n : ℕ) (h : ¬ n < 8208) (j : Fin 1024) : dx2R x y gm gf w1 w2 n j = 0 := by
  unfold dx2R
  rw [valid_pad n (fun q => h q.2), dx2_zero]
theorem daR_pad (n : ℕ) (h : ¬ n < 8208) (k : Fin 4096) : daR x y gm gf w1 w2 n k = 0 := by
  unfold daR
  rw [valid_pad n (fun q => h q.2), xr_pad x n h, da_zero]
theorem dxR_pad (n : ℕ) (h : ¬ n < 8208) (j : Fin 1024) : dxR x y gm gf w1 w2 n j = 0 := by
  unfold dxR
  rw [valid_pad n (fun q => h q.2), xr_pad x n h, dx_zero]

theorem relu_cases (h : Fin 1024 → ℝ) (k : Fin 4096) (e : ℝ) : (if 0 < ∑ j, h j * w1 j k then e * (2 * relu w1 h k) else 0) = e * (2 * relu w1 h k) := by
  by_cases p : 0 < ∑ j, h j * w1 j k
  · rw [if_pos p]
  · rw [if_neg p, relu, max_eq_right (not_lt.mp p), mul_zero, mul_zero]
end

end Cert.Mlp

end
-- ==== Proof.MlpPay.lean ====
/- What the MLP call's body computes between its loads and stores, on blocks of reals, as rows of reals. -/
module

public import proofs.«01_k».proof.Proof.MlpReal
public import proofs.«01_k».proof.Proof.Gen.Kernel2Ideal.Skeleton
public import Idealize.ShloMosaic.Lib.Pointwise
public import Idealize.ShloMosaic.Lib.WordCmp

@[expose] public section

set_option maxRecDepth 16384

noncomputable section

namespace Cert.Kernel2Ideal.Mlp

open Cert.Kernel2Ideal Cert.Kernel2Ideal.Gen Cert.Mlp Cert.Attn
open Idealize.ShloMosaic Idealize.ShloMosaic.TcCoe Idealize.SL.Sem
open scoped BigOperators

/-- Blocks of reals. -/
def T (X : Fin 384 → Fin 1024 → ℝ) : S384x1024.Idx → EReal := fun i => ((X (i 0) (i 1) : ℝ) : EReal)
def U (X : Fin 384 → Fin 512 → ℝ) : S384x512.Idx → EReal := fun i => ((X (i 0) (i 1) : ℝ) : EReal)
def C (X : Fin 384 → ℝ) : S384x1.Idx → EReal := fun i => ((X (i 0) : ℝ) : EReal)
def G (X : Fin 1024 → ℝ) : S1x1024.Idx → EReal := fun i => ((X (i 1) : ℝ) : EReal)
def L (X : ℝ) : S8x128.Idx → EReal := fun _ => ((X : ℝ) : EReal)
def A (X : Fin 1024 → Fin 512 → ℝ) : S1x1024x512.Idx → EReal := fun i => ((X (i 1) (i 2) : ℝ) : EReal)
def B (X : Fin 512 → Fin 1024 → ℝ) : S1x512x1024.Idx → EReal := fun i => ((X (i 1) (i 2) : ℝ) : EReal)

section
variable {F : FTy → Type} [FloatOps F]

/-- Equal chains of operations under several names. -/
theorem pay12_eq : @k0_pay12 F _ = fun x g w => k0_pay15 (k0_pay10 x g) w := rfl
theorem pay13_eq : @k0_pay13 F _ = fun x g w => k0_pay16 (k0_pay10 x g) w := rfl
theorem pay14_eq : @k0_pay14 F _ = fun x g w => k0_pay17 (k0_pay10 x g) w := rfl
theorem pay20_eq : @k0_pay20 F _ = k0_pay16 := rfl
theorem pay23_eq : @k0_pay23 F _ = k0_pay16 := rfl
theorem pay27_eq : @k0_pay27 F _ = k0_pay16 := rfl
theorem pay30_eq : @k0_pay30 F _ = k0_pay16 := rfl
theorem pay34_eq : @k0_pay34 F _ = k0_pay16 := rfl
theorem pay37_eq : @k0_pay37 F _ = k0_pay16 := rfl
theorem pay21_eq : @k0_pay21 F _ = k0_pay17 := rfl
theorem pay24_eq : @k0_pay24 F _ = k0_pay17 := rfl
theorem pay28_eq : @k0_pay28 F _ = k0_pay17 := rfl
theorem pay31_eq : @k0_pay31 F _ = k0_pay17 := rfl
theorem pay35_eq : @k0_pay35 F _ = k0_pay17 := rfl
theorem pay38_eq : @k0_pay38 F _ = k0_pay17 := rfl
theorem pay25_eq : @k0_pay25 F _ = k0_pay18 := rfl
theorem pay32_eq : @k0_pay32 F _ = k0_pay18 := rfl
theorem pay39_eq (x d : FVec F S384x1024 .f32) (h : FVec F S384x1024 .bf16) (a : FVec F S384x512 .bf16) (z : Vec F S1x512x1024 .bf16)
    (w : Vec F S1x1024x512 .bf16) (z' : Vec F S1x512x1024 .bf16) : k0_pay39 x h d a z w z' = addf x (k0_pay18 h d a z w z') := rfl
theorem pay49_eq : @k0_pay49 F _ = fun a b c d z u => k0_pay51 (k0_pay48 a b c d) z u := rfl
theorem pay50_eq : @k0_pay50 F _ = fun a b c d z u w => k0_pay1 k0_pay11 (k0_pay51 (k0_pay48 a b c d) z u) w := rfl
theorem pay52_eq : @k0_pay52 F _ = k0_pay51 := rfl
theorem pay56_eq : @k0_pay56 F _ = k0_pay51 := rfl
theorem pay58_eq : @k0_pay58 F _ = k0_pay51 := rfl
theorem pay59_eq : @k0_pay59 F _ = k0_pay51 := rfl
theorem pay61_eq : @k0_pay61 F _ = k0_pay51 := rfl
theorem pay55_eq (x : FVec F S384x1024 .bf16) (z : Vec F S1x512x1024 .bf16) (u : Vec F S384x512 .f32) :
    k0_pay55 (k0_pay54 x z) u = k0_pay51 x z u := rfl
theorem pay53_eq : @k0_pay53 F _ = fun x d z u w z' u' w' => k0_pay1 (k0_pay1 d (k0_pay51 x z u) w) (k0_pay51 x z' u') w' := rfl
theorem pay57_eq : @k0_pay57 F _ = fun x d y u w z' u' w' => k0_pay1 (k0_pay1 d (k0_pay55 y u) w) (k0_pay51 x z' u') w' := rfl
theorem pay60_eq : @k0_pay60 F _ = fun x d b w z' u' w' => k0_pay1 (k0_pay1 d b w) (k0_pay51 x z' u') w' := rfl
end

variable (X D D' : Fin 384 → Fin 1024 → ℝ) (g : Fin 1024 → ℝ) (u u' : Fin 384 → Fin 512 → ℝ) (w w' : Fin 1024 → Fin 512 → ℝ)
  (z z' : Fin 512 → Fin 1024 → ℝ) (s : Fin 384 → ℝ)

theorem pay7_real : k0_pay7 (F := Ideal) (T X) = T X := by
  funext i; idx_vars i; pointwise [k0_pay7]

theorem pay8_real : k0_pay8 (F := Ideal) (T X) = C fun p => rs (X p) := by
  funext i; idx_vars i
  pointwise [k0_pay8, k0_pay7, T, C]
  simp only [ofBits_1024, ofBits_eps, ← EReal.coe_mul, ← coe_sum, div_real _ _ (by norm_num : (1024 : ℝ) ≠ 0), ← EReal.coe_add, rs_real]

theorem pay9_real : k0_pay9 (F := Ideal) (T X) = T fun p => nm (X p) := by
  funext i; idx_vars i
  pointwise [k0_pay9, pay8_real, pay7_real, T, C]
  simp only [← EReal.coe_mul, nm]

theorem pay10_real : k0_pay10 (F := Ideal) (T X) (G g) = T fun p => h2 g (X p) := by
  funext i; idx_vars i
  pointwise [k0_pay10, pay9_real, T, G]
  simp only [← EReal.coe_mul, h2]

theorem max_zero (a : ℝ) : max ((a : ℝ) : EReal) 0 = ((max a 0 : ℝ) : EReal) :=
  (EReal.coe_strictMono.monotone.map_max (a := a) (b := 0)).symm

theorem pay15_real : k0_pay15 (F := Ideal) (T X) (A w) = U fun p => relu w (X p) := by
  funext i; idx_vars i
  pointwise [k0_pay15, T, A, U]
  simp only [← EReal.coe_mul, ← coe_sum, relu, max_zero]

theorem pay16_real : k0_pay16 (F := Ideal) (T X) (A w) = U fun p => relu w (X p) := by
  funext i; idx_vars i
  pointwise [k0_pay16, pay15_real]

theorem pay17_real : k0_pay17 (F := Ideal) (T X) (A w) = U fun p k => relu w (X p) k * relu w (X p) k := by
  funext i; idx_vars i
  pointwise [k0_pay17, pay15_real, U]
  simp only [← EReal.coe_mul]

/-- Two blocks of hidden entries added to the output rows. -/
theorem pay18_real : k0_pay18 (F := Ideal) (T X) (T D) (U fun p k => u p k * u p k) (B z) (A w) (B z')
    = T fun p j => D p j + down z (u p) j + down z' (relu w (X p)) j := by
  funext i; idx_vars i
  pointwise [k0_pay18, pay17_real, U, T, B]
  simp only [← EReal.coe_mul, ← coe_sum, ← EReal.coe_add, down]

theorem pay11_real : k0_pay11 (F := Ideal) = T fun _ _ => 0 := by
  funext i; idx_vars i; pointwise [k0_pay11, T]; exact EReal.coe_zero.symm

theorem pay39_real : k0_pay39 (F := Ideal) (T D') (T X) (T D) (U fun p k => u p k * u p k) (B z) (A w) (B z')
    = T fun p j => D' p j + (D p j + down z (u p) j + down z' (relu w (X p)) j) := by
  rw [pay39_eq, pay18_real]
  funext i; idx_vars i
  pointwise [T]
  simp only [← EReal.coe_add]

theorem pay40_real : k0_pay40 (F := Ideal) (T D') (T X) (T D) (U fun p k => u p k * u p k) (B z) (A w) (B z')
    = C fun p => rs fun j => D' p j + (D p j + down z (u p) j + down z' (relu w (X p)) j) := by
  funext i; idx_vars i
  pointwise [k0_pay40, pay39_real, T, C]
  simp only [ofBits_1024, ofBits_eps, ← EReal.coe_mul, ← coe_sum, div_real _ _ (by norm_num : (1024 : ℝ) ≠ 0), ← EReal.coe_add, rs_real]

theorem pay41_real : k0_pay41 (F := Ideal) (T D') (T X) (T D) (U fun p k => u p k * u p k) (B z) (A w) (B z')
    = T fun p => nm fun j => D' p j + (D p j + down z (u p) j + down z' (relu w (X p)) j) := by
  funext i; idx_vars i
  pointwise [k0_pay41, pay39_real, pay40_real, T, C]
  simp only [← EReal.coe_mul, nm]

theorem pay42_real : k0_pay42 (F := Ideal) (G g) = G g := by
  funext i; idx_vars i; pointwise [k0_pay42]

variable (n : ℕ) (hn : n < 22) (arg0 : BitVec 32) (harg : arg0 = BitVec.ofNat 32 n)

include hn harg in
theorem pay43_real : k0_pay43 (F := Ideal) arg0 (T fun p => nm (X p)) (G g) (T D) = T fun p => df g (valid (384 * n + p.val)) (D p) (X p) := by
  funext i; idx_vars i
  subst harg
  pointwise [k0_pay43, T, G]
  have hp := i0.isLt
  have e : IntOp.addi (Scalar.muli (BitVec.ofNat 32 n) 384#32) (BitVec.ofNat 32 i0.val) = BitVec.ofNat 32 (384 * n + i0.val) := by
    show BitVec.ofNat 32 n * 384#32 + BitVec.ofNat 32 i0.val = _
    rw [← BitVec.ofNat_mul, ← BitVec.ofNat_add, mul_comm]
  rw [e]
  have hr : 384 * n + i0.val < 8448 := by omega
  unfold df valid
  generalize 384 * n + i0.val = r at hr
  simp (disch := word_cmp_side) only [hlo_ix]
  by_cases h : 16 ≤ r ∧ r < 8208
  · rw [if_pos h, if_pos h, ← EReal.coe_mul, ← EReal.coe_sub]
  · rw [if_neg h, if_neg h, EReal.coe_zero]

theorem pay1_real : k0_pay1 (F := Ideal) (T X) (U u) (A w) = T fun p j => X p j + up w (u p) j := by
  funext i; idx_vars i
  pointwise [k0_pay1, T, U, A]
  simp only [← EReal.coe_mul, ← coe_sum, ← EReal.coe_add, up]

theorem pay51_real : k0_pay51 (F := Ideal) (T X) (B z) (U u) = U fun p => hid z (X p) (u p) := by
  funext i; idx_vars i
  pointwise [k0_pay51, T, U, B]
  simp only [ofBits_two, ← EReal.coe_mul, ← coe_sum, hid]

theorem pay47_real : k0_pay47 (F := Ideal) (C fun p => rs (X p)) (T fun p => nm (X p)) (T D) (G g)
    = T fun p => back (X p) fun j => D p j * g j := by
  funext i; idx_vars i
  pointwise [k0_pay47, T, C, G]
  simp only [ofBits_1024, ← EReal.coe_mul, ← coe_sum, div_real _ _ (by norm_num : (1024 : ℝ) ≠ 0), ← EReal.coe_sub, back]

theorem pay48_real : k0_pay48 (F := Ideal) (C fun p => rs (X p)) (T fun p => nm (X p)) (T D) (G g)
    = T fun p => back (X p) fun j => D p j * g j := by
  funext i; idx_vars i
  pointwise [k0_pay48, pay47_real]

theorem pay2_real : k0_pay2 (F := Ideal) (T D') (T X) (U u) (A w) (G g)
    = G fun j => g j + ∑ p, (X p j + up w (u p) j) * D' p j := by
  funext i; idx_vars i
  pointwise [k0_pay2, pay1_real, T, G]
  simp only [← EReal.coe_mul, ← coe_sum, ← EReal.coe_add]

theorem pay3_real : k0_pay3 (F := Ideal) (C fun p => rs (X p)) (T fun p => nm (X p)) (T D') (T D) (U u) (A w) (G g)
    = T fun p j => D' p j + back (X p) (fun i => (D p i + up w (u p) i) * g i) j := by
  funext i; idx_vars i
  pointwise [k0_pay3, pay1_real, T, C, G]
  simp only [ofBits_1024, ← EReal.coe_mul, ← coe_sum, div_real _ _ (by norm_num : (1024 : ℝ) ≠ 0), ← EReal.coe_sub, ← EReal.coe_add, back]

/-- The rows' mean squares. -/
def meanSq (d : FVec Ideal S384x1024 .f32) : FVec Ideal S384x1 .f32 :=
  mulf (shapeCast S384x1 (multiReduction .add [1] S384 (mulf d d) 0x00000000#32 reduces_S384x1024_S384 (.inl rfl) rfl) shapeCasts_S384_S384x1)
    (broadcast S384x1 (Scalar.ofBits .f32 0x3A800000#32 : Ideal .f32))

/-- Half of their sum, added to every entry. -/
def addHalf (e : FVec Ideal S384x1 .f32) (l : FVec Ideal S8x128 .f32) : FVec Ideal S8x128 .f32 :=
  addf (shapeCast S8x128 l shapeCasts_S8x128_S8x128)
    (broadcast S8x128 (Scalar.mulf (Scalar.ofBits .f32 0x3F000000#32 : Ideal .f32)
      (extractAt ![0, 0, 0] (shapeCast S1x1x1 (multiReduction .add [1, 2] S1 (shapeCast S1x384x1 e shapeCasts_S384x1_S1x384x1) 0x00000000#32
        reduces_S1x384x1_S1 (.inl rfl) rfl) shapeCasts_S1_S1x1x1) inpos_S1x1x1_p0_0_0)))

theorem meanSq_real : meanSq (T D) = C fun p => (∑ j, D p j * D p j) * (1 / 1024) := by
  funext i; idx_vars i
  pointwise [meanSq, T, C]
  simp only [ofBits_1024th, ← EReal.coe_mul, ← coe_sum]

theorem addHalf_real (l : ℝ) : addHalf (C s) (L l) = L (l + 1 / 2 * ∑ p, s p) := by
  funext i; idx_vars i
  pointwise [addHalf, C, L]
  simp only [Fin.sum_univ_one, ofBits_half, ← EReal.coe_mul, ← coe_sum, ← EReal.coe_add]

theorem pay44_eq (x : FVec Ideal S384x1024 .f32) (y : FVec Ideal S1x1024 .f32) (t : FVec Ideal S384x1024 .f32) (l : FVec Ideal S8x128 .f32) :
    k0_pay44 (F := Ideal) arg0 x y t l = addHalf (meanSq (k0_pay43 arg0 x y t)) l := rfl

include hn harg in
theorem pay44_real (l : ℝ) : k0_pay44 (F := Ideal) arg0 (T fun p => nm (X p)) (G g) (T D) (L l)
    = L (l + 1 / 2 * ∑ p, (∑ j, df g (valid (384 * n + p.val)) (D p) (X p) j * df g (valid (384 * n + p.val)) (D p) (X p) j) * (1 / 1024)) := by
  rw [pay44_eq, pay43_real X D g n hn arg0 harg, meanSq_real, addHalf_real]

include hn harg in
theorem pay45_real : k0_pay45 (F := Ideal) arg0 (T fun p => nm (X p)) (G g) (T D)
    = T fun p j => df g (valid (384 * n + p.val)) (D p) (X p) j * (1 / 1024) := by
  funext i; idx_vars i
  pointwise [k0_pay45, pay43_real X D g n hn arg0 harg, T]
  simp only [ofBits_1024th, ← EReal.coe_mul]

include hn harg in
theorem pay46_real (g' : Fin 1024 → ℝ) : k0_pay46 (F := Ideal) arg0 (T fun p => nm (X p)) (G g) (T D) (G g')
    = G fun j => g' j + ∑ p, df g (valid (384 * n + p.val)) (D p) (X p) j * (1 / 1024) * nm (X p) j := by
  funext i; idx_vars i
  pointwise [k0_pay46, pay45_real X D g n hn arg0 harg, T, G]
  simp only [← EReal.coe_mul, ← coe_sum, ← EReal.coe_add]

end Cert.Kernel2Ideal.Mlp

end
-- ==== Proof.MlpStep.lean ====
/- What one grid point of the MLP call leaves in its output blocks, as rows of reals. -/
module

public import proofs.«01_k».proof.Proof.MlpPay
public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

namespace Cert.Kernel2Ideal.Mlp

open Cert.Kernel2Ideal Cert.Kernel2Ideal.Gen Cert.Mlp Cert.Attn
open Idealize.ShloMosaic Idealize.ShloMosaic.TcCoe Idealize.SL.Sem
open Idealize.ShloMosaic.Pipeline (Dat)
open scoped BigOperators

/-- The two weights in column and in row blocks. -/
def WA (w1 : Fin 1024 → Fin 4096 → ℝ) : S8x1024x512.Idx → EReal := fun i => ((w1 (i 1) (blk (i 0) (i 2)) : ℝ) : EReal)
def WB (w2 : Fin 4096 → Fin 1024 → ℝ) : S8x512x1024.Idx → EReal := fun i => ((w2 (blk (i 0) (i 1)) (i 2) : ℝ) : EReal)

def a1 (w1 : Fin 1024 → Fin 4096 → ℝ) (k : Fin 8) : Fin 1024 → Fin 512 → ℝ := fun j f => w1 j (blk k f)
def b2 (w2 : Fin 4096 → Fin 1024 → ℝ) (k : Fin 8) : Fin 512 → Fin 1024 → ℝ := fun f j => w2 (blk k f) j

theorem ld_WA (w1 : Fin 1024 → Fin 4096 → ℝ) (k : Fin 8) (kn : ℕ) (hk : kn = k.val) (inb : ∀ a, (![kn, 0, 0] : Fin 3 → ℕ) a + (![1, 1024, 512] : Fin 3 → ℕ) a ≤ S8x1024x512.size a) :
    View.ld (Val := Elt Ideal) (e' := .f32) (WA w1) (Rect.unit (s := S8x1024x512) ![kn, 0, 0] ![1, 1024, 512] inb) = A (a1 w1 k) := by
  subst hk
  funext i
  have h0 : (i 0).val = 0 := Nat.lt_one_iff.mp (i 0).isLt
  show WA w1 _ = _
  unfold WA A a1
  congr 1
  congr 1
  · apply Fin.ext; show 0 + 1 * (i 1).val = _; omega
  · congr 1
    · apply Fin.ext; show k.val + 1 * (i 0).val = _; omega
    · apply Fin.ext; show 0 + 1 * (i 2).val = _; omega

theorem ld_WB (w2 : Fin 4096 → Fin 1024 → ℝ) (k : Fin 8) (kn : ℕ) (hk : kn = k.val) (inb : ∀ a, (![kn, 0, 0] : Fin 3 → ℕ) a + (![1, 512, 1024] : Fin 3 → ℕ) a ≤ S8x512x1024.size a) :
    View.ld (Val := Elt Ideal) (e' := .f32) (WB w2) (Rect.unit (s := S8x512x1024) ![kn, 0, 0] ![1, 512, 1024] inb) = B (b2 w2 k) := by
  subst hk
  funext i
  have h0 : (i 0).val = 0 := Nat.lt_one_iff.mp (i 0).isLt
  show WB w2 _ = _
  unfold WB B b2
  congr 1
  congr 1
  · congr 1
    · apply Fin.ext; show k.val + 1 * (i 0).val = _; omega
    · apply Fin.ext; show 0 + 1 * (i 1).val = _; omega
  · apply Fin.ext; show 0 + 1 * (i 2).val = _; omega

/-- One store of the whole buffer leaves what it stored; a load after it reads that. -/
theorem canon_whole {S : Shape} {e : EltTy} (w : S.Idx → Elt Ideal e) : View.canon (Val := Elt Ideal) (e := e) [⟨Rect.whole S, w⟩] = w :=
  View.canon_cons_unit_zero rfl _ w []

theorem readCov_whole {κ : Kind} {sp : Space} {S : Shape} {e : EltTy} (v : View sig κ sp S e) (w : S.Idx → Elt Ideal e) (r : Rect S) :
    v.readCov (Val := Elt Ideal) [⟨Rect.whole S, w⟩] r.toLoadRect = View.ld w r := by
  rw [View.readCov_eq_canon', canon_whole]

section
variable (w1 : Fin 1024 → Fin 4096 → ℝ) (w2 : Fin 4096 → Fin 1024 → ℝ) (g gf h d x : Fin 1024 → ℝ) (j : Fin 1024)

/-- The hidden axis block by block: the output row, and the normed row's cotangent. -/
theorem down_blocks : (0 : ℝ) + down (b2 w2 0) (relu (a1 w1 0) h) j + down (b2 w2 1) (relu (a1 w1 1) h) j + down (b2 w2 2) (relu (a1 w1 2) h) j + down (b2 w2 3) (relu (a1 w1 3) h) j + down (b2 w2 4) (relu (a1 w1 4) h) j + down (b2 w2 5) (relu (a1 w1 5) h) j + down (b2 w2 6) (relu (a1 w1 6) h) j + down (b2 w2 7) (relu (a1 w1 7) h) j = down w2 (relu w1 h) j := by
  unfold down
  rw [sum_blk]
  simp only [Fin.sum_univ_eight, zero_add]
  rfl

theorem up_blocks : (0 : ℝ) + up (a1 w1 0) (hid (b2 w2 0) d (relu (a1 w1 0) h)) j + up (a1 w1 1) (hid (b2 w2 1) d (relu (a1 w1 1) h)) j + up (a1 w1 2) (hid (b2 w2 2) d (relu (a1 w1 2) h)) j + up (a1 w1 3) (hid (b2 w2 3) d (relu (a1 w1 3) h)) j + up (a1 w1 4) (hid (b2 w2 4) d (relu (a1 w1 4) h)) j + up (a1 w1 5) (hid (b2 w2 5) d (relu (a1 w1 5) h)) j + up (a1 w1 6) (hid (b2 w2 6) d (relu (a1 w1 6) h)) j + up (a1 w1 7) (hid (b2 w2 7) d (relu (a1 w1 7) h)) j = up w1 (hid w2 d (relu w1 h)) j := by
  unfold up
  rw [sum_blk]
  simp only [Fin.sum_univ_eight, zero_add]
  rfl
end

variable (m : (ℓ : Loc nD τ sig) → Buf (Elt Ideal) ℓ)

theorem sc0 (c : Dev nD) (n : ℕ) (hn : n < cfg0.N) : (outsAt0 m c n hn).2.2.2.2.2.2.2.2.1 = V m c main_v3 := by
  induction n with
  | zero => rw [outsAt0_A m c ⟨0, hn⟩ rfl rfl]; frame_out; exact canon_whole _
  | succ n ih =>
    have h : ¬ (n + 1) % 22 = 0 := by have := lt_of_lt_of_eq hn N_0; omega
    rw [outsAt0_B m c ⟨n + 1, hn⟩ h h]
    dsimp only; unfold sout0_B_0; exact ih _

theorem sc1 (c : Dev nD) (n : ℕ) (hn : n < cfg0.N) : (outsAt0 m c n hn).2.2.2.2.2.2.2.2.2 = V m c main_v6 := by
  induction n with
  | zero => rw [outsAt0_A m c ⟨0, hn⟩ rfl rfl]; frame_out; exact canon_whole _
  | succ n ih =>
    have h : ¬ (n + 1) % 22 = 0 := by have := lt_of_lt_of_eq hn N_0; omega
    rw [outsAt0_B m c ⟨n + 1, hn⟩ h h]
    dsimp only; unfold sout0_B_1; exact ih _

section
variable (X D : Fin 384 → Fin 1024 → ℝ) (g gf : Fin 1024 → ℝ) (w1 : Fin 1024 → Fin 4096 → ℝ) (w2 : Fin 4096 → Fin 1024 → ℝ) (v : Fin 384 → Bool)

/-- The row's forward pass in chunks of the hidden axis: the norm of the row after the MLP. -/
theorem fwd40 : k0_pay40 (F := Ideal) (T X) (T fun p => h2 g (X p))
                  (k0_pay18 (T fun p => Mlp.h2 g (X p))
                    (k0_pay18 (T fun p => Mlp.h2 g (X p))
                      (k0_pay18 (T fun p => Mlp.h2 g (X p)) k0_pay11
                        (U fun p k => relu (a1 w1 0) (Mlp.h2 g (X p)) k * relu (a1 w1 0) (Mlp.h2 g (X p)) k)
                        (B (b2 w2 0)) (A (a1 w1 1)) (B (b2 w2 1)))
                      (U fun p k => relu (a1 w1 2) (Mlp.h2 g (X p)) k * relu (a1 w1 2) (Mlp.h2 g (X p)) k) (B (b2 w2 2))
                      (A (a1 w1 3)) (B (b2 w2 3)))
                    (U fun p k => relu (a1 w1 4) (Mlp.h2 g (X p)) k * relu (a1 w1 4) (Mlp.h2 g (X p)) k) (B (b2 w2 4))
                    (A (a1 w1 5)) (B (b2 w2 5)))
                  (U fun p k => relu (a1 w1 6) (Mlp.h2 g (X p)) k * relu (a1 w1 6) (Mlp.h2 g (X p)) k) (B (b2 w2 6))
                  (A (a1 w1 7)) (B (b2 w2 7)) = C fun p => rs (x2 g w1 w2 (X p)) := by
  simp only [pay11_real, pay18_real, pay40_real, down_blocks]
  rfl

theorem fwd41 : k0_pay41 (F := Ideal) (T X) (T fun p => h2 g (X p))
                  (k0_pay18 (T fun p => Mlp.h2 g (X p))
                    (k0_pay18 (T fun p => Mlp.h2 g (X p))
                      (k0_pay18 (T fun p => Mlp.h2 g (X p)) k0_pay11
                        (U fun p k => relu (a1 w1 0) (Mlp.h2 g (X p)) k * relu (a1 w1 0) (Mlp.h2 g (X p)) k)
                        (B (b2 w2 0)) (A (a1 w1 1)) (B (b2 w2 1)))
                      (U fun p k => relu (a1 w1 2) (Mlp.h2 g (X p)) k * relu (a1 w1 2) (Mlp.h2 g (X p)) k) (B (b2 w2 2))
                      (A (a1 w1 3)) (B (b2 w2 3)))
                    (U fun p k => relu (a1 w1 4) (Mlp.h2 g (X p)) k * relu (a1 w1 4) (Mlp.h2 g (X p)) k) (B (b2 w2 4))
                    (A (a1 w1 5)) (B (b2 w2 5)))
                  (U fun p k => relu (a1 w1 6) (Mlp.h2 g (X p)) k * relu (a1 w1 6) (Mlp.h2 g (X p)) k) (B (b2 w2 6))
                  (A (a1 w1 7)) (B (b2 w2 7)) = T fun p => nm (x2 g w1 w2 (X p)) := by
  simp only [pay11_real, pay18_real, pay41_real, down_blocks]
  rfl

theorem back48 : k0_pay48 (F := Ideal) (C fun p => rs (X p)) (T fun p => nm (X p)) (T fun p j => df gf (v p) (D p) (X p) j * (1 / 1024)) (G gf)
    = T fun p => dx2 gf (v p) (D p) (X p) := pay48_real X (fun p j => df gf (v p) (D p) (X p) j * (1 / 1024)) gf

theorem back47 : k0_pay47 (F := Ideal) (C fun p => rs (X p)) (T fun p => nm (X p)) (T fun p j => df gf (v p) (D p) (X p) j * (1 / 1024)) (G gf)
    = T fun p => dx2 gf (v p) (D p) (X p) := pay47_real X (fun p j => df gf (v p) (D p) (X p) j * (1 / 1024)) gf
end

theorem da_blk (g gf : Fin 1024 → ℝ) (w1 : Fin 1024 → Fin 4096 → ℝ) (w2 : Fin 4096 → Fin 1024 → ℝ) (v : Bool) (x d : Fin 1024 → ℝ) (k : Fin 8) (j : Fin 512) :
    hid (b2 w2 k) (dx2 gf v d (x2 g w1 w2 x)) (relu (a1 w1 k) (h2 g x)) j = da g gf w1 w2 v x d (blk k j) := by
  unfold da hid relu a1 b2
  rfl

theorem coords_eq : ∀ t : Fin cfg0.N, BitVec.ofNat 32 (grid0.coords t 0).val = BitVec.ofNat 32 t.val := by decide +kernel

/-- Eight column blocks stored side by side. -/
def H (X : Fin 384 → Fin 4096 → ℝ) : S384x4096.Idx → EReal := fun i => ((X (i 0) (i 1) : ℝ) : EReal)

theorem H_at (X : Fin 384 → Fin 4096 → ℝ) (f : Fin 384 → Fin 512 → ℝ) (k : Fin 8) (hf : ∀ p j, f p j = X p (blk k j)) (x : S384x512.Idx) (y : S384x4096.Idx)
    (h0 : (y 0).val = (x 0).val) (h1 : (y 1).val = 512 * k.val + (x 1).val) : U f x = H X y := by
  have e0 : y 0 = x 0 := Fin.ext h0
  have e1 : y 1 = blk k (x 1) := Fin.ext h1
  exact congrArg _ ((hf (x 0) (x 1)).trans (congrArg₂ X e0.symm e1.symm))

theorem canon_H (X : Fin 384 → Fin 4096 → ℝ) (f : Fin 8 → Fin 384 → Fin 512 → ℝ) (hf : ∀ k p j, f k p j = X p (blk k j)) :
    View.canon (Val := Elt Ideal) (s := S384x4096) (e := .bf16)
      [⟨Rect.unit ![0, 3584] ![384, 512] inb_S384x4096_S384x512_0_3584, U (f 7)⟩,
      ⟨Rect.unit ![0, 3072] ![384, 512] inb_S384x4096_S384x512_0_3072, U (f 6)⟩,
      ⟨Rect.unit ![0, 2560] ![384, 512] inb_S384x4096_S384x512_0_2560, U (f 5)⟩,
      ⟨Rect.unit ![0, 2048] ![384, 512] inb_S384x4096_S384x512_0_2048, U (f 4)⟩,
      ⟨Rect.unit ![0, 1536] ![384, 512] inb_S384x4096_S384x512_0_1536, U (f 3)⟩,
      ⟨Rect.unit ![0, 1024] ![384, 512] inb_S384x4096_S384x512_0_1024, U (f 2)⟩,
      ⟨Rect.unit ![0, 512] ![384, 512] inb_S384x4096_S384x512_0_512, U (f 1)⟩,
      ⟨Rect.unit ![0, 0] ![384, 512] inb_S384x4096_S384x512_0_0, U (f 0)⟩] = H X := by
  funext y
  canon_tiles x h
  · exact H_at X _ 7 (hf 7) x y h0 h1
  · exact H_at X _ 6 (hf 6) x y h0 h1
  · exact H_at X _ 5 (hf 5) x y h0 h1
  · exact H_at X _ 4 (hf 4) x y h0 h1
  · exact H_at X _ 3 (hf 3) x y h0 h1
  · exact H_at X _ 2 (hf 2) x y h0 h1
  · exact H_at X _ 1 (hf 1) x y h0 h1
  · exact H_at X _ 0 (hf 0) x y h0 (h1.trans (Nat.zero_add _).symm)

theorem pay4_real : k0_pay4 (F := Ideal) = L 0 := by
  funext i; idx_vars i; pointwise [k0_pay4, L]; exact EReal.coe_zero.symm
theorem pay5_real : k0_pay5 (F := Ideal) = G fun _ => 0 := by
  funext i; idx_vars i; pointwise [k0_pay5, G]; exact EReal.coe_zero.symm
theorem pay6_real : k0_pay6 (F := Ideal) = G fun _ => 0 := by
  funext i; idx_vars i; pointwise [k0_pay6, G]; exact EReal.coe_zero.symm

set_option maxHeartbeats 2000000 in
/-- What a point leaves in the outputs' blocks: its rows' gradients, and the sums so far. -/
theorem step (c : Dev nD) (t : Fin cfg0.N) (w1 : Fin 1024 → Fin 4096 → ℝ) (w2 : Fin 4096 → Fin 1024 → ℝ) (X D : Fin 384 → Fin 1024 → ℝ)
    (g gf : Fin 1024 → ℝ) (l : ℝ) (g6 g7 : Fin 1024 → ℝ)
    (hx : iblk m c 0 t = T X) (ht : iblk m c 1 t = T D) (hg : iblk m c 2 t = G g) (hf : iblk m c 3 t = G gf)
    (hA : V m c main_v3 = WA w1) (hB : V m c main_v6 = WB w2)
    (hz : t.val % 22 = 0 → l = 0 ∧ (g6 = fun _ => 0) ∧ (g7 = fun _ => 0))
    (hp : ¬ t.val % 22 = 0 → (outsAt0 m c (t.val - 1) (by omega)).2.1 = L l ∧ (outsAt0 m c (t.val - 1) (by omega)).2.2.1 = G g6
      ∧ (outsAt0 m c (t.val - 1) (by omega)).2.2.2.1 = G g7) :
    (outsAt0 m c t.val t.isLt).1 = (T fun p => dx g gf w1 w2 (valid (384 * t.val + p.val)) (X p) (D p))
      ∧ (outsAt0 m c t.val t.isLt).2.1 = L (l + 1 / 2 * ∑ p : Fin 384, (∑ j, df gf (valid (384 * t.val + p.val)) (D p) (x2 g w1 w2 (X p)) j
          * df gf (valid (384 * t.val + p.val)) (D p) (x2 g w1 w2 (X p)) j) * (1 / 1024))
      ∧ (outsAt0 m c t.val t.isLt).2.2.1 = (G fun j => g6 j + ∑ p : Fin 384, df gf (valid (384 * t.val + p.val)) (D p) (x2 g w1 w2 (X p)) j * (1 / 1024)
          * nm (x2 g w1 w2 (X p)) j)
      ∧ (outsAt0 m c t.val t.isLt).2.2.2.1 = (G fun j => g7 j + ∑ p : Fin 384, dh2 g gf w1 w2 (valid (384 * t.val + p.val)) (X p) (D p) j * nm (X p) j)
      ∧ (outsAt0 m c t.val t.isLt).2.2.2.2.1 = (T fun p => h2 g (X p))
      ∧ (outsAt0 m c t.val t.isLt).2.2.2.2.2.1 = (H fun p => da g gf w1 w2 (valid (384 * t.val + p.val)) (X p) (D p))
      ∧ (outsAt0 m c t.val t.isLt).2.2.2.2.2.2.1 = (H fun p k => relu w1 (h2 g (X p)) k * relu w1 (h2 g (X p)) k)
      ∧ (outsAt0 m c t.val t.isLt).2.2.2.2.2.2.2.1 = (T fun p => dx2 gf (valid (384 * t.val + p.val)) (D p) (x2 g w1 w2 (X p))) := by
  have hn := lt_of_lt_of_eq t.isLt N_0
  by_cases h0 : t.val % 22 = 0
  on_goal 1 =>
    obtain ⟨rfl, rfl, rfl⟩ := hz h0
    rw [outsAt0_A m c t h0 h0]
    refine ⟨?_, ?_, ?_, ?_, ?_, ?_, ?_, ?_⟩
    all_goals frame_out
  on_goal 9 =>
    obtain ⟨h5, h6, h7⟩ := hp h0
    rw [outsAt0_B m c t h0 h0]
    refine ⟨?_, ?_, ?_, ?_, ?_, ?_, ?_, ?_⟩
    all_goals frame_out
    all_goals try simp only [h5, h6, h7]
  all_goals try simp only [readCov_whole, ReadAs.apply_same, read_unread_whole]
  all_goals try simp only [View.read_whole, sc0, sc1, hA, hB, hx, ht, hg, hf, pay4_real, pay5_real, pay6_real]
  all_goals try simp only [ld_WA w1 0 0 rfl, ld_WA w1 1 1 rfl, ld_WA w1 2 2 rfl, ld_WA w1 3 3 rfl, ld_WA w1 4 4 rfl, ld_WA w1 5 5 rfl, ld_WA w1 6 6 rfl, ld_WA w1 7 7 rfl]
  all_goals try simp only [ld_WB w2 0 0 rfl, ld_WB w2 1 1 rfl, ld_WB w2 2 2 rfl, ld_WB w2 3 3 rfl, ld_WB w2 4 4 rfl, ld_WB w2 5 5 rfl, ld_WB w2 6 6 rfl, ld_WB w2 7 7 rfl]
  all_goals try simp (disch := decide) only [View.readCov_cons_toLoadRect, ↓View.readCov_skip]
  all_goals try simp only [pay12_eq, pay13_eq, pay14_eq, pay20_eq, pay23_eq, pay27_eq, pay30_eq, pay34_eq, pay37_eq, pay21_eq, pay24_eq, pay28_eq, pay31_eq, pay35_eq, pay38_eq, pay25_eq, pay32_eq, pay49_eq, pay50_eq, pay52_eq, pay56_eq, pay58_eq, pay59_eq, pay61_eq, pay55_eq, pay53_eq, pay57_eq, pay60_eq]
  all_goals try simp only [pay7_real, pay8_real, pay9_real, pay10_real, pay16_real, pay17_real, pay15_real, fwd40, fwd41, pay42_real]
  all_goals try simp only [pay44_real (fun p => x2 g w1 w2 (X p)) D gf t.val hn _ (coords_eq t), pay45_real (fun p => x2 g w1 w2 (X p)) D gf t.val hn _ (coords_eq t), pay46_real (fun p => x2 g w1 w2 (X p)) D gf t.val hn _ (coords_eq t), back48, back47, pay51_real, pay11_real, pay1_real, pay2_real, pay3_real, up_blocks]
  case pos.refine_6 => exact canon_H _ (fun k p => hid (b2 w2 k) (dx2 gf (valid (384 * t.val + p.val)) (D p) (x2 g w1 w2 (X p))) (relu (a1 w1 k) (h2 g (X p)))) (fun k p j => da_blk g gf w1 w2 _ _ _ k j)
  case neg.refine_6 => exact canon_H _ (fun k p => hid (b2 w2 k) (dx2 gf (valid (384 * t.val + p.val)) (D p) (x2 g w1 w2 (X p))) (relu (a1 w1 k) (h2 g (X p)))) (fun k p j => da_blk g gf w1 w2 _ _ _ k j)
  case pos.refine_7 => exact canon_H _ (fun k p j => relu (a1 w1 k) (h2 g (X p)) j * relu (a1 w1 k) (h2 g (X p)) j) (fun _ _ _ => rfl)
  case neg.refine_7 => exact canon_H _ (fun k p j => relu (a1 w1 k) (h2 g (X p)) j * relu (a1 w1 k) (h2 g (X p)) j) (fun _ _ _ => rfl)
  case pos.refine_1 => rfl
  case neg.refine_1 => rfl
  all_goals rfl

end Cert.Kernel2Ideal.Mlp

end
-- ==== Proof.MlpHost.lean ====
/- What the host lines before the MLP call hand it, entry by entry, and each grid point's blocks as rows of reals. -/
module

public import proofs.«01_k».proof.Proof.MlpStep
public import Idealize.ShloMosaic.Lib.StableHlo.RunRead

@[expose] public section

set_option maxRecDepth 16384

noncomputable section

namespace Cert.Kernel2Ideal.Mlp

open Cert.Kernel2Ideal Cert.Kernel2Ideal.Gen Cert.Mlp Cert.Attn
open Idealize.ShloMosaic Idealize.ShloMosaic.TcCoe Idealize.SL.Sem
open scoped BigOperators

variable (m : (ℓ : Loc nD τ sig) → Buf (Elt Ideal) ℓ) (c : Dev nD)

abbrev HR : FVec Ideal S1x8208x1024 .f32 := m ((c : Thread nD τ).loc main_arg0)
abbrev TG : FVec Ideal S1x8192x1024 .f32 := m ((c : Thread nD τ).loc main_arg1)
abbrev GM : FVec Ideal S1x1024 .f32 := m ((c : Thread nD τ).loc main_arg2)
abbrev GF : FVec Ideal S1024 .f32 := m ((c : Thread nD τ).loc main_arg3)
abbrev M1 : FVec Ideal S1x1024x4096 .f32 := m ((c : Thread nD τ).loc main_arg4)
abbrev M2 : FVec Ideal S1x4096x1024 .f32 := m ((c : Thread nD τ).loc main_arg5)

abbrev V8 : FVec Ideal S8448x1024 .f32 := V m c main_v8
abbrev V10 : FVec Ideal S8448x1024 .f32 := V m c main_v10
abbrev V11 : FVec Ideal S1x1024 .f32 := V m c main_v11
abbrev V3 : FVec Ideal S8x1024x512 .bf16 := V m c main_v3
abbrev V6 : FVec Ideal S8x512x1024 .bf16 := V m c main_v6

/-- The integer zero, as a float. -/
theorem zero_f32 : FloatOps.sitofp (F := Ideal) .f32 (0#32) = (0 : EReal) := by
  show ((((0#32 : BitVec 32).toInt : ℤ) : ℝ) : EReal) = 0
  simp

theorem V8_at (n : Fin 8448) (j : Fin 1024) : V8 m c (ix2 n j) = if p : n.val < 8208 then HR m c (ix3 0 ⟨n.val, p⟩ j) else 0 := by
  unfold V8 V
  after_reads_simp
  simp only [StableHlo.TRef.ofBuf_toBuf, StableHlo.TRef.toBuf, StableHlo.TRef.ofBuf, cast_eq, id_eq]
  pointwise
  by_cases p : n.val < 8208 <;> simp [p, zero_f32]

theorem V10_at (n : Fin 8448) (j : Fin 1024) : V10 m c (ix2 n j) = if p : 16 ≤ n.val ∧ n.val < 8208 then TG m c (ix3 0 ⟨n.val - 16, by omega⟩ j) else 0 := by
  unfold V10 V
  after_reads_simp
  simp only [StableHlo.TRef.ofBuf_toBuf, StableHlo.TRef.toBuf, StableHlo.TRef.ofBuf, cast_eq, id_eq]
  pointwise
  by_cases p : 16 ≤ n.val ∧ n.val < 8208
  · rw [dif_pos ⟨p.1, by omega⟩, dif_pos p]
  · rw [dif_neg (fun h => p (by omega)), dif_neg p, zero_f32]

theorem V11_at (j : Fin 1024) : V11 m c (ix2 0 j) = GF m c (ix1 j) := by
  unfold V11 V
  after_reads_simp
  pointwise

theorem V3_at (k : Fin 8) (j : Fin 1024) (f : Fin 512) : V3 m c (ix3 k j f) = M1 m c (ix3 0 j (blk k f)) := by
  unfold V3 V
  after_reads_simp
  pointwise
  exact congrArg (fun q => M1 m c (ix3 0 j q)) (Fin.ext (by show k.val * 512 + f.val = 512 * k.val + f.val; omega))

theorem V6_at (k : Fin 8) (f : Fin 512) (j : Fin 1024) : V6 m c (ix3 k f j) = M2 m c (ix3 0 (blk k f) j) := by
  unfold V6 V
  after_reads_simp
  pointwise
  exact congrArg (fun q => M2 m c (ix3 0 q j)) (Fin.ext (by show k.val * 512 + f.val = 512 * k.val + f.val; omega))

theorem VGM : V m c main_arg2 = GM m c := by
  unfold V
  after_reads_simp

/-- Every window's block, from the point's number. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![0, 0] ∧ win0_6.index t = ![0, 0] ∧ win0_7.index t = ![0, 0] ∧ win0_8.index t = ![t.val, 0]
    ∧ win0_9.index t = ![t.val, 0] ∧ win0_10.index t = ![t.val, 0] ∧ win0_11.index t = ![t.val, 0] :=
  (by decide +kernel : ∀ t : Fin grid0.N, _)

theorem lt22 (t : Fin cfg0.N) : t.val < 22 := Nat.lt_of_lt_of_eq t.isLt N_0

/-- Row `p` of a point's block of rows. -/
abbrev rowOf (t : Fin cfg0.N) (p : Fin 384) : Fin 8448 := ⟨384 * t.val + p.val, by have := lt22 t; omega⟩

variable (t : Fin cfg0.N)

theorem rd0 (X : FVec Ideal S8448x1024 .f32) (p : Fin 384) (j : Fin 1024) : (((cfg0.win 0).blk t).view.read (Elt Ideal) X : FVec Ideal S384x1024 .f32) (ix2 p j) = X (ix2 (rowOf t p) j) := by
  blk_ext [idx t]
theorem rd1 (X : FVec Ideal S8448x1024 .f32) (p : Fin 384) (j : Fin 1024) : (((cfg0.win 1).blk t).view.read (Elt Ideal) X : FVec Ideal S384x1024 .f32) (ix2 p j) = X (ix2 (rowOf t p) j) := by
  blk_ext [idx t]
theorem rd2 (X : FVec Ideal S1x1024 .f32) (j : Fin 1024) : (((cfg0.win 2).blk t).view.read (Elt Ideal) X : FVec Ideal S1x1024 .f32) (ix2 0 j) = X (ix2 0 j) := by
  blk_ext [idx t]
theorem rd3 (X : FVec Ideal S1x1024 .f32) (j : Fin 1024) : (((cfg0.win 3).blk t).view.read (Elt Ideal) X : FVec Ideal S1x1024 .f32) (ix2 0 j) = X (ix2 0 j) := by
  blk_ext [idx t]
theorem blk0 (p : Fin 384) (j : Fin 1024) : (iblk m c 0 t : FVec Ideal S384x1024 .f32) (ix2 p j) = V8 m c (ix2 (rowOf t p) j) := rd0 t (V8 m c) p j
theorem blk1 (p : Fin 384) (j : Fin 1024) : (iblk m c 1 t : FVec Ideal S384x1024 .f32) (ix2 p j) = V10 m c (ix2 (rowOf t p) j) := rd1 t (V10 m c) p j
theorem blk2 (j : Fin 1024) : (iblk m c 2 t : FVec Ideal S1x1024 .f32) (ix2 0 j) = GM m c (ix2 0 j) :=
  (rd2 t (V m c main_arg2) j).trans (congrFun (VGM m c) _)
theorem blk3 (j : Fin 1024) : (iblk m c 3 t : FVec Ideal S1x1024 .f32) (ix2 0 j) = GF m c (ix1 j) := (rd3 t (V11 m c) j).trans (V11_at m c j)

/-- The six arguments hold these reals. -/
structure Reals (x : Fin 8208 → Fin 1024 → ℝ) (y : Fin 8192 → Fin 1024 → ℝ) (gm gf : Fin 1024 → ℝ) (w1 : Fin 1024 → Fin 4096 → ℝ) (w2 : Fin 4096 → Fin 1024 → ℝ) : Prop where
  x_at : ∀ n j, HR m c (ix3 0 n j) = ((x n j : ℝ) : EReal)
  y_at : ∀ n j, TG m c (ix3 0 n j) = ((y n j : ℝ) : EReal)
  gm_at : ∀ j, GM m c (ix2 0 j) = ((gm j : ℝ) : EReal)
  gf_at : ∀ j, GF m c (ix1 j) = ((gf j : ℝ) : EReal)
  w1_at : ∀ j k, M1 m c (ix3 0 j k) = ((w1 j k : ℝ) : EReal)
  w2_at : ∀ k j, M2 m c (ix3 0 k j) = ((w2 k j : ℝ) : EReal)

variable {m c} {x : Fin 8208 → Fin 1024 → ℝ} {y : Fin 8192 → Fin 1024 → ℝ} {gm gf : Fin 1024 → ℝ} {w1 : Fin 1024 → Fin 4096 → ℝ} {w2 : Fin 4096 → Fin 1024 → ℝ}
  (R : Reals m c x y gm gf w1 w2)

include R

theorem real0 : iblk m c 0 t = T fun p => xr x (384 * t.val + p.val) := by
  funext i
  idx_vars i
  refine (blk0 m c t i0 i1).trans ((V8_at m c _ _).trans ?_)
  show _ = ((xr x (384 * t.val + i0.val) i1 : ℝ) : EReal)
  unfold xr
  by_cases p : 384 * t.val + i0.val < 8208
  · rw [dif_pos p, dif_pos p]; exact R.x_at _ _
  · rw [dif_neg p, dif_neg p]; exact EReal.coe_zero.symm

theorem real1 : iblk m c 1 t = T fun p => tr y (384 * t.val + p.val) := by
  funext i
  idx_vars i
  refine (blk1 m c t i0 i1).trans ((V10_at m c _ _).trans ?_)
  show _ = ((tr y (384 * t.val + i0.val) i1 : ℝ) : EReal)
  unfold tr
  by_cases p : 16 ≤ 384 * t.val + i0.val ∧ 384 * t.val + i0.val < 8208
  · rw [dif_pos p, dif_pos p]; exact R.y_at _ _
  · rw [dif_neg p, dif_neg p]; exact EReal.coe_zero.symm

theorem real2 : iblk m c 2 t = G gm := by
  funext i
  idx_vars i
  obtain rfl : i0 = 0 := Subsingleton.elim _ _
  exact (blk2 m c t i1).trans (R.gm_at i1)

theorem real3 : iblk m c 3 t = G gf := by
  funext i
  idx_vars i
  obtain rfl : i0 = 0 := Subsingleton.elim _ _
  exact (blk3 m c t i1).trans (R.gf_at i1)

theorem realA : V m c main_v3 = WA w1 := by
  funext i
  idx_vars i
  exact (V3_at m c i0 i1 i2).trans (R.w1_at _ _)

theorem realB : V m c main_v6 = WB w2 := by
  funext i
  idx_vars i
  exact (V6_at m c i0 i1 i2).trans (R.w2_at _ _)

end Cert.Kernel2Ideal.Mlp

end
-- ==== Proof.MlpValue.lean ====
/- The eight results of the MLP's forward and backward call, entry by entry, as reals: the point's rows, and the loss and the gains' gradients as sums over all rows. -/
module

public import proofs.«01_k».proof.Proof.MlpHost

@[expose] public section

set_option maxRecDepth 16384

noncomputable section

namespace Cert.Kernel2Ideal.Mlp

open Cert.Kernel2Ideal Cert.Kernel2Ideal.Gen Cert.Mlp Cert.Attn
open Idealize.ShloMosaic Idealize.ShloMosaic.TcCoe Idealize.SL.Sem
open scoped BigOperators

variable {m : (ℓ : Loc nD τ sig) → Buf (Elt Ideal) ℓ} {c : Dev nD}
  {x : Fin 8208 → Fin 1024 → ℝ} {y : Fin 8192 → Fin 1024 → ℝ} {gm gf : Fin 1024 → ℝ} {w1 : Fin 1024 → Fin 4096 → ℝ} {w2 : Fin 4096 → Fin 1024 → ℝ}
  (R : Reals m c x y gm gf w1 w2)

/-- The sums over the blocks of rows before block `n`. -/
def accL (x : Fin 8208 → Fin 1024 → ℝ) (y : Fin 8192 → Fin 1024 → ℝ) (gm gf : Fin 1024 → ℝ) (w1 : Fin 1024 → Fin 4096 → ℝ) (w2 : Fin 4096 → Fin 1024 → ℝ) (n : ℕ) : ℝ :=
  ∑ i ∈ Finset.range n, 1 / 2 * ∑ p : Fin 384, lossT x y gm gf w1 w2 (384 * i + p.val)
def accT (f : Fin 1024 → ℕ → ℝ) (n : ℕ) (j : Fin 1024) : ℝ := ∑ i ∈ Finset.range n, ∑ p : Fin 384, f j (384 * i + p.val)

theorem accT_all (f : Fin 1024 → ℕ → ℝ) : accT f 22 = fun j => ∑ n ∈ Finset.range 8448, f j n := by
  funext j
  unfold accT
  rw [sum_rows]

/-- The arrays of real rows. -/
@[irreducible] def rows (f : ℕ → Fin 1024 → ℝ) : S8448x1024.Idx → EReal := fun i => ((f (i 0).val (i 1) : ℝ) : EReal)
@[irreducible] def wide (f : ℕ → Fin 4096 → ℝ) : S8448x4096.Idx → EReal := fun i => ((f (i 0).val (i 1) : ℝ) : EReal)
@[irreducible] def one (f : Fin 1024 → ℝ) : S1x1024.Idx → EReal := fun i => ((f (i 1) : ℝ) : EReal)
theorem rows_at (f : ℕ → Fin 1024 → ℝ) (n : Fin 8448) (j : Fin 1024) : rows f (ix2 n j) = ((f n.val j : ℝ) : EReal) := by unfold rows; rfl
theorem wide_at (f : ℕ → Fin 4096 → ℝ) (n : Fin 8448) (j : Fin 4096) : wide f (ix2 n j) = ((f n.val j : ℝ) : EReal) := by unfold wide; rfl
theorem one_at (f : Fin 1024 → ℝ) (a : Fin 1) (j : Fin 1024) : one f (ix2 a j) = ((f j : ℝ) : EReal) := by unfold one; rfl

include R

/-- A point's eight blocks, from the sums before it. -/
theorem outs_of (t : Fin cfg0.N)
    (hp : ¬ t.val % 22 = 0 → (outsAt0 m c (t.val - 1) (by omega)).2.1 = L (accL x y gm gf w1 w2 t.val) ∧ (outsAt0 m c (t.val - 1) (by omega)).2.2.1 = G (accT (gfT x y gm gf w1 w2) t.val)
      ∧ (outsAt0 m c (t.val - 1) (by omega)).2.2.2.1 = G (accT (gmT x y gm gf w1 w2) t.val)) :
    (outsAt0 m c t.val t.isLt).1 = (T fun p => dxR x y gm gf w1 w2 (384 * t.val + p.val))
      ∧ (outsAt0 m c t.val t.isLt).2.1 = L (accL x y gm gf w1 w2 (t.val + 1))
      ∧ (outsAt0 m c t.val t.isLt).2.2.1 = G (accT (gfT x y gm gf w1 w2) (t.val + 1))
      ∧ (outsAt0 m c t.val t.isLt).2.2.2.1 = G (accT (gmT x y gm gf w1 w2) (t.val + 1))
      ∧ (outsAt0 m c t.val t.isLt).2.2.2.2.1 = (T fun p => h2R x gm (384 * t.val + p.val))
      ∧ (outsAt0 m c t.val t.isLt).2.2.2.2.2.1 = (H fun p => daR x y gm gf w1 w2 (384 * t.val + p.val))
      ∧ (outsAt0 m c t.val t.isLt).2.2.2.2.2.2.1 = (H fun p => sqR x gm w1 (384 * t.val + p.val))
      ∧ (outsAt0 m c t.val t.isLt).2.2.2.2.2.2.2.1 = (T fun p => dx2R x y gm gf w1 w2 (384 * t.val + p.val)) := by
  have h22 := lt22 t
  have s := step m c t w1 w2 _ _ gm gf (accL x y gm gf w1 w2 t.val) (accT (gfT x y gm gf w1 w2) t.val) (accT (gmT x y gm gf w1 w2) t.val)
    (real0 t R) (real1 t R) (real2 t R) (real3 t R) (realA R) (realB R)
    (fun h => by
      obtain h0 : t.val = 0 := by omega
      rw [h0]
      exact ⟨Finset.sum_range_zero _, funext fun _ => Finset.sum_range_zero _, funext fun _ => Finset.sum_range_zero _⟩) hp
  refine ⟨s.1, s.2.1.trans (congrArg L ?_), s.2.2.1.trans (congrArg G ?_), s.2.2.2.1.trans (congrArg G ?_), s.2.2.2.2.1, s.2.2.2.2.2.1, s.2.2.2.2.2.2.1, s.2.2.2.2.2.2.2⟩
  · unfold accL
    rw [Finset.sum_range_succ]
    rfl
  · funext j
    unfold accT
    rw [Finset.sum_range_succ]
    rfl
  · funext j
    unfold accT
    rw [Finset.sum_range_succ]
    rfl

/-- The three sums after every point. -/
theorem sums (n : ℕ) : ∀ hn : n < cfg0.N, (outsAt0 m c n hn).2.1 = L (accL x y gm gf w1 w2 (n + 1)) ∧ (outsAt0 m c n hn).2.2.1 = G (accT (gfT x y gm gf w1 w2) (n + 1))
      ∧ (outsAt0 m c n hn).2.2.2.1 = G (accT (gmT x y gm gf w1 w2) (n + 1)) := by
  induction n with
  | zero =>
    intro hn
    have s := outs_of R ⟨0, hn⟩ (fun h => absurd rfl h)
    exact ⟨s.2.1, s.2.2.1, s.2.2.2.1⟩
  | succ n ih =>
    intro hn
    have s := outs_of R ⟨n + 1, hn⟩ (fun _ => ih (by omega))
    exact ⟨s.2.1, s.2.2.1, s.2.2.2.1⟩

/-- The sums before a point that is not the first. -/
theorem prev (t : Fin cfg0.N) : ¬ t.val % 22 = 0 → (outsAt0 m c (t.val - 1) (by omega)).2.1 = L (accL x y gm gf w1 w2 t.val) ∧ (outsAt0 m c (t.val - 1) (by omega)).2.2.1 = G (accT (gfT x y gm gf w1 w2) t.val)
      ∧ (outsAt0 m c (t.val - 1) (by omega)).2.2.2.1 = G (accT (gmT x y gm gf w1 w2) t.val) := fun h => by
  have e := sums R (t.val - 1) (by omega)
  rwa [show t.val - 1 + 1 = t.val by omega] at e

/-! ## The arrays after the call -/

theorem arr4 : ((dats m 0 c).arrAt 4 (cfgs 0).N : FVec Ideal S8448x1024 .f32) = rows (dxR x y gm gf w1 w2) := by
  refine (dats m 0 c).arrAt_eq_of_covers 4 (rows (dxR x y gm gf w1 w2)) (by decide +kernel) fun t hf z => ?_
  blk_simp
  rw [after0_4, (outs_of R t (prev R t)).1]
  idx_vars z
  have e : (win0_4.blk t).view.emb (ix2 z0 z1 : S384x1024.Idx) = ix2 (rowOf t z0) z1 := by blk_ext [idx t]
  exact ((congrArg (rows (dxR x y gm gf w1 w2)) e).trans (rows_at _ _ _)).symm

theorem arr5 (a : Fin 8) (b : Fin 128) : ((dats m 0 c).arrAt 5 (cfgs 0).N : FVec Ideal S8x128 .f32) (ix2 a b) = ((lossR x y gm gf w1 w2 : ℝ) : EReal) := by
  refine congrFun ((dats m 0 c).arrAt_eq_of_covers 5 (fun _ : S8x128.Idx => ((lossR x y gm gf w1 w2 : ℝ) : EReal)) (by decide +kernel) fun t hf z => ?_) (ix2 a b)
  blk_simp
  have hr := (flush0_5 t).mp hf
  have h22 := lt22 t
  rw [after0_5, (outs_of R t (prev R t)).2.1, show t.val + 1 = 22 by omega]
  show ((accL x y gm gf w1 w2 22 : ℝ) : EReal) = _
  unfold accL
  rw [← Finset.mul_sum, sum_rows]
  rfl

theorem arr6 : ((dats m 0 c).arrAt 6 (cfgs 0).N : FVec Ideal S1x1024 .f32) = one (gfR x y gm gf w1 w2) := by
  refine (dats m 0 c).arrAt_eq_of_covers 6 (one (gfR x y gm gf w1 w2)) (by decide +kernel) fun t hf z => ?_
  blk_simp
  have hr := (flush0_6 t).mp hf
  have h22 := lt22 t
  rw [after0_6, (outs_of R t (prev R t)).2.2.1, show t.val + 1 = 22 by omega, accT_all]
  idx_vars z
  have e : (win0_6.blk t).view.emb (ix2 z0 z1 : S1x1024.Idx) = ix2 z0 z1 := by blk_ext [idx t]
  exact ((congrArg (one (gfR x y gm gf w1 w2)) e).trans (one_at _ _ _)).symm

theorem arr7 : ((dats m 0 c).arrAt 7 (cfgs 0).N : FVec Ideal S1x1024 .f32) = one (gmR x y gm gf w1 w2) := by
  refine (dats m 0 c).arrAt_eq_of_covers 7 (one (gmR x y gm gf w1 w2)) (by decide +kernel) fun t hf z => ?_
  blk_simp
  have hr := (flush0_7 t).mp hf
  have h22 := lt22 t
  rw [after0_7, (outs_of R t (prev R t)).2.2.2.1, show t.val + 1 = 22 by omega, accT_all]
  idx_vars z
  have e : (win0_7.blk t).view.emb (ix2 z0 z1 : S1x1024.Idx) = ix2 z0 z1 := by blk_ext [idx t]
  exact ((congrArg (one (gmR x y gm gf w1 w2)) e).trans (one_at _ _ _)).symm

theorem arr8 : ((dats m 0 c).arrAt 8 (cfgs 0).N : FVec Ideal S8448x1024 .bf16) = rows (h2R x gm) := by
  refine (dats m 0 c).arrAt_eq_of_covers 8 (rows (h2R x gm)) (by decide +kernel) fun t hf z => ?_
  blk_simp
  rw [after0_8, (outs_of R t (prev R t)).2.2.2.2.1]
  idx_vars z
  have e : (win0_8.blk t).view.emb (ix2 z0 z1 : S384x1024.Idx) = ix2 (rowOf t z0) z1 := by blk_ext [idx t]
  exact ((congrArg (rows (h2R x gm)) e).trans (rows_at _ _ _)).symm

theorem arr9 : ((dats m 0 c).arrAt 9 (cfgs 0).N : FVec Ideal S8448x4096 .bf16) = wide (daR x y gm gf w1 w2) := by
  refine (dats m 0 c).arrAt_eq_of_covers 9 (wide (daR x y gm gf w1 w2)) (by decide +kernel) fun t hf z => ?_
  blk_simp
  rw [after0_9, (outs_of R t (prev R t)).2.2.2.2.2.1]
  idx_vars z
  have e : (win0_9.blk t).view.emb (ix2 z0 z1 : S384x4096.Idx) = ix2 (rowOf t z0) z1 := by blk_ext [idx t]
  exact ((congrArg (wide (daR x y gm gf w1 w2)) e).trans (wide_at _ _ _)).symm

theorem arr10 : ((dats m 0 c).arrAt 10 (cfgs 0).N : FVec Ideal S8448x4096 .bf16) = wide (sqR x gm w1) := by
  refine (dats m 0 c).arrAt_eq_of_covers 10 (wide (sqR x gm w1)) (by decide +kernel) fun t hf z => ?_
  blk_simp
  rw [after0_10, (outs_of R t (prev R t)).2.2.2.2.2.2.1]
  idx_vars z
  have e : (win0_10.blk t).view.emb (ix2 z0 z1 : S384x4096.Idx) = ix2 (rowOf t z0) z1 := by blk_ext [idx t]
  exact ((congrArg (wide (sqR x gm w1)) e).trans (wide_at _ _ _)).symm

theorem arr11 : ((dats m 0 c).arrAt 11 (cfgs 0).N : FVec Ideal S8448x1024 .bf16) = rows (dx2R x y gm gf w1 w2) := by
  refine (dats m 0 c).arrAt_eq_of_covers 11 (rows (dx2R x y gm gf w1 w2)) (by decide +kernel) fun t hf z => ?_
  blk_simp
  rw [after0_11, (outs_of R t (prev R t)).2.2.2.2.2.2.2]
  idx_vars z
  have e : (win0_11.blk t).view.emb (ix2 z0 z1 : S384x1024.Idx) = ix2 (rowOf t z0) z1 := by blk_ext [idx t]
  exact ((congrArg (rows (dx2R x y gm gf w1 w2)) e).trans (rows_at _ _ _)).symm

end Cert.Kernel2Ideal.Mlp

end
-- ==== Proof.MlpRef.lean ====
/- The reference's eight results of the MLP call on finite arguments, entry by entry, over the reals. -/
module

public import proofs.«01_k».proof.Proof.MlpReal
public import proofs.«01_k».proof.Proof.Gen.Reference2Ideal.Run
public import proofs.«01_k».proof.Proof.Gen.Reference2Ideal.Read

@[expose] public section

set_option maxRecDepth 16384

noncomputable section

namespace Cert.Reference2Ideal.Mlp

open Cert.Reference2Ideal Cert.Reference2Ideal.Gen Cert.Reference2Ideal.Read Cert.Mlp
open Cert.Attn (coe_sum div_real)
open Idealize.ShloMosaic Idealize.ShloMosaic.TcCoe Idealize.SL.Sem
open scoped BigOperators

/-- A sum over a first and a last axis of extent one. -/
theorem sum_outer (v : FVec Ideal S1x8208x1 .f32) (n : Fin 8208) :
    Ideal.hostReduceAdd reducesTo_S1x8208x1_S8208_d0_2 v 0 (ix1 n) = v (ix3 0 n 0) := by
  rw [Ideal.hostReduceAdd, zero_add]
  refine (Finset.sum_eq_single_of_mem (ix3 0 n 0) ?_ ?_)
  · rw [Finset.mem_filter]
    refine ⟨Finset.mem_univ _, funext fun a => Fin.ext ?_⟩
    fin_cases a
    exact reducesTo_S1x8208x1_S8208_d0_2.drop_apply_val_of_eq _ 0 1
  · intro b hb hne
    refine absurd ?_ hne
    rw [Finset.mem_filter] at hb
    have e1 := (reducesTo_S1x8208x1_S8208_d0_2.drop_apply_val_of_eq b 0 1).symm.trans (congrArg Fin.val (congrFun hb.2 0))
    funext a
    fin_cases a
    · exact Subsingleton.elim (α := Fin 1) _ _
    · exact Fin.ext e1
    · exact Subsingleton.elim (α := Fin 1) _ _

/-- A sum over two leading axes of extent one. -/
theorem sum_lead (v : FVec Ideal S1x1x1024 .f32) (j : Fin 1024) :
    Ideal.hostReduceAdd reducesTo_S1x1x1024_S1024_d0_1 v 0 (ix1 j) = v (ix3 0 0 j) := by
  rw [Ideal.hostReduceAdd, zero_add]
  refine (Finset.sum_eq_single_of_mem (ix3 0 0 j) ?_ ?_)
  · rw [Finset.mem_filter]
    refine ⟨Finset.mem_univ _, funext fun a => Fin.ext ?_⟩
    fin_cases a
    exact reducesTo_S1x1x1024_S1024_d0_1.drop_apply_val_of_eq _ 0 2
  · intro b hb hne
    refine absurd ?_ hne
    rw [Finset.mem_filter] at hb
    have e1 := (reducesTo_S1x1x1024_S1024_d0_1.drop_apply_val_of_eq b 0 2).symm.trans (congrArg Fin.val (congrFun hb.2 0))
    funext a
    fin_cases a
    · exact Subsingleton.elim (α := Fin 1) _ _
    · exact Subsingleton.elim (α := Fin 1) _ _
    · exact Fin.ext e1

theorem zero_f32 : (FloatOps.sitofp .f32 0#32 : Ideal .f32) = 0 := by
  show ((((0#32 : BitVec 32).toInt : ℝ)) : EReal) = 0
  simp

theorem max_zero (a : ℝ) : max ((a : ℝ) : EReal) 0 = ((max a 0 : ℝ) : EReal) :=
  (EReal.coe_strictMono.monotone.map_max (a := a) (b := 0)).symm

variable {x0 : FVec Ideal S1x8208x1024 .f32} {x1 : FVec Ideal S1x8192x1024 .f32} {x2 : FVec Ideal S1x1024 .f32} {x3 : FVec Ideal S1024 .f32}
  {x4 : FVec Ideal S1x1024x4096 .f32} {x5 : FVec Ideal S1x4096x1024 .f32}
  {x : Fin 8208 → Fin 1024 → ℝ} {y : Fin 8192 → Fin 1024 → ℝ} {gm gf : Fin 1024 → ℝ} {w1 : Fin 1024 → Fin 4096 → ℝ} {w2 : Fin 4096 → Fin 1024 → ℝ}
  (h0 : ∀ n j, x0 (ix3 0 n j) = ((x n j : ℝ) : EReal)) (h1 : ∀ n j, x1 (ix3 0 n j) = ((y n j : ℝ) : EReal)) (hm : ∀ j, x2 (ix2 0 j) = ((gm j : ℝ) : EReal))
  (hf : ∀ j, x3 (ix1 j) = ((gf j : ℝ) : EReal)) (ha : ∀ j k, x4 (ix3 0 j k) = ((w1 j k : ℝ) : EReal)) (hb : ∀ k j, x5 (ix3 0 k j) = ((w2 k j : ℝ) : EReal))

include h0

/-- A row's mean square, its reciprocal root, and the root's derivative. -/
theorem ms_at (n : Fin 8208) : val_main_v9 (F := Ideal) x0 (ix3 0 n 0) = (((∑ j, x n j * x n j) / 1024 + eps : ℝ) : EReal) := by
  pointwise [val_main_v9, val_main_v8, val_main_cst_3, val_main_v7, val_main_v6, val_main_cst_2, val_main_v5, val_main_v4, val_main_cst_1, val_main_v3]
  simp only [h0, ofBits_1024, ofBits_eps, ← EReal.coe_mul, ← coe_sum, div_real _ _ (by norm_num : (1024 : ℝ) ≠ 0), ← EReal.coe_add]

theorem rs_at (n : Fin 8208) : val_main_v10 (F := Ideal) x0 (ix3 0 n 0) = ((rs (x n) : ℝ) : EReal) := by
  rw [val_main_v10_apply, ms_at h0]
  exact rs_real (x n)

theorem drs_at (n : Fin 8208) : val_main_v13 (F := Ideal) x0 (ix3 0 n 0) = ((-(1 / 2) * (rs (x n) / ((∑ j, x n j * x n j) / 1024 + eps)) : ℝ) : EReal) := by
  pointwise [val_main_v13, val_main_v12, val_main_cst_4, val_main_v11]
  rw [rs_at h0, ms_at h0, div_real _ _ (ms_pos (x n)).ne', ofBits_neg_half, EReal.coe_mul]

theorem nm_at (n : Fin 8208) (j : Fin 1024) : val_main_v15 (F := Ideal) x0 (ix3 0 n j) = ((nm (x n) j : ℝ) : EReal) := by
  pointwise [val_main_v15, val_main_v14]
  rw [rs_at h0, h0, ← EReal.coe_mul, nm]

include hm

theorem h2_at (n : Fin 8208) (j : Fin 1024) : val_main_v18 (F := Ideal) x0 x2 (ix3 0 n j) = ((h2 gm (x n) j : ℝ) : EReal) := by
  pointwise [val_main_v18, val_main_v17, val_main_v16, val_main_v2]
  rw [nm_at h0, hm, ← EReal.coe_mul, h2]

include ha

theorem pre_at (n : Fin 8208) (k : Fin 4096) : val_main_v21 (F := Ideal) x0 x2 x4 (ix3 0 n k) = ((∑ j, h2 gm (x n) j * w1 j k : ℝ) : EReal) := by
  pointwise [val_main_v21, val_main_v20, val_main_v19, val_main_v0, val_main_cst]
  simp only [h2_at h0 hm, ha, ← EReal.coe_mul, ← coe_sum]

theorem relu_at (n : Fin 8208) (k : Fin 4096) : val_main_v22 (F := Ideal) x0 x2 x4 (ix3 0 n k) = ((relu w1 (h2 gm (x n)) k : ℝ) : EReal) := by
  pointwise [val_main_v22, val_main_call0_v0, val_main_call0_cst]
  rw [pre_at h0 hm ha, max_zero, relu]

theorem sq_at (n : Fin 8208) (k : Fin 4096) : val_main_v26 (F := Ideal) x0 x2 x4 (ix3 0 n k) = ((relu w1 (h2 gm (x n)) k * relu w1 (h2 gm (x n)) k : ℝ) : EReal) := by
  pointwise [val_main_v26]
  rw [relu_at h0 hm ha, ← EReal.coe_mul]

include hb

theorem x2_at (n : Fin 8208) (j : Fin 1024) : val_main_v32 (F := Ideal) x0 x2 x4 x5 (ix3 0 n j) = ((Cert.Mlp.x2 gm w1 w2 (x n) j : ℝ) : EReal) := by
  pointwise [val_main_v32, val_main_v31, val_main_v30, val_main_v29, val_main_v1, val_main_cst_0]
  simp only [sq_at h0 hm ha, hb, h0, ← EReal.coe_mul, ← coe_sum, ← EReal.coe_add, Cert.Mlp.x2, down]

theorem ms2_at (n : Fin 8208) : val_main_v39 (F := Ideal) x0 x2 x4 x5 (ix3 0 n 0)
    = (((∑ j, Cert.Mlp.x2 gm w1 w2 (x n) j * Cert.Mlp.x2 gm w1 w2 (x n) j) / 1024 + eps : ℝ) : EReal) := by
  pointwise [val_main_v39, val_main_v38, val_main_cst_10, val_main_v37, val_main_v36, val_main_cst_9, val_main_v35, val_main_v34, val_main_cst_8, val_main_v33]
  simp only [x2_at h0 hm ha hb, ofBits_1024, ofBits_eps, ← EReal.coe_mul, ← coe_sum, div_real _ _ (by norm_num : (1024 : ℝ) ≠ 0), ← EReal.coe_add]

theorem rs2_at (n : Fin 8208) : val_main_v40 (F := Ideal) x0 x2 x4 x5 (ix3 0 n 0) = ((rs (Cert.Mlp.x2 gm w1 w2 (x n)) : ℝ) : EReal) := by
  rw [val_main_v40_apply, ms2_at h0 hm ha hb]
  exact rs_real _

theorem drs2_at (n : Fin 8208) : val_main_v43 (F := Ideal) x0 x2 x4 x5 (ix3 0 n 0) = ((-(1 / 2) * (rs (Cert.Mlp.x2 gm w1 w2 (x n))
    / ((∑ j, Cert.Mlp.x2 gm w1 w2 (x n) j * Cert.Mlp.x2 gm w1 w2 (x n) j) / 1024 + eps)) : ℝ) : EReal) := by
  pointwise [val_main_v43, val_main_v42, val_main_cst_11, val_main_v41]
  rw [rs2_at h0 hm ha hb, ms2_at h0 hm ha hb, div_real _ _ (ms_pos _).ne', ofBits_neg_half, EReal.coe_mul]

theorem nm2_at (n : Fin 8208) (j : Fin 1024) : val_main_v45 (F := Ideal) x0 x2 x4 x5 (ix3 0 n j) = ((nm (Cert.Mlp.x2 gm w1 w2 (x n)) j : ℝ) : EReal) := by
  pointwise [val_main_v45, val_main_v44]
  rw [rs2_at h0 hm ha hb, x2_at h0 hm ha hb, ← EReal.coe_mul, nm]

include h1 hf

/-- The differences from the targets. -/
theorem diff_at (n : Fin 8192) (j : Fin 1024) : val_main_v50 (F := Ideal) x0 x1 x2 x3 x4 x5 (ix3 0 n j)
    = ((dfR x y gm gf w1 w2 (16 + n.val) j : ℝ) : EReal) := by
  pointwise [val_main_v50, val_main_v49, val_main_v48, val_main_v47, val_main_v46]
  rw [nm2_at h0 hm ha hb, hf, h1, ← EReal.coe_mul, ← EReal.coe_sub, dfR_row]

/-- The cotangent of the final normed rows. -/
theorem dout_at (n : Fin 8208) (j : Fin 1024) : val_main_v65 (F := Ideal) x0 x1 x2 x3 x4 x5 (ix3 0 n j)
    = ((dfR x y gm gf w1 w2 n.val j * (1 / 1024) : ℝ) : EReal) := by
  pointwise [val_main_v65, val_main_v64, val_main_v63, val_main_v62, val_main_v61, val_main_cst_19, val_main_v60, val_main_v59, val_main_cst_17, val_main_cst_18, val_main_v53, val_main_v52, val_main_cst_12, val_main_cst_20]
  by_cases p : 16 ≤ n.val ∧ n.val - 16 < 8192
  · rw [dif_pos p, diff_at h0 h1 hm hf ha hb, ofBits_half, ofBits_1024, ofBits_two, div_real _ _ (by norm_num), ← EReal.coe_mul, ← EReal.coe_mul]
    refine congrArg _ ?_
    show 1 / 2 / 1024 * (2 * dfR x y gm gf w1 w2 (16 + (n.val - 16)) j) = _
    rw [show 16 + (n.val - 16) = n.val by omega]
    ring
  · rw [dif_neg p, dfR_pad _ _ _ _ _ _ n.val (fun q => p ⟨q.1, by omega⟩), zero_mul, EReal.coe_zero]

/-- The loss. -/
theorem loss_at (a : Fin 8) (b : Fin 128) : val_main_v117 (F := Ideal) x0 x1 x2 x3 x4 x5 (ix2 a b) = ((lossR x y gm gf w1 w2 : ℝ) : EReal) := by
  pointwise [val_main_v117, val_main_v58, val_main_cst_16, val_main_v57, val_main_cst_15, val_main_v56, val_main_v55, val_main_cst_14, val_main_v54, val_main_cst_13, val_main_v51]
  simp only [diff_at h0 h1 hm hf ha hb, ofBits_half, ofBits_1024, ← EReal.coe_mul, ← coe_sum, div_real _ _ (by norm_num : (1024 : ℝ) ≠ 0)]
  refine congrArg _ ?_
  rw [lossR_eq, Fin.sum_univ_one]
  simp only [lossT, mul_one_div]

/-- The gradient of the final norm's gain. -/
theorem gf_at (j : Fin 1024) : val_main_v118 (F := Ideal) x0 x1 x2 x3 x4 x5 (ix2 0 j) = ((gfR x y gm gf w1 w2 j : ℝ) : EReal) := by
  pointwise [val_main_v118, val_main_v71, val_main_cst_22]
  rw [sum_lead]
  pointwise [val_main_v68, val_main_v67, val_main_cst_21, val_main_v66]
  simp only [nm2_at h0 hm ha hb, dout_at h0 h1 hm hf ha hb, ← EReal.coe_mul, ← coe_sum]
  rw [gfR_eq]

/-- The cotangent of the row after the MLP. -/
theorem dx2_at (n : Fin 8208) (j : Fin 1024) : val_main_v86 (F := Ideal) x0 x1 x2 x3 x4 x5 (ix3 0 n j) = ((dx2R x y gm gf w1 w2 n.val j : ℝ) : EReal) := by
  pointwise [val_main_v86, val_main_v85, val_main_v84, val_main_v83, val_main_v82, val_main_v81, val_main_v80, val_main_cst_25]
  rw [sum_outer]
  pointwise [val_main_v79, val_main_v78, val_main_cst_24, val_main_v77, val_main_v76, val_main_v75, val_main_v74, val_main_v73, val_main_cst_23, val_main_v72, val_main_v70, val_main_v69, val_main_v46]
  simp only [x2_at h0 hm ha hb, dout_at h0 h1 hm hf ha hb, hf, drs2_at h0 hm ha hb, rs2_at h0 hm ha hb, ofBits_1024, ← EReal.coe_mul, ← coe_sum,
    div_real _ _ (by norm_num : (1024 : ℝ) ≠ 0), ← EReal.coe_add]
  refine congrArg _ ((back_chain (Cert.Mlp.x2 gm w1 w2 (x n)) (fun i => dfR x y gm gf w1 w2 n.val i * (1 / 1024) * gf i) j _ rfl).trans ?_)
  unfold dx2R dx2 dfR
  rw [xr_row]

/-- The hidden entries' cotangents before the relu. -/
theorem da_at (n : Fin 8208) (k : Fin 4096) : val_main_v90 (F := Ideal) x0 x1 x2 x3 x4 x5 (ix3 0 n k) = ((daR x y gm gf w1 w2 n.val k : ℝ) : EReal) := by
  pointwise [val_main_v90, val_main_v89, val_main_cst_26, val_main_v88, val_main_v87, val_main_v29, val_main_v28, val_main_v27, val_main_cst_7, val_main_v24, val_main_v23, val_main_cst_5]
  simp only [dx2_at h0 h1 hm hf ha hb, hb, relu_at h0 hm ha, pre_at h0 hm ha, ofBits_two, ← EReal.coe_mul, ← coe_sum]
  have e : daR x y gm gf w1 w2 n.val k = (∑ j, dx2R x y gm gf w1 w2 n.val j * w2 k j) * (2 * relu w1 (h2 gm (x n)) k) := by
    unfold daR da hid dx2R
    rw [xr_row]
  rw [e, ← relu_cases]
  by_cases p : 0 < ∑ j, h2 gm (x n) j * w1 j k
  · rw [if_pos p, if_pos (EReal.coe_pos.mpr p)]
  · rw [if_neg p, if_neg (fun q => p (EReal.coe_pos.mp q)), EReal.coe_zero]

/-- The normed row's cotangent. -/
theorem dh2_at (n : Fin 8208) (j : Fin 1024) : val_main_v91 (F := Ideal) x0 x1 x2 x3 x4 x5 (ix3 0 n j)
    = ((dh2 gm gf w1 w2 (valid n.val) (x n) (tr y n.val) j : ℝ) : EReal) := by
  pointwise [val_main_v91, val_main_v19]
  simp only [da_at h0 h1 hm hf ha hb, ha, ← EReal.coe_mul, ← coe_sum]
  unfold daR
  rw [xr_row]
  rfl

/-- The gradient of the MLP norm's gain. -/
theorem gm_at (j : Fin 1024) : val_main_v114 (F := Ideal) x0 x1 x2 x3 x4 x5 (ix2 0 j) = ((gmR x y gm gf w1 w2 j : ℝ) : EReal) := by
  pointwise [val_main_v114, val_main_v97, val_main_cst_28]
  rw [sum_lead]
  pointwise [val_main_v94, val_main_v93, val_main_cst_27, val_main_v92]
  simp only [nm_at h0, dh2_at h0 h1 hm hf ha hb, ← EReal.coe_mul, ← coe_sum]
  rw [gmR_eq]

/-- The rows' gradient. -/
theorem dx_at (n : Fin 8208) (j : Fin 1024) : val_main_v113 (F := Ideal) x0 x1 x2 x3 x4 x5 (ix3 0 n j) = ((dxR x y gm gf w1 w2 n.val j : ℝ) : EReal) := by
  pointwise [val_main_v113, val_main_v112, val_main_v111, val_main_v110, val_main_v109, val_main_v108, val_main_v107, val_main_cst_31]
  rw [sum_outer]
  pointwise [val_main_v106, val_main_v105, val_main_cst_30, val_main_v104, val_main_v103, val_main_v102, val_main_v101, val_main_v100, val_main_v99, val_main_cst_29, val_main_v98, val_main_v96, val_main_v95, val_main_v16, val_main_v2]
  simp only [h0, hm, dh2_at h0 h1 hm hf ha hb, dx2_at h0 h1 hm hf ha hb, drs_at h0, rs_at h0, ofBits_1024, ← EReal.coe_mul, ← coe_sum,
    div_real _ _ (by norm_num : (1024 : ℝ) ≠ 0), ← EReal.coe_add]
  refine congrArg _ ?_
  rw [add_assoc, add_assoc, ← add_assoc (_ * rs (x n)), back_chain (x n) (fun i => dh2 gm gf w1 w2 (valid n.val) (x n) (tr y n.val) i * gm i) j _ rfl]
  unfold dxR dx dx2R
  rw [xr_row]

/-! ## The results with their added rows -/

/-- The rows' gradient. -/
theorem v116_at (n : Fin 8448) (j : Fin 1024) : val_main_v116 (F := Ideal) x0 x1 x2 x3 x4 x5 (ix2 n j) = ((dxR x y gm gf w1 w2 n.val j : ℝ) : EReal) := by
  pointwise [val_main_v116, val_main_v115, val_main_call1_v0, val_main_c]
  by_cases p : n.val < 8208
  · rw [dif_pos p, dx_at h0 h1 hm hf ha hb ⟨n.val, p⟩ j]
  · rw [dif_neg p, dxR_pad _ _ _ _ _ _ _ p, EReal.coe_zero, zero_f32]

/-- The hidden entries' cotangents before the relu. -/
theorem v124_at (n : Fin 8448) (j : Fin 4096) : val_main_v124 (F := Ideal) x0 x1 x2 x3 x4 x5 (ix2 n j) = ((daR x y gm gf w1 w2 n.val j : ℝ) : EReal) := by
  pointwise [val_main_v124, val_main_v123, val_main_v122, val_main_call3_v0, val_main_c_33]
  by_cases p : n.val < 8208
  · rw [dif_pos p, da_at h0 h1 hm hf ha hb ⟨n.val, p⟩ j]
  · rw [dif_neg p, daR_pad _ _ _ _ _ _ _ p, EReal.coe_zero, zero_f32]

/-- The cotangent of the rows after the MLP. -/
theorem v130_at (n : Fin 8448) (j : Fin 1024) : val_main_v130 (F := Ideal) x0 x1 x2 x3 x4 x5 (ix2 n j) = ((dx2R x y gm gf w1 w2 n.val j : ℝ) : EReal) := by
  pointwise [val_main_v130, val_main_v129, val_main_v128, val_main_call5_v0, val_main_c_35]
  by_cases p : n.val < 8208
  · rw [dif_pos p, dx2_at h0 h1 hm hf ha hb ⟨n.val, p⟩ j]
  · rw [dif_neg p, dx2R_pad _ _ _ _ _ _ _ p, EReal.coe_zero, zero_f32]

omit h1 hf ha hb in
/-- The normed rows. -/
theorem v121_at (n : Fin 8448) (j : Fin 1024) : val_main_v121 (F := Ideal) x0 x2 (ix2 n j) = ((h2R x gm n.val j : ℝ) : EReal) := by
  pointwise [val_main_v121, val_main_v120, val_main_v119, val_main_call2_v0, val_main_c_32]
  by_cases p : n.val < 8208
  · rw [dif_pos p, h2_at h0 hm ⟨n.val, p⟩ j]
    unfold h2R
    rw [xr_row x ⟨n.val, p⟩]
  · rw [dif_neg p, h2R_pad _ _ _ p, EReal.coe_zero, zero_f32]

omit h1 hf hb in
/-- The squared hidden entries. -/
theorem v127_at (n : Fin 8448) (j : Fin 4096) : val_main_v127 (F := Ideal) x0 x2 x4 (ix2 n j) = ((sqR x gm w1 n.val j : ℝ) : EReal) := by
  pointwise [val_main_v127, val_main_v126, val_main_v125, val_main_call4_v0, val_main_c_34]
  by_cases p : n.val < 8208
  · rw [dif_pos p, sq_at h0 hm ha ⟨n.val, p⟩ j]
    unfold sqR
    rw [xr_row x ⟨n.val, p⟩]
  · rw [dif_neg p, sqR_pad _ _ _ _ p, EReal.coe_zero, zero_f32]

end Cert.Reference2Ideal.Mlp

end
-- ==== Proof.MlpFinite.lean ====
/- The precondition of the MLP call, entry by entry: every argument holds reals. -/
module

public import proofs.«01_k».proof.Proof.AttnFinite
public import proofs.«01_k».proof.Proof.Gen.Pre_finite_mlp

@[expose] public section

noncomputable section

namespace Cert.Pre_finite_mlp.Mlp

open Cert.Pre_finite_mlp Cert.Pre_finite_mlp.Gen Idealize.ShloMosaic
open Cert.Pre_finite.Attn (real_of_lt and_one)

/-- Under the precondition every argument's entries are reals. -/
theorem reals (x0 : FVec Ideal S1x8208x1024 .f32) (x1 : FVec Ideal S1x8192x1024 .f32) (x2 : FVec Ideal S1x1024 .f32) (x3 : FVec Ideal S1024 .f32)
    (x4 : FVec Ideal S1x1024x4096 .f32) (x5 : FVec Ideal S1x4096x1024 .f32) (h : fn (F := Ideal) x0 x1 x2 x3 x4 x5 = fun _ => 1#1) :
    (∀ i, ((EReal.toReal (x0 i) : ℝ) : EReal) = x0 i) ∧ (∀ i, ((EReal.toReal (x1 i) : ℝ) : EReal) = x1 i) ∧ (∀ i, ((EReal.toReal (x2 i) : ℝ) : EReal) = x2 i)
      ∧ (∀ i, ((EReal.toReal (x3 i) : ℝ) : EReal) = x3 i) ∧ (∀ i, ((EReal.toReal (x4 i) : ℝ) : EReal) = x4 i) ∧ ∀ i, ((EReal.toReal (x5 i) : ℝ) : EReal) = x5 i := by
  have e := congrFun h (fun a => a.elim0)
  unfold fn fn_part1 at e
  simp only [andi_apply] at e
  obtain ⟨e1, e2⟩ := and_one e
  obtain ⟨e3, e4⟩ := and_one e1
  obtain ⟨e5, e6⟩ := and_one e2
  obtain ⟨e7, e8⟩ := and_one e3
  obtain ⟨e9, e10⟩ := and_one e4
  haveI : Subsingleton S_.Idx := ⟨fun a b => funext fun k => k.elim0⟩
  exact ⟨fun i => real_of_lt x0 _ i (Host.reduce_andi_all _ _ _ _ _ e7 i), fun i => real_of_lt x1 _ i (Host.reduce_andi_all _ _ _ _ _ e8 i),
    fun i => real_of_lt x2 _ i (Host.reduce_andi_all _ _ _ _ _ e9 i), fun i => real_of_lt x3 _ i (Host.reduce_andi_all _ _ _ _ _ e10 i),
    fun i => real_of_lt x4 _ i (Host.reduce_andi_all _ _ _ _ _ e5 i), fun i => real_of_lt x5 _ i (Host.reduce_andi_all _ _ _ _ _ e6 i)⟩

end Cert.Pre_finite_mlp.Mlp

end
-- ==== Proof.MlpClaim.lean ====
/- The MLP's forward and backward call against the derivative of the reference's forward lines: the claim. -/
module

public import proofs.«01_k».proof.Proof.MlpValue
public import proofs.«01_k».proof.Proof.MlpRef
public import proofs.«01_k».proof.Proof.MlpFinite
public import proofs.«01_k».proof.Defs
public import Idealize.ShloMosaic.Lib.Claim

@[expose] public section

set_option maxRecDepth 16384

noncomputable section

namespace Cert.Mlp

open Idealize.ShloMosaic Idealize.ShloMosaic.TcCoe Idealize.SL.Sem
open Cert.Reference2Ideal (S1x8208x1024 S1x8192x1024 S1x1024 S1024 S1x1024x4096 S1x4096x1024)
open Cert.Reference2Ideal.Read
open Cert.Kernel2Ideal.Mlp (Reals HR TG GM GF M1 M2)
open scoped BigOperators

section
variable {m : (ℓ : Loc Cert.Kernel2Ideal.nD Cert.Kernel2Ideal.τ Cert.Kernel2Ideal.sig) → Buf (Elt Ideal) ℓ} {c : Dev Cert.Kernel2Ideal.nD}
  {x : Fin 8208 → Fin 1024 → ℝ} {y : Fin 8192 → Fin 1024 → ℝ} {gm gf : Fin 1024 → ℝ} {w1 : Fin 1024 → Fin 4096 → ℝ} {w2 : Fin 4096 → Fin 1024 → ℝ}
  (R : Reals m c x y gm gf w1 w2)
  {x0 : FVec Ideal S1x8208x1024 .f32} {x1 : FVec Ideal S1x8192x1024 .f32} {x2 : FVec Ideal S1x1024 .f32} {x3 : FVec Ideal S1024 .f32}
  {x4 : FVec Ideal S1x1024x4096 .f32} {x5 : FVec Ideal S1x4096x1024 .f32}
  (h0 : ∀ n j, x0 (ix3 0 n j) = ((x n j : ℝ) : EReal)) (h1 : ∀ n j, x1 (ix3 0 n j) = ((y n j : ℝ) : EReal)) (hm : ∀ j, x2 (ix2 0 j) = ((gm j : ℝ) : EReal))
  (hf : ∀ j, x3 (ix1 j) = ((gf j : ℝ) : EReal)) (ha : ∀ j k, x4 (ix3 0 j k) = ((w1 j k : ℝ) : EReal)) (hb : ∀ k j, x5 (ix3 0 k j) = ((w2 k j : ℝ) : EReal))

include R h0 h1 hm hf ha hb

/-- The rows' gradients agree. -/
theorem eq4 : ((Cert.Kernel2Ideal.Gen.dats m 0 c).arrAt 4 (Cert.Kernel2Ideal.cfgs 0).N : FVec Ideal Cert.Kernel2Ideal.S8448x1024 .f32) = val_main_v116 (F := Ideal) x0 x1 x2 x3 x4 x5 := by
  refine (Cert.Kernel2Ideal.Mlp.arr4 R).trans ?_
  funext i
  idx_vars i
  exact (Cert.Kernel2Ideal.Mlp.rows_at _ _ _).trans (Cert.Reference2Ideal.Mlp.v116_at h0 h1 hm hf ha hb i0 i1).symm

/-- The losses agree. -/
theorem eq5 : ((Cert.Kernel2Ideal.Gen.dats m 0 c).arrAt 5 (Cert.Kernel2Ideal.cfgs 0).N : FVec Ideal Cert.Kernel2Ideal.S8x128 .f32) = val_main_v117 (F := Ideal) x0 x1 x2 x3 x4 x5 := by
  funext i
  idx_vars i
  exact (Cert.Kernel2Ideal.Mlp.arr5 R i0 i1).trans (Cert.Reference2Ideal.Mlp.loss_at h0 h1 hm hf ha hb i0 i1).symm

/-- The gradients of the final norm's gain agree. -/
theorem eq6 : ((Cert.Kernel2Ideal.Gen.dats m 0 c).arrAt 6 (Cert.Kernel2Ideal.cfgs 0).N : FVec Ideal Cert.Kernel2Ideal.S1x1024 .f32) = val_main_v118 (F := Ideal) x0 x1 x2 x3 x4 x5 := by
  refine (Cert.Kernel2Ideal.Mlp.arr6 R).trans ?_
  funext i
  idx_vars i
  obtain rfl : i0 = 0 := Subsingleton.elim _ _
  exact (Cert.Kernel2Ideal.Mlp.one_at _ _ _).trans (Cert.Reference2Ideal.Mlp.gf_at h0 h1 hm hf ha hb i1).symm

/-- The gradients of the MLP norm's gain agree. -/
theorem eq7 : ((Cert.Kernel2Ideal.Gen.dats m 0 c).arrAt 7 (Cert.Kernel2Ideal.cfgs 0).N : FVec Ideal Cert.Kernel2Ideal.S1x1024 .f32) = val_main_v114 (F := Ideal) x0 x1 x2 x3 x4 x5 := by
  refine (Cert.Kernel2Ideal.Mlp.arr7 R).trans ?_
  funext i
  idx_vars i
  obtain rfl : i0 = 0 := Subsingleton.elim _ _
  exact (Cert.Kernel2Ideal.Mlp.one_at _ _ _).trans (Cert.Reference2Ideal.Mlp.gm_at h0 h1 hm hf ha hb i1).symm

/-- The hidden entries' cotangents agree. -/
theorem eq9 : ((Cert.Kernel2Ideal.Gen.dats m 0 c).arrAt 9 (Cert.Kernel2Ideal.cfgs 0).N : FVec Ideal Cert.Kernel2Ideal.S8448x4096 .bf16) = val_main_v124 (F := Ideal) x0 x1 x2 x3 x4 x5 := by
  refine (Cert.Kernel2Ideal.Mlp.arr9 R).trans ?_
  funext i
  idx_vars i
  exact (Cert.Kernel2Ideal.Mlp.wide_at _ _ _).trans (Cert.Reference2Ideal.Mlp.v124_at h0 h1 hm hf ha hb i0 i1).symm

/-- The cotangents of the rows after the MLP agree. -/
theorem eq11 : ((Cert.Kernel2Ideal.Gen.dats m 0 c).arrAt 11 (Cert.Kernel2Ideal.cfgs 0).N : FVec Ideal Cert.Kernel2Ideal.S8448x1024 .bf16) = val_main_v130 (F := Ideal) x0 x1 x2 x3 x4 x5 := by
  refine (Cert.Kernel2Ideal.Mlp.arr11 R).trans ?_
  funext i
  idx_vars i
  exact (Cert.Kernel2Ideal.Mlp.rows_at _ _ _).trans (Cert.Reference2Ideal.Mlp.v130_at h0 h1 hm hf ha hb i0 i1).symm

omit h1 hf ha hb in
/-- The normed rows agree. -/
theorem eq8 : ((Cert.Kernel2Ideal.Gen.dats m 0 c).arrAt 8 (Cert.Kernel2Ideal.cfgs 0).N : FVec Ideal Cert.Kernel2Ideal.S8448x1024 .bf16) = val_main_v121 (F := Ideal) x0 x2 := by
  refine (Cert.Kernel2Ideal.Mlp.arr8 R).trans ?_
  funext i
  idx_vars i
  exact (Cert.Kernel2Ideal.Mlp.rows_at _ _ _).trans (Cert.Reference2Ideal.Mlp.v121_at h0 hm i0 i1).symm

omit h1 hf hb in
/-- The squared hidden entries agree. -/
theorem eq10 : ((Cert.Kernel2Ideal.Gen.dats m 0 c).arrAt 10 (Cert.Kernel2Ideal.cfgs 0).N : FVec Ideal Cert.Kernel2Ideal.S8448x4096 .bf16) = val_main_v127 (F := Ideal) x0 x2 x4 := by
  refine (Cert.Kernel2Ideal.Mlp.arr10 R).trans ?_
  funext i
  idx_vars i
  exact (Cert.Kernel2Ideal.Mlp.wide_at _ _ _).trans (Cert.Reference2Ideal.Mlp.v127_at h0 hm ha i0 i1).symm

end

/-- Under the precondition the arguments hold reals. -/
theorem reals_of_pre {m : (ℓ : Loc Cert.Kernel2Ideal.nD Cert.Kernel2Ideal.τ Cert.Kernel2Ideal.sig) → Buf (Elt Ideal) ℓ}
    (hpre : Cert.Pre_Kernel2Ideal_finite_mlp m) (c : Dev Cert.Kernel2Ideal.nD) : Reals m c
    (fun n j => EReal.toReal (HR m c (ix3 0 n j))) (fun n j => EReal.toReal (TG m c (ix3 0 n j))) (fun j => EReal.toReal (GM m c (ix2 0 j)))
    (fun j => EReal.toReal (GF m c (ix1 j))) (fun j k => EReal.toReal (M1 m c (ix3 0 j k))) (fun k j => EReal.toReal (M2 m c (ix3 0 k j))) := by
  obtain ⟨h0, h1, h2, h3, h4, h5⟩ := Cert.Pre_finite_mlp.Mlp.reals _ _ _ _ _ _ (hpre c)
  exact ⟨fun n j => (h0 _).symm, fun n j => (h1 _).symm, fun j => (h2 _).symm, fun j => (h3 _).symm, fun j k => (h4 _).symm, fun k j => (h5 _).symm⟩

/-- The reference's arguments hold the same reals. -/
theorem entries {m : (ℓ : Loc Cert.Kernel2Ideal.nD Cert.Kernel2Ideal.τ Cert.Kernel2Ideal.sig) → Buf (Elt Ideal) ℓ}
    {m' : (ℓ : Loc Cert.Reference2Ideal.nD Cert.Reference2Ideal.τ Cert.Reference2Ideal.sig) → Buf (Elt Ideal) ℓ} (hpre : Cert.Pre_Kernel2Ideal_finite_mlp m)
    (hagree : ∀ c : Dev Cert.Kernel2Ideal.nD, m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) (c : Dev Cert.Kernel2Ideal.nD) :
    (∀ n j, (StableHlo.launchContents m' c (Proc.devRef .tc Cert.Reference2Ideal.main_arg0) : FVec Ideal S1x8208x1024 .f32) (ix3 0 n j) = ((EReal.toReal (HR m c (ix3 0 n j)) : ℝ) : EReal))
    ∧ (∀ n j, (StableHlo.launchContents m' c (Proc.devRef .tc Cert.Reference2Ideal.main_arg1) : FVec Ideal S1x8192x1024 .f32) (ix3 0 n j) = ((EReal.toReal (TG m c (ix3 0 n j)) : ℝ) : EReal))
    ∧ (∀ j, (StableHlo.launchContents m' c (Proc.devRef .tc Cert.Reference2Ideal.main_arg2) : FVec Ideal S1x1024 .f32) (ix2 0 j) = ((EReal.toReal (GM m c (ix2 0 j)) : ℝ) : EReal))
    ∧ (∀ j, (StableHlo.launchContents m' c (Proc.devRef .tc Cert.Reference2Ideal.main_arg3) : FVec Ideal S1024 .f32) (ix1 j) = ((EReal.toReal (GF m c (ix1 j)) : ℝ) : EReal))
    ∧ (∀ j k, (StableHlo.launchContents m' c (Proc.devRef .tc Cert.Reference2Ideal.main_arg4) : FVec Ideal S1x1024x4096 .f32) (ix3 0 j k) = ((EReal.toReal (M1 m c (ix3 0 j k)) : ℝ) : EReal))
    ∧ ∀ k j, (StableHlo.launchContents m' c (Proc.devRef .tc Cert.Reference2Ideal.main_arg5) : FVec Ideal S1x4096x1024 .f32) (ix3 0 k j) = ((EReal.toReal (M2 m c (ix3 0 k j)) : ℝ) : EReal) := by
  obtain ⟨e0, e1, e2, e3, e4, e5⟩ := hagree c
  have R := reals_of_pre hpre c
  exact ⟨fun n j => (congrFun e0 _).trans (R.x_at n j), fun n j => (congrFun e1 _).trans (R.y_at n j), fun j => (congrFun e2 _).trans (R.gm_at j),
    fun j => (congrFun e3 _).trans (R.gf_at j), fun j k => (congrFun e4 _).trans (R.w1_at j k), fun k j => (congrFun e5 _).trans (R.w2_at k j)⟩

set_option maxHeartbeats 4000000 in
/-- On finite arguments the kernel's eight results are the loss, its derivative, and the arrays the weights' gradients are made of. -/
theorem algebraic : Cert.algebraic_Kernel2Ideal_Reference2Ideal_pre_finite_mlp := by
  pair_intro
  · run_from Cert.Kernel2Ideal.Gen.run_main m g
    all_goals after_reads_simp
  · run_from Cert.Reference2Ideal.Value.run m' g'
    · obtain ⟨h0, h1, hm, hf, ha, hb⟩ := entries hpre hagree c
      rw [← (hagree c).1]
      exact (val_main_v116_eq (StableHlo.launchContents m' c)).trans (eq4 (reals_of_pre hpre c) h0 h1 hm hf ha hb).symm
    · obtain ⟨h0, h1, hm, hf, ha, hb⟩ := entries hpre hagree c
      exact (val_main_v117_eq (StableHlo.launchContents m' c)).trans (eq5 (reals_of_pre hpre c) h0 h1 hm hf ha hb).symm
    · obtain ⟨h0, h1, hm, hf, ha, hb⟩ := entries hpre hagree c
      exact (val_main_v118_eq (StableHlo.launchContents m' c)).trans (eq6 (reals_of_pre hpre c) h0 h1 hm hf ha hb).symm
    · obtain ⟨h0, h1, hm, hf, ha, hb⟩ := entries hpre hagree c
      exact (val_main_v114_eq (StableHlo.launchContents m' c)).trans (eq7 (reals_of_pre hpre c) h0 h1 hm hf ha hb).symm
    · obtain ⟨h0, h1, hm, hf, ha, hb⟩ := entries hpre hagree c
      exact (val_main_v121_eq (StableHlo.launchContents m' c)).trans (eq8 (reals_of_pre hpre c) h0 hm).symm
    · obtain ⟨h0, h1, hm, hf, ha, hb⟩ := entries hpre hagree c
      exact (val_main_v124_eq (StableHlo.launchContents m' c)).trans (eq9 (reals_of_pre hpre c) h0 h1 hm hf ha hb).symm
    · obtain ⟨h0, h1, hm, hf, ha, hb⟩ := entries hpre hagree c
      exact (val_main_v127_eq (StableHlo.launchContents m' c)).trans (eq10 (reals_of_pre hpre c) h0 hm ha).symm
    · obtain ⟨h0, h1, hm, hf, ha, hb⟩ := entries hpre hagree c
      exact (val_main_v130_eq (StableHlo.launchContents m' c)).trans (eq11 (reals_of_pre hpre c) h0 h1 hm hf ha hb).symm

end Cert.Mlp

end
-- ==== Proof.InTwin.lean ====
/- The projection kernel as printed and its idealization are one text: one run serves both frames. -/
module

public import proofs.«01_k».proof.Proof.Gen.Kernel3Ideal.Frame
public import proofs.«01_k».proof.Proof.Gen.Kernel3
public import proofs.«01_k».proof.Defs
public import Idealize.ShloMosaic.Lib.Tactic.ProgEq

@[expose] public section

set_option maxRecDepth 16384

noncomputable section

namespace Cert.Kernel3.InProj

open Idealize.ShloMosaic Idealize.SL.Sem

/-- The frame's statement over the idealization's text, at the floats of the machine. -/
def Twin : Prop :=
  ∀ (m : (ℓ : Loc Cert.Kernel3Ideal.nD Cert.Kernel3Ideal.τ Cert.Kernel3Ideal.sig) → Buf (Elt Bits) ℓ) (g : Dev Cert.Kernel3Ideal.nD → PrngReg), True →
    θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

theorem twin : Twin := fun m g _ => Cert.Kernel3Ideal.Gen.frame (F := Bits) m g

theorem same : Cert.quiescent_Kernel3 = Twin := by sl_kernel_rfl

/-- The frame of the kernel as printed. -/
theorem quiescent : Cert.quiescent_Kernel3 := same ▸ twin

end Cert.Kernel3.InProj

end
-- ==== Proof.InReal.lean ====
/- The gradient of the projections' inputs over the reals: lanes in pairs of heads, the norm over a head, the rotation. -/
module

public import proofs.«01_k».proof.Proof.MlpReal

@[expose] public section

noncomputable section

namespace Cert.InProj

open Cert.Mlp Cert.Attn Idealize.ShloMosaic
open scoped BigOperators

/-! ## One pair of heads: 128 lanes, two heads of 64 -/

/-- One where two lanes are of one head, else zero. -/
def msk (k l : Fin 128) : ℝ := if k.val / 64 = l.val / 64 then 1 else 0

/-- The mean over the lane's head, through the matrix of ones and zeros. -/
def hm (v : Fin 128 → ℝ) (l : Fin 128) : ℝ := (∑ k, v k * msk k l) * (1 / 64)

/-- One over the root mean square of the lane's head. -/
def hr (r : Fin 128 → ℝ) (l : Fin 128) : ℝ := (Real.sqrt (hm (fun k => r k * r k) l + eps))⁻¹

/-- The normed row, before its gain. -/
def hx (r : Fin 128 → ℝ) (l : Fin 128) : ℝ := r l * hr r l

/-- The other lane of an even and odd pair. -/
def sw (l : Fin 128) : Fin 128 := if h : l.val % 2 = 0 then ⟨l.val + 1, by omega⟩ else ⟨l.val - 1, by omega⟩

/-- The rotation's transpose, with the signs in the table `s`. -/
def dn (c s d : Fin 128 → ℝ) (l : Fin 128) : ℝ := d l * c l + d (sw l) * s (sw l)

/-- The gradient through gain and norm at row `r`, from the cotangent `D` of what the rotation takes. -/
def dw (r g D : Fin 128 → ℝ) (l : Fin 128) : ℝ := hr r l * (D l * g l - hx r l * hm (fun k => D k * g k * hx r k) l)

/-- The row's part of the gain's gradient. -/
def dg (r D : Fin 128 → ℝ) (l : Fin 128) : ℝ := D l * hx r l

/-- Lane `d` of head `b`. -/
def ln (b : Fin 2) (d : Fin 64) : Fin 128 := ⟨64 * b.val + d.val, by omega⟩

theorem sum_ln (f : Fin 128 → ℝ) : ∑ k, f k = ∑ b : Fin 2, ∑ d : Fin 64, f (ln b d) := by
  rw [Fin.sum_univ_tiles 2 64 rfl f]
  exact Finset.sum_congr rfl fun c _ => Finset.sum_congr rfl fun k _ => congrArg f (Fin.ext (by show c.val * 64 + k.val = 64 * c.val + k.val; omega))

theorem hm_ln (v : Fin 128 → ℝ) (b : Fin 2) (d : Fin 64) : hm v (ln b d) = (∑ e : Fin 64, v (ln b e)) / 64 := by
  unfold hm
  rw [sum_ln, Finset.sum_eq_single b]
  · refine (congrArg (· * (1 / 64 : ℝ)) ?_).trans (div_eq_mul_one_div _ _).symm
    refine Finset.sum_congr rfl fun e _ => ?_
    rw [msk, if_pos (by show (64 * b.val + e.val) / 64 = (64 * b.val + d.val) / 64; omega), mul_one]
  · intro b' _ hb
    refine Finset.sum_eq_zero fun e _ => ?_
    have : b'.val ≠ b.val := fun h => hb (Fin.ext h)
    rw [msk, if_neg (by show ¬ (64 * b'.val + e.val) / 64 = (64 * b.val + d.val) / 64; omega), mul_zero]
  · exact fun h => absurd (Finset.mem_univ b) h

theorem msk_nonneg (k l : Fin 128) : 0 ≤ msk k l := by unfold msk; split <;> norm_num

theorem hms_pos (r : Fin 128 → ℝ) (l : Fin 128) : 0 < hm (fun k => r k * r k) l + eps :=
  add_pos_of_nonneg_of_pos (mul_nonneg (Finset.sum_nonneg fun k _ => mul_nonneg (mul_self_nonneg _) (msk_nonneg k l)) (by norm_num)) eps_pos

theorem hr_real (r : Fin 128 → ℝ) (l : Fin 128) : Idealize.ShloMosaic.Ideal.rsqrt ((hm (fun k => r k * r k) l + eps : ℝ) : EReal) = ((hr r l : ℝ) : EReal) :=
  rsqrt_real _ (hms_pos r l)

theorem hr_sq (r : Fin 128 → ℝ) (l : Fin 128) : hr r l * hr r l * (hm (fun k => r k * r k) l + eps) = 1 := by
  have h := hms_pos r l
  unfold hr
  generalize hm (fun k => r k * r k) l + eps = a at h ⊢
  rw [← mul_inv, Real.mul_self_sqrt h.le, inv_mul_cancel₀ h.ne']

/-- One head: a row of 64, its reciprocal root mean square, and the chain rule through the norm. -/
def rs64 (x : Fin 64 → ℝ) : ℝ := (Real.sqrt ((∑ j, x j * x j) / 64 + eps))⁻¹

theorem ms64_pos (x : Fin 64 → ℝ) : 0 < (∑ j, x j * x j) / 64 + eps :=
  add_pos_of_nonneg_of_pos (div_nonneg (Finset.sum_nonneg fun j _ => mul_self_nonneg _) (by norm_num)) eps_pos

theorem rs64_real (x : Fin 64 → ℝ) : Idealize.ShloMosaic.Ideal.rsqrt (((∑ j, x j * x j) / 64 + eps : ℝ) : EReal) = ((rs64 x : ℝ) : EReal) :=
  rsqrt_real _ (ms64_pos x)

theorem hr_ln (r : Fin 128 → ℝ) (b : Fin 2) (d : Fin 64) : hr r (ln b d) = rs64 fun e => r (ln b e) := by
  unfold hr rs64
  rw [hm_ln]

theorem rs64_sq (x : Fin 64 → ℝ) : rs64 x * rs64 x * ((∑ j, x j * x j) / 64 + eps) = 1 := by
  have h := ms64_pos x
  unfold rs64
  generalize (∑ j, x j * x j) / 64 + eps = a at h ⊢
  rw [← mul_inv, Real.mul_self_sqrt h.le, inv_mul_cancel₀ h.ne']

theorem dw_chain (r g D : Fin 128 → ℝ) (b : Fin 2) (d : Fin 64) (s : ℝ)
    (hs : s = (∑ e, r (ln b e) * (D (ln b e) * g (ln b e)))
      * (-(1 / 2) * (rs64 (fun e => r (ln b e)) / ((∑ e, r (ln b e) * r (ln b e)) / 64 + eps))) / 64) :
    D (ln b d) * g (ln b d) * rs64 (fun e => r (ln b e)) + r (ln b d) * s + s * r (ln b d) = dw r g D (ln b d) := by
  have h := ms64_pos fun e => r (ln b e)
  have e : rs64 (fun e => r (ln b e)) / ((∑ e, r (ln b e) * r (ln b e)) / 64 + eps)
      = rs64 (fun e => r (ln b e)) * (rs64 (fun e => r (ln b e)) * rs64 (fun e => r (ln b e))) := by
    rw [div_eq_iff h.ne', mul_assoc, rs64_sq (fun e => r (ln b e)), mul_one]
  have e2 : (∑ e, D (ln b e) * g (ln b e) * hx r (ln b e)) = rs64 (fun e => r (ln b e)) * ∑ e, r (ln b e) * (D (ln b e) * g (ln b e)) := by
    rw [Finset.mul_sum]
    exact Finset.sum_congr rfl fun i _ => by rw [hx, hr_ln]; ring
  rw [hs, e, dw, hm_ln, e2, hx, hr_ln]
  ring

/-! ## The whole call -/

/-- A row of the padded sequence: zero behind the 8208 rows. -/
def pd {w : ℕ} (x : Fin 8208 → Fin w → ℝ) (n : ℕ) (j : Fin w) : ℝ := if h : n < 8208 then x ⟨n, h⟩ j else 0

theorem pd_row {w : ℕ} (x : Fin 8208 → Fin w → ℝ) (n : Fin 8208) : pd x n.val = x n := by
  funext j
  unfold pd
  rw [dif_pos n.isLt]

theorem pd_pad {w : ℕ} (x : Fin 8208 → Fin w → ℝ) (n : ℕ) (h : ¬ n < 8208) : pd x n = fun _ => 0 := by
  funext j
  unfold pd
  rw [dif_neg h]

/-- The inverse frequency of pair `i` of a head's first or second half. -/
def invf (i : ℕ) : ℝ := Real.rpow 10000 (-(i : ℝ) / 16)

/-- The rotation's angle in row `n`, pair `k`: none in the first 16 rows, then by the grid's row and column. -/
def ang (n : Fin 8208) (k : Fin 32) : ℝ :=
  if n.val < 16 then 0 else if k.val < 16 then ((n.val - 16) / 64 : ℕ) * invf k.val else ((n.val - 16) % 64 : ℕ) * invf (k.val - 16)

/-- Pair of a lane of two heads. -/
def pr (l : Fin 128) : Fin 32 := ⟨l.val % 64 / 2, by omega⟩

/-- Lane `l` of pair of heads `a`, among the projection's columns. -/
def qc (a : Fin 8) (l : Fin 128) : Fin 1024 := ⟨128 * a.val + l.val, by omega⟩
def kc (a : Fin 2) (l : Fin 128) : Fin 256 := ⟨128 * a.val + l.val, by omega⟩

/-- The projection's columns: 512 of the scan, eight pairs of heads of queries, two of keys, the values, the gates. -/
def sections (u : Fin 512 → ℝ) (q : Fin 8 → Fin 128 → ℝ) (k : Fin 2 → Fin 128 → ℝ) (v : Fin 256 → ℝ) (t : Fin 2048 → ℝ) (j : Fin 4096) : ℝ :=
  if h : j.val < 512 then u ⟨j.val, h⟩
  else if h : j.val < 1536 then q ⟨(j.val - 512) / 128, by omega⟩ ⟨j.val % 128, by omega⟩
  else if h : j.val < 1792 then k ⟨(j.val - 1536) / 128, by omega⟩ ⟨j.val % 128, by omega⟩
  else if h : j.val < 2048 then v ⟨j.val - 1792, by omega⟩
  else t ⟨j.val - 2048, by omega⟩

section
variable (u : Fin 512 → ℝ) (q : Fin 8 → Fin 128 → ℝ) (k : Fin 2 → Fin 128 → ℝ) (v : Fin 256 → ℝ) (t : Fin 2048 → ℝ)
theorem sections_u (j : Fin 4096) (i : Fin 512) (h : j.val = i.val) : sections u q k v t j = u i := by
  rw [sections, dif_pos (by omega)]
  exact congrArg u (Fin.ext h)
theorem sections_q (j : Fin 4096) (a : Fin 8) (l : Fin 128) (h : j.val = 512 + 128 * a.val + l.val) : sections u q k v t j = q a l := by
  rw [sections, dif_neg (by omega), dif_pos (by omega)]
  exact congrArg₂ q (Fin.ext (by show (j.val - 512) / 128 = a.val; omega)) (Fin.ext (by show j.val % 128 = l.val; omega))
theorem sections_k (j : Fin 4096) (a : Fin 2) (l : Fin 128) (h : j.val = 1536 + 128 * a.val + l.val) : sections u q k v t j = k a l := by
  rw [sections, dif_neg (by omega), dif_neg (by omega), dif_pos (by omega)]
  exact congrArg₂ k (Fin.ext (by show (j.val - 1536) / 128 = a.val; omega)) (Fin.ext (by show j.val % 128 = l.val; omega))
theorem sections_v (j : Fin 4096) (i : Fin 256) (h : j.val = 1792 + i.val) : sections u q k v t j = v i := by
  rw [sections, dif_neg (by omega), dif_neg (by omega), dif_neg (by omega), dif_pos (by omega)]
  exact congrArg v (Fin.ext (by show j.val - 1792 = i.val; omega))
theorem sections_t (j : Fin 4096) (i : Fin 2048) (h : j.val = 2048 + i.val) : sections u q k v t j = t i := by
  rw [sections, dif_neg (by omega), dif_neg (by omega), dif_neg (by omega), dif_neg (by omega)]
  exact congrArg t (Fin.ext (by show j.val - 2048 = i.val; omega))
end

/-- The call's arguments, as reals. -/
structure In where
  x : Fin 8208 → Fin 1024 → ℝ
  gm : Fin 1024 → ℝ
  w : Fin 1024 → Fin 4096 → ℝ
  qg : Fin 64 → ℝ
  kg : Fin 64 → ℝ
  dr : Fin 8208 → Fin 1024 → ℝ
  u1 : Fin 8208 → Fin 512 → ℝ
  u2 : Fin 8208 → Fin 512 → ℝ
  u3 : Fin 8208 → Fin 512 → ℝ
  dq : Fin 8208 → Fin 1024 → ℝ
  dk : Fin 8208 → Fin 256 → ℝ
  dv : Fin 8208 → Fin 256 → ℝ
  gs : Fin 8208 → Fin 1024 → ℝ
  ga : Fin 8208 → Fin 1024 → ℝ

namespace In
variable (I : In)

/-- The projections of queries and keys, before norm and rotation. -/
def qr (n : Fin 8208) (c : Fin 1024) : ℝ := ∑ j, h2 I.gm (I.x n) j * I.w j ⟨512 + c.val, by omega⟩
def kr (n : Fin 8208) (c : Fin 256) : ℝ := ∑ j, h2 I.gm (I.x n) j * I.w j ⟨1536 + c.val, by omega⟩

/-- The tables of the rotation. -/
def cs (n : Fin 8208) (l : Fin 128) : ℝ := Real.cos (ang n (pr l))
def sn (n : Fin 8208) (l : Fin 128) : ℝ := if l.val % 2 = 0 then -Real.sin (ang n (pr l)) else Real.sin (ang n (pr l))

/-- A head's gain, twice. -/
def g2 (g : Fin 64 → ℝ) (l : Fin 128) : ℝ := g ⟨l.val % 64, by omega⟩

/-- Pair of heads `a` in row `n`: projection, and cotangent before the rotation. -/
def rq (n : ℕ) (a : Fin 8) (l : Fin 128) : ℝ := pd I.qr n (qc a l)
def rk (n : ℕ) (a : Fin 2) (l : Fin 128) : ℝ := pd I.kr n (kc a l)
def Dq (n : ℕ) (a : Fin 8) : Fin 128 → ℝ := dn (pd cs n) (pd sn n) fun l => pd I.dq n (qc a l)
def Dk (n : ℕ) (a : Fin 2) : Fin 128 → ℝ := dn (pd cs n) (pd sn n) fun l => pd I.dk n (kc a l)

/-- The gates' cotangents in row `n`, side by side. -/
def gt (n : ℕ) (k : Fin 2048) : ℝ := if h : k.val < 1024 then pd I.gs n ⟨k.val, h⟩ else pd I.ga n ⟨k.val - 1024, by omega⟩

/-- The cotangent of the projection in row `n`. -/
def dp (n : ℕ) : Fin 4096 → ℝ :=
  sections (fun k => pd I.u1 n k + pd I.u2 n k + pd I.u3 n k) (fun a => dw (I.rq n a) (g2 I.qg) (I.Dq n a))
    (fun a => dw (I.rk n a) (g2 I.kg) (I.Dk n a)) (pd I.dv n) (I.gt n)

/-- The cotangent of the normed row. -/
def dh (n : ℕ) : Fin 1024 → ℝ := up I.w (I.dp n)
/-- The row's gradient. -/
def dx (n : ℕ) (j : Fin 1024) : ℝ := pd I.dr n j + back (pd I.x n) (fun i => I.dh n i * I.gm i) j
/-- The row's parts of the gains' gradients. -/
def gmT (j : Fin 1024) (n : ℕ) : ℝ := I.dh n j * nm (pd I.x n) j
def qgT (l : Fin 128) (n : ℕ) : ℝ := ∑ a, dg (I.rq n a) (I.Dq n a) l
def kgT (l : Fin 128) (n : ℕ) : ℝ := ∑ a, dg (I.rk n a) (I.Dk n a) l
/-- The gains' gradients. -/
def gmS (j : Fin 1024) : ℝ := ∑ n ∈ Finset.range 8448, I.gmT j n
def qgS (l : Fin 128) : ℝ := ∑ n ∈ Finset.range 8448, I.qgT l n
def kgS (l : Fin 128) : ℝ := ∑ n ∈ Finset.range 8448, I.kgT l n

/-! The rows behind the sequence. -/

theorem dn_zero (c s : Fin 128 → ℝ) : dn c s (fun _ => 0) = fun _ => 0 := funext fun _ => by simp [dn]
theorem dw_zero (r g : Fin 128 → ℝ) : dw r g (fun _ => 0) = fun _ => 0 := funext fun _ => by simp [dw, hm]
theorem dg_zero (r : Fin 128 → ℝ) : dg r (fun _ => 0) = fun _ => 0 := funext fun _ => by simp [dg]
variable (n : ℕ) (h : ¬ n < 8208)
include h
theorem Dq_pad (a : Fin 8) : I.Dq n a = fun _ => 0 := by
  unfold Dq
  rw [pd_pad I.dq n h, dn_zero]
theorem Dk_pad (a : Fin 2) : I.Dk n a = fun _ => 0 := by
  unfold Dk
  rw [pd_pad I.dk n h, dn_zero]
theorem dp_pad : I.dp n = fun _ => 0 := by
  funext k
  unfold dp sections gt
  simp only [I.Dq_pad n h, I.Dk_pad n h, dw_zero, pd_pad _ n h, add_zero, dite_eq_ite, ite_self]
theorem dh_pad : I.dh n = fun _ => 0 := by
  unfold dh
  rw [I.dp_pad n h]
  exact funext fun _ => by simp [up]
theorem dx_pad : I.dx n = fun _ => 0 := by
  funext j
  unfold dx
  simp only [I.dh_pad n h, zero_mul, pd_pad _ n h, back_zero, add_zero]
omit h
theorem gmS_eq (j : Fin 1024) : I.gmS j = ∑ n : Fin 8208, I.dh n.val j * nm (I.x n) j := by
  unfold gmS
  rw [sum_head _ fun n h => by rw [gmT, I.dh_pad n h, zero_mul]]
  exact Finset.sum_congr rfl fun n _ => by rw [gmT, pd_row]
theorem qgS_eq (l : Fin 128) : I.qgS l = ∑ n : Fin 8208, I.qgT l n.val :=
  sum_head _ fun n h => Finset.sum_eq_zero fun a _ => by rw [I.Dq_pad n h, dg_zero]
theorem kgS_eq (l : Fin 128) : I.kgS l = ∑ n : Fin 8208, I.kgT l n.val :=
  sum_head _ fun n h => Finset.sum_eq_zero fun a _ => by rw [I.Dk_pad n h, dg_zero]
end In

end Cert.InProj

end
-- ==== Proof.InPay.lean ====
/- What the projections' call computes on one pair of heads, and on the rows, between its loads and stores: on blocks of reals,
   as rows of reals. -/
module

public import proofs.«01_k».proof.Proof.InReal
public import proofs.«01_k».proof.Proof.Gen.Kernel3Ideal.Skeleton
public import Idealize.ShloMosaic.Lib.Pointwise
public import Idealize.ShloMosaic.Lib.WordCmp

@[expose] public section

set_option maxRecDepth 16384

noncomputable section

namespace Cert.Kernel3Ideal.InProj

open Cert.Kernel3Ideal Cert.Kernel3Ideal.Gen Cert.InProj Cert.Mlp
open Cert.Attn (coe_sum div_real ofBits_eighth)
open Idealize.ShloMosaic Idealize.ShloMosaic.TcCoe Idealize.SL.Sem
open scoped BigOperators

/-- Blocks of reals. -/
def T (X : Fin 384 → Fin 1024 → ℝ) : S384x1024.Idx → EReal := fun i => ((X (i 0) (i 1) : ℝ) : EReal)
def U (X : Fin 384 → Fin 512 → ℝ) : S384x512.Idx → EReal := fun i => ((X (i 0) (i 1) : ℝ) : EReal)
def C (X : Fin 384 → ℝ) : S384x1.Idx → EReal := fun i => ((X (i 0) : ℝ) : EReal)
def G (X : Fin 1024 → ℝ) : S1x1024.Idx → EReal := fun i => ((X (i 1) : ℝ) : EReal)
def A (X : Fin 1024 → Fin 512 → ℝ) : S1x1024x512.Idx → EReal := fun i => ((X (i 1) (i 2) : ℝ) : EReal)
/-- One pair of heads: rows of 128 lanes, the same transposed, and a row of gains. -/
def Q (X : Fin 384 → Fin 128 → ℝ) : S384x128.Idx → EReal := fun i => ((X (i 0) (i 1) : ℝ) : EReal)
def QT (X : Fin 384 → Fin 128 → ℝ) : S128x384.Idx → EReal := fun i => ((X (i 1) (i 0) : ℝ) : EReal)
def P (X : Fin 128 → ℝ) : S1x128.Idx → EReal := fun i => ((X (i 1) : ℝ) : EReal)

section
variable {F : FTy → Type} [FloatOps F]

/-- A word's floor quotient by 64. -/
def fl (x : IVec S128x128 32) : IVec S128x128 32 :=
  select (andi (cmpi .ne (subi (extui 32 (cmpi .sgt x (broadcast S128x128 0#32)) natLt_1_32) (extui 32 (cmpi .slt x (broadcast S128x128 0#32)) natLt_1_32))
      (broadcast S128x128 (Scalar.subi (Scalar.extui (Scalar.cmpi .sgt 64#32 0#32)) (Scalar.extui (Scalar.cmpi .slt 64#32 0#32)))))
    (cmpi .ne (remsi x (broadcast S128x128 64#32)) (broadcast S128x128 0#32)))
    (subi (divsi x (broadcast S128x128 64#32)) (broadcast S128x128 1#32)) (divsi x (broadcast S128x128 64#32))

/-- The matrix of ones where two lanes are of one head. -/
def mask : FVec F S128x128 .bf16 :=
  truncf .bf16 (select (cmpi .eq (fl (iota .tc S128x128 32 [0] iota_S128x128_d0_w32)) (fl (iota .tc S128x128 32 [1] iota_S128x128_d1_w32)))
    (broadcast S128x128 (Scalar.ofBits .f32 0x3F800000#32 : F .f32)) (broadcast S128x128 (Scalar.ofBits .f32 0x00000000#32 : F .f32))) bitsLt_bf16_f32

/-- The head's mean, from a leading and a trailing part of the entries. -/
def mean (v : FVec F S384x128 .f32) : FVec F S384x128 .f32 :=
  mulf (addf (matmul dot_S384x128_S128x128_S384x128_1_0_0_1_n_n none (truncf .bf16 v bitsLt_bf16_f32) mask (constant S384x128 .f32 0x00000000#32))
    (matmul dot_S384x128_S128x128_S384x128_1_0_0_1_n_n none (truncf .bf16 (subf v (extf .f32 (truncf .bf16 v bitsLt_bf16_f32) bitsLt_bf16_f32)) bitsLt_bf16_f32) mask (constant S384x128 .f32 0x00000000#32)))
    (broadcast S384x128 (Scalar.ofBits .f32 0x3C800000#32 : F .f32))

def rinv (x : FVec F S384x128 .f32) : FVec F S384x128 .f32 :=
  rsqrt (addf (mean (mulf x x)) (broadcast S384x128 (Scalar.ofBits .f32 0x358637BD#32 : F .f32)))

def unrot (c s d : FVec F S384x128 .f32) : FVec F S384x128 .f32 :=
  addf (mulf d c) (select k0_pay5 (dynamicRotate 1 127#32 none (mulf d s) rotates_S384x128_d1) (dynamicRotate 1 1#32 none (mulf d s) rotates_S384x128_d1))

/-- The gain's part of these rows. -/
def gain (x D : FVec F S384x128 .f32) : FVec F S1x128 .f32 :=
  shapeCast S1x128 (multiReduction .add [0] S128 (mulf D (mulf x (rinv x))) 0x00000000#32 reduces_S384x128_S128 (.inl rfl) rfl) shapeCasts_S128_S1x128

/-- The projection's cotangent. -/
def proj (x D : FVec F S384x128 .f32) (g : FVec F S1x128 .f32) : FVec F S384x128 .bf16 :=
  truncf .bf16 (mulf (rinv x) (subf (mulf D (broadcastTo S384x128 g broadcasts_S1x128_S384x128))
    (mulf (mulf x (rinv x)) (mean (mulf (mulf D (broadcastTo S384x128 g broadcasts_S1x128_S384x128)) (mulf x (rinv x))))))) bitsLt_bf16_f32

/-- Queries' cotangents come transposed, eight times too large. -/
def qcot (d : FVec F S128x384 .f32) : FVec F S384x128 .f32 :=
  mulf (transpose S384x128 [1, 0] (shapeCast S128x384 d shapeCasts_S128x384_S128x384) transposes_S128x384_p1_0_S384x128)
    (broadcast S384x128 (Scalar.ofBits .f32 0x3E000000#32 : F .f32))

def id1 (x : FVec F S384x128 .f32) : FVec F S384x128 .f32 := shapeCast S384x128 x shapeCasts_S384x128_S384x128
end

/-- The pattern of 1/64. -/
theorem ofBits_64th : Ideal.ofBits .f32 0x3C800000#32 = ((1 / 64 : ℝ) : EReal) := by
  simp [Ideal.ofBits, Ideal.ieee, -EReal.coe_mul]; norm_num

variable (X D c s : Fin 384 → Fin 128 → ℝ) (g g' : Fin 128 → ℝ)

theorem id1_real : id1 (F := Ideal) (Q X) = Q X := by
  funext i; idx_vars i; pointwise [id1]

theorem qcot_real : qcot (F := Ideal) (QT fun p l => X p l * 8) = Q X := by
  funext i; idx_vars i
  pointwise [qcot, QT, Q]
  simp only [ofBits_eighth]
  rw [← EReal.coe_mul]
  congr 1
  ring

/-- The floor quotient on one word. -/
def flv (x : BitVec 32) : BitVec 32 :=
  Scalar.select (IntOp.andi (IntOp.cmpi .ne (IntOp.subi (BitVec.setWidth 32 (IntOp.cmpi .sgt x 0#32)) (BitVec.setWidth 32 (IntOp.cmpi .slt x 0#32)))
      (Scalar.subi (Scalar.extui (Scalar.cmpi .sgt 64#32 0#32)) (Scalar.extui (Scalar.cmpi .slt 64#32 0#32))))
    (IntOp.cmpi .ne (IntOp.remsi .vector x 64#32) 0#32)) (IntOp.subi (IntOp.divsi .vector x 64#32) 1#32) (IntOp.divsi .vector x 64#32)

theorem flv_at : ∀ k : Fin 128, flv (BitVec.ofNat 32 k.val) = BitVec.ofNat 32 (k.val / 64) := by decide +kernel

theorem eq_at : ∀ a b : Fin 2, IntOp.cmpi .eq (BitVec.ofNat 32 a.val) (BitVec.ofNat 32 b.val) = if a.val = b.val then 1#1 else 0#1 := by decide +kernel

theorem mask_real : mask (F := Ideal) = fun i => ((msk (i 0) (i 1) : ℝ) : EReal) := by
  funext i; idx_vars i
  pointwise [mask, fl]
  show Scalar.select (IntOp.cmpi .eq (flv (BitVec.ofNat 32 i0.val)) (flv (BitVec.ofNat 32 i1.val))) (1 : EReal) 0 = _
  rw [flv_at, flv_at, eq_at ⟨i0.val / 64, by omega⟩ ⟨i1.val / 64, by omega⟩]
  unfold msk
  by_cases h : i0.val / 64 = i1.val / 64
  · rw [if_pos h, if_pos h]; rfl
  · rw [if_neg h, if_neg h]; exact EReal.coe_zero.symm

theorem even_at : ∀ l : Fin 128, IntOp.cmpi .eq (IntOp.andi (BitVec.ofNat 32 l.val) 1#32) 0#32 = if l.val % 2 = 0 then 1#1 else 0#1 := by decide +kernel

theorem unrot_real : unrot (F := Ideal) (Q c) (Q s) (Q D) = Q fun p => dn (c p) (s p) (D p) := by
  funext i; idx_vars i
  pointwise [unrot, k0_pay5, Q]
  rw [even_at i1]
  unfold dn sw
  by_cases h : i1.val % 2 = 0
  · rw [if_pos h, dif_pos h]
    have e : (i1.val + 128 - 127) % 128 = i1.val + 1 := by omega
    simp only [e, ← EReal.coe_mul]
    exact (EReal.coe_add _ _).symm
  · rw [if_neg h, dif_neg h]
    have e : (i1.val + 128 - 1) % 128 = i1.val - 1 := by omega
    simp only [e, ← EReal.coe_mul]
    exact (EReal.coe_add _ _).symm

theorem mean_real : mean (F := Ideal) (Q X) = Q fun p => hm (X p) := by
  funext i; idx_vars i
  pointwise [mean, mask_real, Q]
  simp only [ofBits_64th, ← EReal.coe_mul, ← EReal.coe_sub, ← coe_sum, ← EReal.coe_add, hm, sub_self, zero_mul, Finset.sum_const_zero, add_zero]

theorem sq_real : mulf (F := Ideal) (φ := .f32) (Q X) (Q X) = Q fun p k => X p k * X p k := by
  funext i; idx_vars i
  pointwise [Q]
  simp only [← EReal.coe_mul]

theorem rinv_real : rinv (F := Ideal) (Q X) = Q fun p => hr (X p) := by
  funext i; idx_vars i
  pointwise [rinv, sq_real, mean_real, Q]
  simp only [ofBits_eps, ← EReal.coe_add, hr_real]

theorem gain_real : gain (F := Ideal) (Q X) (Q D) = P fun l => ∑ p, dg (X p) (D p) l := by
  funext i; idx_vars i
  pointwise [gain, rinv_real, Q, P]
  simp only [← EReal.coe_mul, ← coe_sum, dg, hx]

theorem gnorm_real : mulf (F := Ideal) (φ := .f32) (mulf (Q D) (broadcastTo S384x128 (P g) broadcasts_S1x128_S384x128)) (mulf (Q X) (Q fun p => hr (X p)))
    = Q fun p k => D p k * g k * hx (X p) k := by
  funext i; idx_vars i
  pointwise [Q, P]
  simp only [← EReal.coe_mul, hx]

theorem proj_real : proj (F := Ideal) (Q X) (Q D) (P g) = Q fun p => dw (X p) g (D p) := by
  funext i; idx_vars i
  pointwise [proj, rinv_real, gnorm_real, mean_real, Q, P]
  simp only [← EReal.coe_mul, ← EReal.coe_sub, dw, hx]

theorem pay6_real : k0_pay6 (F := Ideal) (Q X) = Q X := id1_real X
theorem pay7_real : k0_pay7 (F := Ideal) (Q X) = Q X := id1_real X

theorem pay8_real (u v w : Fin 384 → Fin 512 → ℝ) : k0_pay8 (F := Ideal) (U u) (U v) (U w) = U fun p k => u p k + v p k + w p k := by
  funext i; idx_vars i
  pointwise [k0_pay8, U]
  simp only [← EReal.coe_add]

/-- What a block of queries' or keys' cotangents leaves in the projection's. -/
theorem proj_rows : proj (F := Ideal) (id1 (Q X)) (unrot (id1 (Q c)) (id1 (Q s)) (Q D)) (P g) = Q fun p => dw (X p) g (dn (c p) (s p) (D p)) := by
  rw [id1_real, id1_real, id1_real, unrot_real, proj_real]

theorem gain_rows : gain (F := Ideal) (id1 (Q X)) (unrot (id1 (Q c)) (id1 (Q s)) (Q D)) = P fun l => ∑ p, dg (X p) (dn (c p) (s p) (D p)) l := by
  rw [id1_real, id1_real, id1_real, unrot_real, gain_real]

theorem add_P : addf (F := Ideal) (φ := .f32) (P g) (P g') = P fun l => g l + g' l := by
  funext i; idx_vars i
  pointwise [P]
  simp only [← EReal.coe_add]

theorem pay9_real : k0_pay9 (F := Ideal) = P fun _ => 0 := by
  funext i; idx_vars i; pointwise [k0_pay9, P]; exact EReal.coe_zero.symm
theorem pay2_real : k0_pay2 (F := Ideal) = G fun _ => 0 := by
  funext i; idx_vars i; pointwise [k0_pay2, G]; exact EReal.coe_zero.symm
theorem pay3_real : k0_pay3 (F := Ideal) = P fun _ => 0 := by
  funext i; idx_vars i; pointwise [k0_pay3, P]; exact EReal.coe_zero.symm
theorem pay4_real : k0_pay4 (F := Ideal) = P fun _ => 0 := pay3_real

def id2 (x : FVec Ideal S1x128 .f32) : FVec Ideal S1x128 .f32 := shapeCast S1x128 x shapeCasts_S1x128_S1x128
theorem id2_real : id2 (P g) = P g := by
  funext i; idx_vars i; pointwise [id2]

section
variable (Y E : Fin 384 → Fin 1024 → ℝ) (gm k : Fin 1024 → ℝ) (u : Fin 8 → Fin 384 → Fin 512 → ℝ) (w : Fin 8 → Fin 1024 → Fin 512 → ℝ)

theorem pay208_real : k0_pay208 (F := Ideal) = T fun _ _ => 0 := by
  funext i; idx_vars i; pointwise [k0_pay208, T]; exact EReal.coe_zero.symm
theorem pay209_real (v : Fin 384 → Fin 512 → ℝ) : k0_pay209 (F := Ideal) (U v) = U v := by
  funext i; idx_vars i; pointwise [k0_pay209]
theorem pay211_real (v : Fin 384 → Fin 512 → ℝ) : k0_pay211 (F := Ideal) (U v) = U v := pay209_real v

/-- The normed rows' cotangents, from the eight blocks of columns of the projection's. -/
theorem dh_rows : k0_pay212 (F := Ideal) (k0_pay210 k0_pay208 (k0_pay209 (U (u 0))) (A (w 0)) (U (u 1)) (A (w 1)) (U (u 2)) (A (w 2)) (U (u 3)) (A (w 3)) (U (u 4)) (A (w 4)))
    (k0_pay211 (U (u 5))) (A (w 5)) (U (u 6)) (A (w 6)) (U (u 7)) (A (w 7)) = T fun p j => ∑ c : Fin 8, ∑ k, u c p k * w c j k := by
  rw [pay208_real, pay209_real, pay211_real]
  funext i; idx_vars i
  pointwise [k0_pay212, k0_pay210, T, U, A]
  simp only [← EReal.coe_mul, ← coe_sum, ← EReal.coe_add, Fin.sum_univ_eight, zero_add]

theorem pay213_real : k0_pay213 (F := Ideal) (T Y) = T Y := by
  funext i; idx_vars i; pointwise [k0_pay213]
theorem pay217_real : k0_pay217 (F := Ideal) (T Y) = T Y := pay213_real Y

theorem pay214_real : k0_pay214 (F := Ideal) (T Y) = C fun p => rs (Y p) := by
  funext i; idx_vars i
  pointwise [k0_pay214, pay213_real, T, C]
  simp only [ofBits_1024, ofBits_eps, ← EReal.coe_mul, ← coe_sum, div_real _ _ (by norm_num : (1024 : ℝ) ≠ 0), ← EReal.coe_add, rs_real]

theorem pay215_real : k0_pay215 (F := Ideal) (T Y) = T fun p => nm (Y p) := by
  funext i; idx_vars i
  pointwise [k0_pay215, pay214_real, pay213_real, T, C]
  simp only [← EReal.coe_mul, nm]

/-- The rows' gradients, and the gain's, from the normed rows' cotangents. -/
theorem pay1_real (Z : Fin 384 → Fin 1024 → ℝ) : k0_pay1 (F := Ideal) (C fun p => rs (Y p)) (T Z) (k0_pay218 (T E) (T fun p => nm (Y p)) (G gm))
    = T fun p j => Z p j + back (Y p) (fun i => E p i * gm i) j := by
  funext i; idx_vars i
  pointwise [k0_pay1, k0_pay218, T, C, G]
  simp only [ofBits_1024, ← EReal.coe_mul, ← coe_sum, div_real _ _ (by norm_num : (1024 : ℝ) ≠ 0), ← EReal.coe_sub, ← EReal.coe_add, back]

def gmrow (d : FVec Ideal S384x1024 .f32) (x : FVec Ideal S384x1024 .f32) (k : FVec Ideal S1x1024 .f32) : FVec Ideal S1x1024 .f32 :=
  addf (shapeCast S1x1024 k shapeCasts_S1x1024_S1x1024)
    (shapeCast S1x1024 (multiReduction .add [0] S1024 (mulf d (k0_pay215 x)) 0x00000000#32 reduces_S384x1024_S1024 (.inl rfl) rfl) shapeCasts_S1024_S1x1024)

theorem gmrow_real : gmrow (T E) (T Y) (G k) = G fun j => k j + ∑ p, E p j * nm (Y p) j := by
  funext i; idx_vars i
  pointwise [gmrow, pay215_real, T, G]
  simp only [← EReal.coe_mul, ← coe_sum, ← EReal.coe_add]
end

end Cert.Kernel3Ideal.InProj

end
-- ==== Proof.InStep.lean ====
/- What one grid point of the projections' call leaves in its output blocks, as rows of reals. -/
module

public import proofs.«01_k».proof.Proof.InPay
public import proofs.«01_k».proof.Proof.Gen.Kernel3Ideal.Frame
public import Idealize.ShloMosaic.Lib.Pipeline.ValueKit
public import Idealize.ShloMosaic.Lib.Pipeline.ReadBack

@[expose] public section

set_option maxRecDepth 16384

noncomputable section

namespace Cert.Kernel3Ideal.InProj

open Cert.Kernel3Ideal Cert.Kernel3Ideal.Gen Cert.InProj Cert.Mlp
open Idealize.ShloMosaic Idealize.ShloMosaic.TcCoe Idealize.SL.Sem
open Idealize.ShloMosaic.Pipeline (Dat)
open scoped BigOperators

/-- More blocks of reals: keys and values, by head as well; queries' cotangents transposed; the projection's columns; the gates;
    the weights in column blocks. -/
def K (X : Fin 384 → Fin 256 → ℝ) : S384x256.Idx → EReal := fun i => ((X (i 0) (i 1) : ℝ) : EReal)
def E (X : Fin 384 → Fin 64 → ℝ) : S384x64.Idx → EReal := fun i => ((X (i 0) (i 1) : ℝ) : EReal)
def E1 (X : Fin 384 → Fin 64 → ℝ) : S1x384x64.Idx → EReal := fun i => ((X (i 1) (i 2) : ℝ) : EReal)
def TT (X : Fin 384 → Fin 1024 → ℝ) : S1024x384.Idx → EReal := fun i => ((X (i 1) (i 0) * 8 : ℝ) : EReal)
def H (X : Fin 384 → Fin 4096 → ℝ) : S384x4096.Idx → EReal := fun i => ((X (i 0) (i 1) : ℝ) : EReal)
def HG (X : Fin 384 → Fin 2048 → ℝ) : S384x2048.Idx → EReal := fun i => ((X (i 0) (i 1) : ℝ) : EReal)
/-- Lane `d` of key and value head `h`. -/
def hd (h : Fin 4) (d : Fin 64) : Fin 256 := ⟨64 * h.val + d.val, by omega⟩
def D4 (X : Fin 384 → Fin 256 → ℝ) : S4x384x128.Idx → EReal := fun i => if h : (i 2).val < 64 then ((X (i 1) (hd (i 0) ⟨(i 2).val, h⟩) : ℝ) : EReal) else 0
def V4 (X : Fin 384 → Fin 256 → ℝ) : S4x384x64.Idx → EReal := fun i => ((X (i 1) (hd (i 0) (i 2)) : ℝ) : EReal)
def WA (w : Fin 1024 → Fin 4096 → ℝ) : S8x1024x512.Idx → EReal := fun i => ((w (i 1) (blk (i 0) (i 2)) : ℝ) : EReal)

theorem ld_WA (w : Fin 1024 → Fin 4096 → ℝ) (k : Fin 8) (kn : ℕ) (hk : kn = k.val) (inb : ∀ a, (![kn, 0, 0] : Fin 3 → ℕ) a + (![1, 1024, 512] : Fin 3 → ℕ) a ≤ S8x1024x512.size a) :
    View.ld (Val := Elt Ideal) (e' := .bf16) (WA w) (Rect.unit (s := S8x1024x512) ![kn, 0, 0] ![1, 1024, 512] inb) = A fun j f => w j (blk k f) := by
  subst hk
  funext i
  have h0 : (i 0).val = 0 := Nat.lt_one_iff.mp (i 0).isLt
  show WA w _ = _
  unfold WA A
  congr 1
  congr 1
  · apply Fin.ext; show 0 + 1 * (i 1).val = _; omega
  · congr 1
    · apply Fin.ext; show k.val + 1 * (i 0).val = _; omega
    · apply Fin.ext; show 0 + 1 * (i 2).val = _; omega

theorem ld_T (X : Fin 384 → Fin 1024 → ℝ) (a : Fin 8) (o : ℕ) (ho : o = 128 * a.val) (inb : ∀ b, (![0, o] : Fin 2 → ℕ) b + (![384, 128] : Fin 2 → ℕ) b ≤ S384x1024.size b) :
    View.ld (Val := Elt Ideal) (e' := .f32) (T X) (Rect.unit (s := S384x1024) ![0, o] ![384, 128] inb) = Q fun p l => X p (qc a l) := by
  subst ho
  funext i
  show T X _ = _
  unfold T Q
  congr 1
  congr 1
  · apply Fin.ext; show 0 + 1 * (i 0).val = _; omega
  · apply Fin.ext; show 128 * a.val + 1 * (i 1).val = 128 * a.val + (i 1).val; omega

theorem ld_TT (X : Fin 384 → Fin 1024 → ℝ) (a : Fin 8) (o : ℕ) (ho : o = 128 * a.val) (inb : ∀ b, (![o, 0] : Fin 2 → ℕ) b + (![128, 384] : Fin 2 → ℕ) b ≤ S1024x384.size b) :
    View.ld (Val := Elt Ideal) (e' := .f32) (TT X) (Rect.unit (s := S1024x384) ![o, 0] ![128, 384] inb) = QT fun p l => X p (qc a l) * 8 := by
  subst ho
  funext i
  show TT X _ = _
  unfold TT QT
  congr 2
  congr 1
  · apply Fin.ext; show 0 + 1 * (i 1).val = _; omega
  · apply Fin.ext; show 128 * a.val + 1 * (i 0).val = 128 * a.val + (i 0).val; omega

theorem ld_K (X : Fin 384 → Fin 256 → ℝ) (a : Fin 2) (o : ℕ) (ho : o = 128 * a.val) (inb : ∀ b, (![0, o] : Fin 2 → ℕ) b + (![384, 128] : Fin 2 → ℕ) b ≤ S384x256.size b) :
    View.ld (Val := Elt Ideal) (e' := .f32) (K X) (Rect.unit (s := S384x256) ![0, o] ![384, 128] inb) = Q fun p l => X p (kc a l) := by
  subst ho
  funext i
  show K X _ = _
  unfold K Q
  congr 1
  congr 1
  · apply Fin.ext; show 0 + 1 * (i 0).val = _; omega
  · apply Fin.ext; show 128 * a.val + 1 * (i 1).val = 128 * a.val + (i 1).val; omega

theorem ld_K0 (X : Fin 384 → Fin 256 → ℝ) (inb : ∀ b, (![0, 0] : Fin 2 → ℕ) b + (![384, 256] : Fin 2 → ℕ) b ≤ S384x256.size b) :
    View.ld (Val := Elt Ideal) (e' := .f32) (K X) (Rect.unit (s := S384x256) ![0, 0] ![384, 256] inb) = K X := by
  funext i
  show K X _ = _
  unfold K
  congr 1
  congr 1
  · apply Fin.ext; show 0 + 1 * (i 0).val = _; omega
  · apply Fin.ext; show 0 + 1 * (i 1).val = (i 1).val; omega

theorem ld_H (X : Fin 384 → Fin 4096 → ℝ) (k : Fin 8) (o : ℕ) (ho : o = 512 * k.val) (inb : ∀ b, (![0, o] : Fin 2 → ℕ) b + (![384, 512] : Fin 2 → ℕ) b ≤ S384x4096.size b) :
    View.ld (Val := Elt Ideal) (e' := .bf16) (H X) (Rect.unit (s := S384x4096) ![0, o] ![384, 512] inb) = U fun p f => X p (blk k f) := by
  subst ho
  funext i
  show H X _ = _
  unfold H U
  congr 1
  congr 1
  · apply Fin.ext; show 0 + 1 * (i 0).val = _; omega
  · apply Fin.ext; show 512 * k.val + 1 * (i 1).val = 512 * k.val + (i 1).val; omega

theorem ld_D4 (X : Fin 384 → Fin 256 → ℝ) (k : Fin 4) (o : ℕ) (ho : o = k.val) (inb : ∀ b, (![o, 0, 0] : Fin 3 → ℕ) b + (![1, 384, 64] : Fin 3 → ℕ) b ≤ S4x384x128.size b) :
    View.ld (Val := Elt Ideal) (e' := .f32) (D4 X) (Rect.unit (s := S4x384x128) ![o, 0, 0] ![1, 384, 64] inb) = E1 fun p d => X p (hd k d) := by
  subst ho
  funext i
  have h0 : (i 0).val = 0 := Nat.lt_one_iff.mp (i 0).isLt
  have h2 : (i 2).val < 64 := (i 2).isLt
  show D4 X _ = _
  unfold D4 E1
  have h3 : 0 + 1 * (i 2).val < 64 := by omega
  refine (dif_pos (show 0 + 1 * (i 2).val < 64 from h3)).trans ?_
  congr 1
  congr 1
  · apply Fin.ext; show 0 + 1 * (i 1).val = _; omega
  · apply Fin.ext; show 64 * (k.val + 1 * (i 0).val) + (0 + 1 * (i 2).val) = 64 * k.val + (i 2).val; omega

theorem ld_V4 (X : Fin 384 → Fin 256 → ℝ) (k : Fin 4) (o : ℕ) (ho : o = k.val) (inb : ∀ b, (![o, 0, 0] : Fin 3 → ℕ) b + (![1, 384, 64] : Fin 3 → ℕ) b ≤ S4x384x64.size b) :
    View.ld (Val := Elt Ideal) (e' := .f32) (V4 X) (Rect.unit (s := S4x384x64) ![o, 0, 0] ![1, 384, 64] inb) = E1 fun p d => X p (hd k d) := by
  subst ho
  funext i
  have h0 : (i 0).val = 0 := Nat.lt_one_iff.mp (i 0).isLt
  show V4 X _ = _
  unfold V4 E1
  congr 1
  congr 1
  · apply Fin.ext; show 0 + 1 * (i 1).val = _; omega
  · apply Fin.ext; show 64 * (k.val + 1 * (i 0).val) + (0 + 1 * (i 2).val) = 64 * k.val + (i 2).val; omega

/-- One head's block, its leading axis of extent one dropped. -/
def drop (x : FVec Ideal S1x384x64 .f32) : FVec Ideal S384x64 .f32 :=
  shapeCast S384x64 (shapeCast S384x64 x shapeCasts_S1x384x64_S384x64) shapeCasts_S384x64_S384x64
theorem drop_real (X : Fin 384 → Fin 64 → ℝ) : drop (E1 X) = E X := by
  funext i; idx_vars i; pointwise [drop, E, E1]
theorem pay159_eq (x : FVec Ideal S1x384x64 .f32) : k0_pay159 (F := Ideal) x = drop x := rfl
theorem pay160_eq (x : FVec Ideal S1x384x64 .f32) : k0_pay160 (F := Ideal) x = drop x := rfl
theorem pay161_eq (x : FVec Ideal S1x384x64 .f32) : k0_pay161 (F := Ideal) x = drop x := rfl
theorem pay162_eq (x : FVec Ideal S1x384x64 .f32) : k0_pay162 (F := Ideal) x = drop x := rfl
theorem pay202_eq (x : FVec Ideal S1x384x64 .f32) : k0_pay202 (F := Ideal) (k0_pay201 x) = drop x := rfl
theorem pay203_eq (x : FVec Ideal S1x384x64 .f32) : k0_pay203 (F := Ideal) x = drop x := rfl
theorem pay204_eq (x : FVec Ideal S1x384x64 .f32) : k0_pay204 (F := Ideal) x = drop x := rfl
theorem pay205_eq (x : FVec Ideal S1x384x64 .f32) : k0_pay205 (F := Ideal) x = drop x := rfl

/-- One store of the whole buffer leaves what it stored; a load after it reads that. -/
theorem canon_whole {S : Shape} {e : EltTy} (w : S.Idx → Elt Ideal e) : View.canon (Val := Elt Ideal) (e := e) [⟨Rect.whole S, w⟩] = w :=
  View.canon_cons_unit_zero rfl _ w []

theorem readCov_whole {κ : Kind} {sp : Space} {S : Shape} {e : EltTy} (v : View sig κ sp S e) (w : S.Idx → Elt Ideal e) (r : Rect S) :
    v.readCov (Val := Elt Ideal) [⟨Rect.whole S, w⟩] r.toLoadRect = View.ld w r := by
  rw [View.readCov_eq_canon', canon_whole]

theorem readCov_ld {κ : Kind} {sp : Space} {S : Shape} {e : EltTy} (v : View sig κ sp S e) (L : List (View.Piece (Elt Ideal) S e)) (r : Rect S) :
    v.readCov (Val := Elt Ideal) L r.toLoadRect = View.ld (View.canon L) r := by
  rw [View.readCov_eq_canon']

theorem K_at (X : Fin 384 → Fin 256 → ℝ) (k : Fin 4) (x : S384x64.Idx) (y : S384x256.Idx)
    (h0 : (y 0).val = (x 0).val) (h1 : (y 1).val = 64 * k.val + (x 1).val) : E (fun p d => X p (hd k d)) x = K X y := by
  have e0 : y 0 = x 0 := Fin.ext h0
  have e1 : y 1 = hd k (x 1) := Fin.ext h1
  exact congrArg _ (congrArg₂ X e0.symm e1.symm)

/-- Four heads stored side by side. -/
theorem canon_K (X : Fin 384 → Fin 256 → ℝ) :
    View.canon (Val := Elt Ideal) (s := S384x256) (e := .f32)
      [⟨Rect.unit ![0, 192] ![384, 64] inb_S384x256_S384x64_0_192, E fun p d => X p (hd 3 d)⟩,
      ⟨Rect.unit ![0, 128] ![384, 64] inb_S384x256_S384x64_0_128, E fun p d => X p (hd 2 d)⟩,
      ⟨Rect.unit ![0, 64] ![384, 64] inb_S384x256_S384x64_0_64, E fun p d => X p (hd 1 d)⟩,
      ⟨Rect.unit ![0, 0] ![384, 64] inb_S384x256_S384x64_0_0, E fun p d => X p (hd 0 d)⟩] = K X := by
  funext y
  canon_tiles x h
  · exact K_at X 3 x y h0 h1
  · exact K_at X 2 x y h0 h1
  · exact K_at X 1 x y h0 h1
  · exact K_at X 0 x y h0 (h1.trans (Nat.zero_add _).symm)

/-- The same over what the buffer held before. -/
theorem canon_KV (X Z : Fin 384 → Fin 256 → ℝ) :
    View.canon (Val := Elt Ideal) (s := S384x256) (e := .f32)
      [⟨Rect.unit ![0, 192] ![384, 64] inb_S384x256_S384x64_0_192, E fun p d => X p (hd 3 d)⟩,
      ⟨Rect.unit ![0, 128] ![384, 64] inb_S384x256_S384x64_0_128, E fun p d => X p (hd 2 d)⟩,
      ⟨Rect.unit ![0, 64] ![384, 64] inb_S384x256_S384x64_0_64, E fun p d => X p (hd 1 d)⟩,
      ⟨Rect.unit ![0, 0] ![384, 64] inb_S384x256_S384x64_0_0, E fun p d => X p (hd 0 d)⟩,
      ⟨Rect.unit ![0, 192] ![384, 64] inb_S384x256_S384x64_0_192, E fun p d => Z p (hd 3 d)⟩,
      ⟨Rect.unit ![0, 128] ![384, 64] inb_S384x256_S384x64_0_128, E fun p d => Z p (hd 2 d)⟩,
      ⟨Rect.unit ![0, 64] ![384, 64] inb_S384x256_S384x64_0_64, E fun p d => Z p (hd 1 d)⟩,
      ⟨Rect.unit ![0, 0] ![384, 64] inb_S384x256_S384x64_0_0, E fun p d => Z p (hd 0 d)⟩] = K X := by
  funext y
  refine View.canon_append_of_piecesOf (Val := Elt Ideal) (s := S384x256) (e := .f32) (K X)
    [⟨Rect.unit ![0, 192] ![384, 64] inb_S384x256_S384x64_0_192, E fun p d => Z p (hd 3 d)⟩,
      ⟨Rect.unit ![0, 128] ![384, 64] inb_S384x256_S384x64_0_128, E fun p d => Z p (hd 2 d)⟩,
      ⟨Rect.unit ![0, 64] ![384, 64] inb_S384x256_S384x64_0_64, E fun p d => Z p (hd 1 d)⟩,
      ⟨Rect.unit ![0, 0] ![384, 64] inb_S384x256_S384x64_0_0, E fun p d => Z p (hd 0 d)⟩]
    [⟨Rect.unit ![0, 192] ![384, 64] inb_S384x256_S384x64_0_192, E fun p d => X p (hd 3 d)⟩,
      ⟨Rect.unit ![0, 128] ![384, 64] inb_S384x256_S384x64_0_128, E fun p d => X p (hd 2 d)⟩,
      ⟨Rect.unit ![0, 64] ![384, 64] inb_S384x256_S384x64_0_64, E fun p d => X p (hd 1 d)⟩,
      ⟨Rect.unit ![0, 0] ![384, 64] inb_S384x256_S384x64_0_0, E fun p d => X p (hd 0 d)⟩] ?_ y (View.cover_of_tiled _ ![384, 64] (by rfl) y)
  refine ⟨fun x => K_at X 3 x _ ?_ ?_, fun x => K_at X 2 x _ ?_ ?_, fun x => K_at X 1 x _ ?_ ?_, fun x => K_at X 0 x _ ?_ ?_, trivial⟩
  · show 0 + 1 * (x 0).val = _; omega
  · show 192 + 1 * (x 1).val = 64 * 3 + _; omega
  · show 0 + 1 * (x 0).val = _; omega
  · show 128 + 1 * (x 1).val = 64 * 2 + _; omega
  · show 0 + 1 * (x 0).val = _; omega
  · show 64 + 1 * (x 1).val = 64 * 1 + _; omega
  · show 0 + 1 * (x 0).val = _; omega
  · show 0 + 1 * (x 1).val = 64 * 0 + _; omega

variable (m : (ℓ : Loc nD τ sig) → Buf (Elt Ideal) ℓ)

theorem sc0 (c : Dev nD) (n : ℕ) (hn : n < cfg0.N) : (outsAt0 m c n hn).2.2.2.2.2 = V m c main_v81 := by
  induction n with
  | zero => rw [outsAt0_A m c ⟨0, hn⟩ rfl rfl]; frame_out; exact canon_whole _
  | succ n ih =>
    have h : ¬ (n + 1) % 22 = 0 := by have := lt_of_lt_of_eq hn N_0; omega
    rw [outsAt0_B m c ⟨n + 1, hn⟩ h h]
    dsimp only; unfold sout0_B_0; exact ih _

section
variable (u : Fin 384 → Fin 512 → ℝ) (q : Fin 384 → Fin 8 → Fin 128 → ℝ) (k : Fin 384 → Fin 2 → Fin 128 → ℝ) (v : Fin 384 → Fin 256 → ℝ)
  (t : Fin 384 → Fin 2048 → ℝ)

/-- The projection's columns in row `p`. -/
def cols (p : Fin 384) : Fin 4096 → ℝ := sections (u p) (q p) (k p) (v p) (t p)

theorem q_at (a : Fin 8) (x : S384x128.Idx) (y : S384x4096.Idx) (h0 : (y 0).val = (x 0).val) (h1 : (y 1).val = 512 + 128 * a.val + (x 1).val) :
    Q (fun p => q p a) x = H (cols u q k v t) y := by
  have e0 : y 0 = x 0 := Fin.ext h0
  show ((q (x 0) a (x 1) : ℝ) : EReal) = ((cols u q k v t (y 0) (y 1) : ℝ) : EReal)
  rw [e0]; unfold cols; rw [sections_q _ _ _ _ _ (y 1) a (x 1) h1]

theorem k_at (a : Fin 2) (x : S384x128.Idx) (y : S384x4096.Idx) (h0 : (y 0).val = (x 0).val) (h1 : (y 1).val = 1536 + 128 * a.val + (x 1).val) :
    Q (fun p => k p a) x = H (cols u q k v t) y := by
  have e0 : y 0 = x 0 := Fin.ext h0
  show ((k (x 0) a (x 1) : ℝ) : EReal) = ((cols u q k v t (y 0) (y 1) : ℝ) : EReal)
  rw [e0]; unfold cols; rw [sections_k _ _ _ _ _ (y 1) a (x 1) h1]

/-- The thirteen stores of the projection's cotangent. -/
theorem canon_D :
    View.canon (Val := Elt Ideal) (s := S384x4096) (e := .bf16)
      [⟨Rect.unit ![0, 2048] ![384, 2048] inb_S384x4096_S384x2048_0_2048, HG t⟩,
      ⟨Rect.unit ![0, 1792] ![384, 256] inb_S384x4096_S384x256_0_1792, K v⟩,
      ⟨Rect.unit ![0, 1664] ![384, 128] inb_S384x4096_S384x128_0_1664, Q fun p => k p 1⟩,
      ⟨Rect.unit ![0, 1536] ![384, 128] inb_S384x4096_S384x128_0_1536, Q fun p => k p 0⟩,
      ⟨Rect.unit ![0, 1408] ![384, 128] inb_S384x4096_S384x128_0_1408, Q fun p => q p 7⟩,
      ⟨Rect.unit ![0, 1280] ![384, 128] inb_S384x4096_S384x128_0_1280, Q fun p => q p 6⟩,
      ⟨Rect.unit ![0, 1152] ![384, 128] inb_S384x4096_S384x128_0_1152, Q fun p => q p 5⟩,
      ⟨Rect.unit ![0, 1024] ![384, 128] inb_S384x4096_S384x128_0_1024, Q fun p => q p 4⟩,
      ⟨Rect.unit ![0, 896] ![384, 128] inb_S384x4096_S384x128_0_896, Q fun p => q p 3⟩,
      ⟨Rect.unit ![0, 768] ![384, 128] inb_S384x4096_S384x128_0_768, Q fun p => q p 2⟩,
      ⟨Rect.unit ![0, 640] ![384, 128] inb_S384x4096_S384x128_0_640, Q fun p => q p 1⟩,
      ⟨Rect.unit ![0, 512] ![384, 128] inb_S384x4096_S384x128_0_512, Q fun p => q p 0⟩,
      ⟨Rect.unit ![0, 0] ![384, 512] inb_S384x4096_S384x512_0_0, U u⟩] = H (cols u q k v t) := by
  funext y
  canon_tiles x h using View.cover_of_tiledBy _ ![384, 128] (by sl_kernel_rfl) y
  · have e0 : y 0 = x 0 := Fin.ext h0
    show ((t (x 0) (x 1) : ℝ) : EReal) = ((cols u q k v t (y 0) (y 1) : ℝ) : EReal)
    rw [e0]; unfold cols; rw [sections_t _ _ _ _ _ (y 1) (x 1) h1]
  · have e0 : y 0 = x 0 := Fin.ext h0
    show ((v (x 0) (x 1) : ℝ) : EReal) = ((cols u q k v t (y 0) (y 1) : ℝ) : EReal)
    rw [e0]; unfold cols; rw [sections_v _ _ _ _ _ (y 1) (x 1) h1]
  · exact k_at u q k v t 1 x y h0 h1
  · exact k_at u q k v t 0 x y h0 h1
  · exact q_at u q k v t 7 x y h0 h1
  · exact q_at u q k v t 6 x y h0 h1
  · exact q_at u q k v t 5 x y h0 h1
  · exact q_at u q k v t 4 x y h0 h1
  · exact q_at u q k v t 3 x y h0 h1
  · exact q_at u q k v t 2 x y h0 h1
  · exact q_at u q k v t 1 x y h0 h1
  · exact q_at u q k v t 0 x y h0 h1
  · have e0 : y 0 = x 0 := Fin.ext h0
    show ((u (x 0) (x 1) : ℝ) : EReal) = ((cols u q k v t (y 0) (y 1) : ℝ) : EReal)
    rw [e0]; unfold cols; rw [sections_u _ _ _ _ _ (y 1) (x 1) (h1.trans (by omega))]
end

/-- One point's blocks. -/
structure Bl where
  x : Fin 384 → Fin 1024 → ℝ
  dr : Fin 384 → Fin 1024 → ℝ
  u1 : Fin 384 → Fin 512 → ℝ
  u2 : Fin 384 → Fin 512 → ℝ
  u3 : Fin 384 → Fin 512 → ℝ
  qr : Fin 384 → Fin 1024 → ℝ
  kr : Fin 384 → Fin 256 → ℝ
  dq : Fin 384 → Fin 1024 → ℝ
  dk : Fin 384 → Fin 256 → ℝ
  dv : Fin 384 → Fin 256 → ℝ
  gt : Fin 384 → Fin 2048 → ℝ
  c : Fin 384 → Fin 128 → ℝ
  s : Fin 384 → Fin 128 → ℝ
  gm : Fin 1024 → ℝ
  qg : Fin 128 → ℝ
  kg : Fin 128 → ℝ
  w : Fin 1024 → Fin 4096 → ℝ

namespace Bl
variable (b : Bl)
/-- A pair of heads: projection, and cotangent before the rotation. -/
def rq (p : Fin 384) (a : Fin 8) (l : Fin 128) : ℝ := b.qr p (qc a l)
def rk (p : Fin 384) (a : Fin 2) (l : Fin 128) : ℝ := b.kr p (kc a l)
def Dq (p : Fin 384) (a : Fin 8) : Fin 128 → ℝ := dn (b.c p) (b.s p) fun l => b.dq p (qc a l)
def Dk (p : Fin 384) (a : Fin 2) : Fin 128 → ℝ := dn (b.c p) (b.s p) fun l => b.dk p (kc a l)
/-- The projection's cotangent, the normed rows', the rows' gradients. -/
def dp (p : Fin 384) : Fin 4096 → ℝ :=
  sections (fun k => b.u1 p k + b.u2 p k + b.u3 p k) (fun a => dw (b.rq p a) b.qg (b.Dq p a)) (fun a => dw (b.rk p a) b.kg (b.Dk p a)) (b.dv p) (b.gt p)
def dh (p : Fin 384) : Fin 1024 → ℝ := up b.w (b.dp p)
def dx (p : Fin 384) (j : Fin 1024) : ℝ := b.dr p j + back (b.x p) (fun i => b.dh p i * b.gm i) j

/-- A pair of heads' rows of the projection's cotangent, and of the gain's gradient, as the kernel computes them. -/
def qp (a : Fin 8) : FVec Ideal S384x128 .bf16 :=
  proj (id1 (Q fun p l => b.qr p (qc a l))) (unrot (id1 (Q b.c)) (id1 (Q b.s)) (qcot (QT fun p l => b.dq p (qc a l) * 8))) (P b.qg)
def kp (a : Fin 2) : FVec Ideal S384x128 .bf16 :=
  proj (id1 (Q fun p l => b.kr p (kc a l))) (unrot (id1 (Q b.c)) (id1 (Q b.s)) (Q fun p l => b.dk p (kc a l))) (P b.kg)
def qga (a : Fin 8) : FVec Ideal S1x128 .f32 :=
  gain (id1 (Q fun p l => b.qr p (qc a l))) (unrot (id1 (Q b.c)) (id1 (Q b.s)) (qcot (QT fun p l => b.dq p (qc a l) * 8)))
def kga (a : Fin 2) : FVec Ideal S1x128 .f32 :=
  gain (id1 (Q fun p l => b.kr p (kc a l))) (unrot (id1 (Q b.c)) (id1 (Q b.s)) (Q fun p l => b.dk p (kc a l)))

theorem qp_real (a : Fin 8) : b.qp a = Q fun p => dw (b.rq p a) b.qg (b.Dq p a) := by
  unfold qp; rw [qcot_real, proj_rows]; rfl
theorem kp_real (a : Fin 2) : b.kp a = Q fun p => dw (b.rk p a) b.kg (b.Dk p a) := by
  unfold kp; rw [proj_rows]; rfl
theorem qga_real (a : Fin 8) : b.qga a = P fun l => ∑ p, dg (b.rq p a) (b.Dq p a) l := by
  unfold qga; rw [qcot_real, gain_rows]; rfl
theorem kga_real (a : Fin 2) : b.kga a = P fun l => ∑ p, dg (b.rk p a) (b.Dk p a) l := by
  unfold kga; rw [gain_rows]; rfl

theorem pay206_real (v : Fin 384 → Fin 256 → ℝ) : k0_pay206 (F := Ideal) (K v) = K v := by
  funext i; idx_vars i; pointwise [k0_pay206]
theorem pay207_real (t : Fin 384 → Fin 2048 → ℝ) : k0_pay207 (F := Ideal) (HG t) = HG t := by
  funext i; idx_vars i; pointwise [k0_pay207]

/-- The block of the projection's cotangent. -/
theorem out17 :
    View.canon (Val := Elt Ideal) (s := S384x4096) (e := .bf16)
      [⟨Rect.unit ![0, 2048] ![384, 2048] inb_S384x4096_S384x2048_0_2048, k0_pay207 (F := Ideal) (HG b.gt)⟩,
      ⟨Rect.unit ![0, 1792] ![384, 256] inb_S384x4096_S384x256_0_1792, k0_pay206 (F := Ideal) (K b.dv)⟩,
      ⟨Rect.unit ![0, 1664] ![384, 128] inb_S384x4096_S384x128_0_1664, b.kp 1⟩,
      ⟨Rect.unit ![0, 1536] ![384, 128] inb_S384x4096_S384x128_0_1536, b.kp 0⟩,
      ⟨Rect.unit ![0, 1408] ![384, 128] inb_S384x4096_S384x128_0_1408, b.qp 7⟩,
      ⟨Rect.unit ![0, 1280] ![384, 128] inb_S384x4096_S384x128_0_1280, b.qp 6⟩,
      ⟨Rect.unit ![0, 1152] ![384, 128] inb_S384x4096_S384x128_0_1152, b.qp 5⟩,
      ⟨Rect.unit ![0, 1024] ![384, 128] inb_S384x4096_S384x128_0_1024, b.qp 4⟩,
      ⟨Rect.unit ![0, 896] ![384, 128] inb_S384x4096_S384x128_0_896, b.qp 3⟩,
      ⟨Rect.unit ![0, 768] ![384, 128] inb_S384x4096_S384x128_0_768, b.qp 2⟩,
      ⟨Rect.unit ![0, 640] ![384, 128] inb_S384x4096_S384x128_0_640, b.qp 1⟩,
      ⟨Rect.unit ![0, 512] ![384, 128] inb_S384x4096_S384x128_0_512, b.qp 0⟩,
      ⟨Rect.unit ![0, 0] ![384, 512] inb_S384x4096_S384x512_0_0, k0_pay8 (F := Ideal) (U b.u1) (U b.u2) (U b.u3)⟩] = H b.dp := by
  rw [pay207_real, pay206_real, pay8_real]
  simp only [qp_real, kp_real]
  exact canon_D (fun p k => b.u1 p k + b.u2 p k + b.u3 p k) (fun p a => dw (b.rq p a) b.qg (b.Dq p a)) (fun p a => dw (b.rk p a) b.kg (b.Dk p a)) b.dv b.gt

/-- The gains' rows so far. -/
theorem out19 (k : Fin 128 → ℝ) :
    addf (F := Ideal) (φ := .f32) (id2 (P k)) (addf (addf (addf (addf (addf (addf (addf (addf k0_pay9 (b.qga 0)) (b.qga 1)) (b.qga 2)) (b.qga 3)) (b.qga 4)) (b.qga 5)) (b.qga 6)) (b.qga 7))
      = P fun l => k l + ∑ p, ∑ a, dg (b.rq p a) (b.Dq p a) l := by
  simp only [id2_real, pay9_real, qga_real, add_P]
  congr 1; funext l
  rw [Finset.sum_comm, Fin.sum_univ_eight, zero_add]
theorem out20 (k : Fin 128 → ℝ) :
    addf (F := Ideal) (φ := .f32) (id2 (P k)) (addf (addf k0_pay9 (b.kga 0)) (b.kga 1)) = P fun l => k l + ∑ p, ∑ a, dg (b.rk p a) (b.Dk p a) l := by
  simp only [id2_real, pay9_real, kga_real, add_P]
  congr 1; funext l
  rw [Finset.sum_comm, Fin.sum_univ_two, zero_add]

/-- The normed rows' cotangents. -/
theorem dh_eq : (T fun p j => ∑ c : Fin 8, ∑ k, b.dp p (blk c k) * b.w j (blk c k)) = T b.dh := by
  congr 1; funext p j
  exact (sum_blk fun k => b.dp p k * b.w j k).symm
theorem dh_out : k0_pay212 (F := Ideal) (k0_pay210 k0_pay208 (k0_pay209 (U fun p k => b.dp p (blk 0 k))) (A fun j k => b.w j (blk 0 k)) (U fun p k => b.dp p (blk 1 k)) (A fun j k => b.w j (blk 1 k))
      (U fun p k => b.dp p (blk 2 k)) (A fun j k => b.w j (blk 2 k)) (U fun p k => b.dp p (blk 3 k)) (A fun j k => b.w j (blk 3 k)) (U fun p k => b.dp p (blk 4 k)) (A fun j k => b.w j (blk 4 k)))
    (k0_pay211 (U fun p k => b.dp p (blk 5 k))) (A fun j k => b.w j (blk 5 k)) (U fun p k => b.dp p (blk 6 k)) (A fun j k => b.w j (blk 6 k)) (U fun p k => b.dp p (blk 7 k)) (A fun j k => b.w j (blk 7 k)) = T b.dh :=
  (dh_rows (fun c p k => b.dp p (blk c k)) fun c j k => b.w j (blk c k)).trans b.dh_eq
end Bl

theorem pay216_eq (a0 : FVec Ideal S384x1024 .f32) (a1 a3 a5 : FVec Ideal S384x512 .bf16) (a2 a4 a6 : FVec Ideal S1x1024x512 .bf16) (x : FVec Ideal S384x1024 .f32) (k : FVec Ideal S1x1024 .f32) : k0_pay216 (F := Ideal) a0 a1 a2 a3 a4 a5 a6 x k = gmrow (k0_pay212 a0 a1 a2 a3 a4 a5 a6) x k := rfl

set_option maxHeartbeats 2000000 in
/-- What a point leaves in the outputs' blocks: its rows' gradients, the projection's cotangents, and the gains' sums so far. -/
theorem step (c : Dev nD) (t : Fin cfg0.N) (b : Bl) (g18 : Fin 1024 → ℝ) (g19 g20 : Fin 128 → ℝ)
    (e0 : iblk m c 0 t = T b.x) (e1 : iblk m c 1 t = T b.dr) (e2 : iblk m c 2 t = U b.u1) (e3 : iblk m c 3 t = U b.u2) (e4 : iblk m c 4 t = U b.u3)
    (e5 : iblk m c 5 t = T b.qr) (e6 : iblk m c 6 t = K b.kr) (e7 : iblk m c 7 t = TT b.dq) (e8 : iblk m c 8 t = D4 b.dk) (e9 : iblk m c 9 t = V4 b.dv)
    (e10 : iblk m c 10 t = HG b.gt) (e11 : iblk m c 11 t = G b.gm) (e12 : iblk m c 12 t = P b.qg) (e13 : iblk m c 13 t = P b.kg)
    (e14 : iblk m c 14 t = Q b.c) (e15 : iblk m c 15 t = Q b.s) (hw : V m c main_v81 = WA b.w)
    (hz : t.val % 22 = 0 → (g18 = fun _ => 0) ∧ (g19 = fun _ => 0) ∧ (g20 = fun _ => 0))
    (hp : ¬ t.val % 22 = 0 → (outsAt0 m c (t.val - 1) (by omega)).2.2.1 = G g18 ∧ (outsAt0 m c (t.val - 1) (by omega)).2.2.2.1 = P g19
      ∧ (outsAt0 m c (t.val - 1) (by omega)).2.2.2.2.1 = P g20) :
    (outsAt0 m c t.val t.isLt).1 = T b.dx
      ∧ (outsAt0 m c t.val t.isLt).2.1 = H b.dp
      ∧ (outsAt0 m c t.val t.isLt).2.2.1 = (G fun j => g18 j + ∑ p : Fin 384, b.dh p j * nm (b.x p) j)
      ∧ (outsAt0 m c t.val t.isLt).2.2.2.1 = (P fun l => g19 l + ∑ p : Fin 384, ∑ a, dg (b.rq p a) (b.Dq p a) l)
      ∧ (outsAt0 m c t.val t.isLt).2.2.2.2.1 = (P fun l => g20 l + ∑ p : Fin 384, ∑ a, dg (b.rk p a) (b.Dk p a) l) := by
  have hn := lt_of_lt_of_eq t.isLt N_0
  by_cases h0 : t.val % 22 = 0
  on_goal 1 =>
    obtain ⟨rfl, rfl, rfl⟩ := hz h0
    rw [outsAt0_A m c t h0 h0]
    dsimp only
    refine ⟨?_, ?_, ?_, ?_, ?_⟩
    all_goals frame_out
  on_goal 6 =>
    obtain ⟨h5, h6, h7⟩ := hp h0
    rw [outsAt0_B m c t h0 h0]
    dsimp only
    refine ⟨?_, ?_, ?_, ?_, ?_⟩
    all_goals frame_out
    all_goals try simp only [h5, h6, h7]
  all_goals try simp only [readCov_whole, ReadAs.apply_same, read_unread_whole]
  all_goals try simp only [View.read_whole, sc0, hw, e0, e1, e2, e3, e4, e5, e6, e7, e8, e9, e10, e11, e12, e13, e14, e15, pay2_real, pay3_real, pay4_real]
  all_goals try simp only [ld_WA b.w 0 0 rfl, ld_WA b.w 1 1 rfl, ld_WA b.w 2 2 rfl, ld_WA b.w 3 3 rfl, ld_WA b.w 4 4 rfl, ld_WA b.w 5 5 rfl, ld_WA b.w 6 6 rfl, ld_WA b.w 7 7 rfl]
  all_goals try simp only [ld_T b.qr 0 0 rfl, ld_T b.qr 1 128 rfl, ld_T b.qr 2 256 rfl, ld_T b.qr 3 384 rfl, ld_T b.qr 4 512 rfl, ld_T b.qr 5 640 rfl, ld_T b.qr 6 768 rfl, ld_T b.qr 7 896 rfl]
  all_goals try simp only [ld_TT b.dq 0 0 rfl, ld_TT b.dq 1 128 rfl, ld_TT b.dq 2 256 rfl, ld_TT b.dq 3 384 rfl, ld_TT b.dq 4 512 rfl, ld_TT b.dq 5 640 rfl, ld_TT b.dq 6 768 rfl, ld_TT b.dq 7 896 rfl]
  all_goals try simp only [ld_D4 b.dk 0 0 rfl, ld_D4 b.dk 1 1 rfl, ld_D4 b.dk 2 2 rfl, ld_D4 b.dk 3 3 rfl, ld_V4 b.dv 0 0 rfl, ld_V4 b.dv 1 1 rfl, ld_V4 b.dv 2 2 rfl, ld_V4 b.dv 3 3 rfl]
  all_goals try simp only [pay159_eq, pay160_eq, pay161_eq, pay162_eq, pay202_eq, pay203_eq, pay204_eq, pay205_eq, drop_real]
  all_goals try simp only [readCov_ld, canon_K, canon_KV, ld_K b.kr 0 0 rfl, ld_K b.kr 1 128 rfl, ld_K b.dk 0 0 rfl, ld_K b.dk 1 128 rfl, ld_K0]
  case pos.refine_2 => exact b.out17
  case neg.refine_2 => exact b.out17
  case pos.refine_4 => exact b.out19 _
  case neg.refine_4 => exact b.out19 _
  case pos.refine_5 => exact b.out20 _
  case neg.refine_5 => exact b.out20 _
  all_goals
    generalize hZ : View.canon (Val := Elt Ideal) (s := S384x4096) (e := .bf16) _ = Z
    obtain rfl : Z = H b.dp := hZ.symm.trans b.out17
    simp only [ld_H b.dp 0 0 rfl, ld_H b.dp 1 512 rfl, ld_H b.dp 2 1024 rfl, ld_H b.dp 3 1536 rfl, ld_H b.dp 4 2048 rfl, ld_H b.dp 5 2560 rfl, ld_H b.dp 6 3072 rfl, ld_H b.dp 7 3584 rfl]
    clear hZ
  case pos.refine_3 => rw [pay216_eq, b.dh_out, gmrow_real]
  case neg.refine_3 => rw [pay216_eq, b.dh_out, gmrow_real]
  all_goals
    rw [b.dh_out, pay214_real, pay217_real, pay215_real, pay1_real]
    rfl

end Cert.Kernel3Ideal.InProj

end
-- ==== Proof.InHost.lean ====
/- What the host lines before the projections' call hand it, entry by entry, and each grid point's blocks as rows of reals. -/
module

public import proofs.«01_k».proof.Proof.InStep
public import Idealize.ShloMosaic.Lib.StableHlo.ReadAt

@[expose] public section

set_option maxRecDepth 16384

noncomputable section

namespace Cert.Kernel3Ideal.InProj

open Cert.Kernel3Ideal Cert.Kernel3Ideal.Gen Cert.InProj Cert.Mlp
open Cert.Attn (coe_sum div_real)
open Idealize.ShloMosaic Idealize.ShloMosaic.TcCoe Idealize.SL.Sem
open scoped BigOperators

variable (m : (ℓ : Loc nD τ sig) → Buf (Elt Ideal) ℓ) (c : Dev nD)

abbrev HR : FVec Ideal S1x8208x1024 .f32 := m ((c : Thread nD τ).loc main_arg0)
abbrev GM : FVec Ideal S1x1024 .f32 := m ((c : Thread nD τ).loc main_arg1)
abbrev WI : FVec Ideal S1x1024x4096 .f32 := m ((c : Thread nD τ).loc main_arg2)
abbrev GQ : FVec Ideal S1x64 .f32 := m ((c : Thread nD τ).loc main_arg3)
abbrev GK : FVec Ideal S1x64 .f32 := m ((c : Thread nD τ).loc main_arg4)
abbrev DR : FVec Ideal S1x8208x1024 .f32 := m ((c : Thread nD τ).loc main_arg5)
abbrev U1 : FVec Ideal S1x8208x512 .f32 := m ((c : Thread nD τ).loc main_arg6)
abbrev U2 : FVec Ideal S1x8208x512 .f32 := m ((c : Thread nD τ).loc main_arg7)
abbrev U3 : FVec Ideal S1x8208x512 .f32 := m ((c : Thread nD τ).loc main_arg8)
abbrev DQ : FVec Ideal S1x8208x16x64 .f32 := m ((c : Thread nD τ).loc main_arg9)
abbrev DK : FVec Ideal S1x8208x4x64 .f32 := m ((c : Thread nD τ).loc main_arg10)
abbrev DV : FVec Ideal S1x8208x4x64 .f32 := m ((c : Thread nD τ).loc main_arg11)
abbrev GS : FVec Ideal S1x8208x1024 .f32 := m ((c : Thread nD τ).loc main_arg12)
abbrev GA : FVec Ideal S1x8208x1024 .f32 := m ((c : Thread nD τ).loc main_arg13)

/-- The integer zero, as a float. -/
theorem zero_f32 : FloatOps.sitofp (F := Ideal) .f32 (0#32) = (0 : EReal) := by
  show ((((0#32 : BitVec 32).toInt : ℤ) : ℝ) : EReal) = 0
  simp

/-- The fourteen arguments hold these reals. -/
structure Reals (I : In) : Prop where
  x_at : ∀ n j, HR m c (ix3 0 n j) = ((I.x n j : ℝ) : EReal)
  gm_at : ∀ j, GM m c (ix2 0 j) = ((I.gm j : ℝ) : EReal)
  w_at : ∀ j k, WI m c (ix3 0 j k) = ((I.w j k : ℝ) : EReal)
  qg_at : ∀ j, GQ m c (ix2 0 j) = ((I.qg j : ℝ) : EReal)
  kg_at : ∀ j, GK m c (ix2 0 j) = ((I.kg j : ℝ) : EReal)
  dr_at : ∀ n j, DR m c (ix3 0 n j) = ((I.dr n j : ℝ) : EReal)
  u1_at : ∀ n j, U1 m c (ix3 0 n j) = ((I.u1 n j : ℝ) : EReal)
  u2_at : ∀ n j, U2 m c (ix3 0 n j) = ((I.u2 n j : ℝ) : EReal)
  u3_at : ∀ n j, U3 m c (ix3 0 n j) = ((I.u3 n j : ℝ) : EReal)
  dq_at : ∀ n (a : Fin 16) (d : Fin 64), DQ m c (ix4 0 n a d) = ((I.dq n ⟨64 * a.val + d.val, by omega⟩ : ℝ) : EReal)
  dk_at : ∀ n (a : Fin 4) (d : Fin 64), DK m c (ix4 0 n a d) = ((I.dk n (hd a d) : ℝ) : EReal)
  dv_at : ∀ n (a : Fin 4) (d : Fin 64), DV m c (ix4 0 n a d) = ((I.dv n (hd a d) : ℝ) : EReal)
  gs_at : ∀ n j, GS m c (ix3 0 n j) = ((I.gs n j : ℝ) : EReal)
  ga_at : ∀ n j, GA m c (ix3 0 n j) = ((I.ga n j : ℝ) : EReal)

abbrev V56 : FVec Ideal S8448x1024 .f32 := V m c main_v56
abbrev V58 : FVec Ideal S8448x1024 .f32 := V m c main_v58
abbrev V60 : FVec Ideal S8448x512 .f32 := V m c main_v60
abbrev V62 : FVec Ideal S8448x512 .f32 := V m c main_v62
abbrev V64 : FVec Ideal S8448x512 .f32 := V m c main_v64
abbrev V67 : FVec Ideal S8448x1024 .f32 := V m c main_v67
abbrev V70 : FVec Ideal S8448x256 .f32 := V m c main_v70
abbrev V50 : FVec Ideal S1024x8448 .f32 := V m c main_v50
abbrev V54 : FVec Ideal S4x8448x128 .f32 := V m c main_v54
abbrev V73 : FVec Ideal S4x8448x64 .f32 := V m c main_v73
abbrev V77 : FVec Ideal S8448x2048 .bf16 := V m c main_v77
abbrev V81 : FVec Ideal S8x1024x512 .bf16 := V m c main_v81
abbrev V84 : FVec Ideal S1x128 .f32 := V m c main_v84
abbrev V87 : FVec Ideal S1x128 .f32 := V m c main_v87

variable {m c} {I : In} (R : Reals m c I)
include R

omit R in
/-- A row behind the sequence is zero. -/
theorem pad_real' {w : ℕ} (x : Fin 8208 → Fin w → ℝ) (n : ℕ) (j : Fin w) (q : Prop) [Decidable q] (v : q → EReal) (hq : q ↔ n < 8208)
    (h : ∀ p, v p = ((x ⟨n, hq.1 p⟩ j : ℝ) : EReal)) : (if p : q then v p else FloatOps.sitofp (F := Ideal) .f32 (0#32)) = ((pd x n j : ℝ) : EReal) := by
  unfold pd
  by_cases p : q
  · rw [dif_pos p, dif_pos (hq.1 p), h p]
  · rw [dif_neg p, dif_neg fun h => p (hq.2 h), zero_f32]
    exact EReal.coe_zero.symm

omit R in
theorem pad_real {w : ℕ} (x : Fin 8208 → Fin w → ℝ) (n : ℕ) (j : Fin w) (v : n < 8208 → EReal) (h : ∀ p, v p = ((x ⟨n, p⟩ j : ℝ) : EReal)) :
    (if p : n < 8208 then v p else FloatOps.sitofp (F := Ideal) .f32 (0#32)) = ((pd x n j : ℝ) : EReal) := by
  unfold pd
  by_cases p : n < 8208
  · rw [dif_pos p, dif_pos p, h p]
  · rw [dif_neg p, dif_neg p, zero_f32]
    exact EReal.coe_zero.symm

theorem V56_at (n : Fin 8448) (j : Fin 1024) : V56 m c (ix2 n j) = ((pd I.x n.val j : ℝ) : EReal) := by
  unfold V56 V
  after_reads_at
  exact pad_real I.x n.val j _ fun p => R.x_at _ _

theorem V58_at (n : Fin 8448) (j : Fin 1024) : V58 m c (ix2 n j) = ((pd I.dr n.val j : ℝ) : EReal) := by
  unfold V58 V
  after_reads_at
  exact pad_real I.dr n.val j _ fun p => R.dr_at _ _

theorem V60_at (n : Fin 8448) (j : Fin 512) : V60 m c (ix2 n j) = ((pd I.u1 n.val j : ℝ) : EReal) := by
  unfold V60 V
  after_reads_at
  exact pad_real I.u1 n.val j _ fun p => R.u1_at _ _

theorem V62_at (n : Fin 8448) (j : Fin 512) : V62 m c (ix2 n j) = ((pd I.u2 n.val j : ℝ) : EReal) := by
  unfold V62 V
  after_reads_at
  exact pad_real I.u2 n.val j _ fun p => R.u2_at _ _

theorem V64_at (n : Fin 8448) (j : Fin 512) : V64 m c (ix2 n j) = ((pd I.u3 n.val j : ℝ) : EReal) := by
  unfold V64 V
  after_reads_at
  exact pad_real I.u3 n.val j _ fun p => R.u3_at _ _

theorem V67_at (n : Fin 8448) (j : Fin 1024) : V67 m c (ix2 n j) = ((pd I.qr n.val j : ℝ) : EReal) := by
  unfold V67 V
  after_reads_at
  refine pad_real I.qr n.val j _ fun p => ?_
  show (∑ k : Fin 1024, HR m c (ix3 0 ⟨n.val, p⟩ k) * Ideal.rsqrt (Ideal.div (∑ i : Fin 1024, HR m c (ix3 0 ⟨n.val, p⟩ i) * HR m c (ix3 0 ⟨n.val, p⟩ i)) (Ideal.ofBits .f32 0x44800000#32) + Ideal.ofBits .f32 0x358637BD#32)
    * GM m c (ix2 0 k) * WI m c (ix3 0 k ⟨512 + j.val, by omega⟩) : EReal) = _
  simp only [R.x_at, R.gm_at, R.w_at, ofBits_1024, ofBits_eps, ← EReal.coe_mul, ← coe_sum, div_real _ _ (by norm_num : (1024 : ℝ) ≠ 0), ← EReal.coe_add, rs_real]
  rfl

theorem V70_at (n : Fin 8448) (j : Fin 256) : V70 m c (ix2 n j) = ((pd I.kr n.val j : ℝ) : EReal) := by
  unfold V70 V
  after_reads_at
  refine pad_real I.kr n.val j _ fun p => ?_
  show (∑ k : Fin 1024, HR m c (ix3 0 ⟨n.val, p⟩ k) * Ideal.rsqrt (Ideal.div (∑ i : Fin 1024, HR m c (ix3 0 ⟨n.val, p⟩ i) * HR m c (ix3 0 ⟨n.val, p⟩ i)) (Ideal.ofBits .f32 0x44800000#32) + Ideal.ofBits .f32 0x358637BD#32)
    * GM m c (ix2 0 k) * WI m c (ix3 0 k ⟨512 + (1024 + j.val), by omega⟩) : EReal) = _
  simp only [R.x_at, R.gm_at, R.w_at, ofBits_1024, ofBits_eps, ← EReal.coe_mul, ← coe_sum, div_real _ _ (by norm_num : (1024 : ℝ) ≠ 0), ← EReal.coe_add, rs_real]
  exact congrArg _ (Finset.sum_congr rfl fun k _ => congrArg (fun q => h2 I.gm (I.x ⟨n.val, p⟩) k * I.w k q) (Fin.ext (by show 512 + (1024 + j.val) = 1536 + j.val; omega)))

omit R in
theorem eight : Ideal.ofBits .f32 1090519040#32 = ((8 : ℝ) : EReal) := by
  simp [Ideal.ofBits, Ideal.ieee, -EReal.coe_mul]; norm_num

theorem V50_at (n : Fin 8448) (j : Fin 1024) : V50 m c (ix2 j n) = ((pd I.dq n.val j * 8 : ℝ) : EReal) := by
  unfold V50 V
  after_reads_at
  refine (congrArg₂ (· * ·) ?_ eight).trans (EReal.coe_mul _ _).symm
  refine pad_real' I.dq n.val j _ _ ⟨fun h => h.1, fun h => ⟨h, by omega, by omega⟩⟩ fun p => ?_
  exact (R.dq_at _ _ _).trans (congrArg (fun q => ((I.dq ⟨n.val, p.1⟩ q : ℝ) : EReal)) (Fin.ext (by show 64 * (j.val / 64) + j.val % 64 = j.val; omega)))

theorem V54_at (n : Fin 8448) (a : Fin 4) (j : Fin 128) : V54 m c (ix3 a n j) = if h : j.val < 64 then ((pd I.dk n.val (hd a ⟨j.val, h⟩) : ℝ) : EReal) else 0 := by
  unfold V54 V
  after_reads_at
  by_cases hj : j.val < 64
  · refine (dif_pos hj).trans (Eq.trans ?_ (dif_pos hj).symm)
    exact pad_real' I.dk n.val (hd a ⟨j.val, hj⟩) _ _ ⟨fun h => h.1, fun h => ⟨h, hj⟩⟩ fun p => R.dk_at _ _ _
  · refine (dif_neg hj).trans ?_
    rw [dif_neg hj, zero_f32]

theorem V73_at (n : Fin 8448) (a : Fin 4) (j : Fin 64) : V73 m c (ix3 a n j) = ((pd I.dv n.val (hd a j) : ℝ) : EReal) := by
  unfold V73 V
  after_reads_at
  exact pad_real I.dv n.val (hd a j) _ fun p => R.dv_at _ _ _

theorem V77_at (n : Fin 8448) (j : Fin 2048) : V77 m c (ix2 n j) = ((I.gt n.val j : ℝ) : EReal) := by
  unfold V77 V
  after_reads_at
  unfold In.gt pd
  by_cases p : n.val < 8208
  · rw [dif_pos p]
    by_cases hj : j.val < 1024
    · rw [dif_pos hj, dif_pos hj, dif_pos p]
      after_reads_simp
      exact R.gs_at _ _
    · rw [dif_neg hj, dif_neg hj, dif_pos p]
      after_reads_simp
      exact R.ga_at _ _
  · rw [dif_neg p, zero_f32]
    simp only [dif_neg p, dite_eq_ite, ite_self]
    exact EReal.coe_zero.symm

theorem V81_at (k : Fin 8) (j : Fin 1024) (f : Fin 512) : V81 m c (ix3 k j f) = ((I.w j (blk k f) : ℝ) : EReal) := by
  unfold V81 V
  after_reads_at
  exact (congrArg (fun q => WI m c (ix3 0 j q)) (Fin.ext (by show k.val * 512 + f.val = 512 * k.val + f.val; omega))).trans (R.w_at j (blk k f))

theorem V84_at (j : Fin 128) : V84 m c (ix2 0 j) = ((In.g2 I.qg j : ℝ) : EReal) := by
  unfold V84 V
  after_reads_at
  exact R.qg_at _

theorem V87_at (j : Fin 128) : V87 m c (ix2 0 j) = ((In.g2 I.kg j : ℝ) : EReal) := by
  unfold V87 V
  after_reads_at
  exact R.kg_at _

omit R in
theorem VGM : V m c main_arg1 = GM m c := by
  unfold V
  after_reads_simp

end Cert.Kernel3Ideal.InProj

end
-- ==== Proof.InAngle.lean ====
/- The rotation's angles, as both programs' host lines make them: none in the first sixteen rows, then by the grid's row and column. -/
module

public import proofs.«01_k».proof.Proof.InReal
public import proofs.«01_k».proof.Proof.Gen.Reference3Ideal.Read

@[expose] public section

set_option maxRecDepth 16384

noncomputable section

namespace Cert.Reference3Ideal.InProj

open Cert.Reference3Ideal Cert.Reference3Ideal.Gen Cert.Reference3Ideal.Read Cert.InProj Cert.Mlp
open Cert.Attn (coe_sum div_real)
open Idealize.ShloMosaic Idealize.ShloMosaic.TcCoe Idealize.SL.Sem
open scoped BigOperators

theorem nat_f32 (k : ℕ) (h : k < 2 ^ 31) : (FloatOps.sitofp .f32 (BitVec.ofNat 32 k) : Ideal .f32) = ((k : ℝ) : EReal) := by
  have e : (BitVec.ofNat 32 k).toInt = (k : ℤ) := by
    rw [BitVec.toInt_eq_toNat_of_lt (by rw [BitVec.toNat_ofNat, Nat.mod_eq_of_lt (by omega)]; omega), BitVec.toNat_ofNat, Nat.mod_eq_of_lt (by omega)]
  show ((((BitVec.ofNat 32 k).toInt : ℤ) : ℝ) : EReal) = _
  rw [e, Int.cast_natCast]

/-- The pattern of 10000. -/
theorem ofBits_base : Ideal.ofBits .f32 1176256512#32 = ((10000 : ℝ) : EReal) := by
  simp [Ideal.ofBits, Ideal.ieee, -EReal.coe_mul]; norm_num
/-- The pattern of 16. -/
theorem ofBits_16 : Ideal.ofBits .f32 1098907648#32 = ((16 : ℝ) : EReal) := by
  simp [Ideal.ofBits, Ideal.ieee, -EReal.coe_mul]; norm_num

theorem invf_at (k : ℕ) (h : k < 16) : Ideal.pow (Ideal.ofBits .f32 1176256512#32) (Ideal.div (-(FloatOps.sitofp .f32 (BitVec.ofNat 32 k) : Ideal .f32)) (Ideal.ofBits .f32 1098907648#32)) = ((invf k : ℝ) : EReal) := by
  rw [nat_f32 k (by omega), ofBits_base, ofBits_16, ← EReal.coe_neg, div_real _ _ (by norm_num : (16 : ℝ) ≠ 0)]
  rfl

/-- The angle in row `n`, pair `k`. -/
theorem ang_at (n : Fin 8208) (k : Fin 32) : val_main_v58 (F := Ideal) (ix2 n k) = ((ang n k : ℝ) : EReal) := by
  pointwise [val_main_v58, val_main_v57, val_main_cst_6, val_main_v56, val_main_v50, val_main_v48, val_main_v46, val_main_v35, val_main_v34, val_main_v33, val_main_v49, val_main_v47, val_main_v45, val_main_v44, val_main_cst_5, val_main_v43, val_main_v41, val_main_v40, val_main_v42, val_main_cst_4, val_main_v55, val_main_v53, val_main_v51, val_main_v39, val_main_v38, val_main_v37, val_main_v36, val_main_v54, val_main_v52]
  unfold ang
  by_cases h : n.val < 16
  · rw [dif_pos h, if_pos h]
    rfl
  · rw [dif_neg h, if_neg h]
    by_cases g : k.val < 16
    · rw [dif_pos g, if_pos g, invf_at _ g, nat_f32 _ (by omega), ← EReal.coe_mul]
    · rw [dif_neg g, if_neg g, invf_at _ (by omega), nat_f32 _ (by omega), ← EReal.coe_mul]

/-- Its cosine and sine. -/
theorem cos_at (n : Fin 8208) (k : Fin 32) : Host.cos (F := Ideal) (φ := .f32) (val_main_v58 (F := Ideal)) (ix2 n k) = ((Real.cos (ang n k) : ℝ) : EReal) := by
  show Ideal.cos (val_main_v58 (F := Ideal) (ix2 n k)) = _
  rw [ang_at]
  rfl
theorem sin_at (n : Fin 8208) (k : Fin 32) : Host.sin (F := Ideal) (φ := .f32) (val_main_v58 (F := Ideal)) (ix2 n k) = ((Real.sin (ang n k) : ℝ) : EReal) := by
  show Ideal.sin (val_main_v58 (F := Ideal) (ix2 n k)) = _
  rw [ang_at]
  rfl

end Cert.Reference3Ideal.InProj

end
-- ==== Proof.InTable.lean ====
/- The rotation's two tables, as the host lines before the projections' call make them. -/
module

public import proofs.«01_k».proof.Proof.InStep
public import proofs.«01_k».proof.Proof.InAngle
public import Idealize.ShloMosaic.Lib.StableHlo.ReadAt

@[expose] public section

set_option maxRecDepth 16384

noncomputable section

namespace Cert.Kernel3Ideal.InProj

open Cert.Kernel3Ideal Cert.Kernel3Ideal.Gen Cert.InProj Cert.Mlp
open Cert.Attn (coe_sum div_real)
open Idealize.ShloMosaic Idealize.ShloMosaic.TcCoe Idealize.SL.Sem
open scoped BigOperators

variable (m : (ℓ : Loc nD τ sig) → Buf (Elt Ideal) ℓ) (c : Dev nD)

/-- The integer zero, as a float. -/
theorem pad_zero : FloatOps.sitofp (F := Ideal) .f32 (0#32) = (0 : EReal) := by
  show ((((0#32 : BitVec 32).toInt : ℤ) : ℝ) : EReal) = 0
  simp

abbrev V95 : FVec Ideal S8448x128 .f32 := V m c main_v95
abbrev V105 : FVec Ideal S8448x128 .f32 := V m c main_v105

/-- The angles, their cosines and sines, and the two tables of pairs. -/
@[irreducible] def ANG : FVec Ideal S8208x32 .f32 := Reference3Ideal.Read.val_main_v58 (F := Ideal)
@[irreducible] def COS : FVec Ideal S8208x32 .f32 := Host.cos ANG
@[irreducible] def SIN : FVec Ideal S8208x32 .f32 := Host.sin ANG
@[irreducible] def T88 : FVec Ideal S8208x32x2 .f32 := broadcastInDim S8208x32x2 ![0, 1] bcast_S8208x32_S8208x32x2_0_1 COS
@[irreducible] def T97 : FVec Ideal S8208x32x1 .f32 := broadcastInDim S8208x32x1 ![0, 1] bcast_S8208x32_S8208x32x1_0_1 (Host.negf SIN)
@[irreducible] def T98 : FVec Ideal S8208x32x1 .f32 := broadcastInDim S8208x32x1 ![0, 1] bcast_S8208x32_S8208x32x1_0_1 SIN
@[irreducible] def T99 : FVec Ideal S8208x32x2 .f32 := concatenate S8208x32x2 2 [⟨S8208x32x1, T97⟩, ⟨S8208x32x1, T98⟩] concatenates_S8208x32x1_S8208x32x1_S8208x32x2_d2
@[irreducible] def T89 : FVec Ideal S8208x64 .f32 := shapeCast S8208x64 T88 shapeCasts_S8208x32x2_S8208x64
@[irreducible] def T90 : FVec Ideal S1x8208x64 .f32 := shapeCast S1x8208x64 T89 shapeCasts_S8208x64_S1x8208x64
@[irreducible] def T91 : FVec Ideal S1x1x1x8208x1x64 .f32 := shapeCast S1x1x1x8208x1x64 T90 shapeCasts_S1x8208x64_S1x1x1x8208x1x64
@[irreducible] def T101 : FVec Ideal S1x1x1x8208x1x64 .f32 := shapeCast S1x1x1x8208x1x64 (shapeCast S1x8208x64 T99 shapeCasts_S8208x32x2_S1x8208x64) shapeCasts_S1x8208x64_S1x1x1x8208x1x64
/-- A table of heads, once for each of the two heads of a lane block. -/
@[irreducible] def both (Y : FVec Ideal S1x1x1x8208x1x64 .f32) : FVec Ideal S1x1x1x8208x2x64 .f32 := broadcastInDim S1x1x1x8208x2x64 ![0, 1, 2, 3, 4, 5] bcast_S1x1x1x8208x1x64_S1x1x1x8208x2x64_0_1_2_3_4_5 Y
@[irreducible] def flat (Y : FVec Ideal S1x1x1x8208x2x64 .f32) : FVec Ideal S8208x128 .f32 := shapeCast S8208x128 (shapeCast S1x8208x128 Y shapeCasts_S1x1x1x8208x2x64_S1x8208x128) shapeCasts_S1x8208x128_S8208x128

/-- The host lines before the call. -/
abbrev host : List (HloOp τ sig (Elt Ideal)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27]

/-- The angles, as the cosine reads them, and as the sine. -/
theorem v42_49 : StableHlo.upto host (fun b => m (c, b)) 49 (no_index (Proc.devRef .tc main_v42)) = ANG := by
  after_reads_simp
  unfold ANG
  refine congrArg₂ (fun a b => concatenate S8208x32 0 [⟨S16x32, a⟩, ⟨S8192x32, b⟩] concatenates_S16x32_S8192x32_S8208x32_d0) ?_ ?_
  · after_reads_simp
    rfl
  · after_reads_simp
    refine congrArg₂ (fun a b => concatenate S8192x32 1 [⟨S8192x16, a⟩, ⟨S8192x16, b⟩] concatenates_S8192x16_S8192x16_S8192x32_d1) ?_ ?_
    · after_reads_simp
      rfl
    · after_reads_simp
      rfl
theorem v42_50 : StableHlo.upto host (fun b => m (c, b)) 50 (no_index (Proc.devRef .tc main_v42)) = ANG := by
  after_reads_simp
  unfold ANG
  refine congrArg₂ (fun a b => concatenate S8208x32 0 [⟨S16x32, a⟩, ⟨S8192x32, b⟩] concatenates_S16x32_S8192x32_S8208x32_d0) ?_ ?_
  · after_reads_simp
    rfl
  · after_reads_simp
    refine congrArg₂ (fun a b => concatenate S8192x32 1 [⟨S8192x16, a⟩, ⟨S8192x16, b⟩] concatenates_S8192x16_S8192x16_S8192x32_d1) ?_ ?_
    · after_reads_simp
      rfl
    · after_reads_simp
      rfl
/-- The cosines, the sines, and the pairs made of them. -/
theorem v43_119 : StableHlo.upto host (fun b => m (c, b)) 119 (no_index (Proc.devRef .tc main_v43)) = COS := by
  after_reads_simp [v42_49]
  unfold COS
  rfl
theorem v44_129 : StableHlo.upto host (fun b => m (c, b)) 129 (no_index (Proc.devRef .tc main_v44)) = SIN := by
  after_reads_simp [v42_50]
  unfold SIN
  rfl
theorem v44_131 : StableHlo.upto host (fun b => m (c, b)) 131 (no_index (Proc.devRef .tc main_v44)) = SIN := by
  after_reads_simp [v42_50]
  unfold SIN
  rfl
theorem v88_120 : StableHlo.upto host (fun b => m (c, b)) 120 (no_index (Proc.devRef .tc main_v88)) = T88 := by
  after_reads_simp [v43_119]
  unfold T88
  rfl
theorem v97_132 : StableHlo.upto host (fun b => m (c, b)) 132 (no_index (Proc.devRef .tc main_v97)) = T97 := by
  after_reads_simp [v44_129]
  unfold T97
  rfl
theorem v98_132 : StableHlo.upto host (fun b => m (c, b)) 132 (no_index (Proc.devRef .tc main_v98)) = T98 := by
  after_reads_simp [v44_131]
  unfold T98
  rfl
theorem v99_133 : StableHlo.upto host (fun b => m (c, b)) 133 (no_index (Proc.devRef .tc main_v99)) = T99 := by
  after_reads_simp
  unfold T99
  exact congrArg₂ (fun a b => concatenate S8208x32x2 2 [⟨S8208x32x1, a⟩, ⟨S8208x32x1, b⟩] concatenates_S8208x32x1_S8208x32x1_S8208x32x2_d2) (v97_132 m c) (v98_132 m c)
/-- The tables line by line, up to their padding. -/
theorem v89_121 : StableHlo.upto host (fun b => m (c, b)) 121 (no_index (Proc.devRef .tc main_v89)) = T89 := by
  after_reads_simp [v88_120]
  unfold T89
  rfl
theorem v90_122 : StableHlo.upto host (fun b => m (c, b)) 122 (no_index (Proc.devRef .tc main_v90)) = T90 := by
  after_reads_simp [v89_121]
  unfold T90
  rfl
theorem v91_123 : StableHlo.upto host (fun b => m (c, b)) 123 (no_index (Proc.devRef .tc main_v91)) = T91 := by
  refine (StableHlo.upto_last_write (op := StableHlo.reshape main_v90 main_v91 (rfl : (.f32 : EltTy) = .f32) shapeCasts_S1x8208x64_S1x1x1x8208x1x64) (i := 122) (rest := []) [] (by rfl) rfl (by decide) _).trans ?_
  refine (StableHlo.reshape_result' _ _ _ _ _).trans ?_
  unfold T91
  exact congrArg (fun X : FVec Ideal S1x8208x64 .f32 => shapeCast S1x1x1x8208x1x64 X shapeCasts_S1x8208x64_S1x1x1x8208x1x64) (v90_122 m c)
theorem v92_124 : StableHlo.upto host (fun b => m (c, b)) 124 (no_index (Proc.devRef .tc main_v92)) = both T91 := by
  after_reads_simp [v91_123]
  unfold both
  rfl
theorem v94_128 : StableHlo.upto host (fun b => m (c, b)) 128 (no_index (Proc.devRef .tc main_v94)) = flat (both T91) := by
  after_reads_simp [v92_124]
  unfold flat
  rfl
theorem v101_135 : StableHlo.upto host (fun b => m (c, b)) 135 (no_index (Proc.devRef .tc main_v101)) = T101 := by
  after_reads_simp [v99_133]
  unfold T101
  rfl
theorem v102_136 : StableHlo.upto host (fun b => m (c, b)) 136 (no_index (Proc.devRef .tc main_v102)) = both T101 := by
  after_reads_simp [v101_135]
  unfold both
  rfl
theorem v104_140 : StableHlo.upto host (fun b => m (c, b)) 140 (no_index (Proc.devRef .tc main_v104)) = flat (both T101) := by
  after_reads_simp [v102_136]
  unfold flat
  rfl
/-- The padded tables, at an entry. -/
theorem V95_tab (n : Fin 8448) (j : Fin 128) : V95 m c (ix2 n j) = if p : n.val < 8208 then flat (both T91) (ix2 ⟨n.val, p⟩ j) else ((0 : ℝ) : EReal) := by
  unfold V95 V
  after_reads_simp [v94_128]
  simp -implicitDefEqProofs only [StableHlo.TRef.toBuf, StableHlo.TRef.ofBuf, cast_cast, cast_eq]
  clean_types
  pointwise
  rw [pad_zero]
  rfl
theorem V105_tab (n : Fin 8448) (j : Fin 128) : V105 m c (ix2 n j) = if p : n.val < 8208 then flat (both T101) (ix2 ⟨n.val, p⟩ j) else ((0 : ℝ) : EReal) := by
  unfold V105 V
  after_reads_simp [v104_140]
  simp -implicitDefEqProofs only [StableHlo.TRef.toBuf, StableHlo.TRef.ofBuf, cast_cast, cast_eq]
  clean_types
  pointwise
  rw [pad_zero]
  rfl

/-- The tables' pieces, at an entry. -/
theorem T88_at (n : Fin 8208) (k : Fin 32) (l : Fin 2) : T88 (ix3 n k l) = COS (ix2 n k) := by
  unfold T88
  pointwise
theorem T97_at (n : Fin 8208) (k : Fin 32) (l : Fin 1) : T97 (ix3 n k l) = -SIN (ix2 n k) := by
  unfold T97
  pointwise
theorem T98_at (n : Fin 8208) (k : Fin 32) (l : Fin 1) : T98 (ix3 n k l) = SIN (ix2 n k) := by
  unfold T98
  pointwise
theorem T99_at (n : Fin 8208) (k : Fin 32) (l : Fin 2) : T99 (ix3 n k l) = if l.val < 1 then -SIN (ix2 n k) else SIN (ix2 n k) := by
  unfold T99
  pointwise [T97_at, T98_at]
  split <;> rfl
theorem T91_at (n : Fin 8208) (k : Fin 64) : T91 (ix6 0 0 0 n 0 k) = T88 (ix3 n ⟨k.val / 2, by omega⟩ ⟨k.val % 2, by omega⟩) := by
  unfold T91 T90 T89
  pointwise
theorem T101_at (n : Fin 8208) (k : Fin 64) : T101 (ix6 0 0 0 n 0 k) = T99 (ix3 n ⟨k.val / 2, by omega⟩ ⟨k.val % 2, by omega⟩) := by
  unfold T101
  pointwise
theorem flat_at (Y : FVec Ideal S1x1x1x8208x1x64 .f32) (n : Fin 8208) (j : Fin 128) : flat (both Y) (ix2 n j) = Y (ix6 0 0 0 n 0 ⟨j.val % 64, by omega⟩) := by
  unfold flat both
  pointwise

/-- The cosines and the sines are those of the angles. -/
theorem COS_at (n : Fin 8208) (k : Fin 32) : COS (ix2 n k) = ((Real.cos (ang n k) : ℝ) : EReal) := by
  unfold COS ANG
  exact Cert.Reference3Ideal.InProj.cos_at n k
theorem SIN_at (n : Fin 8208) (k : Fin 32) : SIN (ix2 n k) = ((Real.sin (ang n k) : ℝ) : EReal) := by
  unfold SIN ANG
  exact Cert.Reference3Ideal.InProj.sin_at n k

/-- The cosines' table holds the rows' cosines, and zeros past the last row. -/
theorem V95_at (n : Fin 8448) (j : Fin 128) : V95 m c (ix2 n j) = ((pd In.cs n.val j : ℝ) : EReal) := by
  refine (V95_tab m c n j).trans ?_
  unfold pd
  by_cases p : n.val < 8208
  · rw [dif_pos p, dif_pos p, flat_at, T91_at, T88_at, COS_at]
    rfl
  · rw [dif_neg p, dif_neg p]

/-- The sines' table, with its sign. -/
theorem V105_at (n : Fin 8448) (j : Fin 128) : V105 m c (ix2 n j) = ((pd In.sn n.val j : ℝ) : EReal) := by
  refine (V105_tab m c n j).trans ?_
  unfold pd
  by_cases p : n.val < 8208
  · rw [dif_pos p, dif_pos p, flat_at, T101_at, T99_at, SIN_at]
    show _ = ((ite (j.val % 2 = 0) _ _ : ℝ) : EReal)
    by_cases q : j.val % 2 = 0
    · rw [if_pos (show j.val % 64 % 2 < 1 by omega), if_pos q, EReal.coe_neg]
      rfl
    · rw [if_neg (show ¬ j.val % 64 % 2 < 1 by omega), if_neg q]
      rfl
  · rw [dif_neg p, dif_neg p]

end Cert.Kernel3Ideal.InProj

end
-- ==== Proof.InValue.lean ====
/- The call's five results, entry by entry, as reals: each grid point's rows, and the gains' gradients as sums over all rows. -/
module

public import proofs.«01_k».proof.Proof.InHost
public import proofs.«01_k».proof.Proof.InTable

@[expose] public section

set_option maxRecDepth 16384

noncomputable section

namespace Cert.Kernel3Ideal.InProj

open Cert.Kernel3Ideal Cert.Kernel3Ideal.Gen Cert.InProj Cert.Mlp
open Cert.Attn (coe_sum div_real)
open Idealize.ShloMosaic Idealize.ShloMosaic.TcCoe Idealize.SL.Sem
open scoped BigOperators

/-- Every window's block, from the point's number. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![0, t.val] ∧ win0_8.index t = ![0, t.val, 0]
    ∧ win0_9.index t = ![0, t.val, 0] ∧ win0_10.index t = ![t.val, 0] ∧ win0_11.index t = ![0, 0] ∧ win0_12.index t = ![0, 0] ∧ win0_13.index t = ![0, 0]
    ∧ win0_14.index t = ![t.val, 0] ∧ win0_15.index t = ![t.val, 0] ∧ win0_16.index t = ![t.val, 0] ∧ win0_17.index t = ![t.val, 0] ∧ win0_18.index t = ![0, 0]
    ∧ win0_19.index t = ![0, 0] ∧ win0_20.index t = ![0, 0] :=
  (by decide +kernel : ∀ t : Fin grid0.N, _)

theorem lt22 (t : Fin cfg0.N) : t.val < 22 := Nat.lt_of_lt_of_eq t.isLt N_0

/-- Row `p` of a point's block of rows. -/
abbrev rowOf (t : Fin cfg0.N) (p : Fin 384) : Fin 8448 := ⟨384 * t.val + p.val, by have := lt22 t; omega⟩

variable (t : Fin cfg0.N)

theorem rd0 (X : FVec Ideal S8448x1024 .f32) (p : Fin 384) (j : Fin 1024) : (((cfg0.win 0).blk t).view.read (Elt Ideal) X : FVec Ideal S384x1024 .f32) (ix2 p j) = X (ix2 (rowOf t p) j) := by
  blk_ext [idx t]
theorem rd1 (X : FVec Ideal S8448x1024 .f32) (p : Fin 384) (j : Fin 1024) : (((cfg0.win 1).blk t).view.read (Elt Ideal) X : FVec Ideal S384x1024 .f32) (ix2 p j) = X (ix2 (rowOf t p) j) := by
  blk_ext [idx t]
theorem rd2 (X : FVec Ideal S8448x512 .f32) (p : Fin 384) (j : Fin 512) : (((cfg0.win 2).blk t).view.read (Elt Ideal) X : FVec Ideal S384x512 .f32) (ix2 p j) = X (ix2 (rowOf t p) j) := by
  blk_ext [idx t]
theorem rd3 (X : FVec Ideal S8448x512 .f32) (p : Fin 384) (j : Fin 512) : (((cfg0.win 3).blk t).view.read (Elt Ideal) X : FVec Ideal S384x512 .f32) (ix2 p j) = X (ix2 (rowOf t p) j) := by
  blk_ext [idx t]
theorem rd4 (X : FVec Ideal S8448x512 .f32) (p : Fin 384) (j : Fin 512) : (((cfg0.win 4).blk t).view.read (Elt Ideal) X : FVec Ideal S384x512 .f32) (ix2 p j) = X (ix2 (rowOf t p) j) := by
  blk_ext [idx t]
theorem rd5 (X : FVec Ideal S8448x1024 .f32) (p : Fin 384) (j : Fin 1024) : (((cfg0.win 5).blk t).view.read (Elt Ideal) X : FVec Ideal S384x1024 .f32) (ix2 p j) = X (ix2 (rowOf t p) j) := by
  blk_ext [idx t]
theorem rd6 (X : FVec Ideal S8448x256 .f32) (p : Fin 384) (j : Fin 256) : (((cfg0.win 6).blk t).view.read (Elt Ideal) X : FVec Ideal S384x256 .f32) (ix2 p j) = X (ix2 (rowOf t p) j) := by
  blk_ext [idx t]
theorem rd10 (X : FVec Ideal S8448x2048 .bf16) (p : Fin 384) (j : Fin 2048) : (((cfg0.win 10).blk t).view.read (Elt Ideal) X : FVec Ideal S384x2048 .bf16) (ix2 p j) = X (ix2 (rowOf t p) j) := by
  blk_ext [idx t]
theorem rd14 (X : FVec Ideal S8448x128 .f32) (p : Fin 384) (j : Fin 128) : (((cfg0.win 14).blk t).view.read (Elt Ideal) X : FVec Ideal S384x128 .f32) (ix2 p j) = X (ix2 (rowOf t p) j) := by
  blk_ext [idx t]
theorem rd15 (X : FVec Ideal S8448x128 .f32) (p : Fin 384) (j : Fin 128) : (((cfg0.win 15).blk t).view.read (Elt Ideal) X : FVec Ideal S384x128 .f32) (ix2 p j) = X (ix2 (rowOf t p) j) := by
  blk_ext [idx t]
theorem rd7 (X : FVec Ideal S1024x8448 .f32) (j : Fin 1024) (p : Fin 384) : (((cfg0.win 7).blk t).view.read (Elt Ideal) X : FVec Ideal S1024x384 .f32) (ix2 j p) = X (ix2 j (rowOf t p)) := by
  blk_ext [idx t]
theorem rd8 (X : FVec Ideal S4x8448x128 .f32) (a : Fin 4) (p : Fin 384) (j : Fin 128) : (((cfg0.win 8).blk t).view.read (Elt Ideal) X : FVec Ideal S4x384x128 .f32) (ix3 a p j) = X (ix3 a (rowOf t p) j) := by
  blk_ext [idx t]
theorem rd9 (X : FVec Ideal S4x8448x64 .f32) (a : Fin 4) (p : Fin 384) (j : Fin 64) : (((cfg0.win 9).blk t).view.read (Elt Ideal) X : FVec Ideal S4x384x64 .f32) (ix3 a p j) = X (ix3 a (rowOf t p) j) := by
  blk_ext [idx t]
theorem rd11 (X : FVec Ideal S1x1024 .f32) (j : Fin 1024) : (((cfg0.win 11).blk t).view.read (Elt Ideal) X : FVec Ideal S1x1024 .f32) (ix2 0 j) = X (ix2 0 j) := by
  blk_ext [idx t]
theorem rd12 (X : FVec Ideal S1x128 .f32) (j : Fin 128) : (((cfg0.win 12).blk t).view.read (Elt Ideal) X : FVec Ideal S1x128 .f32) (ix2 0 j) = X (ix2 0 j) := by
  blk_ext [idx t]
theorem rd13 (X : FVec Ideal S1x128 .f32) (j : Fin 128) : (((cfg0.win 13).blk t).view.read (Elt Ideal) X : FVec Ideal S1x128 .f32) (ix2 0 j) = X (ix2 0 j) := by
  blk_ext [idx t]

/-- The blocks of point `t`. -/
def bl (I : In) (t : ℕ) : Bl where
  x p := pd I.x (384 * t + p.val)
  dr p := pd I.dr (384 * t + p.val)
  u1 p := pd I.u1 (384 * t + p.val)
  u2 p := pd I.u2 (384 * t + p.val)
  u3 p := pd I.u3 (384 * t + p.val)
  qr p := pd I.qr (384 * t + p.val)
  kr p := pd I.kr (384 * t + p.val)
  dq p := pd I.dq (384 * t + p.val)
  dk p := pd I.dk (384 * t + p.val)
  dv p := pd I.dv (384 * t + p.val)
  gt p := I.gt (384 * t + p.val)
  c p := pd In.cs (384 * t + p.val)
  s p := pd In.sn (384 * t + p.val)
  gm := I.gm
  qg := In.g2 I.qg
  kg := In.g2 I.kg
  w := I.w

variable {m : (ℓ : Loc nD τ sig) → Buf (Elt Ideal) ℓ} {c : Dev nD} {I : In} (R : Reals m c I)
include R

theorem real0 : iblk m c 0 t = T (bl I t.val).x := by
  funext i
  idx_vars i
  exact (rd0 t (V56 m c) i0 i1).trans (V56_at R _ _)
theorem real1 : iblk m c 1 t = T (bl I t.val).dr := by
  funext i
  idx_vars i
  exact (rd1 t (V58 m c) i0 i1).trans (V58_at R _ _)
theorem real2 : iblk m c 2 t = U (bl I t.val).u1 := by
  funext i
  idx_vars i
  exact (rd2 t (V60 m c) i0 i1).trans (V60_at R _ _)
theorem real3 : iblk m c 3 t = U (bl I t.val).u2 := by
  funext i
  idx_vars i
  exact (rd3 t (V62 m c) i0 i1).trans (V62_at R _ _)
theorem real4 : iblk m c 4 t = U (bl I t.val).u3 := by
  funext i
  idx_vars i
  exact (rd4 t (V64 m c) i0 i1).trans (V64_at R _ _)
theorem real5 : iblk m c 5 t = T (bl I t.val).qr := by
  funext i
  idx_vars i
  exact (rd5 t (V67 m c) i0 i1).trans (V67_at R _ _)
theorem real6 : iblk m c 6 t = K (bl I t.val).kr := by
  funext i
  idx_vars i
  exact (rd6 t (V70 m c) i0 i1).trans (V70_at R _ _)
theorem real10 : iblk m c 10 t = HG (bl I t.val).gt := by
  funext i
  idx_vars i
  exact (rd10 t (V77 m c) i0 i1).trans (V77_at R _ _)
omit R in
theorem real14 : iblk m c 14 t = Q (bl I t.val).c := by
  funext i
  idx_vars i
  exact (rd14 t (V95 m c) i0 i1).trans (V95_at m c _ _)
omit R in
theorem real15 : iblk m c 15 t = Q (bl I t.val).s := by
  funext i
  idx_vars i
  exact (rd15 t (V105 m c) i0 i1).trans (V105_at m c _ _)
theorem real7 : iblk m c 7 t = TT (bl I t.val).dq := by
  funext i
  idx_vars i
  exact (rd7 t (V50 m c) i0 i1).trans (V50_at R _ _)
theorem real8 : iblk m c 8 t = D4 (bl I t.val).dk := by
  funext i
  idx_vars i
  exact (rd8 t (V54 m c) i0 i1 i2).trans (V54_at R _ _ _)
theorem real9 : iblk m c 9 t = V4 (bl I t.val).dv := by
  funext i
  idx_vars i
  exact (rd9 t (V73 m c) i0 i1 i2).trans (V73_at R _ _ _)
theorem real11 : iblk m c 11 t = G (bl I t.val).gm := by
  funext i
  idx_vars i
  obtain rfl : i0 = 0 := Subsingleton.elim _ _
  exact (rd11 t (V m c main_arg1) i1).trans ((congrFun VGM _).trans (R.gm_at i1))
theorem real12 : iblk m c 12 t = P (bl I t.val).qg := by
  funext i
  idx_vars i
  obtain rfl : i0 = 0 := Subsingleton.elim _ _
  exact (rd12 t (V84 m c) i1).trans (V84_at R i1)
theorem real13 : iblk m c 13 t = P (bl I t.val).kg := by
  funext i
  idx_vars i
  obtain rfl : i0 = 0 := Subsingleton.elim _ _
  exact (rd13 t (V87 m c) i1).trans (V87_at R i1)
theorem realW : V m c main_v81 = WA I.w := by
  funext i
  idx_vars i
  exact V81_at R i0 i1 i2

omit R
/-- The sums over the rows of the blocks before block `n`. -/
def acc {w : ℕ} (f : Fin w → ℕ → ℝ) (n : ℕ) (j : Fin w) : ℝ := ∑ i ∈ Finset.range n, ∑ p : Fin 384, f j (384 * i + p.val)

theorem acc_zero {w : ℕ} (f : Fin w → ℕ → ℝ) : acc f 0 = fun _ => 0 := funext fun _ => Finset.sum_range_zero _
theorem acc_succ {w : ℕ} (f : Fin w → ℕ → ℝ) (n : ℕ) : (fun j => acc f n j + ∑ p : Fin 384, f j (384 * n + p.val)) = acc f (n + 1) := by
  funext j
  unfold acc
  rw [Finset.sum_range_succ]
theorem acc_all {w : ℕ} (f : Fin w → ℕ → ℝ) : acc f 22 = fun j => ∑ n ∈ Finset.range 8448, f j n := by
  funext j
  unfold acc
  rw [sum_rows]

/-- The arrays of real rows. -/
@[irreducible] def rows (f : ℕ → Fin 1024 → ℝ) : S8448x1024.Idx → EReal := fun i => ((f (i 0).val (i 1) : ℝ) : EReal)
@[irreducible] def wide (f : ℕ → Fin 4096 → ℝ) : S8448x4096.Idx → EReal := fun i => ((f (i 0).val (i 1) : ℝ) : EReal)
@[irreducible] def one (f : Fin 1024 → ℝ) : S1x1024.Idx → EReal := fun i => ((f (i 1) : ℝ) : EReal)
@[irreducible] def lane (f : Fin 128 → ℝ) : S1x128.Idx → EReal := fun i => ((f (i 1) : ℝ) : EReal)
theorem rows_at (f : ℕ → Fin 1024 → ℝ) (n : Fin 8448) (j : Fin 1024) : rows f (ix2 n j) = ((f n.val j : ℝ) : EReal) := by unfold rows; rfl
theorem wide_at (f : ℕ → Fin 4096 → ℝ) (n : Fin 8448) (j : Fin 4096) : wide f (ix2 n j) = ((f n.val j : ℝ) : EReal) := by unfold wide; rfl
theorem one_at (f : Fin 1024 → ℝ) (a : Fin 1) (j : Fin 1024) : one f (ix2 a j) = ((f j : ℝ) : EReal) := by unfold one; rfl
theorem lane_at (f : Fin 128 → ℝ) (a : Fin 1) (j : Fin 128) : lane f (ix2 a j) = ((f j : ℝ) : EReal) := by unfold lane; rfl

include R

/-- A point's five blocks, from the sums before it. -/
theorem outs_of
    (hp : ¬ t.val % 22 = 0 → (outsAt0 m c (t.val - 1) (by omega)).2.2.1 = G (acc I.gmT t.val) ∧ (outsAt0 m c (t.val - 1) (by omega)).2.2.2.1 = P (acc I.qgT t.val)
      ∧ (outsAt0 m c (t.val - 1) (by omega)).2.2.2.2.1 = P (acc I.kgT t.val)) :
    (outsAt0 m c t.val t.isLt).1 = (T fun p => I.dx (384 * t.val + p.val))
      ∧ (outsAt0 m c t.val t.isLt).2.1 = (H fun p => I.dp (384 * t.val + p.val))
      ∧ (outsAt0 m c t.val t.isLt).2.2.1 = G (acc I.gmT (t.val + 1))
      ∧ (outsAt0 m c t.val t.isLt).2.2.2.1 = P (acc I.qgT (t.val + 1))
      ∧ (outsAt0 m c t.val t.isLt).2.2.2.2.1 = P (acc I.kgT (t.val + 1)) := by
  have h22 := lt22 t
  have s := step m c t (bl I t.val) (acc I.gmT t.val) (acc I.qgT t.val) (acc I.kgT t.val)
    (real0 t R) (real1 t R) (real2 t R) (real3 t R) (real4 t R) (real5 t R) (real6 t R) (real7 t R) (real8 t R) (real9 t R) (real10 t R) (real11 t R)
    (real12 t R) (real13 t R) (real14 t) (real15 t) (realW R)
    (fun h => by
      obtain h0 : t.val = 0 := by omega
      rw [h0]
      exact ⟨acc_zero _, acc_zero _, acc_zero _⟩) hp
  exact ⟨s.1, s.2.1, s.2.2.1.trans (congrArg G (acc_succ I.gmT t.val)), s.2.2.2.1.trans (congrArg P (acc_succ I.qgT t.val)), s.2.2.2.2.trans (congrArg P (acc_succ I.kgT t.val))⟩

/-- The three sums after every point. -/
theorem sums (n : ℕ) : ∀ hn : n < cfg0.N, (outsAt0 m c n hn).2.2.1 = G (acc I.gmT (n + 1)) ∧ (outsAt0 m c n hn).2.2.2.1 = P (acc I.qgT (n + 1))
      ∧ (outsAt0 m c n hn).2.2.2.2.1 = P (acc I.kgT (n + 1)) := by
  induction n with
  | zero =>
    intro hn
    exact (outs_of ⟨0, hn⟩ R (fun h => absurd rfl h)).2.2
  | succ n ih =>
    intro hn
    exact (outs_of ⟨n + 1, hn⟩ R (fun _ => ih (by omega))).2.2

/-- The sums before a point that is not the first. -/
theorem prev : ¬ t.val % 22 = 0 → (outsAt0 m c (t.val - 1) (by omega)).2.2.1 = G (acc I.gmT t.val) ∧ (outsAt0 m c (t.val - 1) (by omega)).2.2.2.1 = P (acc I.qgT t.val)
      ∧ (outsAt0 m c (t.val - 1) (by omega)).2.2.2.2.1 = P (acc I.kgT t.val) := fun h => by
  have e := sums R (t.val - 1) (by omega)
  rwa [show t.val - 1 + 1 = t.val by omega] at e

/-! ## The arrays after the call -/

theorem arr16 : ((dats m 0 c).arrAt 16 (cfgs 0).N : FVec Ideal S8448x1024 .f32) = rows I.dx := by
  refine (dats m 0 c).arrAt_eq_of_covers 16 (rows I.dx) (by decide +kernel) fun t hf z => ?_
  blk_simp
  rw [after0_16, (outs_of t R (prev t R)).1]
  idx_vars z
  have e : (win0_16.blk t).view.emb (ix2 z0 z1 : S384x1024.Idx) = ix2 (rowOf t z0) z1 := by blk_ext [idx t]
  exact ((congrArg (rows I.dx) e).trans (rows_at _ _ _)).symm

theorem arr17 : ((dats m 0 c).arrAt 17 (cfgs 0).N : FVec Ideal S8448x4096 .bf16) = wide I.dp := by
  refine (dats m 0 c).arrAt_eq_of_covers 17 (wide I.dp) (by decide +kernel) fun t hf z => ?_
  blk_simp
  rw [after0_17, (outs_of t R (prev t R)).2.1]
  idx_vars z
  have e : (win0_17.blk t).view.emb (ix2 z0 z1 : S384x4096.Idx) = ix2 (rowOf t z0) z1 := by blk_ext [idx t]
  exact ((congrArg (wide I.dp) e).trans (wide_at _ _ _)).symm

theorem arr18 : ((dats m 0 c).arrAt 18 (cfgs 0).N : FVec Ideal S1x1024 .f32) = one I.gmS := by
  refine (dats m 0 c).arrAt_eq_of_covers 18 (one I.gmS) (by decide +kernel) fun t hf z => ?_
  blk_simp
  have hr := (flush0_18 t).mp hf
  have h22 := lt22 t
  rw [after0_18, (outs_of t R (prev t R)).2.2.1, show t.val + 1 = 22 by omega, acc_all]
  idx_vars z
  have e : (win0_18.blk t).view.emb (ix2 z0 z1 : S1x1024.Idx) = ix2 z0 z1 := by blk_ext [idx t]
  exact ((congrArg (one I.gmS) e).trans (one_at _ _ _)).symm

theorem arr19 : ((dats m 0 c).arrAt 19 (cfgs 0).N : FVec Ideal S1x128 .f32) = lane I.qgS := by
  refine (dats m 0 c).arrAt_eq_of_covers 19 (lane I.qgS) (by decide +kernel) fun t hf z => ?_
  blk_simp
  have hr := (flush0_19 t).mp hf
  have h22 := lt22 t
  rw [after0_19, (outs_of t R (prev t R)).2.2.2.1, show t.val + 1 = 22 by omega, acc_all]
  idx_vars z
  have e : (win0_19.blk t).view.emb (ix2 z0 z1 : S1x128.Idx) = ix2 z0 z1 := by blk_ext [idx t]
  exact ((congrArg (lane I.qgS) e).trans (lane_at _ _ _)).symm

theorem arr20 : ((dats m 0 c).arrAt 20 (cfgs 0).N : FVec Ideal S1x128 .f32) = lane I.kgS := by
  refine (dats m 0 c).arrAt_eq_of_covers 20 (lane I.kgS) (by decide +kernel) fun t hf z => ?_
  blk_simp
  have hr := (flush0_20 t).mp hf
  have h22 := lt22 t
  rw [after0_20, (outs_of t R (prev t R)).2.2.2.2, show t.val + 1 = 22 by omega, acc_all]
  idx_vars z
  have e : (win0_20.blk t).view.emb (ix2 z0 z1 : S1x128.Idx) = ix2 z0 z1 := by blk_ext [idx t]
  exact ((congrArg (lane I.kgS) e).trans (lane_at _ _ _)).symm

end Cert.Kernel3Ideal.InProj

end
-- ==== Proof.InRef.lean ====
/- The reference's projection, norms and rotation on finite arguments, entry by entry, over the reals: the cotangents of the raw queries and keys. -/
module

public import proofs.«01_k».proof.Proof.InAngle

@[expose] public section

set_option maxRecDepth 16384

noncomputable section

namespace Cert.Reference3Ideal.InProj

open Cert.Reference3Ideal Cert.Reference3Ideal.Gen Cert.Reference3Ideal.Read Cert.InProj Cert.Mlp
open Cert.Attn (coe_sum div_real)
open Idealize.ShloMosaic Idealize.ShloMosaic.TcCoe Idealize.SL.Sem
open scoped BigOperators

/-- The pattern of 64. -/
theorem ofBits_64 : Ideal.ofBits .f32 0x42800000#32 = ((64 : ℝ) : EReal) := by
  simp [Ideal.ofBits, Ideal.ieee, -EReal.coe_mul]; norm_num

theorem coe_of (x y : ℝ) (h : x = y) : (x : EReal) = (y : EReal) := congrArg Real.toEReal h
theorem mulf_coe (x y : ℝ) : FloatOps.mulf (F := Ideal) (φ := .f32) (x : EReal) (y : EReal) = ((x * y : ℝ) : EReal) := (EReal.coe_mul x y).symm
theorem addf_coe (x y : ℝ) : FloatOps.addf (F := Ideal) (φ := .f32) (x : EReal) (y : EReal) = ((x + y : ℝ) : EReal) := (EReal.coe_add x y).symm

/-- A sum over three leading axes of extent one. -/
theorem sum_g (v : FVec Ideal S1x1x1x2x64 .f32) (b : Fin 2) (d : Fin 64) :
    Ideal.hostReduceAdd reducesTo_S1x1x1x2x64_S2x64_d0_1_2 v 0 (ix2 b d) = v (ix5 0 0 0 b d) := by
  rw [Ideal.hostReduceAdd, zero_add]
  refine (Finset.sum_eq_single_of_mem (ix5 0 0 0 b d) ?_ ?_)
  · rw [Finset.mem_filter]
    refine ⟨Finset.mem_univ _, funext fun x => Fin.ext ?_⟩
    fin_cases x
    · exact reducesTo_S1x1x1x2x64_S2x64_d0_1_2.drop_apply_val_of_eq _ 0 3
    · exact reducesTo_S1x1x1x2x64_S2x64_d0_1_2.drop_apply_val_of_eq _ 1 4
  · intro i hi hne
    refine absurd ?_ hne
    have hi := (Finset.mem_filter.mp hi).2
    funext x
    fin_cases x
    · exact Subsingleton.elim (α := Fin 1) _ _
    · exact Subsingleton.elim (α := Fin 1) _ _
    · exact Subsingleton.elim (α := Fin 1) _ _
    · exact Fin.ext ((reducesTo_S1x1x1x2x64_S2x64_d0_1_2.drop_apply_val_of_eq i 0 3).symm.trans (congrArg Fin.val (congrFun hi 0)))
    · exact Fin.ext ((reducesTo_S1x1x1x2x64_S2x64_d0_1_2.drop_apply_val_of_eq i 1 4).symm.trans (congrArg Fin.val (congrFun hi 1)))

theorem sw_even (l : Fin 128) (e : l.val % 2 = 0) : (sw l).val = l.val + 1 := by
  rw [sw, dif_pos e]

theorem sw_odd (l : Fin 128) (e : ¬ l.val % 2 = 0) : (sw l).val = l.val - 1 := by
  rw [sw, dif_neg e]

/-- The rotation's transpose in a row of the step, at an even lane. -/
theorem dn_even (n : Fin 8208) (f : Fin 128 → ℝ) (l : Fin 128) (e : l.val % 2 = 0) :
    dn (pd In.cs n.val) (pd In.sn n.val) f l = f (sw l) * Real.sin (ang n (pr l)) + f l * Real.cos (ang n (pr l)) := by
  have h := sw_even l e
  have hp : pr (sw l) = pr l := Fin.ext (by show (sw l).val % 64 / 2 = l.val % 64 / 2; omega)
  rw [dn, pd_row, pd_row, In.cs, In.sn, hp, if_neg (by omega)]
  exact add_comm _ _

/-- The same at an odd lane. -/
theorem dn_odd (n : Fin 8208) (f : Fin 128 → ℝ) (l : Fin 128) (e : ¬ l.val % 2 = 0) :
    dn (pd In.cs n.val) (pd In.sn n.val) f l = f l * Real.cos (ang n (pr l)) + -f (sw l) * Real.sin (ang n (pr l)) := by
  have h := sw_odd l e
  have hp : pr (sw l) = pr l := Fin.ext (by show (sw l).val % 64 / 2 = l.val % 64 / 2; omega)
  rw [dn, pd_row, pd_row, In.cs, In.sn, hp, if_pos (by omega), mul_neg, neg_mul]

/-- The same with the two columns and the pair of lanes given otherwise. -/
theorem rot_even {w : ℕ} (f : Fin 8208 → Fin w → ℝ) (n : Fin 8208) (col : Fin 128 → Fin w) (l : Fin 128) (e : l.val % 2 = 0) (i j : Fin w) (k : Fin 32)
    (hi : i = col l) (hj : j = col (sw l)) (hk : pr l = k) :
    f n j * Real.sin (ang n k) + f n i * Real.cos (ang n k) = dn (pd In.cs n.val) (pd In.sn n.val) (fun l => pd f n.val (col l)) l := by
  subst hi hj hk
  rw [dn_even n _ _ e, pd_row]

theorem rot_odd {w : ℕ} (f : Fin 8208 → Fin w → ℝ) (n : Fin 8208) (col : Fin 128 → Fin w) (l : Fin 128) (e : ¬ l.val % 2 = 0) (i j : Fin w) (k : Fin 32)
    (hi : i = col l) (hj : j = col (sw l)) (hk : pr l = k) :
    f n i * Real.cos (ang n k) + -f n j * Real.sin (ang n k) = dn (pd In.cs n.val) (pd In.sn n.val) (fun l => pd f n.val (col l)) l := by
  subst hi hj hk
  rw [dn_odd n _ _ e, pd_row]

/-- A sum over the values of an injection of pairs. -/
theorem sum_two {α β ι : Type} [Fintype α] [Fintype β] (t : Finset ι) (f : α → β → ι) (v : ι → EReal) (hm : ∀ a b, f a b ∈ t)
    (hi : ∀ a b a' b', f a b = f a' b' → a = a' ∧ b = b') (hs : ∀ i ∈ t, ∃ a b, f a b = i) : ∑ i ∈ t, v i = ∑ a, ∑ b, v (f a b) := by
  rw [← Fintype.sum_prod_type' fun a b => v (f a b)]
  symm
  refine Finset.sum_bij (fun p _ => f p.1 p.2) (fun p _ => hm _ _) (fun p _ q _ h => Prod.ext (hi _ _ _ _ h).1 (hi _ _ _ _ h).2) (fun i h => ?_) fun _ _ => rfl
  obtain ⟨a, b, e⟩ := hs i h
  exact ⟨(a, b), Finset.mem_univ _, e⟩

/-- A sum over the rows and the pairs of heads. -/
theorem sum_gq (v : FVec Ideal S1x8208x8x2x64 .f32) (b : Fin 2) (d : Fin 64) :
    Ideal.hostReduceAdd reducesTo_S1x8208x8x2x64_S1x2x64_d1_2 v 0 (ix3 0 b d) = ∑ n : Fin 8208, ∑ a : Fin 8, v (ix5 0 n a b d) := by
  rw [Ideal.hostReduceAdd, zero_add]
  refine sum_two _ (fun n a => (ix5 0 n a b d : S1x8208x8x2x64.Idx)) v (fun n a => ?_) (fun n a n' a' h => ⟨congrFun h 1, congrFun h 2⟩) fun i hi => ?_
  · rw [Finset.mem_filter]
    refine ⟨Finset.mem_univ _, funext fun x => Fin.ext ?_⟩
    fin_cases x
    · exact reducesTo_S1x8208x8x2x64_S1x2x64_d1_2.drop_apply_val_of_eq _ 0 0
    · exact reducesTo_S1x8208x8x2x64_S1x2x64_d1_2.drop_apply_val_of_eq _ 1 3
    · exact reducesTo_S1x8208x8x2x64_S1x2x64_d1_2.drop_apply_val_of_eq _ 2 4
  · have hi := (Finset.mem_filter.mp hi).2
    refine ⟨i 1, i 2, funext fun x => ?_⟩
    fin_cases x
    · exact Subsingleton.elim (α := Fin 1) _ _
    · rfl
    · rfl
    · exact Fin.ext ((congrArg Fin.val (congrFun hi 1)).symm.trans (reducesTo_S1x8208x8x2x64_S1x2x64_d1_2.drop_apply_val_of_eq i 1 3))
    · exact Fin.ext ((congrArg Fin.val (congrFun hi 2)).symm.trans (reducesTo_S1x8208x8x2x64_S1x2x64_d1_2.drop_apply_val_of_eq i 2 4))

/-- A sum over a first and a last axis of extent one. -/
theorem sum_q (v : FVec Ideal S1x8208x8x2x1 .f32) (n : Fin 8208) (a : Fin 8) (b : Fin 2) :
    Ideal.hostReduceAdd reducesTo_S1x8208x8x2x1_S8208x8x2_d0_4 v 0 (ix3 n a b) = v (ix5 0 n a b 0) := by
  rw [Ideal.hostReduceAdd, zero_add]
  refine (Finset.sum_eq_single_of_mem (ix5 0 n a b 0) ?_ ?_)
  · rw [Finset.mem_filter]
    refine ⟨Finset.mem_univ _, funext fun x => Fin.ext ?_⟩
    fin_cases x
    · exact reducesTo_S1x8208x8x2x1_S8208x8x2_d0_4.drop_apply_val_of_eq _ 0 1
    · exact reducesTo_S1x8208x8x2x1_S8208x8x2_d0_4.drop_apply_val_of_eq _ 1 2
    · exact reducesTo_S1x8208x8x2x1_S8208x8x2_d0_4.drop_apply_val_of_eq _ 2 3
  · intro i hi hne
    refine absurd ?_ hne
    have hi := (Finset.mem_filter.mp hi).2
    funext x
    fin_cases x
    · exact Subsingleton.elim (α := Fin 1) _ _
    · exact Fin.ext ((reducesTo_S1x8208x8x2x1_S8208x8x2_d0_4.drop_apply_val_of_eq i 0 1).symm.trans (congrArg Fin.val (congrFun hi 0)))
    · exact Fin.ext ((reducesTo_S1x8208x8x2x1_S8208x8x2_d0_4.drop_apply_val_of_eq i 1 2).symm.trans (congrArg Fin.val (congrFun hi 1)))
    · exact Fin.ext ((reducesTo_S1x8208x8x2x1_S8208x8x2_d0_4.drop_apply_val_of_eq i 2 3).symm.trans (congrArg Fin.val (congrFun hi 2)))
    · exact Subsingleton.elim (α := Fin 1) _ _

/-- A sum over the rows and the pairs of heads. -/
theorem sum_gk (v : FVec Ideal S1x8208x2x2x64 .f32) (b : Fin 2) (d : Fin 64) :
    Ideal.hostReduceAdd reducesTo_S1x8208x2x2x64_S1x2x64_d1_2 v 0 (ix3 0 b d) = ∑ n : Fin 8208, ∑ a : Fin 2, v (ix5 0 n a b d) := by
  rw [Ideal.hostReduceAdd, zero_add]
  refine sum_two _ (fun n a => (ix5 0 n a b d : S1x8208x2x2x64.Idx)) v (fun n a => ?_) (fun n a n' a' h => ⟨congrFun h 1, congrFun h 2⟩) fun i hi => ?_
  · rw [Finset.mem_filter]
    refine ⟨Finset.mem_univ _, funext fun x => Fin.ext ?_⟩
    fin_cases x
    · exact reducesTo_S1x8208x2x2x64_S1x2x64_d1_2.drop_apply_val_of_eq _ 0 0
    · exact reducesTo_S1x8208x2x2x64_S1x2x64_d1_2.drop_apply_val_of_eq _ 1 3
    · exact reducesTo_S1x8208x2x2x64_S1x2x64_d1_2.drop_apply_val_of_eq _ 2 4
  · have hi := (Finset.mem_filter.mp hi).2
    refine ⟨i 1, i 2, funext fun x => ?_⟩
    fin_cases x
    · exact Subsingleton.elim (α := Fin 1) _ _
    · rfl
    · rfl
    · exact Fin.ext ((congrArg Fin.val (congrFun hi 1)).symm.trans (reducesTo_S1x8208x2x2x64_S1x2x64_d1_2.drop_apply_val_of_eq i 1 3))
    · exact Fin.ext ((congrArg Fin.val (congrFun hi 2)).symm.trans (reducesTo_S1x8208x2x2x64_S1x2x64_d1_2.drop_apply_val_of_eq i 2 4))

/-- A sum over a first and a last axis of extent one. -/
theorem sum_k (v : FVec Ideal S1x8208x2x2x1 .f32) (n : Fin 8208) (a : Fin 2) (b : Fin 2) :
    Ideal.hostReduceAdd reducesTo_S1x8208x2x2x1_S8208x2x2_d0_4 v 0 (ix3 n a b) = v (ix5 0 n a b 0) := by
  rw [Ideal.hostReduceAdd, zero_add]
  refine (Finset.sum_eq_single_of_mem (ix5 0 n a b 0) ?_ ?_)
  · rw [Finset.mem_filter]
    refine ⟨Finset.mem_univ _, funext fun x => Fin.ext ?_⟩
    fin_cases x
    · exact reducesTo_S1x8208x2x2x1_S8208x2x2_d0_4.drop_apply_val_of_eq _ 0 1
    · exact reducesTo_S1x8208x2x2x1_S8208x2x2_d0_4.drop_apply_val_of_eq _ 1 2
    · exact reducesTo_S1x8208x2x2x1_S8208x2x2_d0_4.drop_apply_val_of_eq _ 2 3
  · intro i hi hne
    refine absurd ?_ hne
    have hi := (Finset.mem_filter.mp hi).2
    funext x
    fin_cases x
    · exact Subsingleton.elim (α := Fin 1) _ _
    · exact Fin.ext ((reducesTo_S1x8208x2x2x1_S8208x2x2_d0_4.drop_apply_val_of_eq i 0 1).symm.trans (congrArg Fin.val (congrFun hi 0)))
    · exact Fin.ext ((reducesTo_S1x8208x2x2x1_S8208x2x2_d0_4.drop_apply_val_of_eq i 1 2).symm.trans (congrArg Fin.val (congrFun hi 1)))
    · exact Fin.ext ((reducesTo_S1x8208x2x2x1_S8208x2x2_d0_4.drop_apply_val_of_eq i 2 3).symm.trans (congrArg Fin.val (congrFun hi 2)))
    · exact Subsingleton.elim (α := Fin 1) _ _
variable {x0 : FVec Ideal S1x8208x1024 .f32} {x1 : FVec Ideal S1x1024 .f32} {x2 : FVec Ideal S1x1024x4096 .f32} {x3 x4 : FVec Ideal S1x64 .f32} {x5 : FVec Ideal S1x8208x1024 .f32}
  {x6 x7 x8 : FVec Ideal S1x8208x512 .f32} {x9 : FVec Ideal S1x8208x16x64 .f32} {x10 x11 : FVec Ideal S1x8208x4x64 .f32} {x12 x13 : FVec Ideal S1x8208x1024 .f32} {I : In}

/-- The fourteen arguments hold these reals. -/
structure Args (x0 : FVec Ideal S1x8208x1024 .f32) (x1 : FVec Ideal S1x1024 .f32) (x2 : FVec Ideal S1x1024x4096 .f32) (x3 x4 : FVec Ideal S1x64 .f32) (x5 : FVec Ideal S1x8208x1024 .f32)
    (x6 x7 x8 : FVec Ideal S1x8208x512 .f32) (x9 : FVec Ideal S1x8208x16x64 .f32) (x10 x11 : FVec Ideal S1x8208x4x64 .f32) (x12 x13 : FVec Ideal S1x8208x1024 .f32) (I : In) : Prop where
  h0 : ∀ n j, x0 (ix3 0 n j) = ((I.x n j : ℝ) : EReal)
  h1 : ∀ j, x1 (ix2 0 j) = ((I.gm j : ℝ) : EReal)
  h2 : ∀ j k, x2 (ix3 0 j k) = ((I.w j k : ℝ) : EReal)
  h3 : ∀ j, x3 (ix2 0 j) = ((I.qg j : ℝ) : EReal)
  h4 : ∀ j, x4 (ix2 0 j) = ((I.kg j : ℝ) : EReal)
  h5 : ∀ n j, x5 (ix3 0 n j) = ((I.dr n j : ℝ) : EReal)
  h6 : ∀ n j, x6 (ix3 0 n j) = ((I.u1 n j : ℝ) : EReal)
  h7 : ∀ n j, x7 (ix3 0 n j) = ((I.u2 n j : ℝ) : EReal)
  h8 : ∀ n j, x8 (ix3 0 n j) = ((I.u3 n j : ℝ) : EReal)
  h9 : ∀ n (a : Fin 16) (d : Fin 64), x9 (ix4 0 n a d) = ((I.dq n ⟨64 * a.val + d.val, by omega⟩ : ℝ) : EReal)
  h10 : ∀ n (a : Fin 4) (d : Fin 64), x10 (ix4 0 n a d) = ((I.dk n ⟨64 * a.val + d.val, by omega⟩ : ℝ) : EReal)
  h11 : ∀ n (a : Fin 4) (d : Fin 64), x11 (ix4 0 n a d) = ((I.dv n ⟨64 * a.val + d.val, by omega⟩ : ℝ) : EReal)
  h12 : ∀ n j, x12 (ix3 0 n j) = ((I.gs n j : ℝ) : EReal)
  h13 : ∀ n j, x13 (ix3 0 n j) = ((I.ga n j : ℝ) : EReal)

variable (A : Args x0 x1 x2 x3 x4 x5 x6 x7 x8 x9 x10 x11 x12 x13 I)
include A

/-- A row's mean square, its reciprocal root, and the root's derivative. -/
theorem ms_at (n : Fin 8208) : val_main_v14 (F := Ideal) x0 (ix3 0 n 0) = (((∑ j, I.x n j * I.x n j) / 1024 + eps : ℝ) : EReal) := by
  pointwise [val_main_v14, val_main_v13, val_main_cst_2, val_main_v12, val_main_v11, val_main_cst_1, val_main_v10, val_main_v9, val_main_cst_0, val_main_v8]
  simp only [A.h0, ofBits_1024, ofBits_eps, ← EReal.coe_mul, ← coe_sum, div_real _ _ (by norm_num : (1024 : ℝ) ≠ 0), ← EReal.coe_add]

theorem rs_at (n : Fin 8208) : val_main_v15 (F := Ideal) x0 (ix3 0 n 0) = ((rs (I.x n) : ℝ) : EReal) := by
  rw [val_main_v15_apply, ms_at A]
  exact rs_real (I.x n)

theorem drs_at (n : Fin 8208) : val_main_v18 (F := Ideal) x0 (ix3 0 n 0) = ((-(1 / 2) * (rs (I.x n) / ((∑ j, I.x n j * I.x n j) / 1024 + eps)) : ℝ) : EReal) := by
  pointwise [val_main_v18, val_main_v17, val_main_cst_3, val_main_v16]
  rw [rs_at A, ms_at A, div_real _ _ (ms_pos (I.x n)).ne', ofBits_neg_half, EReal.coe_mul]

theorem nm_at (n : Fin 8208) (j : Fin 1024) : val_main_v20 (F := Ideal) x0 (ix3 0 n j) = ((nm (I.x n) j : ℝ) : EReal) := by
  pointwise [val_main_v20, val_main_v19]
  rw [rs_at A, A.h0, ← EReal.coe_mul, nm]

theorem h2_at (n : Fin 8208) (j : Fin 1024) : val_main_v23 (F := Ideal) x0 x1 (ix3 0 n j) = ((h2 I.gm (I.x n) j : ℝ) : EReal) := by
  pointwise [val_main_v23, val_main_v22, val_main_v21, val_main_v7]
  rw [nm_at A, A.h1, ← EReal.coe_mul, h2]

/-- The projection. -/
theorem proj_at (n : Fin 8208) (k : Fin 4096) : val_main_v26 (F := Ideal) x0 x1 x2 (ix3 0 n k) = ((∑ j, h2 I.gm (I.x n) j * I.w j k : ℝ) : EReal) := by
  pointwise [val_main_v26, val_main_v25, val_main_v24, val_main_v0, val_main_cst]
  simp only [h2_at A, A.h2, ← EReal.coe_mul, ← coe_sum]

omit A in
/-- The cosine and sine in the row. -/
theorem c_at (n : Fin 8208) (k : Fin 32) : val_main_v59 (F := Ideal)  (ix2 n k) = ((Real.cos (ang n k) : ℝ) : EReal) := cos_at n k
omit A in
theorem s_at (n : Fin 8208) (k : Fin 32) : val_main_v60 (F := Ideal)  (ix2 n k) = ((Real.sin (ang n k) : ℝ) : EReal) := sin_at n k

/-! ## The queries: pair of heads `a`, head `b` of it, lane `d` -/

theorem q_at (n : Fin 8208) (a : Fin 8) (b : Fin 2) (d : Fin 64) : val_main_v61 (F := Ideal) x0 x1 x2 (ix5 0 n a b d) = ((I.rq n.val a (ln b d) : ℝ) : EReal) := by
  pointwise [val_main_v61, val_main_v28]
  rw [proj_at A]
  refine congrArg _ ?_
  unfold In.rq
  rw [pd_row]
  exact Finset.sum_congr rfl fun j _ => congrArg (fun k => h2 I.gm (I.x n) j * I.w j k) (Fin.ext (by show 512 + (a.val * 128 + b.val * 64 + d.val) = 512 + (128 * a.val + (64 * b.val + d.val)); omega))

theorem qms_at (n : Fin 8208) (a : Fin 8) (b : Fin 2) : val_main_v68 (F := Ideal) x0 x1 x2 (ix5 0 n a b 0) = (((∑ d, I.rq n.val a (ln b d) * I.rq n.val a (ln b d)) / 64 + eps : ℝ) : EReal) := by
  pointwise [val_main_v68, val_main_v67, val_main_cst_9, val_main_v66, val_main_v65, val_main_cst_8, val_main_v64, val_main_v63, val_main_cst_7, val_main_v62]
  simp only [q_at A, ofBits_64, ofBits_eps, ← EReal.coe_mul, ← coe_sum, div_real _ _ (by norm_num : (64 : ℝ) ≠ 0), ← EReal.coe_add]

theorem qrs_at (n : Fin 8208) (a : Fin 8) (b : Fin 2) : val_main_v69 (F := Ideal) x0 x1 x2 (ix5 0 n a b 0) = ((rs64 (fun d => I.rq n.val a (ln b d)) : ℝ) : EReal) := by
  rw [val_main_v69_apply, qms_at A]
  exact rs64_real _

theorem qdrs_at (n : Fin 8208) (a : Fin 8) (b : Fin 2) : val_main_v72 (F := Ideal) x0 x1 x2 (ix5 0 n a b 0)
    = ((-(1 / 2) * (rs64 (fun d => I.rq n.val a (ln b d)) / ((∑ d, I.rq n.val a (ln b d) * I.rq n.val a (ln b d)) / 64 + eps)) : ℝ) : EReal) := by
  pointwise [val_main_v72, val_main_v71, val_main_cst_10, val_main_v70]
  rw [qrs_at A, qms_at A, div_real _ _ (ms64_pos _).ne', ofBits_neg_half, EReal.coe_mul]

theorem qhx_at (n : Fin 8208) (a : Fin 8) (b : Fin 2) (d : Fin 64) : val_main_v74 (F := Ideal) x0 x1 x2 (ix5 0 n a b d) = ((hx (I.rq n.val a) (ln b d) : ℝ) : EReal) := by
  pointwise [val_main_v74, val_main_v73]
  rw [qrs_at A, q_at A, ← EReal.coe_mul, hx, hr_ln]

theorem qg_at (b : Fin 2) (d : Fin 64) : val_main_v75 (F := Ideal) x3 (ix5 0 0 0 b d) = ((In.g2 I.qg (ln b d) : ℝ) : EReal) := by
  pointwise [val_main_v75, val_main_v3, val_main_v2, val_main_v1]
  rw [A.h3]
  exact congrArg (fun q => ((I.qg q : ℝ) : EReal)) (Fin.ext (by show d.val = (64 * b.val + d.val) % 64; omega))

/-- The cotangent before the rotation. -/
theorem qrot_at (n : Fin 8208) (a : Fin 8) (b : Fin 2) (d : Fin 64) : val_main_v218 (F := Ideal) x9 (ix5 0 n a b d) = ((I.Dq n.val a (ln b d) : ℝ) : EReal) := by
  pointwise [val_main_v218, val_main_v194, val_main_v193, val_main_v192, val_main_cst_18, val_main_v191, val_main_v188, val_main_v187, val_main_v186, val_main_v104, val_main_v102, val_main_v175, val_main_v174, val_main_v173, val_main_v181, val_main_v180, val_main_v111, val_main_v103, val_main_v177, val_main_v176, val_main_v190, val_main_cst_17, val_main_v189, val_main_v185, val_main_v184, val_main_v183, val_main_v107, val_main_v182, val_main_v179, val_main_v178, val_main_v114]
  simp only [c_at, s_at]
  have hp : pr (ln b d) = ⟨d.val / 2, by omega⟩ := Fin.ext (by show (64 * b.val + d.val) % 64 / 2 = d.val / 2; omega)
  unfold In.Dq
  by_cases e : d.val % 2 = 0
  · have h1 : (ln b d).val % 2 = 0 := by show (64 * b.val + d.val) % 2 = 0; omega
    have hs : (sw (ln b d)).val = 64 * b.val + d.val + 1 := sw_even _ h1
    have e1 : (⟨64 * (a.val * 2 + b.val) + (d.val / 2 * 2 + 1), by omega⟩ : Fin 1024) = qc a (sw (ln b d)) := Fin.ext (by show _ = 128 * a.val + (sw (ln b d)).val; rw [hs]; show 64 * (a.val * 2 + b.val) + (d.val / 2 * 2 + 1) = _; omega)
    have e2 : (⟨64 * (a.val * 2 + b.val) + d.val / 2 * 2, by omega⟩ : Fin 1024) = qc a (ln b d) := Fin.ext (by show 64 * (a.val * 2 + b.val) + d.val / 2 * 2 = 128 * a.val + (64 * b.val + d.val); omega)
    simp only [dif_neg (show ¬ (a.val * 2 + b.val < 16 ∧ d.val / 2 < 32 ∧ 1 ≤ d.val % 2 ∧ d.val % 2 - 1 < 1) by omega), dif_pos (show (a.val * 2 + b.val < 16 ∧ d.val / 2 < 32 ∧ d.val % 2 < 1) by omega), zero_add, A.h9, ← EReal.coe_mul, ← EReal.coe_add]
    exact coe_of _ _ (rot_even I.dq n (qc a) (ln b d) h1 _ _ _ e2 e1 hp)
  · have h1 : ¬ (ln b d).val % 2 = 0 := by show ¬ (64 * b.val + d.val) % 2 = 0; omega
    have hs : (sw (ln b d)).val = 64 * b.val + d.val - 1 := sw_odd _ h1
    have e1 : (⟨64 * (a.val * 2 + b.val) + d.val / 2 * 2, by omega⟩ : Fin 1024) = qc a (sw (ln b d)) := Fin.ext (by show _ = 128 * a.val + (sw (ln b d)).val; rw [hs]; show 64 * (a.val * 2 + b.val) + d.val / 2 * 2 = _; omega)
    have e2 : (⟨64 * (a.val * 2 + b.val) + (d.val / 2 * 2 + 1), by omega⟩ : Fin 1024) = qc a (ln b d) := Fin.ext (by show 64 * (a.val * 2 + b.val) + (d.val / 2 * 2 + 1) = 128 * a.val + (64 * b.val + d.val); omega)
    simp only [dif_pos (show (a.val * 2 + b.val < 16 ∧ d.val / 2 < 32 ∧ 1 ≤ d.val % 2 ∧ d.val % 2 - 1 < 1) by omega), dif_neg (show ¬ (a.val * 2 + b.val < 16 ∧ d.val / 2 < 32 ∧ d.val % 2 < 1) by omega), add_zero, A.h9, ← EReal.coe_neg, ← EReal.coe_mul, ← EReal.coe_add]
    exact coe_of _ _ (rot_odd I.dq n (qc a) (ln b d) h1 _ _ _ e2 e1 hp)

/-- The cotangent times the gain. -/
theorem qDg_at (n : Fin 8208) (a : Fin 8) (b : Fin 2) (d : Fin 64) : val_main_v223 (F := Ideal) x3 x9 (ix5 0 n a b d) = ((I.Dq n.val a (ln b d) * In.g2 I.qg (ln b d) : ℝ) : EReal) := by
  have e : idx_main_v222 (ix5 0 n a b d) = ix5 0 0 0 b d := by
    funext x
    fin_cases x <;> rfl
  rw [val_main_v223_apply, val_main_v222_apply, e, qrot_at A, qg_at A]
  exact (EReal.coe_mul _ _).symm

/-- The norm's part of the cotangent, before the row. -/
theorem qs_at (n : Fin 8208) (a : Fin 8) (b : Fin 2) : val_main_v232 (F := Ideal) x0 x1 x2 x3 x9 (ix5 0 n a b 0)
    = (((∑ e, I.rq n.val a (ln b e) * (I.Dq n.val a (ln b e) * In.g2 I.qg (ln b e))) * (-(1 / 2) * (rs64 (fun d => I.rq n.val a (ln b d)) / ((∑ d, I.rq n.val a (ln b d) * I.rq n.val a (ln b d)) / 64 + eps))) / 64 : ℝ) : EReal) := by
  pointwise [val_main_v232, val_main_v231, val_main_cst_27, val_main_v230, val_main_v227, val_main_v226, val_main_cst_26, val_main_v225]
  simp only [q_at A, qDg_at A, qdrs_at A, ofBits_64, ← EReal.coe_mul, ← coe_sum, div_real _ _ (by norm_num : (64 : ℝ) ≠ 0)]

theorem qs2_at (n : Fin 8208) (a : Fin 8) (b : Fin 2) : val_main_v233 (F := Ideal) x0 x1 x2 x3 x9 (ix3 n a b)
    = (((∑ e, I.rq n.val a (ln b e) * (I.Dq n.val a (ln b e) * In.g2 I.qg (ln b e))) * (-(1 / 2) * (rs64 (fun d => I.rq n.val a (ln b d)) / ((∑ d, I.rq n.val a (ln b d) * I.rq n.val a (ln b d)) / 64 + eps))) / 64 : ℝ) : EReal) := by
  pointwise [val_main_v233, val_main_cst_28]
  rw [sum_q, qs_at A]

/-- The cotangent before the norm. -/
theorem qdw_at (n : Fin 8208) (a : Fin 8) (b : Fin 2) (d : Fin 64) : val_main_v239 (F := Ideal) x0 x1 x2 x3 x9 (ix5 0 n a b d) = ((dw (I.rq n.val a) (In.g2 I.qg) (I.Dq n.val a) (ln b d) : ℝ) : EReal) := by
  have e1 : idx_main_v228 (ix5 0 n a b d) = ix5 0 n a b 0 := by
    funext x
    fin_cases x <;> rfl
  have e2 : idx_main_v234 (idx_main_v235 (ix5 0 n a b d)) = ix3 n a b := by
    funext x
    fin_cases x <;> rfl
  rw [val_main_v239_apply, val_main_v238_apply, val_main_v237_apply, val_main_v236_apply, val_main_v229_apply, val_main_v235_apply, val_main_v234_apply, val_main_v228_apply,
    e1, e2, qs2_at A, q_at A, qDg_at A, qrs_at A]
  simp only [mulf_coe, addf_coe]
  exact congrArg Real.toEReal (dw_chain (I.rq n.val a) (In.g2 I.qg) (I.Dq n.val a) b d _ rfl)

/-- The gain's gradient. -/
theorem qgS_at (l : Fin 128) : val_main_v271 (F := Ideal) x0 x1 x2 x9 (ix2 0 l) = ((I.qgS l : ℝ) : EReal) := by
  pointwise [val_main_v271, val_main_v224, val_main_cst_25]
  rw [sum_g]
  pointwise [val_main_v221, val_main_v220, val_main_cst_24]
  rw [sum_gq]
  pointwise [val_main_v219]
  simp only [qhx_at A, qrot_at A, ← EReal.coe_mul, ← coe_sum]
  rw [I.qgS_eq]
  refine congrArg _ (Finset.sum_congr rfl fun n _ => Finset.sum_congr rfl fun a _ => ?_)
  rw [dg, mul_comm, show ln ⟨l.val / 64, by omega⟩ ⟨l.val % 64, by omega⟩ = l from Fin.ext (by show 64 * (l.val / 64) + l.val % 64 = l.val; omega)]

/-! ## The keys: pair of heads `a`, head `b` of it, lane `d` -/

theorem k_at (n : Fin 8208) (a : Fin 2) (b : Fin 2) (d : Fin 64) : val_main_v79 (F := Ideal) x0 x1 x2 (ix5 0 n a b d) = ((I.rk n.val a (ln b d) : ℝ) : EReal) := by
  pointwise [val_main_v79, val_main_v29]
  rw [proj_at A]
  refine congrArg _ ?_
  unfold In.rk
  rw [pd_row]
  exact Finset.sum_congr rfl fun j _ => congrArg (fun k => h2 I.gm (I.x n) j * I.w j k) (Fin.ext (by show 1536 + (a.val * 128 + b.val * 64 + d.val) = 1536 + (128 * a.val + (64 * b.val + d.val)); omega))

theorem kms_at (n : Fin 8208) (a : Fin 2) (b : Fin 2) : val_main_v86 (F := Ideal) x0 x1 x2 (ix5 0 n a b 0) = (((∑ d, I.rk n.val a (ln b d) * I.rk n.val a (ln b d)) / 64 + eps : ℝ) : EReal) := by
  pointwise [val_main_v86, val_main_v85, val_main_cst_13, val_main_v84, val_main_v83, val_main_cst_12, val_main_v82, val_main_v81, val_main_cst_11, val_main_v80]
  simp only [k_at A, ofBits_64, ofBits_eps, ← EReal.coe_mul, ← coe_sum, div_real _ _ (by norm_num : (64 : ℝ) ≠ 0), ← EReal.coe_add]

theorem krs_at (n : Fin 8208) (a : Fin 2) (b : Fin 2) : val_main_v87 (F := Ideal) x0 x1 x2 (ix5 0 n a b 0) = ((rs64 (fun d => I.rk n.val a (ln b d)) : ℝ) : EReal) := by
  rw [val_main_v87_apply, kms_at A]
  exact rs64_real _

theorem kdrs_at (n : Fin 8208) (a : Fin 2) (b : Fin 2) : val_main_v90 (F := Ideal) x0 x1 x2 (ix5 0 n a b 0)
    = ((-(1 / 2) * (rs64 (fun d => I.rk n.val a (ln b d)) / ((∑ d, I.rk n.val a (ln b d) * I.rk n.val a (ln b d)) / 64 + eps)) : ℝ) : EReal) := by
  pointwise [val_main_v90, val_main_v89, val_main_cst_14, val_main_v88]
  rw [krs_at A, kms_at A, div_real _ _ (ms64_pos _).ne', ofBits_neg_half, EReal.coe_mul]

theorem khx_at (n : Fin 8208) (a : Fin 2) (b : Fin 2) (d : Fin 64) : val_main_v92 (F := Ideal) x0 x1 x2 (ix5 0 n a b d) = ((hx (I.rk n.val a) (ln b d) : ℝ) : EReal) := by
  pointwise [val_main_v92, val_main_v91]
  rw [krs_at A, k_at A, ← EReal.coe_mul, hx, hr_ln]

theorem kg_at (b : Fin 2) (d : Fin 64) : val_main_v93 (F := Ideal) x4 (ix5 0 0 0 b d) = ((In.g2 I.kg (ln b d) : ℝ) : EReal) := by
  pointwise [val_main_v93, val_main_v6, val_main_v5, val_main_v4]
  rw [A.h4]
  exact congrArg (fun q => ((I.kg q : ℝ) : EReal)) (Fin.ext (by show d.val = (64 * b.val + d.val) % 64; omega))

/-- The cotangent before the rotation. -/
theorem krot_at (n : Fin 8208) (a : Fin 2) (b : Fin 2) (d : Fin 64) : val_main_v195 (F := Ideal) x10 (ix5 0 n a b d) = ((I.Dk n.val a (ln b d) : ℝ) : EReal) := by
  pointwise [val_main_v195, val_main_v172, val_main_v171, val_main_v170, val_main_cst_16, val_main_v169, val_main_v166, val_main_v165, val_main_v164, val_main_v129, val_main_v127, val_main_v153, val_main_v152, val_main_v151, val_main_v159, val_main_v158, val_main_v136, val_main_v128, val_main_v155, val_main_v154, val_main_v168, val_main_cst_15, val_main_v167, val_main_v163, val_main_v162, val_main_v161, val_main_v132, val_main_v160, val_main_v157, val_main_v156, val_main_v139]
  simp only [c_at, s_at]
  have hp : pr (ln b d) = ⟨d.val / 2, by omega⟩ := Fin.ext (by show (64 * b.val + d.val) % 64 / 2 = d.val / 2; omega)
  unfold In.Dk
  by_cases e : d.val % 2 = 0
  · have h1 : (ln b d).val % 2 = 0 := by show (64 * b.val + d.val) % 2 = 0; omega
    have hs : (sw (ln b d)).val = 64 * b.val + d.val + 1 := sw_even _ h1
    have e1 : (⟨64 * (a.val * 2 + b.val) + (d.val / 2 * 2 + 1), by omega⟩ : Fin 256) = kc a (sw (ln b d)) := Fin.ext (by show _ = 128 * a.val + (sw (ln b d)).val; rw [hs]; show 64 * (a.val * 2 + b.val) + (d.val / 2 * 2 + 1) = _; omega)
    have e2 : (⟨64 * (a.val * 2 + b.val) + d.val / 2 * 2, by omega⟩ : Fin 256) = kc a (ln b d) := Fin.ext (by show 64 * (a.val * 2 + b.val) + d.val / 2 * 2 = 128 * a.val + (64 * b.val + d.val); omega)
    simp only [dif_neg (show ¬ (a.val * 2 + b.val < 4 ∧ d.val / 2 < 32 ∧ 1 ≤ d.val % 2 ∧ d.val % 2 - 1 < 1) by omega), dif_pos (show (a.val * 2 + b.val < 4 ∧ d.val / 2 < 32 ∧ d.val % 2 < 1) by omega), zero_add, A.h10, ← EReal.coe_mul, ← EReal.coe_add]
    exact coe_of _ _ (rot_even I.dk n (kc a) (ln b d) h1 _ _ _ e2 e1 hp)
  · have h1 : ¬ (ln b d).val % 2 = 0 := by show ¬ (64 * b.val + d.val) % 2 = 0; omega
    have hs : (sw (ln b d)).val = 64 * b.val + d.val - 1 := sw_odd _ h1
    have e1 : (⟨64 * (a.val * 2 + b.val) + d.val / 2 * 2, by omega⟩ : Fin 256) = kc a (sw (ln b d)) := Fin.ext (by show _ = 128 * a.val + (sw (ln b d)).val; rw [hs]; show 64 * (a.val * 2 + b.val) + d.val / 2 * 2 = _; omega)
    have e2 : (⟨64 * (a.val * 2 + b.val) + (d.val / 2 * 2 + 1), by omega⟩ : Fin 256) = kc a (ln b d) := Fin.ext (by show 64 * (a.val * 2 + b.val) + (d.val / 2 * 2 + 1) = 128 * a.val + (64 * b.val + d.val); omega)
    simp only [dif_pos (show (a.val * 2 + b.val < 4 ∧ d.val / 2 < 32 ∧ 1 ≤ d.val % 2 ∧ d.val % 2 - 1 < 1) by omega), dif_neg (show ¬ (a.val * 2 + b.val < 4 ∧ d.val / 2 < 32 ∧ d.val % 2 < 1) by omega), add_zero, A.h10, ← EReal.coe_neg, ← EReal.coe_mul, ← EReal.coe_add]
    exact coe_of _ _ (rot_odd I.dk n (kc a) (ln b d) h1 _ _ _ e2 e1 hp)

/-- The cotangent times the gain. -/
theorem kDg_at (n : Fin 8208) (a : Fin 2) (b : Fin 2) (d : Fin 64) : val_main_v200 (F := Ideal) x4 x10 (ix5 0 n a b d) = ((I.Dk n.val a (ln b d) * In.g2 I.kg (ln b d) : ℝ) : EReal) := by
  have e : idx_main_v199 (ix5 0 n a b d) = ix5 0 0 0 b d := by
    funext x
    fin_cases x <;> rfl
  rw [val_main_v200_apply, val_main_v199_apply, e, krot_at A, kg_at A]
  exact (EReal.coe_mul _ _).symm

/-- The norm's part of the cotangent, before the row. -/
theorem ks_at (n : Fin 8208) (a : Fin 2) (b : Fin 2) : val_main_v209 (F := Ideal) x0 x1 x2 x4 x10 (ix5 0 n a b 0)
    = (((∑ e, I.rk n.val a (ln b e) * (I.Dk n.val a (ln b e) * In.g2 I.kg (ln b e))) * (-(1 / 2) * (rs64 (fun d => I.rk n.val a (ln b d)) / ((∑ d, I.rk n.val a (ln b d) * I.rk n.val a (ln b d)) / 64 + eps))) / 64 : ℝ) : EReal) := by
  pointwise [val_main_v209, val_main_v208, val_main_cst_22, val_main_v207, val_main_v204, val_main_v203, val_main_cst_21, val_main_v202]
  simp only [k_at A, kDg_at A, kdrs_at A, ofBits_64, ← EReal.coe_mul, ← coe_sum, div_real _ _ (by norm_num : (64 : ℝ) ≠ 0)]

theorem ks2_at (n : Fin 8208) (a : Fin 2) (b : Fin 2) : val_main_v210 (F := Ideal) x0 x1 x2 x4 x10 (ix3 n a b)
    = (((∑ e, I.rk n.val a (ln b e) * (I.Dk n.val a (ln b e) * In.g2 I.kg (ln b e))) * (-(1 / 2) * (rs64 (fun d => I.rk n.val a (ln b d)) / ((∑ d, I.rk n.val a (ln b d) * I.rk n.val a (ln b d)) / 64 + eps))) / 64 : ℝ) : EReal) := by
  pointwise [val_main_v210, val_main_cst_23]
  rw [sum_k, ks_at A]

/-- The cotangent before the norm. -/
theorem kdw_at (n : Fin 8208) (a : Fin 2) (b : Fin 2) (d : Fin 64) : val_main_v216 (F := Ideal) x0 x1 x2 x4 x10 (ix5 0 n a b d) = ((dw (I.rk n.val a) (In.g2 I.kg) (I.Dk n.val a) (ln b d) : ℝ) : EReal) := by
  have e1 : idx_main_v205 (ix5 0 n a b d) = ix5 0 n a b 0 := by
    funext x
    fin_cases x <;> rfl
  have e2 : idx_main_v211 (idx_main_v212 (ix5 0 n a b d)) = ix3 n a b := by
    funext x
    fin_cases x <;> rfl
  rw [val_main_v216_apply, val_main_v215_apply, val_main_v214_apply, val_main_v213_apply, val_main_v206_apply, val_main_v212_apply, val_main_v211_apply, val_main_v205_apply,
    e1, e2, ks2_at A, k_at A, kDg_at A, krs_at A]
  simp only [mulf_coe, addf_coe]
  exact congrArg Real.toEReal (dw_chain (I.rk n.val a) (In.g2 I.kg) (I.Dk n.val a) b d _ rfl)

/-- The gain's gradient. -/
theorem kgS_at (l : Fin 128) : val_main_v272 (F := Ideal) x0 x1 x2 x10 (ix2 0 l) = ((I.kgS l : ℝ) : EReal) := by
  pointwise [val_main_v272, val_main_v201, val_main_cst_20]
  rw [sum_g]
  pointwise [val_main_v198, val_main_v197, val_main_cst_19]
  rw [sum_gk]
  pointwise [val_main_v196]
  simp only [khx_at A, krot_at A, ← EReal.coe_mul, ← coe_sum]
  rw [I.kgS_eq]
  refine congrArg _ (Finset.sum_congr rfl fun n _ => Finset.sum_congr rfl fun a _ => ?_)
  rw [dg, mul_comm, show ln ⟨l.val / 64, by omega⟩ ⟨l.val % 64, by omega⟩ = l from Fin.ext (by show 64 * (l.val / 64) + l.val % 64 = l.val; omega)]

end Cert.Reference3Ideal.InProj

end
-- ==== Proof.InRef2.lean ====
/- The reference's five results on finite arguments, entry by entry, over the reals. -/
module

public import proofs.«01_k».proof.Proof.InRef

@[expose] public section

set_option maxRecDepth 16384

noncomputable section

namespace Cert.Reference3Ideal.InProj

open Cert.Reference3Ideal Cert.Reference3Ideal.Gen Cert.Reference3Ideal.Read Cert.InProj Cert.Mlp
open Cert.Attn (coe_sum div_real)
open Idealize.ShloMosaic Idealize.ShloMosaic.TcCoe Idealize.SL.Sem
open scoped BigOperators

/-- A sum over a first and a last axis of extent one. -/
theorem sum_outer (v : FVec Ideal S1x8208x1 .f32) (n : Fin 8208) :
    Ideal.hostReduceAdd reducesTo_S1x8208x1_S8208_d0_2 v 0 (ix1 n) = v (ix3 0 n 0) := by
  rw [Ideal.hostReduceAdd, zero_add]
  refine (Finset.sum_eq_single_of_mem (ix3 0 n 0) ?_ ?_)
  · rw [Finset.mem_filter]
    refine ⟨Finset.mem_univ _, funext fun a => Fin.ext ?_⟩
    fin_cases a
    exact reducesTo_S1x8208x1_S8208_d0_2.drop_apply_val_of_eq _ 0 1
  · intro b hb hne
    refine absurd ?_ hne
    rw [Finset.mem_filter] at hb
    have e1 := (reducesTo_S1x8208x1_S8208_d0_2.drop_apply_val_of_eq b 0 1).symm.trans (congrArg Fin.val (congrFun hb.2 0))
    funext a
    fin_cases a
    · exact Subsingleton.elim (α := Fin 1) _ _
    · exact Fin.ext e1
    · exact Subsingleton.elim (α := Fin 1) _ _

/-- A sum over two leading axes of extent one. -/
theorem sum_lead (v : FVec Ideal S1x1x1024 .f32) (j : Fin 1024) :
    Ideal.hostReduceAdd reducesTo_S1x1x1024_S1024_d0_1 v 0 (ix1 j) = v (ix3 0 0 j) := by
  rw [Ideal.hostReduceAdd, zero_add]
  refine (Finset.sum_eq_single_of_mem (ix3 0 0 j) ?_ ?_)
  · rw [Finset.mem_filter]
    refine ⟨Finset.mem_univ _, funext fun a => Fin.ext ?_⟩
    fin_cases a
    exact reducesTo_S1x1x1024_S1024_d0_1.drop_apply_val_of_eq _ 0 2
  · intro b hb hne
    refine absurd ?_ hne
    rw [Finset.mem_filter] at hb
    have e1 := (reducesTo_S1x1x1024_S1024_d0_1.drop_apply_val_of_eq b 0 2).symm.trans (congrArg Fin.val (congrFun hb.2 0))
    funext a
    fin_cases a
    · exact Subsingleton.elim (α := Fin 1) _ _
    · exact Subsingleton.elim (α := Fin 1) _ _
    · exact Fin.ext e1

/-- The integer zero, as a float. -/
theorem zero_f32 : FloatOps.sitofp (F := Ideal) .f32 (0#32) = (0 : EReal) := by
  show ((((0#32 : BitVec 32).toInt : ℤ) : ℝ) : EReal) = 0
  simp

variable {x0 : FVec Ideal S1x8208x1024 .f32} {x1 : FVec Ideal S1x1024 .f32} {x2 : FVec Ideal S1x1024x4096 .f32} {x3 x4 : FVec Ideal S1x64 .f32} {x5 : FVec Ideal S1x8208x1024 .f32}
  {x6 x7 x8 : FVec Ideal S1x8208x512 .f32} {x9 : FVec Ideal S1x8208x16x64 .f32} {x10 x11 : FVec Ideal S1x8208x4x64 .f32} {x12 x13 : FVec Ideal S1x8208x1024 .f32} {I : In}
  (A : Args x0 x1 x2 x3 x4 x5 x6 x7 x8 x9 x10 x11 x12 x13 I)
include A

/-- The projection's cotangent, by section: the scan's columns, the queries', the keys', the values'. -/
theorem u_at (n : Fin 8208) (k : Fin 512) : val_main_v149 (F := Ideal) x6 x7 x8 (ix3 0 n k) = ((I.u1 n k + I.u2 n k + I.u3 n k : ℝ) : EReal) := by
  pointwise [val_main_v149, val_main_v148]
  simp only [A.h6, A.h7, A.h8, ← EReal.coe_add]

theorem dq_at (n : Fin 8208) (k : Fin 1024) : val_main_v240 (F := Ideal) x0 x1 x2 x3 x9 (ix3 0 n k)
    = ((dw (I.rq n.val ⟨k.val / 128, by omega⟩) (In.g2 I.qg) (I.Dq n.val ⟨k.val / 128, by omega⟩) ⟨k.val % 128, by omega⟩ : ℝ) : EReal) := by
  pointwise [val_main_v240]
  refine (qdw_at A n _ _ _).trans (coe_of _ _ (congrArg (dw _ _ _) (Fin.ext ?_)))
  show 64 * (k.val / 64 % 2) + k.val % 64 = k.val % 128
  omega

theorem dk_at (n : Fin 8208) (k : Fin 256) : val_main_v217 (F := Ideal) x0 x1 x2 x4 x10 (ix3 0 n k)
    = ((dw (I.rk n.val ⟨k.val / 128, by omega⟩) (In.g2 I.kg) (I.Dk n.val ⟨k.val / 128, by omega⟩) ⟨k.val % 128, by omega⟩ : ℝ) : EReal) := by
  pointwise [val_main_v217]
  refine (kdw_at A n _ _ _).trans (coe_of _ _ (congrArg (dw _ _ _) (Fin.ext ?_)))
  show 64 * (k.val / 64 % 2) + k.val % 64 = k.val % 128
  omega

theorem dv_at (n : Fin 8208) (k : Fin 256) : val_main_v150 (F := Ideal) x11 (ix3 0 n k) = ((I.dv n k : ℝ) : EReal) := by
  pointwise [val_main_v150]
  refine (A.h11 n _ _).trans (coe_of _ _ (congrArg (I.dv n) (Fin.ext ?_)))
  show 64 * (k.val / 64) + k.val % 64 = k.val
  omega

/-- The projection's cotangent. -/
theorem dp_at (n : Fin 8208) (k : Fin 4096) : val_main_v241 (F := Ideal) x0 x1 x2 x3 x4 x6 x7 x8 x9 x10 x11 x12 x13 (ix3 0 n k) = ((I.dp n.val k : ℝ) : EReal) := by
  pointwise [val_main_v241]
  unfold In.dp
  by_cases h1 : k.val < 512
  · rw [dif_pos h1, sections_u _ _ _ _ _ k ⟨k.val, h1⟩ rfl]
    refine (u_at A n _).trans (coe_of _ _ ?_)
    rw [pd_row, pd_row, pd_row]
  · rw [dif_neg h1]
    by_cases h2 : k.val - 512 < 1024
    · rw [dif_pos h2, sections_q _ _ _ _ _ k ⟨(k.val - 512) / 128, by omega⟩ ⟨(k.val - 512) % 128, by omega⟩ (by show k.val = 512 + 128 * ((k.val - 512) / 128) + (k.val - 512) % 128; omega)]
      exact dq_at A n _
    · rw [dif_neg h2]
      by_cases h3 : k.val - 512 - 1024 < 256
      · rw [dif_pos h3, sections_k _ _ _ _ _ k ⟨(k.val - 512 - 1024) / 128, by omega⟩ ⟨(k.val - 512 - 1024) % 128, by omega⟩
          (by show k.val = 1536 + 128 * ((k.val - 512 - 1024) / 128) + (k.val - 512 - 1024) % 128; omega)]
        exact dk_at A n _
      · rw [dif_neg h3]
        by_cases h4 : k.val - 512 - 1024 - 256 < 256
        · rw [dif_pos h4, sections_v _ _ _ _ _ k ⟨k.val - 512 - 1024 - 256, h4⟩ (by show k.val = 1792 + (k.val - 512 - 1024 - 256); omega)]
          refine (dv_at A n _).trans (coe_of _ _ ?_)
          rw [pd_row]
        · rw [dif_neg h4, sections_t _ _ _ _ _ k ⟨k.val - 512 - 1024 - 256 - 256, by omega⟩ (by show k.val = 2048 + (k.val - 512 - 1024 - 256 - 256); omega)]
          unfold In.gt
          by_cases h5 : k.val - 512 - 1024 - 256 - 256 < 1024
          · rw [dif_pos h5, dif_pos h5, A.h12, pd_row]
          · rw [dif_neg h5, dif_neg h5, A.h13, pd_row]

/-- The cotangent of the normed rows. -/
theorem dh_at (n : Fin 8208) (j : Fin 1024) : val_main_v242 (F := Ideal) x0 x1 x2 x3 x4 x6 x7 x8 x9 x10 x11 x12 x13 (ix3 0 n j) = ((I.dh n.val j : ℝ) : EReal) := by
  pointwise [val_main_v242, val_main_v24, val_main_v0, val_main_cst]
  simp only [dp_at A, A.h2, ← EReal.coe_mul, ← coe_sum]
  rfl

/-- The norm's gain's gradient. -/
theorem gm_at (j : Fin 1024) : val_main_v265 (F := Ideal) x0 x1 x2 x3 x4 x6 x7 x8 x9 x10 x11 x12 x13 (ix2 0 j) = ((I.gmS j : ℝ) : EReal) := by
  pointwise [val_main_v265, val_main_v248, val_main_cst_30]
  rw [sum_lead]
  pointwise [val_main_v245, val_main_v244, val_main_cst_29, val_main_v243]
  simp only [nm_at A, dh_at A, ← EReal.coe_mul, ← coe_sum]
  rw [I.gmS_eq]
  exact coe_of _ _ (Finset.sum_congr rfl fun n _ => mul_comm _ _)

/-- The rows' gradient. -/
theorem dx_at (n : Fin 8208) (j : Fin 1024) : val_main_v264 (F := Ideal) x0 x1 x2 x3 x4 x5 x6 x7 x8 x9 x10 x11 x12 x13 (ix3 0 n j) = ((I.dx n.val j : ℝ) : EReal) := by
  pointwise [val_main_v264, val_main_v263, val_main_v262, val_main_v261, val_main_v260, val_main_v259, val_main_v258, val_main_cst_33]
  rw [sum_outer]
  pointwise [val_main_v257, val_main_v256, val_main_cst_32, val_main_v255, val_main_v254, val_main_v253, val_main_v252, val_main_v251, val_main_v250, val_main_cst_31, val_main_v249, val_main_v247, val_main_v246, val_main_v21, val_main_v7]
  simp only [A.h0, A.h1, A.h5, dh_at A, drs_at A, rs_at A, ofBits_1024, ← EReal.coe_mul, ← coe_sum, div_real _ _ (by norm_num : (1024 : ℝ) ≠ 0), ← EReal.coe_add]
  refine coe_of _ _ ?_
  rw [add_assoc, add_assoc, ← add_assoc (_ * rs (I.x n)), back_chain (I.x n) (fun i => I.dh n.val i * I.gm i) j _ rfl]
  unfold In.dx
  rw [pd_row, pd_row]

/-! ## The results with their added rows -/

/-- The rows' gradient. -/
theorem v267_at (n : Fin 8448) (j : Fin 1024) : val_main_v267 (F := Ideal) x0 x1 x2 x3 x4 x5 x6 x7 x8 x9 x10 x11 x12 x13 (ix2 n j) = ((I.dx n.val j : ℝ) : EReal) := by
  pointwise [val_main_v267, val_main_v266, val_main_call0_v0, val_main_c]
  by_cases p : n.val < 8208
  · rw [dif_pos p, dx_at A ⟨n.val, p⟩ j]
  · rw [dif_neg p, I.dx_pad _ p, EReal.coe_zero, zero_f32]

/-- The projection's cotangent. -/
theorem v270_at (n : Fin 8448) (j : Fin 4096) : val_main_v270 (F := Ideal) x0 x1 x2 x3 x4 x6 x7 x8 x9 x10 x11 x12 x13 (ix2 n j) = ((I.dp n.val j : ℝ) : EReal) := by
  pointwise [val_main_v270, val_main_v269, val_main_v268, val_main_call1_v0, val_main_c_34]
  by_cases p : n.val < 8208
  · rw [dif_pos p, dp_at A ⟨n.val, p⟩ j]
  · rw [dif_neg p, I.dp_pad _ p, EReal.coe_zero, zero_f32]

end Cert.Reference3Ideal.InProj

end
-- ==== Proof.InFinite.lean ====
/- The precondition of the projections' call, entry by entry: every argument holds reals. -/
module

public import proofs.«01_k».proof.Proof.AttnFinite
public import proofs.«01_k».proof.Proof.Gen.Pre_finite_in_proj

@[expose] public section

noncomputable section

namespace Cert.Pre_finite_in_proj.InProj

open Cert.Pre_finite_in_proj Cert.Pre_finite_in_proj.Gen Idealize.ShloMosaic
open Cert.Pre_finite.Attn (real_of_lt and_one)

/-- Every entry is a real. -/
def Real {S : Shape} (x : FVec Ideal S .f32) : Prop := ∀ i, ((EReal.toReal (x i) : ℝ) : EReal) = x i

/-- Under the precondition every argument's entries are reals. -/
theorem reals (x0 : FVec Ideal S1x8208x1024 .f32) (x1 : FVec Ideal S1x1024 .f32) (x2 : FVec Ideal S1x1024x4096 .f32) (x3 x4 : FVec Ideal S1x64 .f32) (x5 : FVec Ideal S1x8208x1024 .f32) (x6 x7 x8 : FVec Ideal S1x8208x512 .f32) (x9 : FVec Ideal S1x8208x16x64 .f32) (x10 x11 : FVec Ideal S1x8208x4x64 .f32) (x12 x13 : FVec Ideal S1x8208x1024 .f32) (h : fn (F := Ideal) x0 x1 x2 x3 x4 x5 x6 x7 x8 x9 x10 x11 x12 x13 = fun _ => 1#1) :
    Real x0 ∧ Real x1 ∧ Real x2 ∧ Real x3 ∧ Real x4 ∧ Real x5 ∧ Real x6 ∧ Real x7 ∧ Real x8 ∧ Real x9 ∧ Real x10 ∧ Real x11 ∧ Real x12 ∧ Real x13 := by
  have e := congrFun h (fun a => a.elim0)
  unfold fn fn_part1 fn_part2 fn_part3 fn_part4 at e
  simp only [andi_apply] at e
  obtain ⟨e, e13⟩ := and_one e
  obtain ⟨e, e12⟩ := and_one e
  obtain ⟨e, e11⟩ := and_one e
  obtain ⟨e, e10⟩ := and_one e
  obtain ⟨e, e9⟩ := and_one e
  obtain ⟨e, e8⟩ := and_one e
  obtain ⟨e, e7⟩ := and_one e
  obtain ⟨e, e6⟩ := and_one e
  obtain ⟨e, e5⟩ := and_one e
  obtain ⟨e, e4⟩ := and_one e
  obtain ⟨e, e3⟩ := and_one e
  obtain ⟨e, e2⟩ := and_one e
  obtain ⟨e0, e1⟩ := and_one e
  haveI : Subsingleton S_.Idx := ⟨fun a b => funext fun k => k.elim0⟩
  exact ⟨fun i => real_of_lt x0 _ i (Host.reduce_andi_all _ _ _ _ _ e0 i),
    fun i => real_of_lt x1 _ i (Host.reduce_andi_all _ _ _ _ _ e1 i),
    fun i => real_of_lt x2 _ i (Host.reduce_andi_all _ _ _ _ _ e2 i),
    fun i => real_of_lt x3 _ i (Host.reduce_andi_all _ _ _ _ _ e3 i),
    fun i => real_of_lt x4 _ i (Host.reduce_andi_all _ _ _ _ _ e4 i),
    fun i => real_of_lt x5 _ i (Host.reduce_andi_all _ _ _ _ _ e5 i),
    fun i => real_of_lt x6 _ i (Host.reduce_andi_all _ _ _ _ _ e6 i),
    fun i => real_of_lt x7 _ i (Host.reduce_andi_all _ _ _ _ _ e7 i),
    fun i => real_of_lt x8 _ i (Host.reduce_andi_all _ _ _ _ _ e8 i),
    fun i => real_of_lt x9 _ i (Host.reduce_andi_all _ _ _ _ _ e9 i),
    fun i => real_of_lt x10 _ i (Host.reduce_andi_all _ _ _ _ _ e10 i),
    fun i => real_of_lt x11 _ i (Host.reduce_andi_all _ _ _ _ _ e11 i),
    fun i => real_of_lt x12 _ i (Host.reduce_andi_all _ _ _ _ _ e12 i),
    fun i => real_of_lt x13 _ i (Host.reduce_andi_all _ _ _ _ _ e13 i)⟩

end Cert.Pre_finite_in_proj.InProj

end
-- ==== Proof.InClaim.lean ====
/- The projections' backward call against the derivative of the reference's forward lines: the claim. -/
module

public import proofs.«01_k».proof.Proof.InValue
public import proofs.«01_k».proof.Proof.InRef2
public import proofs.«01_k».proof.Proof.InFinite
public import proofs.«01_k».proof.Defs
public import Idealize.ShloMosaic.Lib.Claim

@[expose] public section

set_option maxRecDepth 16384

noncomputable section

namespace Cert.InProj

open Idealize.ShloMosaic Idealize.ShloMosaic.TcCoe Idealize.SL.Sem
open Cert.Reference3Ideal (S1x8208x1024 S1x1024 S1x1024x4096 S1x64 S1x8208x512 S1x8208x16x64 S1x8208x4x64)
open Cert.Reference3Ideal.Read
open Cert.Reference3Ideal.InProj (Args)
open Cert.Kernel3Ideal.InProj (Reals HR GM WI GQ GK DR U1 U2 U3 DQ DK DV GS GA hd)
open scoped BigOperators

section
variable {m : (ℓ : Loc Cert.Kernel3Ideal.nD Cert.Kernel3Ideal.τ Cert.Kernel3Ideal.sig) → Buf (Elt Ideal) ℓ} {c : Dev Cert.Kernel3Ideal.nD} {I : In}
  (R : Reals m c I)
  {x0 : FVec Ideal S1x8208x1024 .f32} {x1 : FVec Ideal S1x1024 .f32} {x2 : FVec Ideal S1x1024x4096 .f32} {x3 x4 : FVec Ideal S1x64 .f32} {x5 : FVec Ideal S1x8208x1024 .f32} {x6 x7 x8 : FVec Ideal S1x8208x512 .f32} {x9 : FVec Ideal S1x8208x16x64 .f32} {x10 x11 : FVec Ideal S1x8208x4x64 .f32} {x12 x13 : FVec Ideal S1x8208x1024 .f32}

/-- Arrays equal to the kernel's arguments hold the same reals. -/
theorem args_of (R : Reals m c I) (e0 : x0 = HR m c) (e1 : x1 = GM m c) (e2 : x2 = WI m c) (e3 : x3 = GQ m c) (e4 : x4 = GK m c) (e5 : x5 = DR m c) (e6 : x6 = U1 m c) (e7 : x7 = U2 m c) (e8 : x8 = U3 m c) (e9 : x9 = DQ m c) (e10 : x10 = DK m c) (e11 : x11 = DV m c) (e12 : x12 = GS m c) (e13 : x13 = GA m c) : Args x0 x1 x2 x3 x4 x5 x6 x7 x8 x9 x10 x11 x12 x13 I :=
  ⟨fun n j => (congrFun e0 _).trans (R.x_at n j),
    fun j => (congrFun e1 _).trans (R.gm_at j),
    fun j k => (congrFun e2 _).trans (R.w_at j k),
    fun j => (congrFun e3 _).trans (R.qg_at j),
    fun j => (congrFun e4 _).trans (R.kg_at j),
    fun n j => (congrFun e5 _).trans (R.dr_at n j),
    fun n j => (congrFun e6 _).trans (R.u1_at n j),
    fun n j => (congrFun e7 _).trans (R.u2_at n j),
    fun n j => (congrFun e8 _).trans (R.u3_at n j),
    fun n a d => (congrFun e9 _).trans (R.dq_at n a d),
    fun n a d => (congrFun e10 _).trans (R.dk_at n a d),
    fun n a d => (congrFun e11 _).trans (R.dv_at n a d),
    fun n j => (congrFun e12 _).trans (R.gs_at n j),
    fun n j => (congrFun e13 _).trans (R.ga_at n j)⟩

variable (A : Args x0 x1 x2 x3 x4 x5 x6 x7 x8 x9 x10 x11 x12 x13 I)
include R A

/-- The rows' gradients agree. -/
theorem eq16 : ((Cert.Kernel3Ideal.Gen.dats m 0 c).arrAt 16 (Cert.Kernel3Ideal.cfgs 0).N : FVec Ideal Cert.Kernel3Ideal.S8448x1024 .f32) = val_main_v267 (F := Ideal) x0 x1 x2 x3 x4 x5 x6 x7 x8 x9 x10 x11 x12 x13 := by
  refine (Cert.Kernel3Ideal.InProj.arr16 R).trans ?_
  funext i
  idx_vars i
  exact (Cert.Kernel3Ideal.InProj.rows_at _ _ _).trans (Cert.Reference3Ideal.InProj.v267_at A i0 i1).symm

/-- The projection's cotangents agree. -/
theorem eq17 : ((Cert.Kernel3Ideal.Gen.dats m 0 c).arrAt 17 (Cert.Kernel3Ideal.cfgs 0).N : FVec Ideal Cert.Kernel3Ideal.S8448x4096 .bf16) = val_main_v270 (F := Ideal) x0 x1 x2 x3 x4 x6 x7 x8 x9 x10 x11 x12 x13 := by
  refine (Cert.Kernel3Ideal.InProj.arr17 R).trans ?_
  funext i
  idx_vars i
  exact (Cert.Kernel3Ideal.InProj.wide_at _ _ _).trans (Cert.Reference3Ideal.InProj.v270_at A i0 i1).symm

/-- The gradients of the norm's gain agree. -/
theorem eq18 : ((Cert.Kernel3Ideal.Gen.dats m 0 c).arrAt 18 (Cert.Kernel3Ideal.cfgs 0).N : FVec Ideal Cert.Kernel3Ideal.S1x1024 .f32) = val_main_v265 (F := Ideal) x0 x1 x2 x3 x4 x6 x7 x8 x9 x10 x11 x12 x13 := by
  refine (Cert.Kernel3Ideal.InProj.arr18 R).trans ?_
  funext i
  idx_vars i
  obtain rfl : i0 = 0 := Subsingleton.elim _ _
  exact (Cert.Kernel3Ideal.InProj.one_at _ _ _).trans (Cert.Reference3Ideal.InProj.gm_at A i1).symm

/-- The gradients of the queries' gain agree. -/
theorem eq19 : ((Cert.Kernel3Ideal.Gen.dats m 0 c).arrAt 19 (Cert.Kernel3Ideal.cfgs 0).N : FVec Ideal Cert.Kernel3Ideal.S1x128 .f32) = val_main_v271 (F := Ideal) x0 x1 x2 x9 := by
  refine (Cert.Kernel3Ideal.InProj.arr19 R).trans ?_
  funext i
  idx_vars i
  obtain rfl : i0 = 0 := Subsingleton.elim _ _
  exact (Cert.Kernel3Ideal.InProj.lane_at _ _ _).trans (Cert.Reference3Ideal.InProj.qgS_at A i1).symm

/-- The gradients of the keys' gain agree. -/
theorem eq20 : ((Cert.Kernel3Ideal.Gen.dats m 0 c).arrAt 20 (Cert.Kernel3Ideal.cfgs 0).N : FVec Ideal Cert.Kernel3Ideal.S1x128 .f32) = val_main_v272 (F := Ideal) x0 x1 x2 x10 := by
  refine (Cert.Kernel3Ideal.InProj.arr20 R).trans ?_
  funext i
  idx_vars i
  obtain rfl : i0 = 0 := Subsingleton.elim _ _
  exact (Cert.Kernel3Ideal.InProj.lane_at _ _ _).trans (Cert.Reference3Ideal.InProj.kgS_at A i1).symm

end

/-- The reals that the kernel's arguments hold. -/
def inOf (m : (ℓ : Loc Cert.Kernel3Ideal.nD Cert.Kernel3Ideal.τ Cert.Kernel3Ideal.sig) → Buf (Elt Ideal) ℓ) (c : Dev Cert.Kernel3Ideal.nD) : In where
  x n j := EReal.toReal (HR m c (ix3 0 n j))
  gm j := EReal.toReal (GM m c (ix2 0 j))
  w j k := EReal.toReal (WI m c (ix3 0 j k))
  qg j := EReal.toReal (GQ m c (ix2 0 j))
  kg j := EReal.toReal (GK m c (ix2 0 j))
  dr n j := EReal.toReal (DR m c (ix3 0 n j))
  u1 n j := EReal.toReal (U1 m c (ix3 0 n j))
  u2 n j := EReal.toReal (U2 m c (ix3 0 n j))
  u3 n j := EReal.toReal (U3 m c (ix3 0 n j))
  dq n k := EReal.toReal (DQ m c (ix4 0 n ⟨k.val / 64, by omega⟩ ⟨k.val % 64, by omega⟩))
  dk n k := EReal.toReal (DK m c (ix4 0 n ⟨k.val / 64, by omega⟩ ⟨k.val % 64, by omega⟩))
  dv n k := EReal.toReal (DV m c (ix4 0 n ⟨k.val / 64, by omega⟩ ⟨k.val % 64, by omega⟩))
  gs n j := EReal.toReal (GS m c (ix3 0 n j))
  ga n j := EReal.toReal (GA m c (ix3 0 n j))

/-- A head's number and lane, from the column. -/
theorem head_lane {h : ℕ} (a : Fin h) (d : Fin 64) (p : (64 * a.val + d.val) / 64 < h) (q : (64 * a.val + d.val) % 64 < 64) :
    (⟨(64 * a.val + d.val) / 64, p⟩ : Fin h) = a ∧ (⟨(64 * a.val + d.val) % 64, q⟩ : Fin 64) = d :=
  ⟨Fin.ext (by show (64 * a.val + d.val) / 64 = a.val; omega), Fin.ext (by show (64 * a.val + d.val) % 64 = d.val; omega)⟩

/-- An array of heads, read at the head and lane of a column. -/
theorem at_head {h : ℕ} (f : Fin h → Fin 64 → EReal) (hf : ∀ a d, ((EReal.toReal (f a d) : ℝ) : EReal) = f a d) (a : Fin h) (d : Fin 64)
    (p : (64 * a.val + d.val) / 64 < h) (q : (64 * a.val + d.val) % 64 < 64) :
    f a d = ((EReal.toReal (f ⟨(64 * a.val + d.val) / 64, p⟩ ⟨(64 * a.val + d.val) % 64, q⟩) : ℝ) : EReal) := by
  rw [(head_lane a d p q).1, (head_lane a d p q).2, hf]

/-- Under the precondition the arguments hold reals. -/
theorem reals_of_pre {m : (ℓ : Loc Cert.Kernel3Ideal.nD Cert.Kernel3Ideal.τ Cert.Kernel3Ideal.sig) → Buf (Elt Ideal) ℓ}
    (hpre : Cert.Pre_Kernel3Ideal_finite_in_proj m) (c : Dev Cert.Kernel3Ideal.nD) : Reals m c (inOf m c) := by
  obtain ⟨h0, h1, h2, h3, h4, h5, h6, h7, h8, h9, h10, h11, h12, h13⟩ := Cert.Pre_finite_in_proj.InProj.reals _ _ _ _ _ _ _ _ _ _ _ _ _ _ (hpre c)
  exact ⟨fun n j => (h0 _).symm, fun j => (h1 _).symm, fun j k => (h2 _).symm, fun j => (h3 _).symm, fun j => (h4 _).symm, fun n j => (h5 _).symm, fun n j => (h6 _).symm, fun n j => (h7 _).symm, fun n j => (h8 _).symm, fun n a d => at_head (fun a d => DQ m c (ix4 0 n a d)) (fun _ _ => h9 _) a d _ _, fun n a d => at_head (fun a d => DK m c (ix4 0 n a d)) (fun _ _ => h10 _) a d _ _, fun n a d => at_head (fun a d => DV m c (ix4 0 n a d)) (fun _ _ => h11 _) a d _ _, fun n j => (h12 _).symm, fun n j => (h13 _).symm⟩

set_option maxHeartbeats 4000000 in
/-- On finite arguments the kernel's five results are the derivative of the reference's forward lines. -/
theorem algebraic : Cert.algebraic_Kernel3Ideal_Reference3Ideal_pre_finite_in_proj := by
  intro m g m' g' hpre hagree
  refine ⟨fun c => (Cert.Kernel3Ideal.Gen.dats m 0 c).arrAt 16 (Cert.Kernel3Ideal.cfgs 0).N, fun c => (Cert.Kernel3Ideal.Gen.dats m 0 c).arrAt 17 (Cert.Kernel3Ideal.cfgs 0).N, fun c => (Cert.Kernel3Ideal.Gen.dats m 0 c).arrAt 18 (Cert.Kernel3Ideal.cfgs 0).N, fun c => (Cert.Kernel3Ideal.Gen.dats m 0 c).arrAt 19 (Cert.Kernel3Ideal.cfgs 0).N, fun c => (Cert.Kernel3Ideal.Gen.dats m 0 c).arrAt 20 (Cert.Kernel3Ideal.cfgs 0).N, ?_, ?_⟩
  · exact (θ_run (Cert.Kernel3Ideal.defs (F := Ideal)) _ _).mono
      (fun _ h c => ⟨(h.1 c).1 16, (h.1 c).1 17, (h.1 c).1 18, (h.1 c).1 19, (h.1 c).1 20, h.2 c⟩)
      (θ_run_and (Cert.Kernel3Ideal.Gen.run_main m g) (Cert.Kernel3Ideal.Gen.unchanged m g))
  · refine (θ_run (Cert.Reference3Ideal.defs (F := Ideal)) _ _).mono (fun r h c => ?_) (Cert.Reference3Ideal.Value.run m' g')
    obtain ⟨r0, r1, r2, r3, r4, kept⟩ := h c
    obtain ⟨e0, e1, e2, e3, e4, e5, e6, e7, e8, e9, e10, e11, e12, e13⟩ := hagree c
    have R := reals_of_pre hpre c
    have A := args_of R e0 e1 e2 e3 e4 e5 e6 e7 e8 e9 e10 e11 e12 e13
    exact ⟨(r0.trans (val_main_v267_eq (StableHlo.launchContents m' c))).trans (eq16 R A).symm,
      (r1.trans (val_main_v270_eq (StableHlo.launchContents m' c))).trans (eq17 R A).symm,
      (r2.trans (val_main_v265_eq (StableHlo.launchContents m' c))).trans (eq18 R A).symm,
      (r3.trans (val_main_v271_eq (StableHlo.launchContents m' c))).trans (eq19 R A).symm,
      (r4.trans (val_main_v272_eq (StableHlo.launchContents m' c))).trans (eq20 R A).symm, kept⟩

end Cert.InProj

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Gen.Kernel2
public import proofs.«01_k».proof.Proof.Gen.Pre_finite_mlp
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Pre_finite_in_proj
public import proofs.«01_k».proof.Proof.Gen.Kernel3Ideal.Frame
public import proofs.«01_k».proof.Proof.Gen.Reference3Ideal.Run
public import proofs.«01_k».proof.Proof.Gen.Reference3Ideal.Read
public import proofs.«01_k».proof.Proof.AttnTwin
public import proofs.«01_k».proof.Proof.AttnClaim
public import proofs.«01_k».proof.Proof.MlpTwin
public import proofs.«01_k».proof.Proof.MlpClaim
public import proofs.«01_k».proof.Proof.InTwin
public import proofs.«01_k».proof.Proof.InClaim
public import Idealize.ShloMosaic.Adequacy
public import Idealize.ShloMosaic.Init

@[expose] public section

noncomputable section

namespace Cert.Proof

open Idealize.ShloMosaic Idealize.SL.Sem Cert.Kernel

/-- On every device, from any memory: the reference ends with its arguments unchanged and every counter at zero (it has
    no counters). -/
theorem reference_args (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0 :=
  (θ_run (Cert.ReferenceIdeal.defs (F := Ideal)) _ _).mono
    (fun r h => ⟨fun c => (h c).2.2.2, sem_eq_zero_of_no_sems (by decide) r.2⟩)
    (Cert.ReferenceIdeal.Value.run (F := Ideal) m g)

/-- The same of the reference of the loss. -/
theorem reference2_args : Cert.quiescent_Reference2Ideal := fun m g _ =>
  (θ_run (Cert.Reference2Ideal.defs (F := Ideal)) _ _).mono
    (fun r h => ⟨fun c => (h c).2.2.2.2.2.2.2.2, sem_eq_zero_of_no_sems (by decide) r.2⟩)
    (Cert.Reference2Ideal.Value.run (F := Ideal) m g)

/-- The same of the reference of the input projection's gradients. -/
theorem reference3_args : Cert.quiescent_Reference3Ideal := fun m g _ =>
  (θ_run (Cert.Reference3Ideal.defs (F := Ideal)) _ _).mono
    (fun r h => ⟨fun c => (h c).2.2.2.2.2, sem_eq_zero_of_no_sems (by decide) r.2⟩)
    (Cert.Reference3Ideal.Value.run (F := Ideal) m g)

/-- Every claim about the attention's gradients, about the loss and its gradients, and about the input projection's
    gradients: the frames of all programs, and that each kernel writes the arrays its reference writes. -/
theorem claim : Cert.Claim := ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Pre_finite.Gen.facts, Cert.Pre_finite_mlp.Gen.facts, Cert.Pre_finite_in_proj.Gen.facts,
    Cert.Kernel.Attn.quiescent, fun m g _ => Cert.KernelIdeal.Attn.frame_main m g,
    fun m g _ => Cert.KernelIdeal.Attn.frame_main m g,
    fun m g _ => reference_args m g, fun m g _ => reference_args m g,
    Cert.Kernel2.Mlp.quiescent, fun m g _ => Cert.Kernel2Ideal.Gen.frame m g, fun m g _ => Cert.Kernel2Ideal.Gen.frame m g,
    reference2_args, fun m g _ => reference2_args m g trivial,
    Cert.Kernel3.InProj.quiescent, fun m g _ => Cert.Kernel3Ideal.Gen.frame m g, fun m g _ => Cert.Kernel3Ideal.Gen.frame m g,
    reference3_args, fun m g _ => reference3_args m g trivial,
    trivial, Cert.Attn.algebraic, trivial, Cert.Mlp.algebraic, trivial, Cert.InProj.algebraic⟩

end Cert.Proof

end
